-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x1024 .f32) (main_arg2 : FVec F S1x1024x128x128 .f32) (main_arg3 : FVec F S1x1024x128x128 .f32) (main_arg4 : FVec F S1024x1024 .f32) : IVec S1x1024x1024 1 × IVec S1024x1024 1 × IVec S1x1024x128x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x128x128 .f32 := Host.absf main_arg2
  let main_cst_1 : FVec F S_ .f32 := constant S_ .f32 0x7F800000#32
  let main_v7 : FVec F S1x1024x128x128 .f32 := broadcastInDim S1x1024x128x128 ![] bcast_S_S1x1024x128x128 main_cst_1
  let main_v8 : IVec S1x1024x128x128 1 := cmpf .olt main_v6 main_v7
  (main_v2, main_v5, main_v8)
-- ==== Pre_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  bcast_S_S1024x16384 : S_.BroadcastsInDim S1024x16384 (![] : Fin 0 → Fin S1024x16384.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S1x1024x1024 1 × IVec S1024x16384 1 × IVec S1x1024x128x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x1024x128x128 .f32 := Host.absf main_arg2
  let main_cst_1 : FVec F S_ .f32 := constant S_ .f32 0x7F800000#32
  let main_v7 : FVec F S1x1024x128x128 .f32 := broadcastInDim S1x1024x128x128 ![] bcast_S_S1x1024x128x128 main_cst_1
  let main_v8 : IVec S1x1024x128x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩
abbrev S1024x128x128 : Shape := ⟨3, ![1024, 128, 128]⟩
abbrev S1024x8x128 : Shape := ⟨3, ![1024, 8, 128]⟩
abbrev S8x1024x128 : Shape := ⟨3, ![8, 1024, 128]⟩
abbrev S960x1024 : Shape := ⟨2, ![960, 1024]⟩
abbrev S32 : Shape := ⟨1, ![32]⟩
abbrev S64x1024 : Shape := ⟨2, ![64, 1024]⟩
abbrev S256x1024 : Shape := ⟨2, ![256, 1024]⟩
abbrev S1x64x128 : Shape := ⟨3, ![1, 64, 128]⟩
abbrev S64x128 : Shape := ⟨2, ![64, 128]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x1024 : Shape := ⟨2, ![128, 1024]⟩
abbrev S32x1024 : Shape := ⟨2, ![32, 1024]⟩
abbrev S16x1024 : Shape := ⟨2, ![16, 1024]⟩

abbrev nBuf : Space → Nat
  | .hbm => 38
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x128x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .f32⟩
  | .hbm, ⟨23, _⟩ => ⟨S8x1024x128, .f32⟩
  | .hbm, ⟨24, _⟩ => ⟨S1024x128x128, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1024x8x128, .f32⟩
  | .hbm, ⟨35, _⟩ => ⟨S8x1024x128, .f32⟩
  | .hbm, ⟨36, _⟩ => ⟨S1024x1024, .f32⟩
  | .hbm, ⟨37, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .f32⟩
  | .local _ .vmem, ⟨3, _⟩ => ⟨S8x1024x128, .f32⟩
  | .local _ .vmem, ⟨4, _⟩ => ⟨S1024x1024, .f32⟩
  | .local _ .vmem, ⟨5, _⟩ => ⟨S1024x1024, .f32⟩
  | .local _ .vmem, ⟨6, _⟩ => ⟨S960x1024, .bf16⟩
  | .local _ .vmem, ⟨7, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_29 : BitVec 32 := 1#32
  let v68 : BitVec 32 := Scalar.muli v3 c1_i32_29
  let v69 : BitVec 32 := Scalar.addi c0_i32_30 v68
  v69.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_32 : BitVec 32 := 1#32
  let v70 : BitVec 32 := Scalar.muli v4 c1_i32_32
  let v71 : BitVec 32 := Scalar.addi c0_i32_33 v70
  v71.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_35 : BitVec 32 := 1#32
  let v72 : BitVec 32 := Scalar.muli v5 c1_i32_35
  let v73 : BitVec 32 := Scalar.addi c0_i32_36 v72
  v73.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_38 : BitVec 32 := 1#32
  let v74 : BitVec 32 := Scalar.muli v6 c1_i32_38
  let v75 : BitVec 32 := Scalar.addi c0_i32_39 v74
  v75.toNat
def k0_off1 (d0 : Dev nD) : Fin 2 → Nat :=
  let c0_i32_280 : BitVec 32 := 0#32
  let c1_i32_279 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let v361 : BitVec 32 := Scalar.subi c1_i32_279 v20
  let c128_i32 : BitVec 32 := 128#32
  let v362 : BitVec 32 := Scalar.muli v361 c128_i32
  let v363 : BitVec 32 := Scalar.addi c0_i32_280 v362
  let c0_i32_289 : BitVec 32 := 0#32
  ![v363.toNat, 0]
def k0_dev5 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_285 : BitVec 32 := 1#32
  let v366 : BitVec 32 := Scalar.muli v3 c1_i32_285
  let v367 : BitVec 32 := Scalar.addi c0_i32_286 v366
  v367.toNat
def k0_off2 (d0 : Dev nD) : Fin 2 → Nat :=
  let c256_i32 : BitVec 32 := 256#32
  let c1_i32_536 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let v659 : BitVec 32 := Scalar.subi c1_i32_536 v22
  let c128_i32_537 : BitVec 32 := 128#32
  let v660 : BitVec 32 := Scalar.muli v659 c128_i32_537
  let v661 : BitVec 32 := Scalar.addi c256_i32 v660
  let c0_i32_545 : BitVec 32 := 0#32
  ![v661.toNat, 0]
def k0_dev6 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_542 : BitVec 32 := 1#32
  let v664 : BitVec 32 := Scalar.muli v4 c1_i32_542
  let v665 : BitVec 32 := Scalar.addi c0_i32_543 v664
  v665.toNat
def k0_off3 (d0 : Dev nD) : Fin 2 → Nat :=
  let c512_i32 : BitVec 32 := 512#32
  let c1_i32_792 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v957 : BitVec 32 := Scalar.subi c1_i32_792 v49
  let c128_i32_793 : BitVec 32 := 128#32
  let v958 : BitVec 32 := Scalar.muli v957 c128_i32_793
  let v959 : BitVec 32 := Scalar.addi c512_i32 v958
  let c0_i32_801 : BitVec 32 := 0#32
  ![v959.toNat, 0]
def k0_dev7 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_798 : BitVec 32 := 1#32
  let v962 : BitVec 32 := Scalar.muli v5 c1_i32_798
  let v963 : BitVec 32 := Scalar.addi c0_i32_799 v962
  v963.toNat
def k0_off4 (d0 : Dev nD) : Fin 2 → Nat :=
  let c768_i32 : BitVec 32 := 768#32
  let c1_i32_1048 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let v1255 : BitVec 32 := Scalar.subi c1_i32_1048 v66
  let c128_i32_1049 : BitVec 32 := 128#32
  let v1256 : BitVec 32 := Scalar.muli v1255 c128_i32_1049
  let v1257 : BitVec 32 := Scalar.addi c768_i32 v1256
  let c0_i32_1057 : BitVec 32 := 0#32
  ![v1257.toNat, 0]
def k0_dev8 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1054 : BitVec 32 := 1#32
  let v1260 : BitVec 32 := Scalar.muli v6 c1_i32_1054
  let v1261 : BitVec 32 := Scalar.addi c0_i32_1055 v1260
  v1261.toNat
def k0_off5 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let v1278 : Index := Scalar.indexCast v365
  let c0_1071 : Index := 0#32
  ![v1278.toNat, 0]
def k0_off6 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let v1301 : Index := Scalar.indexCast v663
  let c0_1089 : Index := 0#32
  ![v1301.toNat, 0]
def k0_off7 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let v1324 : Index := Scalar.indexCast v961
  let c0_1106 : Index := 0#32
  ![v1324.toNat, 0]
def k0_off8 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let v1347 : Index := Scalar.indexCast v1259
  let c0_1123 : Index := 0#32
  ![v1347.toNat, 0]
def k0_off9 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c1_i32_1127 : BitVec 32 := 1#32
  let c2_i32_7 : BitVec 32 := 2#32
  let v21 : BitVec 1 := Scalar.cmpi .sge v16 c2_i32_7
  let v22 : BitVec 32 := Scalar.extui v21
  let v1360 : BitVec 32 := Scalar.subi c1_i32_1127 v22
  let c64_i32 : BitVec 32 := 64#32
  let v1361 : BitVec 32 := Scalar.muli v1360 c64_i32
  let v1362 : BitVec 32 := Scalar.addi v365 v1361
  let c0_i32_1135 : BitVec 32 := 0#32
  ![v1362.toNat, 0]
def k0_dev9 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1131 : BitVec 32 := 1#32
  let v1365 : BitVec 32 := Scalar.muli v4 c1_i32_1131
  let v1366 : BitVec 32 := Scalar.addi c0_i32_1132 v1365
  v1366.toNat
def k0_off10 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c1_i32_1136 : BitVec 32 := 1#32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v1373 : BitVec 32 := Scalar.subi c1_i32_1136 v49
  let c64_i32_1137 : BitVec 32 := 64#32
  let v1374 : BitVec 32 := Scalar.muli v1373 c64_i32_1137
  let v1375 : BitVec 32 := Scalar.addi v663 v1374
  let c0_i32_1143 : BitVec 32 := 0#32
  ![v1375.toNat, 0]
def k0_dev10 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1140 : BitVec 32 := 1#32
  let v1378 : BitVec 32 := Scalar.muli v5 c1_i32_1140
  let v1379 : BitVec 32 := Scalar.addi c0_i32_1141 v1378
  v1379.toNat
def k0_off11 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c1_i32_1144 : BitVec 32 := 1#32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let v1386 : BitVec 32 := Scalar.subi c1_i32_1144 v66
  let c64_i32_1145 : BitVec 32 := 64#32
  let v1387 : BitVec 32 := Scalar.muli v1386 c64_i32_1145
  let v1388 : BitVec 32 := Scalar.addi v961 v1387
  let c0_i32_1151 : BitVec 32 := 0#32
  ![v1388.toNat, 0]
def k0_dev11 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1148 : BitVec 32 := 1#32
  let v1391 : BitVec 32 := Scalar.muli v6 c1_i32_1148
  let v1392 : BitVec 32 := Scalar.addi c0_i32_1149 v1391
  v1392.toNat
def k0_off12 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c1_i32_1152 : BitVec 32 := 1#32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let v1399 : BitVec 32 := Scalar.subi c1_i32_1152 v20
  let c64_i32_1153 : BitVec 32 := 64#32
  let v1400 : BitVec 32 := Scalar.muli v1399 c64_i32_1153
  let v1401 : BitVec 32 := Scalar.addi v1259 v1400
  let c0_i32_1159 : BitVec 32 := 0#32
  ![v1401.toNat, 0]
def k0_dev12 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1156 : BitVec 32 := 1#32
  let v1404 : BitVec 32 := Scalar.muli v3 c1_i32_1156
  let v1405 : BitVec 32 := Scalar.addi c0_i32_1157 v1404
  v1405.toNat
def k0_off13 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let v1422 : Index := Scalar.indexCast v1364
  let c0_1173 : Index := 0#32
  ![v1422.toNat, 0]
def k0_off14 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let v1445 : Index := Scalar.indexCast v1377
  let c0_1191 : Index := 0#32
  ![v1445.toNat, 0]
def k0_off15 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let v1468 : Index := Scalar.indexCast v1390
  let c0_1208 : Index := 0#32
  ![v1468.toNat, 0]
def k0_off16 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let v1491 : Index := Scalar.indexCast v1403
  let c0_1225 : Index := 0#32
  ![v1491.toNat, 0]
def k0_off17 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c1_i32_1229 : BitVec 32 := 1#32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v1504 : BitVec 32 := Scalar.subi c1_i32_1229 v49
  let c32_i32 : BitVec 32 := 32#32
  let v1505 : BitVec 32 := Scalar.muli v1504 c32_i32
  let v1506 : BitVec 32 := Scalar.addi v1364 v1505
  let c0_i32_1236 : BitVec 32 := 0#32
  ![v1506.toNat, 0]
def k0_dev13 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1233 : BitVec 32 := 1#32
  let v1509 : BitVec 32 := Scalar.muli v5 c1_i32_1233
  let v1510 : BitVec 32 := Scalar.addi c0_i32_1234 v1509
  v1510.toNat
def k0_off18 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c1_i32_1237 : BitVec 32 := 1#32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let v1517 : BitVec 32 := Scalar.subi c1_i32_1237 v66
  let c32_i32_1238 : BitVec 32 := 32#32
  let v1518 : BitVec 32 := Scalar.muli v1517 c32_i32_1238
  let v1519 : BitVec 32 := Scalar.addi v1377 v1518
  let c0_i32_1244 : BitVec 32 := 0#32
  ![v1519.toNat, 0]
def k0_dev14 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1241 : BitVec 32 := 1#32
  let v1522 : BitVec 32 := Scalar.muli v6 c1_i32_1241
  let v1523 : BitVec 32 := Scalar.addi c0_i32_1242 v1522
  v1523.toNat
def k0_off19 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c1_i32_1245 : BitVec 32 := 1#32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let v1530 : BitVec 32 := Scalar.subi c1_i32_1245 v20
  let c32_i32_1246 : BitVec 32 := 32#32
  let v1531 : BitVec 32 := Scalar.muli v1530 c32_i32_1246
  let v1532 : BitVec 32 := Scalar.addi v1390 v1531
  let c0_i32_1252 : BitVec 32 := 0#32
  ![v1532.toNat, 0]
def k0_dev15 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1249 : BitVec 32 := 1#32
  let v1535 : BitVec 32 := Scalar.muli v3 c1_i32_1249
  let v1536 : BitVec 32 := Scalar.addi c0_i32_1250 v1535
  v1536.toNat
def k0_off20 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c1_i32_1253 : BitVec 32 := 1#32
  let c2_i32_7 : BitVec 32 := 2#32
  let v21 : BitVec 1 := Scalar.cmpi .sge v16 c2_i32_7
  let v22 : BitVec 32 := Scalar.extui v21
  let v1543 : BitVec 32 := Scalar.subi c1_i32_1253 v22
  let c32_i32_1254 : BitVec 32 := 32#32
  let v1544 : BitVec 32 := Scalar.muli v1543 c32_i32_1254
  let v1545 : BitVec 32 := Scalar.addi v1403 v1544
  let c0_i32_1260 : BitVec 32 := 0#32
  ![v1545.toNat, 0]
def k0_dev16 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1257 : BitVec 32 := 1#32
  let v1548 : BitVec 32 := Scalar.muli v4 c1_i32_1257
  let v1549 : BitVec 32 := Scalar.addi c0_i32_1258 v1548
  v1549.toNat
def k0_off21 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let v1566 : Index := Scalar.indexCast v1508
  let c0_1274 : Index := 0#32
  ![v1566.toNat, 0]
def k0_off22 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let v1589 : Index := Scalar.indexCast v1521
  let c0_1292 : Index := 0#32
  ![v1589.toNat, 0]
def k0_off23 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let v1612 : Index := Scalar.indexCast v1534
  let c0_1309 : Index := 0#32
  ![v1612.toNat, 0]
def k0_off24 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let v1635 : Index := Scalar.indexCast v1547
  let c0_1326 : Index := 0#32
  ![v1635.toNat, 0]
def k0_off25 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c1_i32_1330 : BitVec 32 := 1#32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let v1648 : BitVec 32 := Scalar.subi c1_i32_1330 v66
  let c16_i32_1331 : BitVec 32 := 16#32
  let v1649 : BitVec 32 := Scalar.muli v1648 c16_i32_1331
  let v1650 : BitVec 32 := Scalar.addi v1508 v1649
  let c0_i32_1337 : BitVec 32 := 0#32
  ![v1650.toNat, 0]
def k0_dev17 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1334 : BitVec 32 := 1#32
  let v1653 : BitVec 32 := Scalar.muli v6 c1_i32_1334
  let v1654 : BitVec 32 := Scalar.addi c0_i32_1335 v1653
  v1654.toNat
def k0_off26 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_1338 : BitVec 32 := 1#32
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let v1661 : BitVec 32 := Scalar.subi c1_i32_1338 v20
  let c16_i32_1339 : BitVec 32 := 16#32
  let v1662 : BitVec 32 := Scalar.muli v1661 c16_i32_1339
  let v1663 : BitVec 32 := Scalar.addi v1521 v1662
  let c0_i32_1345 : BitVec 32 := 0#32
  ![v1663.toNat, 0]
def k0_dev18 (d0 : Dev nD) : Nat :=
  let c0_i32_1343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1342 : BitVec 32 := 1#32
  let v1666 : BitVec 32 := Scalar.muli v3 c1_i32_1342
  let v1667 : BitVec 32 := Scalar.addi c0_i32_1343 v1666
  v1667.toNat
def k0_off27 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c1_i32_1346 : BitVec 32 := 1#32
  let c2_i32_7 : BitVec 32 := 2#32
  let v21 : BitVec 1 := Scalar.cmpi .sge v16 c2_i32_7
  let v22 : BitVec 32 := Scalar.extui v21
  let v1674 : BitVec 32 := Scalar.subi c1_i32_1346 v22
  let c16_i32_1347 : BitVec 32 := 16#32
  let v1675 : BitVec 32 := Scalar.muli v1674 c16_i32_1347
  let v1676 : BitVec 32 := Scalar.addi v1534 v1675
  let c0_i32_1353 : BitVec 32 := 0#32
  ![v1676.toNat, 0]
def k0_dev19 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1350 : BitVec 32 := 1#32
  let v1679 : BitVec 32 := Scalar.muli v4 c1_i32_1350
  let v1680 : BitVec 32 := Scalar.addi c0_i32_1351 v1679
  v1680.toNat
def k0_off28 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c1_i32_1354 : BitVec 32 := 1#32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v1687 : BitVec 32 := Scalar.subi c1_i32_1354 v49
  let c16_i32_1355 : BitVec 32 := 16#32
  let v1688 : BitVec 32 := Scalar.muli v1687 c16_i32_1355
  let v1689 : BitVec 32 := Scalar.addi v1547 v1688
  let c0_i32_1361 : BitVec 32 := 0#32
  ![v1689.toNat, 0]
def k0_dev20 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1358 : BitVec 32 := 1#32
  let v1692 : BitVec 32 := Scalar.muli v5 c1_i32_1358
  let v1693 : BitVec 32 := Scalar.addi c0_i32_1359 v1692
  v1693.toNat
def k0_off29 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c16_i32_1332 : BitVec 32 := 16#32
  let v1651 : BitVec 32 := Scalar.muli v66 c16_i32_1332
  let v1652 : BitVec 32 := Scalar.addi v1508 v1651
  let v1710 : Index := Scalar.indexCast v1652
  let c0_1375 : Index := 0#32
  ![v1710.toNat, 0]
def k0_off30 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c16_i32_1340 : BitVec 32 := 16#32
  let v1664 : BitVec 32 := Scalar.muli v20 c16_i32_1340
  let v1665 : BitVec 32 := Scalar.addi v1521 v1664
  let v1733 : Index := Scalar.indexCast v1665
  let c0_1392 : Index := 0#32
  ![v1733.toNat, 0]
def k0_off31 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c2_i32_7 : BitVec 32 := 2#32
  let v21 : BitVec 1 := Scalar.cmpi .sge v16 c2_i32_7
  let v22 : BitVec 32 := Scalar.extui v21
  let c16_i32_1348 : BitVec 32 := 16#32
  let v1677 : BitVec 32 := Scalar.muli v22 c16_i32_1348
  let v1678 : BitVec 32 := Scalar.addi v1534 v1677
  let v1756 : Index := Scalar.indexCast v1678
  let c0_1409 : Index := 0#32
  ![v1756.toNat, 0]
def k0_off32 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c16_i32_1356 : BitVec 32 := 16#32
  let v1690 : BitVec 32 := Scalar.muli v49 c16_i32_1356
  let v1691 : BitVec 32 := Scalar.addi v1547 v1690
  let v1779 : Index := Scalar.indexCast v1691
  let c0_1427 : Index := 0#32
  ![v1779.toNat, 0]
def k0_off33 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c16_i32_1332 : BitVec 32 := 16#32
  let v1651 : BitVec 32 := Scalar.muli v66 c16_i32_1332
  let v1652 : BitVec 32 := Scalar.addi v1508 v1651
  let c0_i32_1435 : BitVec 32 := 0#32
  ![v1652.toNat, 0]
def k0_dev21 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1433 : BitVec 32 := 1#32
  let v1792 : BitVec 32 := Scalar.muli v6 c1_i32_1433
  let v1793 : BitVec 32 := Scalar.addi c0_i32_1434 v1792
  v1793.toNat
def k0_off34 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c16_i32_1340 : BitVec 32 := 16#32
  let v1664 : BitVec 32 := Scalar.muli v20 c16_i32_1340
  let v1665 : BitVec 32 := Scalar.addi v1521 v1664
  let c0_i32_1441 : BitVec 32 := 0#32
  ![v1665.toNat, 0]
def k0_dev22 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1439 : BitVec 32 := 1#32
  let v1802 : BitVec 32 := Scalar.muli v3 c1_i32_1439
  let v1803 : BitVec 32 := Scalar.addi c0_i32_1440 v1802
  v1803.toNat
def k0_off35 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c2_i32_7 : BitVec 32 := 2#32
  let v21 : BitVec 1 := Scalar.cmpi .sge v16 c2_i32_7
  let v22 : BitVec 32 := Scalar.extui v21
  let c16_i32_1348 : BitVec 32 := 16#32
  let v1677 : BitVec 32 := Scalar.muli v22 c16_i32_1348
  let v1678 : BitVec 32 := Scalar.addi v1534 v1677
  let c0_i32_1447 : BitVec 32 := 0#32
  ![v1678.toNat, 0]
def k0_dev23 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1445 : BitVec 32 := 1#32
  let v1812 : BitVec 32 := Scalar.muli v4 c1_i32_1445
  let v1813 : BitVec 32 := Scalar.addi c0_i32_1446 v1812
  v1813.toNat
def k0_off36 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c16_i32_1356 : BitVec 32 := 16#32
  let v1690 : BitVec 32 := Scalar.muli v49 c16_i32_1356
  let v1691 : BitVec 32 := Scalar.addi v1547 v1690
  let c0_i32_1453 : BitVec 32 := 0#32
  ![v1691.toNat, 0]
def k0_dev24 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1451 : BitVec 32 := 1#32
  let v1822 : BitVec 32 := Scalar.muli v5 c1_i32_1451
  let v1823 : BitVec 32 := Scalar.addi c0_i32_1452 v1822
  v1823.toNat
def k0_off37 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c16_i32_1332 : BitVec 32 := 16#32
  let v1651 : BitVec 32 := Scalar.muli v66 c16_i32_1332
  let v1652 : BitVec 32 := Scalar.addi v1508 v1651
  let c16_i32_1437 : BitVec 32 := 16#32
  let v1800 : BitVec 32 := Scalar.muli v66 c16_i32_1437
  let v1801 : BitVec 32 := Scalar.subi v1652 v1800
  let c0_i32_1503 : BitVec 32 := 0#32
  ![v1801.toNat, 0]
def k0_dev25 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1501 : BitVec 32 := 1#32
  let v1872 : BitVec 32 := Scalar.muli v5 c1_i32_1501
  let v1873 : BitVec 32 := Scalar.addi c0_i32_1502 v1872
  v1873.toNat
def k0_off38 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c16_i32_1340 : BitVec 32 := 16#32
  let v1664 : BitVec 32 := Scalar.muli v20 c16_i32_1340
  let v1665 : BitVec 32 := Scalar.addi v1521 v1664
  let c16_i32_1443 : BitVec 32 := 16#32
  let v1810 : BitVec 32 := Scalar.muli v20 c16_i32_1443
  let v1811 : BitVec 32 := Scalar.subi v1665 v1810
  let c0_i32_1509 : BitVec 32 := 0#32
  ![v1811.toNat, 0]
def k0_dev26 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1507 : BitVec 32 := 1#32
  let v1882 : BitVec 32 := Scalar.muli v6 c1_i32_1507
  let v1883 : BitVec 32 := Scalar.addi c0_i32_1508 v1882
  v1883.toNat
def k0_off39 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c2_i32_7 : BitVec 32 := 2#32
  let v21 : BitVec 1 := Scalar.cmpi .sge v16 c2_i32_7
  let v22 : BitVec 32 := Scalar.extui v21
  let c16_i32_1348 : BitVec 32 := 16#32
  let v1677 : BitVec 32 := Scalar.muli v22 c16_i32_1348
  let v1678 : BitVec 32 := Scalar.addi v1534 v1677
  let c16_i32_1449 : BitVec 32 := 16#32
  let v1820 : BitVec 32 := Scalar.muli v22 c16_i32_1449
  let v1821 : BitVec 32 := Scalar.subi v1678 v1820
  let c0_i32_1515 : BitVec 32 := 0#32
  ![v1821.toNat, 0]
def k0_dev27 (d0 : Dev nD) : Nat :=
  let c0_i32_1514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1513 : BitVec 32 := 1#32
  let v1892 : BitVec 32 := Scalar.muli v3 c1_i32_1513
  let v1893 : BitVec 32 := Scalar.addi c0_i32_1514 v1892
  v1893.toNat
def k0_off40 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c16_i32_1356 : BitVec 32 := 16#32
  let v1690 : BitVec 32 := Scalar.muli v49 c16_i32_1356
  let v1691 : BitVec 32 := Scalar.addi v1547 v1690
  let c16_i32_1455 : BitVec 32 := 16#32
  let v1830 : BitVec 32 := Scalar.muli v49 c16_i32_1455
  let v1831 : BitVec 32 := Scalar.subi v1691 v1830
  let c0_i32_1521 : BitVec 32 := 0#32
  ![v1831.toNat, 0]
def k0_dev28 (d0 : Dev nD) : Nat :=
  let c0_i32_1520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1519 : BitVec 32 := 1#32
  let v1902 : BitVec 32 := Scalar.muli v4 c1_i32_1519
  let v1903 : BitVec 32 := Scalar.addi c0_i32_1520 v1902
  v1903.toNat
def k0_off41 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c16_i32_1332 : BitVec 32 := 16#32
  let v1651 : BitVec 32 := Scalar.muli v66 c16_i32_1332
  let v1652 : BitVec 32 := Scalar.addi v1508 v1651
  let c16_i32_1437 : BitVec 32 := 16#32
  let v1800 : BitVec 32 := Scalar.muli v66 c16_i32_1437
  let v1801 : BitVec 32 := Scalar.subi v1652 v1800
  let c32_i32_1505 : BitVec 32 := 32#32
  let v1880 : BitVec 32 := Scalar.muli v49 c32_i32_1505
  let v1881 : BitVec 32 := Scalar.subi v1801 v1880
  let c0_i32_1571 : BitVec 32 := 0#32
  ![v1881.toNat, 0]
def k0_dev29 (d0 : Dev nD) : Nat :=
  let c0_i32_1570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1569 : BitVec 32 := 1#32
  let v1952 : BitVec 32 := Scalar.muli v4 c1_i32_1569
  let v1953 : BitVec 32 := Scalar.addi c0_i32_1570 v1952
  v1953.toNat
def k0_off42 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c16_i32_1340 : BitVec 32 := 16#32
  let v1664 : BitVec 32 := Scalar.muli v20 c16_i32_1340
  let v1665 : BitVec 32 := Scalar.addi v1521 v1664
  let c16_i32_1443 : BitVec 32 := 16#32
  let v1810 : BitVec 32 := Scalar.muli v20 c16_i32_1443
  let v1811 : BitVec 32 := Scalar.subi v1665 v1810
  let c32_i32_1511 : BitVec 32 := 32#32
  let v1890 : BitVec 32 := Scalar.muli v66 c32_i32_1511
  let v1891 : BitVec 32 := Scalar.subi v1811 v1890
  let c0_i32_1577 : BitVec 32 := 0#32
  ![v1891.toNat, 0]
def k0_dev30 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1575 : BitVec 32 := 1#32
  let v1962 : BitVec 32 := Scalar.muli v5 c1_i32_1575
  let v1963 : BitVec 32 := Scalar.addi c0_i32_1576 v1962
  v1963.toNat
def k0_off43 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c2_i32_7 : BitVec 32 := 2#32
  let v21 : BitVec 1 := Scalar.cmpi .sge v16 c2_i32_7
  let v22 : BitVec 32 := Scalar.extui v21
  let c16_i32_1348 : BitVec 32 := 16#32
  let v1677 : BitVec 32 := Scalar.muli v22 c16_i32_1348
  let v1678 : BitVec 32 := Scalar.addi v1534 v1677
  let c16_i32_1449 : BitVec 32 := 16#32
  let v1820 : BitVec 32 := Scalar.muli v22 c16_i32_1449
  let v1821 : BitVec 32 := Scalar.subi v1678 v1820
  let c32_i32_1517 : BitVec 32 := 32#32
  let v1900 : BitVec 32 := Scalar.muli v20 c32_i32_1517
  let v1901 : BitVec 32 := Scalar.subi v1821 v1900
  let c0_i32_1583 : BitVec 32 := 0#32
  ![v1901.toNat, 0]
def k0_dev31 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1581 : BitVec 32 := 1#32
  let v1972 : BitVec 32 := Scalar.muli v6 c1_i32_1581
  let v1973 : BitVec 32 := Scalar.addi c0_i32_1582 v1972
  v1973.toNat
def k0_off44 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c16_i32_1356 : BitVec 32 := 16#32
  let v1690 : BitVec 32 := Scalar.muli v49 c16_i32_1356
  let v1691 : BitVec 32 := Scalar.addi v1547 v1690
  let c16_i32_1455 : BitVec 32 := 16#32
  let v1830 : BitVec 32 := Scalar.muli v49 c16_i32_1455
  let v1831 : BitVec 32 := Scalar.subi v1691 v1830
  let c32_i32_1523 : BitVec 32 := 32#32
  let v1910 : BitVec 32 := Scalar.muli v22 c32_i32_1523
  let v1911 : BitVec 32 := Scalar.subi v1831 v1910
  let c0_i32_1589 : BitVec 32 := 0#32
  ![v1911.toNat, 0]
def k0_dev32 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1587 : BitVec 32 := 1#32
  let v1982 : BitVec 32 := Scalar.muli v3 c1_i32_1587
  let v1983 : BitVec 32 := Scalar.addi c0_i32_1588 v1982
  v1983.toNat
def k0_off45 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c128_i32_281 : BitVec 32 := 128#32
  let v364 : BitVec 32 := Scalar.muli v20 c128_i32_281
  let v365 : BitVec 32 := Scalar.addi c0_i32_282 v364
  let c2_i32_7 : BitVec 32 := 2#32
  let v21 : BitVec 1 := Scalar.cmpi .sge v16 c2_i32_7
  let v22 : BitVec 32 := Scalar.extui v21
  let c64_i32_1128 : BitVec 32 := 64#32
  let v1363 : BitVec 32 := Scalar.muli v22 c64_i32_1128
  let v1364 : BitVec 32 := Scalar.addi v365 v1363
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c32_i32_1230 : BitVec 32 := 32#32
  let v1507 : BitVec 32 := Scalar.muli v49 c32_i32_1230
  let v1508 : BitVec 32 := Scalar.addi v1364 v1507
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c16_i32_1332 : BitVec 32 := 16#32
  let v1651 : BitVec 32 := Scalar.muli v66 c16_i32_1332
  let v1652 : BitVec 32 := Scalar.addi v1508 v1651
  let c16_i32_1437 : BitVec 32 := 16#32
  let v1800 : BitVec 32 := Scalar.muli v66 c16_i32_1437
  let v1801 : BitVec 32 := Scalar.subi v1652 v1800
  let c32_i32_1505 : BitVec 32 := 32#32
  let v1880 : BitVec 32 := Scalar.muli v49 c32_i32_1505
  let v1881 : BitVec 32 := Scalar.subi v1801 v1880
  let c64_i32_1573 : BitVec 32 := 64#32
  let v1960 : BitVec 32 := Scalar.muli v22 c64_i32_1573
  let v1961 : BitVec 32 := Scalar.subi v1881 v1960
  let c0_i32_1639 : BitVec 32 := 0#32
  ![v1961.toNat, 0]
def k0_dev33 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1637 : BitVec 32 := 1#32
  let v2032 : BitVec 32 := Scalar.muli v3 c1_i32_1637
  let v2033 : BitVec 32 := Scalar.addi c0_i32_1638 v2032
  v2033.toNat
def k0_off46 (d0 : Dev nD) : Fin 2 → Nat :=
  let c256_i32_539 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_7 : BitVec 32 := 2#32
  let v21 : BitVec 1 := Scalar.cmpi .sge v16 c2_i32_7
  let v22 : BitVec 32 := Scalar.extui v21
  let c128_i32_538 : BitVec 32 := 128#32
  let v662 : BitVec 32 := Scalar.muli v22 c128_i32_538
  let v663 : BitVec 32 := Scalar.addi c256_i32_539 v662
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c64_i32_1138 : BitVec 32 := 64#32
  let v1376 : BitVec 32 := Scalar.muli v49 c64_i32_1138
  let v1377 : BitVec 32 := Scalar.addi v663 v1376
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c32_i32_1239 : BitVec 32 := 32#32
  let v1520 : BitVec 32 := Scalar.muli v66 c32_i32_1239
  let v1521 : BitVec 32 := Scalar.addi v1377 v1520
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c16_i32_1340 : BitVec 32 := 16#32
  let v1664 : BitVec 32 := Scalar.muli v20 c16_i32_1340
  let v1665 : BitVec 32 := Scalar.addi v1521 v1664
  let c16_i32_1443 : BitVec 32 := 16#32
  let v1810 : BitVec 32 := Scalar.muli v20 c16_i32_1443
  let v1811 : BitVec 32 := Scalar.subi v1665 v1810
  let c32_i32_1511 : BitVec 32 := 32#32
  let v1890 : BitVec 32 := Scalar.muli v66 c32_i32_1511
  let v1891 : BitVec 32 := Scalar.subi v1811 v1890
  let c64_i32_1579 : BitVec 32 := 64#32
  let v1970 : BitVec 32 := Scalar.muli v49 c64_i32_1579
  let v1971 : BitVec 32 := Scalar.subi v1891 v1970
  let c0_i32_1644 : BitVec 32 := 0#32
  ![v1971.toNat, 0]
def k0_dev34 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1642 : BitVec 32 := 1#32
  let v2040 : BitVec 32 := Scalar.muli v4 c1_i32_1642
  let v2041 : BitVec 32 := Scalar.addi c0_i32_1643 v2040
  v2041.toNat
def k0_off47 (d0 : Dev nD) : Fin 2 → Nat :=
  let c512_i32_795 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c128_i32_794 : BitVec 32 := 128#32
  let v960 : BitVec 32 := Scalar.muli v49 c128_i32_794
  let v961 : BitVec 32 := Scalar.addi c512_i32_795 v960
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c64_i32_1146 : BitVec 32 := 64#32
  let v1389 : BitVec 32 := Scalar.muli v66 c64_i32_1146
  let v1390 : BitVec 32 := Scalar.addi v961 v1389
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c32_i32_1247 : BitVec 32 := 32#32
  let v1533 : BitVec 32 := Scalar.muli v20 c32_i32_1247
  let v1534 : BitVec 32 := Scalar.addi v1390 v1533
  let c2_i32_7 : BitVec 32 := 2#32
  let v21 : BitVec 1 := Scalar.cmpi .sge v16 c2_i32_7
  let v22 : BitVec 32 := Scalar.extui v21
  let c16_i32_1348 : BitVec 32 := 16#32
  let v1677 : BitVec 32 := Scalar.muli v22 c16_i32_1348
  let v1678 : BitVec 32 := Scalar.addi v1534 v1677
  let c16_i32_1449 : BitVec 32 := 16#32
  let v1820 : BitVec 32 := Scalar.muli v22 c16_i32_1449
  let v1821 : BitVec 32 := Scalar.subi v1678 v1820
  let c32_i32_1517 : BitVec 32 := 32#32
  let v1900 : BitVec 32 := Scalar.muli v20 c32_i32_1517
  let v1901 : BitVec 32 := Scalar.subi v1821 v1900
  let c64_i32_1585 : BitVec 32 := 64#32
  let v1980 : BitVec 32 := Scalar.muli v66 c64_i32_1585
  let v1981 : BitVec 32 := Scalar.subi v1901 v1980
  let c0_i32_1649 : BitVec 32 := 0#32
  ![v1981.toNat, 0]
def k0_dev35 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_1647 : BitVec 32 := 1#32
  let v2048 : BitVec 32 := Scalar.muli v5 c1_i32_1647
  let v2049 : BitVec 32 := Scalar.addi c0_i32_1648 v2048
  v2049.toNat
def k0_off48 (d0 : Dev nD) : Fin 2 → Nat :=
  let c768_i32_1051 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v51 : BitVec 1 := Scalar.cmpi .sgt v2 c0_i32_22
  let v52 : BitVec 32 := Scalar.extui v51
  let c0_i32_23 : BitVec 32 := 0#32
  let v53 : BitVec 1 := Scalar.cmpi .slt v2 c0_i32_23
  let v54 : BitVec 32 := Scalar.extui v53
  let v55 : BitVec 32 := Scalar.subi v52 v54
  let c8_i32_21 : BitVec 32 := 8#32
  let c0_i32_24 : BitVec 32 := 0#32
  let v56 : BitVec 1 := Scalar.cmpi .sgt c8_i32_21 c0_i32_24
  let v57 : BitVec 32 := Scalar.extui v56
  let c0_i32_25 : BitVec 32 := 0#32
  let v58 : BitVec 1 := Scalar.cmpi .slt c8_i32_21 c0_i32_25
  let v59 : BitVec 32 := Scalar.extui v58
  let v60 : BitVec 32 := Scalar.subi v57 v59
  let v61 : BitVec 1 := Scalar.cmpi .ne v55 v60
  let v62 : BitVec 32 := Scalar.remsi v2 c8_i32_21
  let c0_i32_26 : BitVec 32 := 0#32
  let v63 : BitVec 1 := Scalar.cmpi .ne v62 c0_i32_26
  let v64 : BitVec 1 := Scalar.andi v61 v63
  let v50 : BitVec 32 := Scalar.divsi v2 c8_i32_21
  let c1_i32_27 : BitVec 32 := 1#32
  let v65 : BitVec 32 := Scalar.subi v50 c1_i32_27
  let v66 : BitVec 32 := Scalar.select v64 v65 v50
  let c128_i32_1050 : BitVec 32 := 128#32
  let v1258 : BitVec 32 := Scalar.muli v66 c128_i32_1050
  let v1259 : BitVec 32 := Scalar.addi c768_i32_1051 v1258
  let c4_i32_1 : BitVec 32 := 4#32
  let c0_i32 : BitVec 32 := 0#32
  let v7 : BitVec 1 := Scalar.cmpi .eq c4_i32_1 c0_i32
  let c1_i32_2 : BitVec 32 := 1#32
  let v8 : BitVec 32 := Scalar.select v7 c1_i32_2 c4_i32_1
  let v9 : BitVec 32 := Scalar.remsi v2 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_6 : BitVec 32 := 1#32
  let v17 : BitVec 1 := Scalar.cmpi .eq v16 c1_i32_6
  let c2_i32 : BitVec 32 := 2#32
  let v18 : BitVec 1 := Scalar.cmpi .eq v16 c2_i32
  let v19 : BitVec 1 := Scalar.ori v17 v18
  let v20 : BitVec 32 := Scalar.extui v19
  let c64_i32_1154 : BitVec 32 := 64#32
  let v1402 : BitVec 32 := Scalar.muli v20 c64_i32_1154
  let v1403 : BitVec 32 := Scalar.addi v1259 v1402
  let c2_i32_7 : BitVec 32 := 2#32
  let v21 : BitVec 1 := Scalar.cmpi .sge v16 c2_i32_7
  let v22 : BitVec 32 := Scalar.extui v21
  let c32_i32_1255 : BitVec 32 := 32#32
  let v1546 : BitVec 32 := Scalar.muli v22 c32_i32_1255
  let v1547 : BitVec 32 := Scalar.addi v1403 v1546
  let c0_i32_9 : BitVec 32 := 0#32
  let v24 : BitVec 1 := Scalar.cmpi .sgt v2 c0_i32_9
  let v25 : BitVec 32 := Scalar.extui v24
  let c0_i32_10 : BitVec 32 := 0#32
  let v26 : BitVec 1 := Scalar.cmpi .slt v2 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v2 c4_i32_8
  let c0_i32_13 : BitVec 32 := 0#32
  let v36 : BitVec 1 := Scalar.cmpi .ne v35 c0_i32_13
  let v37 : BitVec 1 := Scalar.andi v34 v36
  let v23 : BitVec 32 := Scalar.divsi v2 c4_i32_8
  let c1_i32_14 : BitVec 32 := 1#32
  let v38 : BitVec 32 := Scalar.subi v23 c1_i32_14
  let v39 : BitVec 32 := Scalar.select v37 v38 v23
  let c2_i32_15 : BitVec 32 := 2#32
  let c0_i32_16 : BitVec 32 := 0#32
  let v40 : BitVec 1 := Scalar.cmpi .eq c2_i32_15 c0_i32_16
  let c1_i32_17 : BitVec 32 := 1#32
  let v41 : BitVec 32 := Scalar.select v40 c1_i32_17 c2_i32_15
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let c16_i32_1356 : BitVec 32 := 16#32
  let v1690 : BitVec 32 := Scalar.muli v49 c16_i32_1356
  let v1691 : BitVec 32 := Scalar.addi v1547 v1690
  let c16_i32_1455 : BitVec 32 := 16#32
  let v1830 : BitVec 32 := Scalar.muli v49 c16_i32_1455
  let v1831 : BitVec 32 := Scalar.subi v1691 v1830
  let c32_i32_1523 : BitVec 32 := 32#32
  let v1910 : BitVec 32 := Scalar.muli v22 c32_i32_1523
  let v1911 : BitVec 32 := Scalar.subi v1831 v1910
  let c64_i32_1591 : BitVec 32 := 64#32
  let v1990 : BitVec 32 := Scalar.muli v20 c64_i32_1591
  let v1991 : BitVec 32 := Scalar.subi v1911 v1990
  let c0_i32_1654 : BitVec 32 := 0#32
  ![v1991.toNat, 0]
def k0_dev36 (d0 : Dev nD) : Nat :=
  let c0_i32_1653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_1652 : BitVec 32 := 1#32
  let v2056 : BitVec 32 := Scalar.muli v6 c1_i32_1652
  let v2057 : BitVec 32 := Scalar.addi c0_i32_1653 v2056
  v2057.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x16384, .f32⟩
  | 2 => ⟨S1x1024x128x128, .f32⟩
  | 3 => ⟨S1x1024x128x128, .f32⟩
  | 4 => ⟨S16384x1024, .f32⟩
  | 5 => ⟨S1x1024x16384, .f32⟩
  | 6 => ⟨S1x1024x128x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S1x128x1024x1024, .f32⟩
  | 99 => ⟨S_, .f32⟩
  | 100 => ⟨S1x128x1024x1024, .f32⟩
  | 101 => ⟨S1x128x1024x1024, .f32⟩
  | 102 => ⟨S1x1x1024x1024, .i1⟩
  | 103 => ⟨S_, .f32⟩
  | 104 => ⟨S_, .f32⟩
  | 105 => ⟨S1x128x1024x1024, .i1⟩
  | 106 => ⟨S1x128x1024x1024, .f32⟩
  | 107 => ⟨S1x128x1024x1024, .f32⟩
  | 108 => ⟨S_, .f32⟩
  | 109 => ⟨S1x128x1024, .f32⟩
  | 110 => ⟨S1x128x1024x1, .f32⟩
  | 111 => ⟨S1x128x1024x1024, .f32⟩
  | 112 => ⟨S1x128x1024x1024, .f32⟩
  | 113 => ⟨S1x128x1024x1024, .f32⟩
  | 114 => ⟨S_, .i1⟩
  | 115 => ⟨S1024, .i1⟩
  | 116 => ⟨S1x1x1024x1, .i1⟩
  | 117 => ⟨S_, .f32⟩
  | 118 => ⟨S1x128x1024, .f32⟩
  | 119 => ⟨S1x128x1024x1, .f32⟩
  | 120 => ⟨S_, .f32⟩
  | 121 => ⟨S_, .f32⟩
  | 122 => ⟨S1x128x1024x1, .i1⟩
  | 123 => ⟨S1x128x1024x1, .f32⟩
  | 124 => ⟨S1x128x1024x1, .f32⟩
  | 125 => ⟨S1x128x1024x1024, .f32⟩
  | 126 => ⟨S1x128x1024x1024, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x128x1024x1024, .i1⟩
  | 3 => ⟨S1x128x1024x1024, .f32⟩
  | 4 => ⟨S1x128x1024x1024, .f32⟩
  | 5 => ⟨S1x128x128x1024, .f32⟩
  | 6 => ⟨S1x1024x128x128, .f32⟩
  | 7 => ⟨S1x1024x16384, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Base.lean ====
/-
  The exchange's arithmetic: which device a device talks to along each of the four dimensions of the cube, which rows of
  the shared accumulator it holds before each round, and the sets of rows the views of the kernel select.
-/
module

public import proofs.«01_k».proof.Defs
public import Idealize.ShloMosaic.Lib.Pipeline.Launch
public import Idealize.ShloMosaic.Lib.Pipeline.RegionTalk
public import Idealize.ShloMosaic.Lib.Rounds
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.TcCoe

/-! ## Devices -/

/-- The coordinate of device `c` along dimension `d`: which half of the rows it keeps in the round that exchanges along `d`. -/
def bit (d : ℕ) (c : Dev nD) : ℕ :=
  match d with
  | 0 => if c.val % 4 = 1 ∨ c.val % 4 = 2 then 1 else 0
  | 1 => if 2 ≤ c.val % 4 then 1 else 0
  | 2 => c.val / 4 % 2
  | _ => c.val / 8

/-- The mask by which the partner along dimension `d` is named. -/
def mask (d : ℕ) : ℕ :=
  match d with
  | 0 => 1
  | 1 => 3
  | 2 => 4
  | _ => 8

set_option backward.proofsInPublic true in
/-- The partner of `c` along dimension `d`. -/
def flip (d : ℕ) (c : Dev nD) : Dev nD := ⟨(c.val ^^^ mask d) % 16, Nat.mod_lt _ (by decide)⟩

/-- The dimension along which part `p` is exchanged in round `r`. -/
abbrev dim (p r : ℕ) : ℕ := (p + r) % 4

/-- Rows held before round `r`. -/
def sz (r : ℕ) : ℕ := 256 / 2 ^ r

/-- The first row of part `p` device `c` holds before round `r`. -/
def off (p : ℕ) : ℕ → Dev nD → ℕ
  | 0, _ => 256 * p
  | r + 1, c => off p r c + bit (dim p r) c * sz (r + 1)

/-- The first row of the landing buffer that receives part `p` of round `r`. -/
def reg (p r : ℕ) : ℕ := 240 * p + (match r with | 0 => 0 | 1 => 128 | 2 => 192 | _ => 224)

theorem flip_flip (d : Fin 4) : ∀ c, flip d (flip d c) = c := by revert d; decide
theorem flip_ne (d : Fin 4) : ∀ c, flip d c ≠ c := by revert d; decide

/-- The partner along dimension `d`, as a permutation of the devices. -/
def flipE (d : Fin 4) : Dev nD ≃ Dev nD := ⟨flip d, flip d, flip_flip d, flip_flip d⟩

/-- The round's partner holds the same rows before it. -/
theorem off_flip (p r : Fin 4) : ∀ c, off p r (flip (dim p r) c) = off p r c := by revert p r; decide
/-- The two halves of what is held before a round: this device keeps one, its partner the other. -/
theorem off_halves (p r : Fin 4) : ∀ c, (off p (r + 1) c = off p r c ∧ off p (r + 1) (flip (dim p r) c) = off p r c + sz (r + 1)
    ∨ off p (r + 1) c = off p r c + sz (r + 1) ∧ off p (r + 1) (flip (dim p r) c) = off p r c) := by revert p r; decide
theorem sz_succ (r : Fin 4) : sz r = sz (r + 1) + sz (r + 1) := by revert r; decide
theorem off_lo (p : Fin 4) (r : Fin 5) : ∀ c, 256 * p.val ≤ off p r c := by revert p r; decide
theorem off_hi (p : Fin 4) (r : Fin 5) : ∀ c, off p r c + sz r ≤ 256 * p.val + 256 := by revert p r; decide
theorem reg_hi (p r : Fin 4) : reg p r + sz (r + 1) ≤ 960 := by revert p r; decide

/-- The device that ends up holding row `ρ` summed: its coordinate along the dimension of round `r` is the row's bit of that round. -/
def ownerBit (ρ d : ℕ) : ℕ := ρ % 256 / 16 / 2 ^ (3 - (d + 4 - ρ / 256) % 4) % 2

set_option backward.proofsInPublic true in
def owner (ρ : ℕ) : Dev nD :=
  ⟨((if ownerBit ρ 1 = 1 then (if ownerBit ρ 0 = 1 then 2 else 3) else ownerBit ρ 0) + 4 * ownerBit ρ 2 + 8 * ownerBit ρ 3) % 16,
    Nat.mod_lt _ (by decide)⟩

theorem owner_off (p : Fin 4) : ∀ c (i : Fin 16), owner (off p 4 c + i.val) = c := by revert p; decide +kernel

end Cert.Proof

end
-- ==== Proof.Rows.lean ====
/-
  Rows of the kernel's buffers: the views of the kernel select whole rows, from a first row on. What they read and write, row by row.
-/
module

public import proofs.«01_k».proof.Proof.Base

@[expose] public section

noncomputable section

namespace Cert.Proof

open Cert.KernelIdeal Cert.KernelIdeal.Gen
open Idealize.ShloMosaic
open Idealize.ShloMosaic.TcCoe

variable {F : FTy → Type}

/-- A block of `n` rows of 1024 values. -/
abbrev Blk (n : ℕ) : Shape := ⟨2, ![n, 1024]⟩

/-- The indices of a buffer of `R` rows that lie in the `n` rows from row `a` on. -/
def rows (R a n : ℕ) : Finset (Blk R).Idx := Finset.univ.filter fun i => a ≤ (i 0).val ∧ (i 0).val < a + n

theorem mem_rows {R a n : ℕ} {i : (Blk R).Idx} : i ∈ rows R a n ↔ a ≤ (i 0).val ∧ (i 0).val < a + n := by
  unfold rows; rw [Finset.mem_filter]; exact and_iff_right (Finset.mem_univ _)

theorem rect_set {R a n : ℕ} {o : Fin 2 → ℕ} (ho : o = ![a, 0]) (inb : ∀ x, o x + ![n, 1024] x ≤ (Blk R).size x) :
    (Rect.unit (s := Blk R) o ![n, 1024] inb).set = rows R a n := by
  ext i
  rw [Rect.mem_set_unit, mem_rows, Fin.forall_fin_two]
  subst ho
  constructor
  · intro h; exact h.1
  · intro h; exact ⟨h, Nat.zero_le _, by have := (i 1).isLt; show (i 1).val < 0 + 1024; rw [Nat.zero_add]; exact this⟩

theorem rows_disjoint {R a n a' n' : ℕ} (h : a + n ≤ a' ∨ a' + n' ≤ a) : Disjoint (rows R a n) (rows R a' n') := by
  rw [Finset.disjoint_left]; intro i hi hi'
  rw [mem_rows] at hi hi'; omega

theorem rows_union {R a n n' : ℕ} : rows R a n ∪ rows R (a + n) n' = rows R a (n + n') := by
  ext i; rw [Finset.mem_union, mem_rows, mem_rows, mem_rows]; omega

theorem rows_subset {R a n a' n' : ℕ} (h₁ : a' ≤ a) (h₂ : a + n ≤ a' + n') : rows R a n ⊆ rows R a' n' := by
  intro i hi; rw [mem_rows] at hi ⊢; omega

theorem rows_all {R : ℕ} : rows R 0 R = Finset.univ := by
  ext i; rw [mem_rows]; exact ⟨fun _ => Finset.mem_univ _, fun _ => ⟨Nat.zero_le _, by have := (i 0).isLt; rw [Nat.zero_add]; exact this⟩⟩

/-- The block `v` holds the rows of `g` from row `a` on. -/
def RowsEq {R n : ℕ} {α : Type} (v : (Blk n).Idx → α) (a : ℕ) (g : (Blk R).Idx → α) : Prop :=
  ∀ (x : (Blk n).Idx) (j : (Blk R).Idx), (j 0).val = a + (x 0).val → (j 1).val = (x 1).val → v x = g j

/-- The rows of `h` from row `a` on, `n` of them, are the rows of `g` from row `a'` on. -/
def Shift {R R' : ℕ} {α : Type} (n : ℕ) (h : (Blk R).Idx → α) (a : ℕ) (g : (Blk R').Idx → α) (a' : ℕ) : Prop :=
  ∀ (i : (Blk R).Idx) (j : (Blk R').Idx), a ≤ (i 0).val → (i 0).val < a + n → (j 0).val + a = (i 0).val + a' → (j 1).val = (i 1).val → h i = g j

theorem emb_row {R a n : ℕ} {o : Fin 2 → ℕ} (ho : o = ![a, 0]) (inb : ∀ x, o x + ![n, 1024] x ≤ (Blk R).size x) (x : (Blk n).Idx) :
    (((Rect.unit (s := Blk R) o ![n, 1024] inb).emb x : (Blk R).Idx) 0).val = a + (x 0).val
      ∧ (((Rect.unit (s := Blk R) o ![n, 1024] inb).emb x : (Blk R).Idx) 1).val = (x 1).val := by
  subst ho
  constructor
  · show (![a, 0] : Fin 2 → ℕ) 0 + 1 * (x 0).val = _; rw [Nat.one_mul]; rfl
  · show (![a, 0] : Fin 2 → ℕ) 1 + 1 * (x 1).val = _; rw [Nat.one_mul]; exact Nat.zero_add _

theorem idx2_ext {R : ℕ} {i j : (Blk R).Idx} (h0 : (i 0).val = (j 0).val) (h1 : (i 1).val = (j 1).val) : i = j := by
  funext a
  match a with
  | ⟨0, _⟩ => exact Fin.ext h0
  | ⟨1, _⟩ => exact Fin.ext h1

/-- The row `i` of a buffer, as a row of the block from row `a` on. -/
def toBlk {R n : ℕ} (a : ℕ) (i : (Blk R).Idx) (h : (i 0).val < a + n) (h' : a ≤ (i 0).val) : (Blk n).Idx :=
  fun b => match b with
    | ⟨0, _⟩ => ⟨(i 0).val - a, by show _ < n; omega⟩
    | ⟨1, _⟩ => ⟨(i 1).val, (i 1).isLt⟩

theorem emb_toBlk {R a n : ℕ} {o : Fin 2 → ℕ} (ho : o = ![a, 0]) (inb : ∀ x, o x + ![n, 1024] x ≤ (Blk R).size x) (i : (Blk R).Idx)
    (h : (i 0).val < a + n) (h' : a ≤ (i 0).val) : (Rect.unit (s := Blk R) o ![n, 1024] inb).emb (toBlk (n := n) a i h h') = i := by
  obtain ⟨e0, e1⟩ := emb_row ho inb (toBlk (n := n) a i h h')
  refine idx2_ext (e0.trans ?_) (e1.trans rfl)
  show a + ((i 0).val - a) = _
  omega

/-! ## The three buffers the exchange works on -/

abbrev outM : Memref sig .tc .vmem S1024x1024 .f32 := Memref.whole cc0_stg5_0
abbrev cmM : Memref sig .tc .vmem S960x1024 .bf16 := Memref.whole cc0_scratch0
abbrev obM : Memref sig .tc .vmem S1024x1024 .bf16 := Memref.whole cc0_scratch1

abbrev COut (F : FTy → Type) : Type := (Blk 1024).Idx → Elt F .f32
abbrev COb (F : FTy → Type) : Type := (Blk 1024).Idx → Elt F .bf16
abbrev CCm (F : FTy → Type) : Type := (Blk 960).Idx → Elt F .bf16

section
variable {a n : ℕ} {o : Fin 2 → ℕ} (ho : o = ![a, 0])
include ho

theorem set_out (inb : ∀ x, o x + ![n, 1024] x ≤ (Blk 1024).size x) : (outM.access (Rect.unit (s := S1024x1024) o ![n, 1024] inb)).set = rows 1024 a n :=
  (View.set_slice_whole _ _).trans (rect_set ho inb)
theorem set_ob (inb : ∀ x, o x + ![n, 1024] x ≤ (Blk 1024).size x) : (obM.access (Rect.unit (s := S1024x1024) o ![n, 1024] inb)).set = rows 1024 a n :=
  (View.set_slice_whole _ _).trans (rect_set ho inb)
theorem set_cm (inb : ∀ x, o x + ![n, 1024] x ≤ (Blk 960).size x) : (cmM.access (Rect.unit (s := S960x1024) o ![n, 1024] inb)).set = rows 960 a n :=
  (View.set_slice_whole _ _).trans (rect_set ho inb)
theorem seton_out (inb : ∀ x, o x + ![n, 1024] x ≤ (Blk 1024).size x) : outM.view.setOn (Rect.unit (s := S1024x1024) o ![n, 1024] inb).toLoadRect.set = rows 1024 a n :=
  (set_out ho inb).symm ▸ (View.set_slice _ _).symm
theorem seton_ob (inb : ∀ x, o x + ![n, 1024] x ≤ (Blk 1024).size x) : obM.view.setOn (Rect.unit (s := S1024x1024) o ![n, 1024] inb).toLoadRect.set = rows 1024 a n :=
  (set_ob ho inb).symm ▸ (View.set_slice _ _).symm
theorem seton_cm (inb : ∀ x, o x + ![n, 1024] x ≤ (Blk 960).size x) : cmM.view.setOn (Rect.unit (s := S960x1024) o ![n, 1024] inb).toLoadRect.set = rows 960 a n :=
  (set_cm ho inb).symm ▸ (View.set_slice _ _).symm

/-- What a load of rows reads. -/
theorem read_out (inb : ∀ x, o x + ![n, 1024] x ≤ (Blk 1024).size x) (f g : COut F) (h : ∀ i ∈ rows 1024 a n, f i = g i) :
    RowsEq (n := n) (outM.view.readAt (Elt F) (Rect.unit (s := S1024x1024) o ![n, 1024] inb).toLoadRect f) a g := by
  intro x j h0 h1
  obtain ⟨e0, e1⟩ := emb_row ho inb x
  rw [show j = (Rect.unit (s := S1024x1024) o ![n, 1024] inb).emb x from idx2_ext (h0.trans e0.symm) (h1.trans e1.symm), ← h]
  · rfl
  · rw [mem_rows, e0]; have := (x 0).isLt; have : (x 0).val < n := this; omega
theorem read_ob (inb : ∀ x, o x + ![n, 1024] x ≤ (Blk 1024).size x) (f g : COb F) (h : ∀ i ∈ rows 1024 a n, f i = g i) :
    RowsEq (n := n) (obM.view.readAt (Elt F) (Rect.unit (s := S1024x1024) o ![n, 1024] inb).toLoadRect f) a g := by
  intro x j h0 h1
  obtain ⟨e0, e1⟩ := emb_row ho inb x
  rw [show j = (Rect.unit (s := S1024x1024) o ![n, 1024] inb).emb x from idx2_ext (h0.trans e0.symm) (h1.trans e1.symm), ← h]
  · rfl
  · rw [mem_rows, e0]; have := (x 0).isLt; have : (x 0).val < n := this; omega
theorem read_cm {R' a' : ℕ} (inb : ∀ x, o x + ![n, 1024] x ≤ (Blk 960).size x) (f : CCm F) (g : (Blk R').Idx → Elt F .bf16) (h : Shift n f a g a') :
    RowsEq (n := n) (cmM.view.readAt (Elt F) (Rect.unit (s := S960x1024) o ![n, 1024] inb).toLoadRect f) a' g := by
  intro x j h0 h1
  obtain ⟨e0, e1⟩ := emb_row ho inb x
  have hx : (x 0).val < n := (x 0).isLt
  have := h ((Rect.unit (s := S960x1024) o ![n, 1024] inb).emb x) j (by rw [e0]; omega) (by rw [e0]; omega) (by rw [e0, h0]; omega) (by rw [e1, h1])
  rw [← this]; rfl

/-- What a store of rows leaves. -/
theorem write_out_in (inb : ∀ x, o x + ![n, 1024] x ≤ (Blk 1024).size x) (f : COut F) (w : (Blk n).Idx → Elt F .f32) (g : COut F) (hw : RowsEq w a g)
    (i : (Blk 1024).Idx) (hi : i ∈ rows 1024 a n) :
    (outM.access (Rect.unit (s := S1024x1024) o ![n, 1024] inb)).write (Elt F) f w Finset.univ i = g i := by
  rw [mem_rows] at hi
  have h := View.write_emb_of_mem (Val := Elt F) (v := (outM.access (Rect.unit (s := S1024x1024) o ![n, 1024] inb))) f w (M := Finset.univ) (x := toBlk (n := n) a i hi.2 hi.1) (Finset.mem_univ _)
  have he : (outM.access (Rect.unit (s := S1024x1024) o ![n, 1024] inb)).emb (toBlk (n := n) a i hi.2 hi.1) = i := emb_toBlk ho inb i hi.2 hi.1
  rw [he] at h
  refine h.trans (hw _ i ?_ rfl)
  show _ = a + ((i 0).val - a); omega
theorem write_out_off (inb : ∀ x, o x + ![n, 1024] x ≤ (Blk 1024).size x) (f : COut F) (w : (Blk n).Idx → Elt F .f32)
    (i : (Blk 1024).Idx) (hi : i ∉ rows 1024 a n) :
    (outM.access (Rect.unit (s := S1024x1024) o ![n, 1024] inb)).write (Elt F) f w Finset.univ i = f i :=
  View.write_of_not_mem (v := (outM.access (Rect.unit (s := S1024x1024) o ![n, 1024] inb))) f w Finset.univ (by rw [View.setOn_univ, set_out ho inb]; exact hi)
theorem write_ob_in (inb : ∀ x, o x + ![n, 1024] x ≤ (Blk 1024).size x) (f : COb F) (w : (Blk n).Idx → Elt F .bf16) (g : COb F) (hw : RowsEq w a g)
    (i : (Blk 1024).Idx) (hi : i ∈ rows 1024 a n) :
    (obM.access (Rect.unit (s := S1024x1024) o ![n, 1024] inb)).write (Elt F) f w Finset.univ i = g i := by
  rw [mem_rows] at hi
  have h := View.write_emb_of_mem (Val := Elt F) (v := (obM.access (Rect.unit (s := S1024x1024) o ![n, 1024] inb))) f w (M := Finset.univ) (x := toBlk (n := n) a i hi.2 hi.1) (Finset.mem_univ _)
  have he : (obM.access (Rect.unit (s := S1024x1024) o ![n, 1024] inb)).emb (toBlk (n := n) a i hi.2 hi.1) = i := emb_toBlk ho inb i hi.2 hi.1
  rw [he] at h
  refine h.trans (hw _ i ?_ rfl)
  show _ = a + ((i 0).val - a); omega
/-- What a copy of rows into the landing buffer leaves. -/
theorem write_cm_shift (inb : ∀ x, o x + ![n, 1024] x ≤ (Blk 960).size x) (f : CCm F) (w : (Blk n).Idx → Elt F .bf16) {a' : ℕ} (g : COb F) (hw : RowsEq w a' g) :
    Shift n ((cmM.access (Rect.unit (s := S960x1024) o ![n, 1024] inb)).write (Elt F) f w Finset.univ) a g a' := by
  intro i j h0 h1 h2 h3
  have h := View.write_emb_of_mem (Val := Elt F) (v := (cmM.access (Rect.unit (s := S960x1024) o ![n, 1024] inb))) f w (M := Finset.univ) (x := toBlk (n := n) a i h1 h0) (Finset.mem_univ _)
  have he : (cmM.access (Rect.unit (s := S960x1024) o ![n, 1024] inb)).emb (toBlk (n := n) a i h1 h0) = i := emb_toBlk ho inb i h1 h0
  rw [he] at h
  refine h.trans (hw _ j ?_ h3)
  show _ = a' + ((i 0).val - a); omega
end

end Cert.Proof

end
-- ==== Proof.Proto.lean ====
/-
  The exchange's protocol: what each device's rows hold in each round, the semaphore cells, what each is paid and by whom,
  the order in which a device pays, and the levels by which its waits end.
-/
module

public import proofs.«01_k».proof.Proof.Rows

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What the rows hold -/

def tr (x : Elt F .f32) : Elt F .bf16 := FloatOps.truncf .bf16 bitsLt_bf16_f32 x
def ex (x : Elt F .bf16) : Elt F .f32 := FloatOps.extf .f32 bitsLt_bf16_f32 x
def ad (x y : Elt F .f32) : Elt F .f32 := FloatOps.addf x y

/-- Part `p` before round `r` on device `c`: its own partial sums, and in each round what the partner sent added. -/
def A (P : Dev nD → COut F) (p : ℕ) : ℕ → Dev nD → COut F
  | 0, c => P c
  | r + 1, c => fun i => ad (A P p r c i) (ex (tr (A P p r (flip (dim p r) c) i)))

/-- The same as it is sent: rounded. -/
def At (P : Dev nD → COut F) (p r : ℕ) (c : Dev nD) : COb F := fun i => tr (A P p r c i)

/-- The exchanged rows in the end, on every device: each row as its owner summed it. -/
def G (P : Dev nD → COut F) : COb F := fun i => At P ((i 0).val / 256) 4 (owner (i 0).val) i

/-! ## Indices and cells -/

set_option backward.proofsInPublic true in
def semS (k : Fin 32) : DmaSem sig := ⟨6 + k.val, by have := k.isLt; show 6 + k.val < 70; omega⟩
set_option backward.proofsInPublic true in
def semR (k : Fin 32) : DmaSem sig := ⟨38 + k.val, by have := k.isLt; show 38 + k.val < 70; omega⟩
abbrev barS : Sem sig := sig.barrier 0 rfl

set_option backward.proofsInPublic true in
/-- The semaphore index of part `p`'s exchange in the adding round `r`, -/
def ix (p r : Fin 4) : Fin 32 := ⟨4 * r.val + p.val, by omega⟩
set_option backward.proofsInPublic true in
/-- and when its rows of that round are handed back. -/
def ixg (p r : Fin 4) : Fin 32 := ⟨4 * (7 - r.val) + p.val, by omega⟩

def kp (k : ℕ) : ℕ := k % 4
def kr (k : ℕ) : ℕ := if k < 16 then k / 4 else 7 - k / 4
abbrev kd (k : ℕ) : ℕ := dim (kp k) (kr k)

abbrev barCell (c : Dev nD) : GSem nD τ sig := ((c : Thread nD τ), .reg barS)
abbrev sendCell (c : Dev nD) (k : Fin 32) : GSem nD τ sig := ((c : Thread nD τ), .dma (semS k))
abbrev recvCell (c : Dev nD) (k : Fin 32) : GSem nD τ sig := ((c : Thread nD τ), .dma (semR k))

/-- What a copy of `n` rows adds to a semaphore. -/
def amtN (n : ℕ) : ℕ := (cc0_scratch1 : Ref sig .tc).dmaCredit (Blk n) .bf16
def amt (k : ℕ) : ℕ := amtN (sz (kr k + 1))

/-! ## The algebra and the points-tos -/

abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

abbrev 𝒱₀ : Variants := Variants.none

def outPt (c : Dev nD) (a n : ℕ) (f : COut F) : sProp 𝕄 := outM.view.loc (c : Thread nD τ) ↦[rows 1024 a n]{fullShare} f
def obPt (c : Dev nD) (a n : ℕ) (f : COb F) : sProp 𝕄 := obM.view.loc (c : Thread nD τ) ↦[rows 1024 a n]{fullShare} f
def cmPt (c : Dev nD) (a n : ℕ) (f : CCm F) : sProp 𝕄 := cmM.view.loc (c : Thread nD τ) ↦[rows 960 a n]{fullShare} f

instance (c : Dev nD) (a n : ℕ) (f : COut F) : BI.Storable (upEmb : UEmb _ 𝕄) (outPt c a n f) := by unfold outPt; infer_instance
instance (c : Dev nD) (a n : ℕ) (f : COb F) : BI.Storable (upEmb : UEmb _ 𝕄) (obPt c a n f) := by unfold obPt; infer_instance
instance (c : Dev nD) (a n : ℕ) (f : CCm F) : BI.Storable (upEmb : UEmb _ 𝕄) (cmPt c a n f) := by unfold cmPt; infer_instance

/-! ## The schedule -/

variable (P : Dev nD → COut F)

/-- What a device `c'` gives its partner of part `p`'s round `r` at the barrier: its landing rows, and that its two semaphores are there. -/
def barP (c' : Dev nD) (p r : ℕ) : sProp 𝕄 :=
  iprop((∃ h, cmPt (F := F) c' (reg p r) (sz (r + 1)) h)
    ∗ bigSep Finset.univ fun k : Fin 32 => if kp k = p ∧ kr k = r then reached ER (recvCell c' k) 0 else iprop(emp))

def barPay (c : Dev nD) (d : Fin 4) : sProp 𝕄 :=
  iprop(barP (F := F) (flip d c) 0 ((d.val + 4 - 0) % 4) ∗ barP (F := F) (flip d c) 1 ((d.val + 4 - 1) % 4)
    ∗ barP (F := F) (flip d c) 2 ((d.val + 4 - 2) % 4) ∗ barP (F := F) (flip d c) 3 ((d.val + 4 - 3) % 4))

/-- Paid to device `c` by its partner's copy in an adding round: the rows landed, and the partner's rows they were read from. -/
def rsPay (c : Dev nD) (p r : ℕ) : sProp 𝕄 :=
  iprop((∃ h, ⌜Shift (sz (r + 1)) h (reg p r) (At P p r (flip (dim p r) c)) (off p (r + 1) c)⌝ ∗ cmPt c (reg p r) (sz (r + 1)) h)
    ∗ ∃ g, obPt (F := F) (flip (dim p r) c) (off p (r + 1) c) (sz (r + 1)) g)

/-- Paid in a round that hands the rows back: the partner's rows. -/
def agPay (c : Dev nD) (p r : ℕ) : sProp 𝕄 := obPt c (off p (r + 1) (flip (dim p r) c)) (sz (r + 1)) (G P)

def recvPay (c : Dev nD) (k : ℕ) : sProp 𝕄 := if k < 16 then rsPay P c (kp k) (kr k) else agPay P c (kp k) (kr k)
/-- What comes back to the sender: nothing in an adding round, the rows sent in the others. -/
def sendPay (c : Dev nD) (k : ℕ) : sProp 𝕄 :=
  if k < 16 then iprop(emp) else obPt c (off (kp k) (kr k + 1) c) (sz (kr k + 1)) (G P)

instance (c' : Dev nD) (p r : ℕ) : BI.Storable (upEmb : UEmb _ 𝕄) (barP (F := F) c' p r) := by
  unfold barP
  have (k : Fin 32) : BI.Storable (upEmb : UEmb _ 𝕄) (if kp k = p ∧ kr k = r then reached ER (recvCell c' k) 0 else iprop(emp)) := by split <;> infer_instance
  infer_instance
instance (c : Dev nD) (d : Fin 4) : BI.Storable (upEmb : UEmb _ 𝕄) (barPay (F := F) c d) := by unfold barPay; infer_instance
instance (c : Dev nD) (k : ℕ) : BI.Storable (upEmb : UEmb _ 𝕄) (recvPay P c k) := by
  unfold recvPay rsPay agPay; split <;> infer_instance
instance (c : Dev nD) (k : ℕ) : BI.Storable (upEmb : UEmb _ 𝕄) (sendPay P c k) := by
  unfold sendPay; split <;> infer_instance

def dutiesOf : SemLoc sig → Finset (Fin 4)
  | .reg _ => Finset.univ
  | .dma s => if s.val < 6 then ∅ else {0}
def amountOf : SemLoc sig → ℕ
  | .reg _ => 1
  | .dma s => amt ((s.val - 6) % 32)
def payOf (c : Dev nD) : SemLoc sig → Fin 4 → sProp 𝕄
  | .reg _, d => barPay c d
  | .dma s, _ => if s.val < 38 then sendPay P c (s.val - 6) else recvPay P c (s.val - 38)

theorem amtN_pos {n : ℕ} (h : 0 < n) : 0 < amtN n :=
  sig.dmaCredit_pos _ _ _ _ _ (by show 0 < ∏ a : Fin 2, ![n, 1024] a; rw [Fin.prod_univ_two]; exact Nat.mul_pos h (show 0 < 1024 by decide))

theorem amt_pos : ∀ k : Fin 32, 0 < amt k := fun k => amtN_pos (by revert k; decide)

def Rd : Rounds.Schedule (GSem nD τ sig) (Fin 4) 𝕄 where
  duties g r := if r = 0 ∧ g.1.2 = .tc then dutiesOf g.2 else ∅
  unitless _ := False
  amount g _ _ := amountOf g.2
  payload g _ d := payOf P g.1.1 g.2 d
  amount_pos g _ _ _ := by
    obtain ⟨⟨c, t⟩, sm⟩ := g
    cases sm with
    | reg s => exact Nat.one_pos
    | dma s => exact amt_pos ⟨(s.val - 6) % 32, Nat.mod_lt _ (by decide)⟩

instance (c : Dev nD) (s : SemLoc sig) (d : Fin 4) : BI.Storable (upEmb : UEmb _ 𝕄) (payOf P c s d) := by
  unfold payOf; (repeat' split) <;> infer_instance
instance Rd_storable (g : GSem nD τ sig) (r : ℕ) (d : Fin 4) : BI.Storable (upEmb : UEmb _ 𝕄) ((Rd P).payload g r d) := by
  show BI.Storable upEmb (payOf P g.1.1 g.2 d); infer_instance

section Tables
variable (c : Dev nD) (k : Fin 32)

theorem duties_bar : (Rd P).duties (barCell c) 0 = Finset.univ := by dsimp only [Rd]; exact if_pos ⟨rfl, rfl⟩
theorem duties_send : (Rd P).duties (sendCell c k) 0 = {0} := by
  dsimp only [Rd]; rw [if_pos ⟨rfl, rfl⟩]; dsimp only [dutiesOf, semS]; exact if_neg (by omega)
theorem duties_recv : (Rd P).duties (recvCell c k) 0 = {0} := by
  dsimp only [Rd]; rw [if_pos ⟨rfl, rfl⟩]; dsimp only [dutiesOf, semR]; exact if_neg (by omega)
theorem duties_later (g : GSem nD τ sig) : ∀ r, 0 + 1 ≤ r → (Rd P).duties g r = ∅ :=
  fun r hr => by dsimp only [Rd]; rw [if_neg (fun h => by omega)]
theorem amount_bar (d : Fin 4) : (Rd P).amount (barCell c) 0 d = 1 := rfl
theorem amount_send (d : Fin 4) : (Rd P).amount (sendCell c k) 0 d = amt k := by
  dsimp only [Rd, amountOf, semS]; congr 1; omega
theorem amount_recv (d : Fin 4) : (Rd P).amount (recvCell c k) 0 d = amt k := by
  dsimp only [Rd, amountOf, semR]; congr 1; omega
theorem expect_bar : (Rd P).expect (barCell c) 0 = 4 := by
  unfold Schedule.expect Schedule.amountOf; rw [duties_bar]; rfl
theorem expect_send : (Rd P).expect (sendCell c k) 0 = amt k := by
  unfold Schedule.expect Schedule.amountOf; rw [duties_send, Finset.sum_singleton, amount_send]
theorem expect_recv : (Rd P).expect (recvCell c k) 0 = amt k := by
  unfold Schedule.expect Schedule.amountOf; rw [duties_recv, Finset.sum_singleton, amount_recv]
theorem payload_bar (d : Fin 4) : (Rd P).payload (barCell c) 0 d = barPay c d := rfl
theorem payload_send (d : Fin 4) : (Rd P).payload (sendCell c k) 0 d = sendPay P c k :=
  (if_pos (show (semS k).val < 38 by show 6 + k.val < 38; omega)).trans (congrArg (sendPay P c) (by show 6 + k.val - 6 = _; omega))
theorem payload_recv (d : Fin 4) : (Rd P).payload (recvCell c k) 0 d = recvPay P c k :=
  (if_neg (show ¬(semR k).val < 38 by show ¬38 + k.val < 38; omega)).trans (congrArg (recvPay P c) (by show 38 + k.val - 38 = _; omega))
theorem rest_send : bigSep ((Rd P).duties (sendCell c k) 0 \ ∅) (fun d => (Rd P).payload (sendCell c k) 0 d) = sendPay P c k := by
  rw [Finset.sdiff_empty, duties_send, bigSep_singleton, payload_send]
theorem rest_recv : bigSep ((Rd P).duties (recvCell c k) 0 \ ∅) (fun d => (Rd P).payload (recvCell c k) 0 d) = recvPay P c k := by
  rw [Finset.sdiff_empty, duties_recv, bigSep_singleton, payload_recv]
theorem rest_bar : bigSep ((Rd P).duties (barCell c) 0 \ ∅) (fun d => (Rd P).payload (barCell c) 0 d)
    = iprop(barPay (F := F) c 0 ∗ barPay (F := F) c 1 ∗ barPay (F := F) c 2 ∗ barPay (F := F) c 3) := by
  rw [Finset.sdiff_empty, duties_bar, show (Finset.univ : Finset (Fin 4)) = {0, 1, 2, 3} from by decide, bigSep_insert (by decide), bigSep_insert (by decide),
    bigSep_insert (by decide), bigSep_singleton]
  rfl
end Tables

/-! ## What is owed, in the order it is paid -/

/-- The payments of device `c`, in program order: a unit to each partner's barrier, then the copies by semaphore index. -/
def pay (c : Dev nD) (n : ℕ) : GSem nD τ sig × ℕ :=
  if n < 4 then (barCell (flip n c), 1) else (recvCell (flip (kd (n - 4)) c) (Fin.ofNat 32 (n - 4)), amt (n - 4))

/-- What is still owed after the first payments: the payments `36 - n` to `35`. -/
def Owl (c : Dev nD) : ℕ → CellTallies nD τ sig Unit
  | 0 => 0
  | n + 1 => Owl c n + tallyAt (pay c (35 - n)).1 () (pay c (35 - n)).2
/-- What device `c` owes after `n` payments. -/
def Ow (c : Dev nD) (n : ℕ) : CellTallies nD τ sig Unit := Owl c (36 - n)

theorem Ow_done (c : Dev nD) : Ow c 36 = 0 := rfl
theorem Ow_peel (c : Dev nD) {n : ℕ} (h : n < 36) : Ow c n = Ow c (n + 1) + tallyAt (pay c n).1 () (pay c n).2 := by
  unfold Ow
  obtain ⟨m, hm⟩ : ∃ m, 36 - n = m + 1 := ⟨35 - n, by omega⟩
  rw [hm, show 36 - (n + 1) = m by omega]
  show Owl c m + tallyAt (pay c (35 - m)).1 () (pay c (35 - m)).2 = _
  rw [show 35 - m = n by omega]

theorem Owl_pos {c : Dev nD} {n : ℕ} {g : GSem nD τ sig} {u : Unit} (h : 0 < Owl c n g u) : ∃ m, 36 - n ≤ m ∧ m < 36 ∧ g = (pay c m).1 := by
  induction n with
  | zero => exact absurd h (Nat.lt_irrefl 0)
  | succ n ih =>
    unfold Owl at h
    rw [Pi.add_apply, Finsupp.add_apply] at h
    rcases Nat.add_pos_iff_pos_or_pos.mp h with h | h
    · obtain ⟨m, h1, h2, h3⟩ := ih h
      exact ⟨m, by omega, h2, h3⟩
    · rw [tallyAt_apply] at h
      split at h
      · next hg => exact ⟨35 - n, by omega, by omega, hg.1⟩
      · exact absurd h (Nat.lt_irrefl 0)

def L (g : GSem nD τ sig) : Finset Unit := if g.1.2 = .tc then {()} else ∅
/-- Staging cells below the barrier cells, those below the copies' cells, and these in the order of their indices. -/
def lvs : SemLoc sig → ℕ
  | .reg _ => 1
  | .dma s => if s.val < 6 then 0 else 2 + (s.val - 6) % 32
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem pay_tc (c : Dev nD) (m : ℕ) : () ∈ L (pay c m).1 := by
  unfold pay; split <;> rw [L_tc] <;> exact Finset.mem_singleton_self _
theorem lv_pay_lo (c : Dev nD) {m : ℕ} (h : m < 4) : lv (pay c m).1 () = 1 := by
  unfold pay; rw [if_pos h]; rfl
theorem lv_semR (c : Dev nD) (k : Fin 32) : lv (recvCell c k) () = 2 + k := by
  show lvs (.dma (semR k)) = _
  dsimp only [lvs, semR]; rw [if_neg (by omega)]; omega
theorem lv_semS (c : Dev nD) (k : Fin 32) : lv (sendCell c k) () = 2 + k := by
  show lvs (.dma (semS k)) = _
  dsimp only [lvs, semS]; rw [if_neg (by omega)]; omega
theorem lv_pay_hi (c : Dev nD) {m : ℕ} (h : 4 ≤ m) (h' : m < 36) : lv (pay c m).1 () = m - 2 := by
  unfold pay; rw [if_neg (by omega), lv_semR]
  show 2 + (m - 4) % 32 = _
  omega

theorem mayWait_of {c : Dev nD} {sm : SemLoc sig} {n : ℕ} (hn : 4 ≤ n) (h : lvs sm + 2 < n) :
    (levAts L lv : sProp 𝕄) ⊢ MayWait (c : Thread nD τ) sm () (Ow c n) :=
  MayOwe.of_cut (L := L) (lev := lv) (lvs sm) (fun p hp => by rw [Finset.mem_singleton.mp hp, L_tc]; exact Finset.mem_singleton_self _)
    (fun g u hg => by obtain ⟨m, h1, h2, rfl⟩ := Owl_pos hg; exact pay_tc c m)
    (fun p hp => by rw [Finset.mem_singleton.mp hp]; exact le_refl _)
    (fun g u hg => by
      obtain ⟨m, h1, h2, rfl⟩ := Owl_pos hg
      have := lv_pay_hi c (m := m) (by omega) h2
      show _ < lv (pay c m).1 ()
      omega)

/-- The copies' semaphores: the send ones, then the receive ones. -/
def osem (j : Fin 64) : SemLoc sig := if h : j.val < 32 then .dma (semS ⟨j.val, h⟩) else .dma (semR ⟨j.val - 32, by omega⟩)
theorem osem_inj : Function.Injective osem := by decide +kernel
theorem osem_send (k : Fin 32) : osem ⟨k.val, by omega⟩ = .dma (semS k) := dif_pos k.isLt
theorem osem_recv (k : Fin 32) : osem ⟨32 + k.val, by omega⟩ = .dma (semR k) := by
  unfold osem; rw [dif_neg (by show ¬32 + k.val < 32; omega)]; congr 2; exact Fin.ext (by show 32 + k.val - 32 = _; omega)
theorem osem_ne_bar (j : Fin 64) : osem j ≠ .reg barS := by unfold osem; split <;> exact fun h => by cases h
def barEmb : Dev nD ↪ GSem nD τ sig := ⟨fun c => barCell c, fun _ _ h => congrArg (fun g : GSem nD τ sig => g.1.1) h⟩
def scEmb : Dev nD × Fin 64 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
def allCells : Finset (GSem nD τ sig) := barCells ∪ scCells
/-- The levels, every cell's invariant: what a device may consult at any time. -/
def ctx (K : GSem nD τ sig → ℕ) : sProp 𝕄 := iprop((bigSep allCells fun g => cellInv ER (Rd P) (K g) g) ∗ levAts L lv)
instance (K : GSem nD τ sig → ℕ) : BI.Persistent (ctx P K) := by unfold ctx; infer_instance

theorem bar_mem (c : Dev nD) : barCell c ∈ allCells :=
  Finset.mem_union_left _ (Finset.mem_map_of_mem barEmb (Finset.mem_univ c))
theorem send_mem (c : Dev nD) (k : Fin 32) : sendCell c k ∈ allCells :=
  Finset.mem_union_right _ (Finset.mem_map.mpr ⟨(c, ⟨k.val, by omega⟩), Finset.mem_univ _, Prod.ext rfl (osem_send k)⟩)
theorem recv_mem (c : Dev nD) (k : Fin 32) : recvCell c k ∈ allCells :=
  Finset.mem_union_right _ (Finset.mem_map.mpr ⟨(c, ⟨32 + k.val, by omega⟩), Finset.mem_univ _, Prod.ext rfl (osem_recv k)⟩)

theorem inv_at (K : GSem nD τ sig → ℕ) {g : GSem nD τ sig} (hg : g ∈ allCells) :
    (bigSep allCells fun g => (cellInv ER (Rd P) (K g) g : sProp 𝕄)) ⊢ cellInv ER (Rd P) (K g) g := bigSep_elim hg
theorem ctx_inv (K : GSem nD τ sig → ℕ) {g : GSem nD τ sig} (hg : g ∈ allCells) : ctx P K ⊢ cellInv ER (Rd P) (K g) g := by
  unfold ctx; iintro ⟨#H, -⟩; iapply (inv_at P K hg); iexact H
theorem ctx_lev (K : GSem nD τ sig → ℕ) : ctx P K ⊢ (levAts L lv : sProp 𝕄) := by
  unfold ctx; iintro ⟨-, #H⟩; iexact H

end Cert.Proof

end
-- ==== Proof.Steps.lean ====
/-
  One operation of the exchange at a time: the copies out, the waits, the loads and stores of the adding rounds, the copies back —
  each at any device, any part and any round.
-/
module

public import proofs.«01_k».proof.Proof.Proto

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F)

/-! ## States -/

/-- What device `c` owes after `n` payments, whatever waits it has done. -/
def OW (n : ℕ) (c : Dev nD) : sProp 𝕄 := iprop(∃ W, owes (c : Thread nD τ) (Ow c n) W)

/-- What the exchange of index `k` needs on device `c`: to send and to be told, and the partner's token. -/
def RK (k : Fin 32) (c : Dev nD) : sProp 𝕄 :=
  iprop(dutyTok ER (sendCell c k) 0 0 ∗ reached ER (sendCell c k) 0 ∗ atPos ER (sendCell c k) 0 ∅ 0 ∗ atPos ER (recvCell c k) 0 ∅ 0
    ∗ cred (tallyAt (recvCell c k) () (amt k)) ∗ dutyTok ER (recvCell (flip (kd k) c) k) 0 0 ∗ reached ER (recvCell (flip (kd k) c) k) 0)
/-- While its copy is under way, -/
def W1 (k : Fin 32) (c : Dev nD) : sProp 𝕄 :=
  iprop(atPos ER (sendCell c k) 0 ∅ 0 ∗ cred (tallyAt (sendCell c k) () (amt k)) ∗ atPos ER (recvCell c k) 0 ∅ 0 ∗ cred (tallyAt (recvCell c k) () (amt k)))
/-- when it is known to have been sent, -/
def W2 (k : Fin 32) (c : Dev nD) : sProp 𝕄 :=
  iprop(atPos ER (sendCell c k) (0 + 1) ∅ 0 ∗ atPos ER (recvCell c k) 0 ∅ 0 ∗ cred (tallyAt (recvCell c k) () (amt k)))
/-- and when the partner's has landed too. -/
def DK (k : Fin 32) (c : Dev nD) : sProp 𝕄 := iprop(atPos ER (sendCell c k) (0 + 1) ∅ 0 ∗ atPos ER (recvCell c k) (0 + 1) ∅ 0)

/-- Device `c`'s landing rows of part `p`'s round `r`, at whatever they hold. -/
def CM (p r : ℕ) (c : Dev nD) : sProp 𝕄 := iprop(∃ h, cmPt (F := F) c (reg p r) (sz (r + 1)) h)
/-- The landing rows holding what the partner sent. -/
def CMs (p r : ℕ) (c : Dev nD) : sProp 𝕄 :=
  iprop(∃ h, ⌜Shift (sz (r + 1)) h (reg p r) (At P p r (flip (dim p r) c)) (off p (r + 1) c)⌝ ∗ cmPt c (reg p r) (sz (r + 1)) h)
/-- The partner's rows that device `c` keeps, at whatever they hold. -/
def OQ (p r : ℕ) (c : Dev nD) : sProp 𝕄 := iprop(∃ g, obPt (F := F) (flip (dim p r) c) (off p (r + 1) c) (sz (r + 1)) g)

/-- Part `p` of the accumulator, its rows from `a` on at the sums before round `r`. -/
def OutA (p r a n : ℕ) (c : Dev nD) : sProp 𝕄 :=
  iprop(∃ f, ⌜∀ i ∈ rows 1024 a n, f i = A P p r c i⌝ ∗ outPt c (256 * p) 256 f)

/-- Part `p` before round `r`. -/
def S0 (p r : ℕ) (c : Dev nD) : sProp 𝕄 := iprop(OutA P p r (off p r c) (sz r) c ∗ obPt c (off p r c) (sz r) (At P p r c))
/-- Its half kept, the other under way. -/
def S1 (p r : ℕ) (c : Dev nD) : sProp 𝕄 := iprop(OutA P p r (off p r c) (sz r) c ∗ obPt c (off p (r + 1) c) (sz (r + 1)) (At P p r c))
/-- The sums of the half kept. -/
def S4 (p r : ℕ) (c : Dev nD) : sProp 𝕄 := iprop(OutA P p (r + 1) (off p (r + 1) c) (sz (r + 1)) c ∗ obPt c (off p (r + 1) c) (sz (r + 1)) (At P p r c))

/-- The rows of part `p` that device `c` holds in the end form after the hand-back of rounds `r` and later. -/
def T0 (p r : ℕ) (c : Dev nD) : sProp 𝕄 := obPt c (off p r c) (sz r) (G P)

/-! ## Row bookkeeping -/

theorem halves (p r : Fin 4) (c : Dev nD) : rows 1024 (off p r c) (sz r)
    = rows 1024 (off p (r + 1) c) (sz (r + 1)) ∪ rows 1024 (off p (r + 1) (flip (dim p r) c)) (sz (r + 1)) := by
  rw [sz_succ r]
  rcases off_halves p r c with ⟨h1, h2⟩ | ⟨h1, h2⟩ <;> rw [h1, h2]
  · exact rows_union.symm
  · rw [Finset.union_comm]; exact rows_union.symm
theorem halves_disj (p r : Fin 4) (c : Dev nD) :
    Disjoint (rows 1024 (off p (r + 1) c) (sz (r + 1))) (rows 1024 (off p (r + 1) (flip (dim p r) c)) (sz (r + 1))) := by
  rcases off_halves p r c with ⟨h1, h2⟩ | ⟨h1, h2⟩ <;> rw [h1, h2] <;> exact rows_disjoint (by omega)

theorem keep_sub (p r : Fin 4) (c : Dev nD) : rows 1024 (off p (r + 1) c) (sz (r + 1)) ⊆ rows 1024 (off p r c) (sz r) := by
  rw [halves]; exact Finset.subset_union_left

theorem kp_ix : ∀ p r : Fin 4, kp (ix p r) = p := by decide
theorem kr_ix : ∀ p r : Fin 4, kr (ix p r) = r := by decide
theorem kp_ixg : ∀ p r : Fin 4, kp (ixg p r) = p := by decide
theorem kr_ixg : ∀ p r : Fin 4, kr (ixg p r) = r := by decide
theorem ix_lt (p r : Fin 4) : (ix p r).val < 16 := by show 4 * r.val + p.val < 16; omega
theorem ixg_ge (p r : Fin 4) : ¬(ixg p r).val < 16 := by show ¬4 * (7 - r.val) + p.val < 16; omega

theorem recvPay_ix (c : Dev nD) (p r : Fin 4) : recvPay P c (ix p r) = rsPay P c p r := by
  unfold recvPay; rw [if_pos (ix_lt p r), kp_ix, kr_ix]
theorem recvPay_ixg (c : Dev nD) (p r : Fin 4) : recvPay P c (ixg p r) = agPay P c p r := by
  unfold recvPay; rw [if_neg (ixg_ge p r), kp_ixg, kr_ixg]
theorem sendPay_ix (c : Dev nD) (p r : Fin 4) : sendPay P c (ix p r) = iprop(emp) := by
  unfold sendPay; rw [if_pos (ix_lt p r)]
theorem sendPay_ixg (c : Dev nD) (p r : Fin 4) : sendPay P c (ixg p r) = T0 P p (r + 1) c := by
  unfold sendPay; rw [if_neg (ixg_ge p r), kp_ixg, kr_ixg]; rfl
theorem amt_ix (p r : Fin 4) : amt (ix p r) = amtN (sz (r + 1)) := by unfold amt; rw [kr_ix]
theorem amt_ixg (p r : Fin 4) : amt (ixg p r) = amtN (sz (r + 1)) := by unfold amt; rw [kr_ixg]

theorem pay_k (c : Dev nD) (k : Fin 32) : pay c (4 + k) = (recvCell (flip (kd k) c) k, amt k) := by
  unfold pay
  rw [if_neg (by omega), show 4 + k.val - 4 = k.val by omega, show Fin.ofNat 32 k.val = k from Fin.ext (Nat.mod_eq_of_lt k.isLt)]

theorem Ow_k (c : Dev nD) (k : Fin 32) : Ow c (4 + k) = Ow c (5 + k) + tallyAt (recvCell (flip (kd k) c) k) () (amt k) := by
  rw [Ow_peel c (by omega), pay_k, show 4 + k.val + 1 = 5 + k.val by omega]

section Views
variable {a n : ℕ} {o : Fin 2 → ℕ}

theorem obPt_slice (ho : o = ![a, 0]) (inb : ∀ x, o x + ![n, 1024] x ≤ (Blk 1024).size x) (h) (c : Dev nD) (f : COb F) :
    ((obM.slice (Rect.unit (s := S1024x1024) o ![n, 1024] inb) h).view.loc (c : Thread nD τ)
      ↦[(obM.slice (Rect.unit (s := S1024x1024) o ![n, 1024] inb) h).view.set]{fullShare} f : sProp 𝕄) = obPt c a n f :=
  congrArg (fun S => (obM.view.loc (c : Thread nD τ) ↦[S]{fullShare} f : sProp 𝕄)) (set_ob ho inb)
theorem cmPt_slice (ho : o = ![a, 0]) (inb : ∀ x, o x + ![n, 1024] x ≤ (Blk 960).size x) (h) (c : Dev nD) (f : CCm F) :
    ((cmM.slice (Rect.unit (s := S960x1024) o ![n, 1024] inb) h).view.loc (c : Thread nD τ)
      ↦[(cmM.slice (Rect.unit (s := S960x1024) o ![n, 1024] inb) h).view.set]{fullShare} f : sProp 𝕄) = cmPt c a n f :=
  congrArg (fun S => (cmM.view.loc (c : Thread nD τ) ↦[S]{fullShare} f : sProp 𝕄)) (set_cm ho inb)
theorem amt_ob (inb : ∀ x, o x + ![n, 1024] x ≤ (Blk 1024).size x) (h) :
    (obM.slice (Rect.unit (s := S1024x1024) o ![n, 1024] inb) h).view.dmaCredit = amtN n := rfl
theorem amt_cm (inb : ∀ x, o x + ![n, 1024] x ≤ (Blk 960).size x) (h) :
    (cmM.slice (Rect.unit (s := S960x1024) o ![n, 1024] inb) h).view.dmaCredit = amtN n := rfl
end Views

/-! ## Waits -/

theorem lvs_send (k : Fin 32) : lvs (.dma (semS k)) = 2 + k := lv_semS 0 k
theorem lvs_recv (k : Fin 32) : lvs (.dma (semR k)) = 2 + k := lv_semR 0 k
theorem mw_send (c : Dev nD) (k : Fin 32) {n : ℕ} (hn : k.val + 4 < n) :
    (levAts L lv : sProp 𝕄) ⊢ MayWait (c : Thread nD τ) (.dma (semS k)) () (Ow c n) :=
  mayWait_of (by omega) (by rw [lvs_send]; omega)
theorem mw_recv (c : Dev nD) (k : Fin 32) {n : ℕ} (hn : k.val + 4 < n) :
    (levAts L lv : sProp 𝕄) ⊢ MayWait (c : Thread nD τ) (.dma (semR k)) () (Ow c n) :=
  mayWait_of (by omega) (by rw [lvs_recv]; omega)

variable (K : GSem nD τ sig → ℕ)

set_option maxRecDepth 8000 in
theorem ctx_mw_send (c : Dev nD) (k : Fin 32) {n : ℕ} (hn : k.val + 4 < n) : ctx P K ⊢ (MayWait (c : Thread nD τ) (.dma (semS k)) () (Ow c n) : sProp 𝕄) :=
  (ctx_lev P K).trans (mw_send c k hn)
set_option maxRecDepth 8000 in
theorem ctx_mw_recv (c : Dev nD) (k : Fin 32) {n : ℕ} (hn : k.val + 4 < n) : ctx P K ⊢ (MayWait (c : Thread nD τ) (.dma (semR k)) () (Ow c n) : sProp 𝕄) :=
  (ctx_lev P K).trans (mw_recv c k hn)

theorem wp_waitS {α : Type} {Q : α → sProp 𝕄} (c : Dev nD) (k : Fin 32) {n : ℕ} (hn : k.val + 4 < n) {sS : DmaSem sig} (hs : sS = semS k)
    {sp sp' : Space} {s s' : Shape} {e e' : EltTy} {src : Memref sig .tc sp' s' e'} {dst : Memref sig .tc sp s e} {hx : src.view.WordExact} {hy : dst.view.WordExact}
    (hN : dst.view.dmaCredit = amt k) {kk : PUnit → Prog (TpuEff nD τ sig (Elt F) Λ₀ .tc) α} :
    iprop(ctx P K ∗ OW (F := F) n c ∗ W1 (F := F) k c)
      ⊢ iprop(((OW (F := F) n c ∗ W2 (F := F) k c ∗ sendPay P c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hx hy) kk) Q) := by
  subst hs
  unfold OW W1 W2
  iintro ⟨#Hc, ⟨%W, HO⟩, HatS, HcS, HatR, HcR⟩ Hk
  iapply (Rounds.wp_wait_rest_token 𝒱₀ ER (Rd P) (c : Thread nD τ) none (κ := K (sendCell c k))
      (wpE_waitDma2_eq 𝒱₀ (c : Thread nD τ) none Set.univ) (Set.mem_univ _) () (O := Ow c n) (W := W) (R := 0) (m := 0) (T := ∅)
      ((Nat.zero_add _).trans (hN.trans (expect_send P c k).symm))) $$ [HcS HO HatS]
  · isplitr; · iapply (ctx_inv P K (send_mem c k)); iexact Hc
    isplitl [HcS]; · rw [hN]; iexact HcS
    isplitl [HO]; · iexact HO
    isplitr
    · iapply (ctx_mw_send P K c k hn); iexact Hc
    iexact HatS
  iintro ⟨HO, HatS, -, Hpay⟩
  ihave Hp := (Entails.of_eq (rest_send P c k)) $$ Hpay
  iapply Hk
  isplitl [HO]; · iexists _; iexact HO
  isplitr [Hp]
  · isplitl [HatS]; · iexact HatS
    isplitl [HatR] <;> iassumption
  iexact Hp

theorem wp_waitR {α : Type} {Q : α → sProp 𝕄} (c : Dev nD) (k : Fin 32) {n : ℕ} (hn : k.val + 4 < n) {sR : DmaSem sig} (hs : sR = semR k)
    {sp sp' : Space} {s s' : Shape} {e e' : EltTy} {src : Memref sig .tc sp' s' e'} {dst : Memref sig .tc sp s e} {hx : src.view.WordExact} {hy : dst.view.WordExact}
    (hN : dst.view.dmaCredit = amt k) {kk : PUnit → Prog (TpuEff nD τ sig (Elt F) Λ₀ .tc) α} :
    iprop(ctx P K ∗ OW (F := F) n c ∗ W2 (F := F) k c)
      ⊢ iprop(((OW (F := F) n c ∗ DK (F := F) k c ∗ recvPay P c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR src dst hx hy) kk) Q) := by
  subst hs
  unfold OW W2 DK
  iintro ⟨#Hc, ⟨%W, HO⟩, HatS, HatR, HcR⟩ Hk
  iapply (Rounds.wp_wait_rest_token 𝒱₀ ER (Rd P) (c : Thread nD τ) none (κ := K (recvCell c k))
      (wpE_waitDma2_eq 𝒱₀ (c : Thread nD τ) none Set.univ) (Set.mem_univ _) () (O := Ow c n) (W := W) (R := 0) (m := 0) (T := ∅)
      ((Nat.zero_add _).trans (hN.trans (expect_recv P c k).symm))) $$ [HcR HO HatR]
  · isplitr; · iapply (ctx_inv P K (recv_mem c k)); iexact Hc
    isplitl [HcR]; · rw [hN]; iexact HcR
    isplitl [HO]; · iexact HO
    isplitr
    · iapply (ctx_mw_recv P K c k hn); iexact Hc
    iexact HatR
  iintro ⟨HO, HatR, -, Hpay⟩
  ihave Hp := (Entails.of_eq (rest_recv P c k)) $$ Hpay
  iapply Hk
  isplitl [HO]; · iexists _; iexact HO
  isplitr [Hp]
  · isplitl [HatS] <;> iassumption
  iexact Hp

/-! ## The copies -/

theorem wp_rs {α : Type} {Q : α → sProp 𝕄} (c : Dev nD) (p r : Fin 4) {n : ℕ} (hn : n = sz (r + 1)) {sS sR : DmaSem sig} (hsS : sS = semS (ix p r)) (hsR : sR = semR (ix p r))
    {dv : Dev nD} (hdv : dv = flip (dim p r) c) {o : Fin 2 → ℕ} (ho : o = ![off p (r + 1) (flip (dim p r) c), 0]) {inb} {h₁}
    {o₂ : Fin 2 → ℕ} (ho₂ : o₂ = ![reg p r, 0]) {inb₂} {h₂} {hsc} {hx} {hy} {hz}
    {kk : PUnit → Prog (TpuEff nD τ sig (Elt F) Λ₀ .tc) α} :
    iprop(ctx P K ∗ OW (F := F) (4 + ix p r) c ∗ S0 P p r c ∗ RK (F := F) (ix p r) c ∗ CM (F := F) p r (flip (dim p r) c))
      ⊢ iprop(((OW (F := F) (5 + ix p r) c ∗ S1 P p r c ∗ W1 (F := F) (ix p r) c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (obM.slice (Rect.unit (s := S1024x1024) o ![n, 1024] inb) h₁)
              (.remote (Dev.tc dv) (cmM.slice (Rect.unit (s := S960x1024) o₂ ![n, 1024] inb₂) h₂) (.dma sS) hsc) (.dma sR) hx hy hz) kk) Q) := by
  subst hsS hsR hdv
  have hkd : kd (ix p r) = dim p r := by unfold kd; rw [kp_ix, kr_ix]
  unfold OW S0 S1 RK W1 CM
  rw [hkd]
  iintro ⟨#Hc, ⟨%W, HO⟩, ⟨Hout, Hob⟩, ⟨HtS, #HrS, HatS, HatR, HcR, HtR, #HrR⟩, ⟨%h, Hcm⟩⟩ Hk
  ihave Hsp := (show obPt c (off p r c) (sz r) (At P p r c)
      ⊢ iprop(obPt c (off p (r + 1) c) (sz (r + 1)) (At P p r c) ∗ obPt c (off p (r + 1) (flip (dim p r) c)) (sz (r + 1)) (At P p r c)) from by
    unfold obPt; rw [halves p r c]; exact (pointsTo_union (halves_disj p r c)).1) $$ Hob
  icases Hsp with ⟨Hkeep, Hsend⟩
  iapply (Rounds.wp_send_landing_pointsTo 𝒱₀ ER (Rd P) (c : Thread nD τ) none (c' := (flip (dim p r) c : Thread nD τ))
      (src := obM.slice (Rect.unit (s := S1024x1024) o ![n, 1024] inb) h₁) (dst := cmM.slice (Rect.unit (s := S960x1024) o₂ ![n, 1024] inb₂) h₂)
      (sS := .dma (semS (ix p r))) (sem := .dma (semR (ix p r))) (q := fullShare) (fs := At P p r c) (fd := h)
      (κ₁ := K (sendCell c (ix p r))) (κ₂ := K (recvCell (flip (dim p r) c) (ix p r))) (r₁ := 0) (r₂ := 0) (d₁ := 0) (d₂ := 0)
      (by rw [duties_send]; exact Finset.mem_singleton_self _) (by rw [duties_recv]; exact Finset.mem_singleton_self _)
      () () (amt (ix p r)) (by rw [amt_ix, ← hn]; exact amt_cm inb₂ h₂) (amount_send P c _ 0) (amount_recv P _ _ 0) (Ow c (5 + ix p r))
      ((Ow_k c (ix p r)).trans (by rw [hkd])) (W := W)
      (by rw [payload_send, sendPay_ix])
      (by
        subst hn
        rw [payload_recv, recvPay_ix, cmPt_slice ho₂, obPt_slice ho]
        unfold rsPay
        rw [flip_flip ⟨dim p r, Nat.mod_lt _ (by decide)⟩]
        iintro ⟨H1, H2⟩
        isplitl [H1]
        · iexists _
          isplitr
          · ipureintro
            exact write_cm_shift ho₂ inb₂ h _ (At P p r c) (read_ob ho inb (At P p r c) (At P p r c) fun _ _ => rfl)
          · iexact H1
        · iexists _; iexact H2)) $$ [Hsend Hcm HO HtS HtR]
  · isplitr; · iapply (ctx_inv P K (send_mem c _)); iexact Hc
    isplitr; · iapply (ctx_inv P K (recv_mem _ _)); iexact Hc
    isplitl [Hsend]; · rw [obPt_slice ho, hn]; iexact Hsend
    isplitl [Hcm]; · rw [cmPt_slice ho₂, hn]; iexact Hcm
    isplitl [HO]; · iexact HO
    isplitl [HtS]; · iexact HtS
    isplitr; · iexact HrS
    isplitl [HtR]; · iexact HtR
    iexact HrR
  iintro ⟨HcS, HO⟩
  iapply Hk
  isplitl [HO]; · iexists _; iexact HO
  isplitl [Hout Hkeep]; · isplitl [Hout] <;> iassumption
  isplitl [HatS]; · iexact HatS
  isplitl [HcS]; · iexact HcS
  isplitl [HatR] <;> iassumption

theorem wp_ag {α : Type} {Q : α → sProp 𝕄} (c : Dev nD) (p r : Fin 4) {r' : ℕ} (hr' : r' = r + 1) {n : ℕ} (hn : n = sz (r + 1)) {sS sR : DmaSem sig} (hsS : sS = semS (ixg p r)) (hsR : sR = semR (ixg p r))
    {dv : Dev nD} (hdv : dv = flip (dim p r) c) {o : Fin 2 → ℕ} (ho : o = ![off p (r + 1) c, 0]) {inb} {h₁} {inb₂} {h₂} {hsc} {hx} {hy} {hz}
    {kk : PUnit → Prog (TpuEff nD τ sig (Elt F) Λ₀ .tc) α} :
    iprop(ctx P K ∗ OW (F := F) (4 + ixg p r) c ∗ T0 P p r' c ∗ RK (F := F) (ixg p r) c ∗ OQ (F := F) p r c)
      ⊢ iprop(((OW (F := F) (5 + ixg p r) c ∗ W1 (F := F) (ixg p r) c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (obM.slice (Rect.unit (s := S1024x1024) o ![n, 1024] inb) h₁)
              (.remote (Dev.tc dv) (obM.slice (Rect.unit (s := S1024x1024) o ![n, 1024] inb₂) h₂) (.dma sS) hsc) (.dma sR) hx hy hz) kk) Q) := by
  subst hsS hsR hdv hr'
  have hkd : kd (ixg p r) = dim p r := by unfold kd; rw [kp_ixg, kr_ixg]
  unfold OW T0 RK W1 OQ
  rw [hkd]
  iintro ⟨#Hc, ⟨%W, HO⟩, Hob, ⟨HtS, #HrS, HatS, HatR, HcR, HtR, #HrR⟩, ⟨%g, Hq⟩⟩ Hk
  iapply (Rounds.wp_send_pointsTo 𝒱₀ ER (Rd P) (c : Thread nD τ) none (c' := (flip (dim p r) c : Thread nD τ))
      (src := obM.slice (Rect.unit (s := S1024x1024) o ![n, 1024] inb) h₁) (dst := obM.slice (Rect.unit (s := S1024x1024) o ![n, 1024] inb₂) h₂)
      (sS := .dma (semS (ixg p r))) (sem := .dma (semR (ixg p r))) (q := fullShare) (fs := G P) (fd := g)
      (κ₁ := K (sendCell c (ixg p r))) (κ₂ := K (recvCell (flip (dim p r) c) (ixg p r))) (r₁ := 0) (r₂ := 0) (d₁ := 0) (d₂ := 0)
      (by rw [duties_send]; exact Finset.mem_singleton_self _) (by rw [duties_recv]; exact Finset.mem_singleton_self _)
      () () (amt (ixg p r)) (by rw [amt_ixg, ← hn]; exact amt_ob inb₂ h₂) (amount_send P c _ 0) (amount_recv P _ _ 0) (Ow c (5 + ixg p r))
      ((Ow_k c (ixg p r)).trans (by rw [hkd])) (W := W)
      (by rw [payload_send, sendPay_ixg, obPt_slice ho, hn]; exact BI.Entails.refl _)
      (by
        subst hn
        rw [payload_recv, recvPay_ixg, obPt_slice ho]
        unfold agPay
        rw [flip_flip ⟨dim p r, Nat.mod_lt _ (by decide)⟩]
        refine Entails.of_eq (pointsTo_congr fun i hi => ?_)
        exact write_ob_in ho inb₂ g _ (G P) (read_ob ho inb (G P) (G P) fun _ _ => rfl) i hi)) $$ [Hob Hq HO HtS HtR]
  · isplitr; · iapply (ctx_inv P K (send_mem c _)); iexact Hc
    isplitr; · iapply (ctx_inv P K (recv_mem _ _)); iexact Hc
    isplitl [Hob]; · rw [obPt_slice ho, hn]; iexact Hob
    isplitl [Hq]; · rw [obPt_slice ho, hn]; iexact Hq
    isplitl [HO]; · iexact HO
    isplitl [HtS]; · iexact HtS
    isplitr; · iexact HrS
    isplitl [HtR]; · iexact HtR
    iexact HrR
  iintro ⟨HcS, HO⟩
  iapply Hk
  isplitl [HO]; · iexists _; iexact HO
  isplitl [HatS]; · iexact HatS
  isplitl [HcS]; · iexact HcS
  isplitl [HatR] <;> iassumption

/-! ## The waits of the two kinds of round -/

section
variable {α : Type} (c : Dev nD) (p r : Fin 4) {n : ℕ} {s : DmaSem sig} {sp sp' : Space} {sh sh' : Shape} {e e' : EltTy}
  {src : Memref sig .tc sp' sh' e'} {dst : Memref sig .tc sp sh e} {hx : src.view.WordExact} {hy : dst.view.WordExact} {kk : PUnit → Prog (TpuEff nD τ sig (Elt F) Λ₀ .tc) α}

theorem wp_rs_sent {Q : α → sProp 𝕄} (hn : (ix p r).val + 4 < n) (hs : s = semS (ix p r)) (hN : dst.view.dmaCredit = amt (ix p r)) :
    iprop(ctx P K ∗ OW (F := F) n c ∗ W1 (F := F) (ix p r) c)
      ⊢ iprop(((OW (F := F) n c ∗ W2 (F := F) (ix p r) c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hx hy) kk) Q) := by
  iintro H Hk
  iapply (wp_waitS P K c (ix p r) hn hs hN) $$ [H]; · iexact H
  iintro ⟨H1, H2, -⟩
  iapply Hk
  isplitl [H1] <;> iassumption

theorem wp_rs_landed {Q : α → sProp 𝕄} (hn : (ix p r).val + 4 < n) (hs : s = semR (ix p r)) (hN : dst.view.dmaCredit = amt (ix p r)) :
    iprop(ctx P K ∗ OW (F := F) n c ∗ W2 (F := F) (ix p r) c)
      ⊢ iprop(((OW (F := F) n c ∗ DK (F := F) (ix p r) c ∗ CMs P p r c ∗ OQ (F := F) p r c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hx hy) kk) Q) := by
  iintro H Hk
  iapply (wp_waitR P K c (ix p r) hn hs hN) $$ [H]; · iexact H
  iintro ⟨H1, H2, H3⟩
  ihave H4 := (show recvPay P c (ix p r) ⊢ iprop(CMs P p r c ∗ OQ (F := F) p r c) from by rw [recvPay_ix]; unfold rsPay CMs OQ; exact BI.Entails.refl _) $$ H3
  iapply Hk
  isplitl [H1]; · iexact H1
  isplitl [H2] <;> iassumption

theorem wp_ag_sent {Q : α → sProp 𝕄} {r' : ℕ} (hr' : r' = r + 1) (hn : (ixg p r).val + 4 < n) (hs : s = semS (ixg p r)) (hN : dst.view.dmaCredit = amt (ixg p r)) :
    iprop(ctx P K ∗ OW (F := F) n c ∗ W1 (F := F) (ixg p r) c)
      ⊢ iprop(((OW (F := F) n c ∗ W2 (F := F) (ixg p r) c ∗ T0 P p r' c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hx hy) kk) Q) := by
  subst hr'
  rw [← sendPay_ixg P c p r]
  exact wp_waitS P K c (ixg p r) hn hs hN

theorem agPay_join : iprop(T0 P p (r + 1) c ∗ agPay P c p r) ⊢ T0 P p r c := by
  unfold T0 agPay obPt
  rw [halves p r c]; exact (pointsTo_union (halves_disj p r c)).2

theorem wp_ag_landed {Q : α → sProp 𝕄} {r' : ℕ} (hr' : r' = r + 1) (hn : (ixg p r).val + 4 < n) (hs : s = semR (ixg p r)) (hN : dst.view.dmaCredit = amt (ixg p r)) :
    iprop(ctx P K ∗ OW (F := F) n c ∗ W2 (F := F) (ixg p r) c ∗ T0 P p r' c)
      ⊢ iprop(((OW (F := F) n c ∗ DK (F := F) (ixg p r) c ∗ T0 P p r c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hx hy) kk) Q) := by
  subst hr'
  iintro ⟨Hc, HO, HW, HT⟩ Hk
  iapply (wp_waitR P K c (ixg p r) hn hs hN) $$ [Hc HO HW]
  · isplitl [Hc]; · iexact Hc
    isplitl [HO] <;> iassumption
  iintro ⟨H1, H2, H3⟩
  ihave H4 := (Entails.of_eq (recvPay_ixg P c p r)) $$ H3
  iapply Hk
  isplitl [H1]; · iexact H1
  isplitl [H2]; · iexact H2
  iapply (agPay_join P c p r)
  isplitl [HT] <;> iassumption
end

/-! ## Loads and stores of the adding rounds -/

theorem acc_out {a n : ℕ} {o : Fin 2 → ℕ} (ho : o = ![a, 0]) (inb : ∀ x, o x + ![n, 1024] x ≤ (Blk 1024).size x) {S : Finset (Blk 1024).Idx} (h : rows 1024 a n ⊆ S) :
    (outM.access (Rect.unit (s := S1024x1024) o ![n, 1024] inb)).setOn Finset.univ ⊆ S := by
  rw [View.setOn_univ, set_out ho inb]; exact h
theorem acc_ob {a n : ℕ} {o : Fin 2 → ℕ} (ho : o = ![a, 0]) (inb : ∀ x, o x + ![n, 1024] x ≤ (Blk 1024).size x) {S : Finset (Blk 1024).Idx} (h : rows 1024 a n ⊆ S) :
    (obM.access (Rect.unit (s := S1024x1024) o ![n, 1024] inb)).setOn Finset.univ ⊆ S := by
  rw [View.setOn_univ, set_ob ho inb]; exact h

theorem off_in (p r : Fin 4) (c : Dev nD) : rows 1024 (off p (r + 1) c) (sz (r + 1)) ⊆ rows 1024 (256 * p) 256 := by
  have h1 := off_lo p ⟨r + 1, by omega⟩ c
  have h2 := off_hi p ⟨r + 1, by omega⟩ c
  exact rows_subset h1 h2

section
variable {α : Type} (c : Dev nD) (p r : Fin 4) {n : ℕ} (hn : n = sz (r + 1)) {o : Fin 2 → ℕ}

section
variable (ho : o = ![off p (r + 1) c, 0])
include hn ho

theorem wp_ld_out {Q : α → sProp 𝕄} {inb} {hl} {kk : _ → Prog (TpuEff nD τ sig (Elt F) Λ₀ .tc) α} :
    S1 P p r c ⊢ iprop((∀ v, ⌜RowsEq (n := n) v (off p (r + 1) c) (A P p r c)⌝ -∗ S1 P p r c -∗ wp frame (wpE (defs₀ (F := F)) 𝒱₀ (c : Thread nD τ) none) Set.univ (kk v) Q)
      -∗ wp frame (wpE (defs₀ (F := F)) 𝒱₀ (c : Thread nD τ) none) Set.univ (.op (.load outM (Rect.unit (s := S1024x1024) o ![n, 1024] inb).toLoadRect hl) kk) Q) := by
  subst hn
  unfold S1 OutA outPt
  iintro ⟨⟨%f, %hf, H⟩, Hob⟩ Hk
  iapply (wp_load 𝒱₀ (c : Thread nD τ) none Set.univ (m := outM) ((seton_out ho inb).trans_subset (off_in p r c))) $$ [H]; · iexact H
  iintro H
  iapply Hk $$ %_ %(read_out ho inb f (A P p r c) fun i hi => hf i (keep_sub p r c hi)) [H Hob]
  isplitl [H]
  · iexists f
    isplitr; · ipureintro; exact hf
    iexact H
  · iexact Hob

theorem wp_st_out {Q : α → sProp 𝕄} {inb} {hl} {hm} {w : (Blk n).Idx → Elt F .f32} (hw : RowsEq w (off p (r + 1) c) (A P p (r + 1) c)) {kk : _ → Prog (TpuEff nD τ sig (Elt F) Λ₀ .tc) α} :
    S1 P p r c ⊢ iprop((S4 P p r c -∗ wp frame (wpE (defs₀ (F := F)) 𝒱₀ (c : Thread nD τ) none) Set.univ (kk ⟨⟩) Q)
      -∗ wp frame (wpE (defs₀ (F := F)) 𝒱₀ (c : Thread nD τ) none) Set.univ (.op (.store outM (Rect.unit (s := S1024x1024) o ![n, 1024] inb) w Finset.univ hl hm) kk) Q) := by
  subst hn
  unfold S1 S4 OutA outPt
  iintro ⟨⟨%f, %hf, H⟩, Hob⟩ Hk
  iapply (wp_store 𝒱₀ (c : Thread nD τ) none Set.univ (m := outM) (acc_out ho inb (off_in p r c))) $$ [H]; · iexact H
  iintro H
  iapply Hk $$ [H Hob]
  isplitl [H]
  · iexists _
    isplitr
    rotate_left
    · iexact H
    · ipureintro; exact write_out_in ho inb f w _ hw
  · iexact Hob

theorem wp_ld_ob {Q : α → sProp 𝕄} {inb} {hl} {kk : _ → Prog (TpuEff nD τ sig (Elt F) Λ₀ .tc) α} :
    S4 P p r c ⊢ iprop((∀ v, S4 P p r c -∗ wp frame (wpE (defs₀ (F := F)) 𝒱₀ (c : Thread nD τ) none) Set.univ (kk v) Q)
      -∗ wp frame (wpE (defs₀ (F := F)) 𝒱₀ (c : Thread nD τ) none) Set.univ (.op (.load obM (Rect.unit (s := S1024x1024) o ![n, 1024] inb).toLoadRect hl) kk) Q) := by
  subst hn
  unfold S4 obPt
  iintro ⟨Hout, H⟩ Hk
  iapply (wp_load 𝒱₀ (c : Thread nD τ) none Set.univ (m := obM) ((seton_ob ho inb).le)) $$ [H]; · iexact H
  iintro H
  iapply Hk $$ %_ [H Hout]
  isplitl [Hout] <;> iassumption

theorem wp_st_ob {Q : α → sProp 𝕄} {r' : ℕ} (hr' : r' = r + 1) {inb} {hl} {hm} {w : (Blk n).Idx → Elt F .bf16} (hw : RowsEq w (off p (r + 1) c) (At P p (r + 1) c)) {kk : _ → Prog (TpuEff nD τ sig (Elt F) Λ₀ .tc) α} :
    S4 P p r c ⊢ iprop((S0 P p r' c -∗ wp frame (wpE (defs₀ (F := F)) 𝒱₀ (c : Thread nD τ) none) Set.univ (kk ⟨⟩) Q)
      -∗ wp frame (wpE (defs₀ (F := F)) 𝒱₀ (c : Thread nD τ) none) Set.univ (.op (.store obM (Rect.unit (s := S1024x1024) o ![n, 1024] inb) w Finset.univ hl hm) kk) Q) := by
  subst hn hr'
  unfold S4 S0
  iintro ⟨Hout, H⟩ Hk
  iapply (wp_store 𝒱₀ (c : Thread nD τ) none Set.univ (m := obM) (acc_ob ho inb (Finset.Subset.refl _))) $$ [H]; · unfold obPt; iexact H
  iintro H
  ihave H' := (show _ ⊢ obPt c (off p (r + 1) c) (sz (r + 1)) (At P p (r + 1) c) from
    Entails.of_eq (pointsTo_congr fun i hi => write_ob_in ho inb (At P p r c) w _ hw i hi)) $$ H
  iapply Hk $$ [H' Hout]
  isplitl [Hout] <;> iassumption
end

include hn in
theorem wp_ld_cm {Q : α → sProp 𝕄} (ho : o = ![reg p r, 0]) {inb} {hl} {kk : _ → Prog (TpuEff nD τ sig (Elt F) Λ₀ .tc) α} :
    CMs P p r c ⊢ iprop((∀ v, ⌜RowsEq (n := n) v (off p (r + 1) c) (At P p r (flip (dim p r) c))⌝ -∗ CMs P p r c -∗ wp frame (wpE (defs₀ (F := F)) 𝒱₀ (c : Thread nD τ) none) Set.univ (kk v) Q)
      -∗ wp frame (wpE (defs₀ (F := F)) 𝒱₀ (c : Thread nD τ) none) Set.univ (.op (.load cmM (Rect.unit (s := S960x1024) o ![n, 1024] inb).toLoadRect hl) kk) Q) := by
  subst hn
  unfold CMs cmPt
  iintro ⟨%h, %hh, H⟩ Hk
  iapply (wp_load 𝒱₀ (c : Thread nD τ) none Set.univ (m := cmM) ((seton_cm ho inb).le)) $$ [H]; · iexact H
  iintro H
  iapply Hk $$ %_ %(read_cm ho inb h (At P p r (flip (dim p r) c)) hh) [H]
  iexists h
  isplitr; · ipureintro; exact hh
  iexact H
end

/-! ## The sums -/

theorem RowsEq_add {n p r : ℕ} {c : Dev nD} {a : ℕ} {v : (Blk n).Idx → Elt F .f32} {w : (Blk n).Idx → Elt F .bf16}
    (hv : RowsEq v a (A P p r c)) (hw : RowsEq w a (At P p r (flip (dim p r) c))) :
    RowsEq (addf v (extf .f32 w bitsLt_bf16_f32) : (Blk n).Idx → Elt F .f32) a (A P p (r + 1) c) := fun x j h0 h1 => by
  show FloatOps.addf (v x) (FloatOps.extf .f32 bitsLt_bf16_f32 (w x)) = _
  rw [hv x j h0 h1, hw x j h0 h1]; rfl
theorem RowsEq_tr {n p r : ℕ} {c : Dev nD} {a : ℕ} {v : (Blk n).Idx → Elt F .f32} (hv : RowsEq v a (A P p r c)) :
    RowsEq (truncf .bf16 v bitsLt_bf16_f32 : (Blk n).Idx → Elt F .bf16) a (At P p r c) := fun x j h0 h1 => by
  show FloatOps.truncf .bf16 bitsLt_bf16_f32 (v x) = _
  rw [hv x j h0 h1]; rfl

end Cert.Proof

end
-- ==== Proof.Ends.lean ====
/-
  The beginning and the end of the body, one operation at a time: the barrier, the loads of the inputs, the stores of a part's
  own partial sums, and the copies that put the exchanged rows in their places.
-/
module

public import proofs.«01_k».proof.Proof.Steps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

/-! ## The barrier -/

/-- What device `c` signals its partner along dimension `d` with. -/
def BS (d : Fin 4) (c : Dev nD) : sProp 𝕄 :=
  iprop(barPay (F := F) (flip d c) d ∗ dutyTok ER (barCell (flip d c)) 0 d ∗ reached ER (barCell (flip d c)) 0)
/-- What it waits with. -/
def BW (c : Dev nD) : sProp 𝕄 := iprop(atPos ER (barCell c) 0 ∅ 0 ∗ cred (tallyAt (barCell c) () 4))
def BD (c : Dev nD) : sProp 𝕄 := iprop(atPos ER (barCell c) (0 + 1) ∅ 0)

theorem wp_bar {α : Type} {Q : α → sProp 𝕄} (c : Dev nD) (d : Fin 4) {m : ℕ} (hm : m = d + 1) {nd : Dev nD} (hnd : nd = flip d c) {s : Sem sig} (hs : s = barS) {n : ℤ} (hn : n = ((1 : ℕ) : ℤ))
    {kk : PUnit → Prog (TpuEff nD τ sig (Elt F) Λ₀ .tc) α} :
    iprop(ctx P K ∗ OW (F := F) d c ∗ BS (F := F) d c)
      ⊢ iprop((OW (F := F) m c -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (nd : Thread nD τ) s n) kk) Q) := by
  subst hnd hs hn hm
  unfold OW BS
  iintro ⟨#Hc, ⟨%W, HO⟩, Hpay, Htok, #Hr⟩ Hk
  iapply (Rounds.wp_signal 𝒱₀ ER (Rd P) (c : Thread nD τ) none (dst := (flip d c : Thread nD τ)) (sem := barS) (r := 0) (d := d) (κ := K (barCell (flip d c)))
      (by rw [duties_bar]; exact Finset.mem_univ _) (amount_bar P (flip d c) d) () (Ow c (d + 1))
      ((Ow_peel c (n := d.val) (by omega)).trans (by unfold pay; rw [if_pos d.isLt])) (W := W))
    $$ [HO Hpay Htok]
  · isplitr; · iapply (ctx_inv P K (bar_mem _)); iexact Hc
    isplitl [HO]; · iexact HO
    isplitl [Htok]; · iexact Htok
    isplitl [Hpay]; · rw [payload_bar]; iexact Hpay
    iexact Hr
  iintro HO
  iapply Hk
  iexists _; iexact HO

set_option maxRecDepth 8000 in
theorem ctx_mw_bar (c : Dev nD) : ctx P K ⊢ (MayWait (c : Thread nD τ) (.reg barS) () (Ow c 4) : sProp 𝕄) :=
  (ctx_lev P K).trans (mayWait_of (by omega) (by show 1 + 2 < 4; omega))

theorem wp_barw {α : Type} {Q : α → sProp 𝕄} (c : Dev nD) {s : Sem sig} (hs : s = barS) {n : ℤ} (hn : n = ((4 : ℕ) : ℤ))
    {kk : PUnit → Prog (TpuEff nD τ sig (Elt F) Λ₀ .tc) α} :
    iprop(ctx P K ∗ OW (F := F) 4 c ∗ BW (F := F) c)
      ⊢ iprop(((OW (F := F) 4 c ∗ BD (F := F) c ∗ barPay (F := F) c 0 ∗ barPay (F := F) c 1 ∗ barPay (F := F) c 2 ∗ barPay (F := F) c 3)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s n) kk) Q) := by
  subst hs hn
  unfold OW BW BD
  iintro ⟨#Hc, ⟨%W, HO⟩, Hat, Hcr⟩ Hk
  iapply (Rounds.wp_wait_rest_token 𝒱₀ ER (Rd P) (c : Thread nD τ) none (κ := K (barCell c))
      (wpE_semWait_eq 𝒱₀ (c : Thread nD τ) none Set.univ) (Set.mem_univ _) () (O := Ow c 4) (W := W) (R := 0) (m := 0) (T := ∅)
      ((Nat.zero_add 4).trans (expect_bar P c).symm)) $$ [Hcr HO Hat]
  · isplitr; · iapply (ctx_inv P K (bar_mem c)); iexact Hc
    isplitl [Hcr]; · iexact Hcr
    isplitl [HO]; · iexact HO
    isplitr; · iapply (ctx_mw_bar P K c); iexact Hc
    iexact Hat
  iintro ⟨HO, Hat, -, Hpay⟩
  ihave Hp := (Entails.of_eq (rest_bar P c)) $$ Hpay
  iapply Hk
  isplitl [HO]; · iexists _; iexact HO
  isplitl [Hat]; · iexact Hat
  iexact Hp

/-- That the partner along dimension `d` is there to be sent to. -/
def RR (d : ℕ) (c' : Dev nD) : sProp 𝕄 :=
  iprop((bigSep Finset.univ fun k : Fin 32 => if kp k = 0 ∧ kr k = (d + 4 - 0) % 4 then reached ER (recvCell c' k) 0 else iprop(emp))
    ∗ (bigSep Finset.univ fun k : Fin 32 => if kp k = 1 ∧ kr k = (d + 4 - 1) % 4 then reached ER (recvCell c' k) 0 else iprop(emp))
    ∗ (bigSep Finset.univ fun k : Fin 32 => if kp k = 2 ∧ kr k = (d + 4 - 2) % 4 then reached ER (recvCell c' k) 0 else iprop(emp))
    ∗ (bigSep Finset.univ fun k : Fin 32 => if kp k = 3 ∧ kr k = (d + 4 - 3) % 4 then reached ER (recvCell c' k) 0 else iprop(emp)))

instance (c' : Dev nD) (k : Fin 32) (p : Prop) [Decidable p] : BI.Persistent (if p then (reached ER (recvCell c' k) 0 : sProp 𝕄) else iprop(emp)) := by
  split <;> infer_instance
instance (d : ℕ) (c' : Dev nD) : BI.Persistent (RR (F := F) d c') := by unfold RR; infer_instance

theorem barPay_open (c : Dev nD) (d : Fin 4) : barPay (F := F) c d ⊢ iprop((CM (F := F) 0 ((d + 4 - 0) % 4) (flip d c) ∗ CM (F := F) 1 ((d + 4 - 1) % 4) (flip d c)
      ∗ CM (F := F) 2 ((d + 4 - 2) % 4) (flip d c) ∗ CM (F := F) 3 ((d + 4 - 3) % 4) (flip d c)) ∗ RR (F := F) d (flip d c)) := by
  unfold barPay barP CM RR
  iintro ⟨⟨H0, G0⟩, ⟨H1, G1⟩, ⟨H2, G2⟩, H3, G3⟩
  isplitl [H0 H1 H2 H3]
  · isplitl [H0]; · iexact H0
    isplitl [H1]; · iexact H1
    isplitl [H2] <;> iassumption
  · isplitl [G0]; · iexact G0
    isplitl [G1]; · iexact G1
    isplitl [G2] <;> iassumption

theorem reach_at (c' : Dev nD) (p r : ℕ) (k : Fin 32) (hk : kp k = p ∧ kr k = r) :
    (bigSep Finset.univ fun k : Fin 32 => if kp k = p ∧ kr k = r then (reached ER (recvCell c' k) 0 : sProp 𝕄) else iprop(emp)) ⊢ reached ER (recvCell c' k) 0 :=
  (bigSep_elim (Finset.mem_univ k)).trans (by rw [if_pos hk]; exact Entails.refl _)

theorem RR_at (c' : Dev nD) (k : Fin 32) : RR (F := F) (kd k) c' ⊢ reached ER (recvCell c' k) 0 := by
  have h : (kp k = 0 ∧ kr k = (kd k + 4 - 0) % 4) ∨ (kp k = 1 ∧ kr k = (kd k + 4 - 1) % 4) ∨ (kp k = 2 ∧ kr k = (kd k + 4 - 2) % 4) ∨ (kp k = 3 ∧ kr k = (kd k + 4 - 3) % 4) := by
    revert k; decide
  unfold RR
  rcases h with h | h | h | h
  · iintro ⟨H, -, -, -⟩; iapply (reach_at c' _ _ k h); iexact H
  · iintro ⟨-, H, -, -⟩; iapply (reach_at c' _ _ k h); iexact H
  · iintro ⟨-, -, H, -⟩; iapply (reach_at c' _ _ k h); iexact H
  · iintro ⟨-, -, -, H⟩; iapply (reach_at c' _ _ k h); iexact H

/-- What the exchange of index `k` needs, before the partner is known to be there. -/
def RK0 (k : Fin 32) (c : Dev nD) : sProp 𝕄 :=
  iprop(dutyTok ER (sendCell c k) 0 0 ∗ reached ER (sendCell c k) 0 ∗ atPos ER (sendCell c k) 0 ∅ 0 ∗ atPos ER (recvCell c k) 0 ∅ 0
    ∗ cred (tallyAt (recvCell c k) () (amt k)) ∗ dutyTok ER (recvCell (flip (kd k) c) k) 0 0)

theorem RK_of (c : Dev nD) (k : Fin 32) {d : ℕ} (hd : d = kd k) : RR (F := F) d (flip d c) ⊢ iprop(RK0 (F := F) k c -∗ RK (F := F) k c) := by
  subst hd
  unfold RK0 RK
  iintro H ⟨H1, H2, H3, H4, H5, H6⟩
  isplitl [H1]; · iexact H1
  isplitl [H2]; · iexact H2
  isplitl [H3]; · iexact H3
  isplitl [H4]; · iexact H4
  isplitl [H5]; · iexact H5
  isplitl [H6]; · iexact H6
  iapply (RR_at (flip (kd k) c) k); iexact H

/-! ## The inputs -/

abbrev C3 (F : FTy → Type) : Type := S8x1024x128.Idx → Elt F .f32

/-- The contents of a device's five staged inputs. -/
structure Ins (F : FTy → Type) where
  x : COut F
  wq : COut F
  k : C3 F
  v : C3 F
  wo : COut F

abbrev stM0 : Memref sig .tc .vmem S1024x1024 .f32 := Memref.whole cc0_stg0_0
abbrev stM1 : Memref sig .tc .vmem S1024x1024 .f32 := Memref.whole cc0_stg1_0
abbrev stM2 : Memref sig .tc .vmem S8x1024x128 .f32 := Memref.whole cc0_stg2_0
abbrev stM3 : Memref sig .tc .vmem S8x1024x128 .f32 := Memref.whole cc0_stg3_0
abbrev stM4 : Memref sig .tc .vmem S1024x1024 .f32 := Memref.whole cc0_stg4_0

def in0 (c : Dev nD) (f : COut F) : sProp 𝕄 := stM0.view.loc (c : Thread nD τ) ↦[Finset.univ]{fullShare} f
def in1 (c : Dev nD) (f : COut F) : sProp 𝕄 := stM1.view.loc (c : Thread nD τ) ↦[Finset.univ]{fullShare} f
def in2 (c : Dev nD) (f : C3 F) : sProp 𝕄 := stM2.view.loc (c : Thread nD τ) ↦[Finset.univ]{fullShare} f
def in3 (c : Dev nD) (f : C3 F) : sProp 𝕄 := stM3.view.loc (c : Thread nD τ) ↦[Finset.univ]{fullShare} f
def in4 (c : Dev nD) (f : COut F) : sProp 𝕄 := stM4.view.loc (c : Thread nD τ) ↦[Finset.univ]{fullShare} f

section
variable {α : Type} (c : Dev nD)
theorem wp_ld0 {Q : α → sProp 𝕄} {f : COut F} {r} {hl} {kk : _ → Prog (TpuEff nD τ sig (Elt F) Λ₀ .tc) α} :
    in0 c f ⊢ iprop((in0 c f -∗ wp frame (wpE (defs₀ (F := F)) 𝒱₀ (c : Thread nD τ) none) Set.univ (kk (stM0.view.readAt (Elt F) r f)) Q)
      -∗ wp frame (wpE (defs₀ (F := F)) 𝒱₀ (c : Thread nD τ) none) Set.univ (.op (.load stM0 r hl) kk) Q) :=
  wp_load 𝒱₀ (c : Thread nD τ) none Set.univ (m := stM0) (Finset.subset_univ _)
theorem wp_ld1 {Q : α → sProp 𝕄} {f : COut F} {r} {hl} {kk : _ → Prog (TpuEff nD τ sig (Elt F) Λ₀ .tc) α} :
    in1 c f ⊢ iprop((in1 c f -∗ wp frame (wpE (defs₀ (F := F)) 𝒱₀ (c : Thread nD τ) none) Set.univ (kk (stM1.view.readAt (Elt F) r f)) Q)
      -∗ wp frame (wpE (defs₀ (F := F)) 𝒱₀ (c : Thread nD τ) none) Set.univ (.op (.load stM1 r hl) kk) Q) :=
  wp_load 𝒱₀ (c : Thread nD τ) none Set.univ (m := stM1) (Finset.subset_univ _)
theorem wp_ld2 {Q : α → sProp 𝕄} {f : C3 F} {r} {hl} {kk : _ → Prog (TpuEff nD τ sig (Elt F) Λ₀ .tc) α} :
    in2 c f ⊢ iprop((in2 c f -∗ wp frame (wpE (defs₀ (F := F)) 𝒱₀ (c : Thread nD τ) none) Set.univ (kk (stM2.view.readAt (Elt F) r f)) Q)
      -∗ wp frame (wpE (defs₀ (F := F)) 𝒱₀ (c : Thread nD τ) none) Set.univ (.op (.load stM2 r hl) kk) Q) :=
  wp_load 𝒱₀ (c : Thread nD τ) none Set.univ (m := stM2) (Finset.subset_univ _)
theorem wp_ld3 {Q : α → sProp 𝕄} {f : C3 F} {r} {hl} {kk : _ → Prog (TpuEff nD τ sig (Elt F) Λ₀ .tc) α} :
    in3 c f ⊢ iprop((in3 c f -∗ wp frame (wpE (defs₀ (F := F)) 𝒱₀ (c : Thread nD τ) none) Set.univ (kk (stM3.view.readAt (Elt F) r f)) Q)
      -∗ wp frame (wpE (defs₀ (F := F)) 𝒱₀ (c : Thread nD τ) none) Set.univ (.op (.load stM3 r hl) kk) Q) :=
  wp_load 𝒱₀ (c : Thread nD τ) none Set.univ (m := stM3) (Finset.subset_univ _)
theorem wp_ld4 {Q : α → sProp 𝕄} {f : COut F} {r} {hl} {kk : _ → Prog (TpuEff nD τ sig (Elt F) Λ₀ .tc) α} :
    in4 c f ⊢ iprop((in4 c f -∗ wp frame (wpE (defs₀ (F := F)) 𝒱₀ (c : Thread nD τ) none) Set.univ (kk (stM4.view.readAt (Elt F) r f)) Q)
      -∗ wp frame (wpE (defs₀ (F := F)) 𝒱₀ (c : Thread nD τ) none) Set.univ (.op (.load stM4 r hl) kk) Q) :=
  wp_load 𝒱₀ (c : Thread nD τ) none Set.univ (m := stM4) (Finset.subset_univ _)
end

/-! ## A part's own partial sums -/

/-- Part `p` before anything is stored, -/
def I0 (p : ℕ) (c : Dev nD) : sProp 𝕄 := iprop((∃ f, outPt (F := F) c (256 * p) 256 f) ∗ ∃ g, obPt (F := F) c (256 * p) 256 g)
/-- with the sums in the accumulator, -/
def I1 (p : ℕ) (c : Dev nD) : sProp 𝕄 := iprop(OutA P p 0 (256 * p) 256 c ∗ ∃ g, obPt (F := F) c (256 * p) 256 g)

theorem off_zero (p : Fin 4) : ∀ c, off p 0 c = 256 * p := by revert p; decide

section
variable {α : Type} (c : Dev nD) (p : Fin 4) {o : Fin 2 → ℕ} (ho : o = ![256 * p.val, 0])
include ho

theorem wp_ld_out0 {Q : α → sProp 𝕄} {inb} {hl} {kk : _ → Prog (TpuEff nD τ sig (Elt F) Λ₀ .tc) α} :
    I0 (F := F) p c ⊢ iprop((∀ v, I0 (F := F) p c -∗ wp frame (wpE (defs₀ (F := F)) 𝒱₀ (c : Thread nD τ) none) Set.univ (kk v) Q)
      -∗ wp frame (wpE (defs₀ (F := F)) 𝒱₀ (c : Thread nD τ) none) Set.univ (.op (.load outM (Rect.unit (s := S1024x1024) o ![256, 1024] inb).toLoadRect hl) kk) Q) := by
  unfold I0 outPt
  iintro ⟨⟨%f, H⟩, Hob⟩ Hk
  iapply (wp_load 𝒱₀ (c : Thread nD τ) none Set.univ (m := outM) ((seton_out ho inb).le)) $$ [H]; · iexact H
  iintro H
  iapply Hk $$ %_ [H Hob]
  isplitl [H]
  · iexists f; iexact H
  · iexact Hob

theorem wp_st_out0 {Q : α → sProp 𝕄} {inb} {hl} {hm} {w : (Blk 256).Idx → Elt F .f32} (hw : RowsEq w (256 * p.val) (A P p 0 c)) {kk : _ → Prog (TpuEff nD τ sig (Elt F) Λ₀ .tc) α} :
    I0 (F := F) p c ⊢ iprop((I1 P p c -∗ wp frame (wpE (defs₀ (F := F)) 𝒱₀ (c : Thread nD τ) none) Set.univ (kk ⟨⟩) Q)
      -∗ wp frame (wpE (defs₀ (F := F)) 𝒱₀ (c : Thread nD τ) none) Set.univ (.op (.store outM (Rect.unit (s := S1024x1024) o ![256, 1024] inb) w Finset.univ hl hm) kk) Q) := by
  unfold I0 I1 OutA outPt
  iintro ⟨⟨%f, H⟩, Hob⟩ Hk
  iapply (wp_store 𝒱₀ (c : Thread nD τ) none Set.univ (m := outM) (acc_out ho inb (Finset.Subset.refl _))) $$ [H]; · iexact H
  iintro H
  iapply Hk $$ [H Hob]
  isplitl [H]
  · iexists _
    isplitr
    rotate_left
    · iexact H
    · ipureintro; exact write_out_in ho inb f w _ hw
  · iexact Hob

theorem wp_ld_ob0 {Q : α → sProp 𝕄} {inb} {hl} {kk : _ → Prog (TpuEff nD τ sig (Elt F) Λ₀ .tc) α} :
    I1 P p c ⊢ iprop((∀ v, I1 P p c -∗ wp frame (wpE (defs₀ (F := F)) 𝒱₀ (c : Thread nD τ) none) Set.univ (kk v) Q)
      -∗ wp frame (wpE (defs₀ (F := F)) 𝒱₀ (c : Thread nD τ) none) Set.univ (.op (.load obM (Rect.unit (s := S1024x1024) o ![256, 1024] inb).toLoadRect hl) kk) Q) := by
  unfold I1 obPt
  iintro ⟨Hout, %g, H⟩ Hk
  iapply (wp_load 𝒱₀ (c : Thread nD τ) none Set.univ (m := obM) ((seton_ob ho inb).le)) $$ [H]; · iexact H
  iintro H
  iapply Hk $$ %_ [H Hout]
  isplitl [Hout]; · iexact Hout
  iexists g; iexact H

theorem wp_st_ob0 {Q : α → sProp 𝕄} {inb} {hl} {hm} {w : (Blk 256).Idx → Elt F .bf16} (hw : RowsEq w (256 * p.val) (At P p 0 c)) {kk : _ → Prog (TpuEff nD τ sig (Elt F) Λ₀ .tc) α} :
    I1 P p c ⊢ iprop((S0 P p (0 : Fin 4) c -∗ wp frame (wpE (defs₀ (F := F)) 𝒱₀ (c : Thread nD τ) none) Set.univ (kk ⟨⟩) Q)
      -∗ wp frame (wpE (defs₀ (F := F)) 𝒱₀ (c : Thread nD τ) none) Set.univ (.op (.store obM (Rect.unit (s := S1024x1024) o ![256, 1024] inb) w Finset.univ hl hm) kk) Q) := by
  unfold I1 S0
  rw [show (0 : Fin 4).val = 0 from rfl, show sz 0 = 256 from rfl, off_zero]
  iintro ⟨Hout, %g, H⟩ Hk
  iapply (wp_store 𝒱₀ (c : Thread nD τ) none Set.univ (m := obM) (acc_ob ho inb (Finset.Subset.refl _))) $$ [H]; · unfold obPt; iexact H
  iintro H
  ihave H' := (show _ ⊢ obPt c (256 * p.val) 256 (At P p 0 c) from
    Entails.of_eq (pointsTo_congr fun i hi => write_ob_in ho inb g w _ hw i hi)) $$ H
  iapply Hk $$ [H' Hout]
  isplitl [Hout] <;> iassumption
end

/-! ## The end -/

theorem owner_row (p : Fin 4) (c : Dev nD) (ρ : ℕ) (h1 : off p 4 c ≤ ρ) (h2 : ρ < off p 4 c + 16) : ρ / 256 = p ∧ owner ρ = c := by
  constructor
  · have h3 := off_lo p ⟨4, by omega⟩ c
    have h4 := off_hi p ⟨4, by omega⟩ c
    have h5 : off p 4 c + 16 ≤ 256 * p.val + 256 := by
      have h5 : sz 4 = 16 := by decide
      rw [← h5]; exact h4
    have h6 : 256 * p.val ≤ off p 4 c := h3
    omega
  · have h := owner_off p c ⟨ρ - off p 4 c, by omega⟩
    rwa [show off p 4 c + (ρ - off p 4 c) = ρ by omega] at h

/-- After the adding rounds: the accumulator is done with, and the rows kept are in their end form. -/
theorem S0_end (p : Fin 4) (c : Dev nD) : S0 P p 4 c ⊢ iprop((∃ f, outPt (F := F) c (256 * p) 256 f) ∗ T0 P p 4 c) := by
  unfold S0 OutA T0
  iintro ⟨⟨%f, %hf, H⟩, Hob⟩
  isplitl [H]
  · iexists f; iexact H
  · ihave H' := (show obPt c (off p 4 c) (sz 4) (At P p 4 c) ⊢ obPt c (off p 4 c) (sz 4) (G P) from by
      unfold obPt
      refine Entails.of_eq (pointsTo_congr fun i hi => ?_)
      rw [mem_rows] at hi
      obtain ⟨h1, h2⟩ := owner_row p c (i 0).val hi.1 hi.2
      unfold G; rw [h1, h2]) $$ Hob
    iexact H'

/-- Where row `ρ` of the result comes from. -/
def src (ρ : ℕ) : ℕ := 256 * (ρ / 64 % 4) + 64 * (ρ / 256) + ρ % 64
theorem src_lt {ρ : ℕ} (h : ρ < 1024) : src ρ < 1024 := by unfold src; omega

set_option backward.proofsInPublic true in
def srcIdx (i : (Blk 1024).Idx) : (Blk 1024).Idx := Fin.cons ⟨src (i 0).val, src_lt (i 0).isLt⟩ (Fin.cons (i 1) finZeroElim)
/-- The result. -/
def OUTv : COut F := fun i => ex (G P (srcIdx i))

/-- The order in which the blocks of 64 rows are put in their places. -/
def nth (b : ℕ) : ℕ := 4 * (b % 4) + b / 4

/-- The accumulator with the first `n` of them in place. -/
def FinA (n : ℕ) (c : Dev nD) : sProp 𝕄 := iprop(∃ f, ⌜∀ i : (Blk 1024).Idx, nth ((i 0).val / 64) < n → f i = OUTv P i⌝ ∗ outPt c 0 1024 f)
def GB (c : Dev nD) : sProp 𝕄 := obPt c 0 1024 (G P)

theorem out_join (c : Dev nD) (a n n' : ℕ) : iprop((∃ f, outPt (F := F) c a n f) ∗ ∃ f, outPt (F := F) c (a + n) n' f) ⊢ iprop(∃ f, outPt (F := F) c a (n + n') f) := by
  iintro ⟨⟨%f, H⟩, %g, H'⟩
  iexists _
  unfold outPt
  rw [← rows_union]
  iapply (pointsTo_join (rows_disjoint (Or.inl (le_refl _))))
  isplitl [H] <;> iassumption
theorem ob_join (c : Dev nD) (a n n' : ℕ) (f : COb F) : iprop(obPt c a n f ∗ obPt c (a + n) n' f) ⊢ obPt c a (n + n') f := by
  unfold obPt
  rw [← rows_union]
  exact (pointsTo_union (rows_disjoint (Or.inl (le_refl _)))).2

theorem fin_start (c : Dev nD) :
    iprop((∃ f, outPt (F := F) c (256 * (0 : Fin 4).val) 256 f) ∗ (∃ f, outPt (F := F) c (256 * (1 : Fin 4).val) 256 f) ∗ (∃ f, outPt (F := F) c (256 * (2 : Fin 4).val) 256 f)
        ∗ (∃ f, outPt (F := F) c (256 * (3 : Fin 4).val) 256 f)
        ∗ T0 P (0 : Fin 4) (0 : Fin 4) c ∗ T0 P (1 : Fin 4) (0 : Fin 4) c ∗ T0 P (2 : Fin 4) (0 : Fin 4) c ∗ T0 P (3 : Fin 4) (0 : Fin 4) c)
      ⊢ iprop(FinA P 0 c ∗ GB P c) := by
  have t (p : Fin 4) : T0 P p (0 : Fin 4) c = obPt c (256 * p) 256 (G P) := by
    unfold T0; rw [show (0 : Fin 4).val = 0 from rfl, show sz 0 = 256 from rfl, off_zero]
  rw [t, t, t, t]
  iintro ⟨H0, H1, H2, H3, G0, G1, G2, G3⟩
  ihave H4 := (out_join (F := F) c 0 256 256) $$ [H0 H1]
  · isplitl [H0]; · iexact H0
    iexact H1
  ihave H5 := (out_join (F := F) c 0 512 256) $$ [H4 H2]
  · isplitl [H4]; · iexact H4
    iexact H2
  ihave H6 := (out_join (F := F) c 0 768 256) $$ [H5 H3]
  · isplitl [H5]; · iexact H5
    iexact H3
  ihave G4 := (ob_join (F := F) c 0 256 256 (G P)) $$ [G0 G1]
  · isplitl [G0]; · iexact G0
    iexact G1
  ihave G5 := (ob_join (F := F) c 0 512 256 (G P)) $$ [G4 G2]
  · isplitl [G4]; · iexact G4
    iexact G2
  ihave G6 := (ob_join (F := F) c 0 768 256 (G P)) $$ [G5 G3]
  · isplitl [G5]; · iexact G5
    iexact G3
  unfold FinA GB
  isplitl [H6]
  · icases H6 with ⟨%f, H⟩
    iexists f
    isplitr
    · ipureintro; intro i h; exact absurd h (Nat.not_lt_zero _)
    · iexact H
  · iexact G6

section
variable {α : Type} (c : Dev nD) {o : Fin 2 → ℕ}

theorem sub_all {a : ℕ} (ha : a + 64 ≤ 1024) : rows 1024 a 64 ⊆ rows 1024 0 1024 := rows_subset (Nat.zero_le _) (by omega)

theorem wp_ld_G {Q : α → sProp 𝕄} (a : ℕ) (ho : o = ![a, 0]) (ha : a + 64 ≤ 1024) {inb} {hl} {kk : _ → Prog (TpuEff nD τ sig (Elt F) Λ₀ .tc) α} :
    GB P c ⊢ iprop((∀ v, ⌜RowsEq (n := 64) v a (G P)⌝ -∗ GB P c -∗ wp frame (wpE (defs₀ (F := F)) 𝒱₀ (c : Thread nD τ) none) Set.univ (kk v) Q)
      -∗ wp frame (wpE (defs₀ (F := F)) 𝒱₀ (c : Thread nD τ) none) Set.univ (.op (.load obM (Rect.unit (s := S1024x1024) o ![64, 1024] inb).toLoadRect hl) kk) Q) := by
  unfold GB obPt
  iintro H Hk
  iapply (wp_load 𝒱₀ (c : Thread nD τ) none Set.univ (m := obM) ((seton_ob ho inb).le.trans (sub_all (a := a) ha))) $$ [H]; · iexact H
  iintro H
  iapply Hk $$ %_ %(read_ob ho inb (G P) (G P) fun _ _ => rfl) [H]
  iexact H

theorem wp_ld_fin {Q : α → sProp 𝕄} {n : ℕ} {a : ℕ} (ho : o = ![a, 0]) (ha : a + 64 ≤ 1024) {inb} {hl} {kk : _ → Prog (TpuEff nD τ sig (Elt F) Λ₀ .tc) α} :
    FinA P n c ⊢ iprop((∀ v, FinA P n c -∗ wp frame (wpE (defs₀ (F := F)) 𝒱₀ (c : Thread nD τ) none) Set.univ (kk v) Q)
      -∗ wp frame (wpE (defs₀ (F := F)) 𝒱₀ (c : Thread nD τ) none) Set.univ (.op (.load outM (Rect.unit (s := S1024x1024) o ![64, 1024] inb).toLoadRect hl) kk) Q) := by
  unfold FinA outPt
  iintro ⟨%f, %hf, H⟩ Hk
  iapply (wp_load 𝒱₀ (c : Thread nD τ) none Set.univ (m := outM) ((seton_out ho inb).le.trans (sub_all (a := a) ha))) $$ [H]; · iexact H
  iintro H
  iapply Hk $$ %_ [H]
  iexists f
  isplitr; · ipureintro; exact hf
  iexact H

theorem wp_st_fin {Q : α → sProp 𝕄} {n : ℕ} (b : ℕ) (hb : nth b = n) (hb' : b < 16) {n' : ℕ} (hn : n' = n + 1) (ho : o = ![64 * b, 0]) {inb} {hl} {hm} {w : (Blk 64).Idx → Elt F .f32}
    (hw : RowsEq w (64 * b) (OUTv P)) {kk : _ → Prog (TpuEff nD τ sig (Elt F) Λ₀ .tc) α} :
    FinA P n c ⊢ iprop((FinA P n' c -∗ wp frame (wpE (defs₀ (F := F)) 𝒱₀ (c : Thread nD τ) none) Set.univ (kk ⟨⟩) Q)
      -∗ wp frame (wpE (defs₀ (F := F)) 𝒱₀ (c : Thread nD τ) none) Set.univ (.op (.store outM (Rect.unit (s := S1024x1024) o ![64, 1024] inb) w Finset.univ hl hm) kk) Q) := by
  subst hn
  unfold FinA outPt
  iintro ⟨%f, %hf, H⟩ Hk
  iapply (wp_store 𝒱₀ (c : Thread nD τ) none Set.univ (m := outM) (acc_out ho inb (sub_all (a := 64 * b) (by omega)))) $$ [H]; · iexact H
  iintro H
  iapply Hk $$ [H]
  iexists _
  isplitr
  rotate_left
  · iexact H
  · ipureintro
    intro i hi
    by_cases h : i ∈ rows 1024 (64 * b) 64
    · exact write_out_in ho inb f w _ hw i h
    · rw [write_out_off ho inb f w i h]
      refine hf i ?_
      rw [mem_rows] at h
      have hi0 : (i 0).val < 1024 := (i 0).isLt
      unfold nth at hi hb ⊢
      omega
end

theorem RowsEq_src {b : ℕ} (hb : b < 16) {a : ℕ} (ha : a = 256 * (b % 4) + 64 * (b / 4)) {v : (Blk 64).Idx → Elt F .bf16} (hv : RowsEq v a (G P)) :
    RowsEq (extf .f32 v bitsLt_bf16_f32 : (Blk 64).Idx → Elt F .f32) (64 * b) (OUTv P) := fun x j h0 h1 => by
  show FloatOps.extf .f32 bitsLt_bf16_f32 (v x) = ex (G P (srcIdx j))
  have hx : (x 0).val < 64 := (x 0).isLt
  rw [hv x (srcIdx j) (by show src (j 0).val = _; unfold src; rw [h0]; omega) h1]; rfl

end Cert.Proof

end
-- ==== Proof.Names.lean ====
/-
  The offsets and partners the kernel computes from the device's number, as the exchange names them.
-/
module

public import proofs.«01_k».proof.Proof.Proto

@[expose] public section

noncomputable section

namespace Cert.Proof

open Cert.KernelIdeal Cert.KernelIdeal.Gen
open Idealize.ShloMosaic

theorem dev1 (c : Dev nD) : (⟨k0_dev1 c, k0_dev1_lt c⟩ : Dev nD) = flip 0 c := by revert c; decide
theorem dev2 (c : Dev nD) : (⟨k0_dev2 c, k0_dev2_lt c⟩ : Dev nD) = flip 1 c := by revert c; decide
theorem dev3 (c : Dev nD) : (⟨k0_dev3 c, k0_dev3_lt c⟩ : Dev nD) = flip 2 c := by revert c; decide
theorem dev4 (c : Dev nD) : (⟨k0_dev4 c, k0_dev4_lt c⟩ : Dev nD) = flip 3 c := by revert c; decide
theorem dev5 (c : Dev nD) : (⟨k0_dev5 c, k0_dev5_lt c⟩ : Dev nD) = flip (dim 0 0) c := by revert c; decide
theorem dev6 (c : Dev nD) : (⟨k0_dev6 c, k0_dev6_lt c⟩ : Dev nD) = flip (dim 1 0) c := by revert c; decide
theorem dev7 (c : Dev nD) : (⟨k0_dev7 c, k0_dev7_lt c⟩ : Dev nD) = flip (dim 2 0) c := by revert c; decide
theorem dev8 (c : Dev nD) : (⟨k0_dev8 c, k0_dev8_lt c⟩ : Dev nD) = flip (dim 3 0) c := by revert c; decide
theorem dev9 (c : Dev nD) : (⟨k0_dev9 c, k0_dev9_lt c⟩ : Dev nD) = flip (dim 0 1) c := by revert c; decide
theorem dev10 (c : Dev nD) : (⟨k0_dev10 c, k0_dev10_lt c⟩ : Dev nD) = flip (dim 1 1) c := by revert c; decide
theorem dev11 (c : Dev nD) : (⟨k0_dev11 c, k0_dev11_lt c⟩ : Dev nD) = flip (dim 2 1) c := by revert c; decide
theorem dev12 (c : Dev nD) : (⟨k0_dev12 c, k0_dev12_lt c⟩ : Dev nD) = flip (dim 3 1) c := by revert c; decide
theorem dev13 (c : Dev nD) : (⟨k0_dev13 c, k0_dev13_lt c⟩ : Dev nD) = flip (dim 0 2) c := by revert c; decide
theorem dev14 (c : Dev nD) : (⟨k0_dev14 c, k0_dev14_lt c⟩ : Dev nD) = flip (dim 1 2) c := by revert c; decide
theorem dev15 (c : Dev nD) : (⟨k0_dev15 c, k0_dev15_lt c⟩ : Dev nD) = flip (dim 2 2) c := by revert c; decide
theorem dev16 (c : Dev nD) : (⟨k0_dev16 c, k0_dev16_lt c⟩ : Dev nD) = flip (dim 3 2) c := by revert c; decide
theorem dev17 (c : Dev nD) : (⟨k0_dev17 c, k0_dev17_lt c⟩ : Dev nD) = flip (dim 0 3) c := by revert c; decide
theorem dev18 (c : Dev nD) : (⟨k0_dev18 c, k0_dev18_lt c⟩ : Dev nD) = flip (dim 1 3) c := by revert c; decide
theorem dev19 (c : Dev nD) : (⟨k0_dev19 c, k0_dev19_lt c⟩ : Dev nD) = flip (dim 2 3) c := by revert c; decide
theorem dev20 (c : Dev nD) : (⟨k0_dev20 c, k0_dev20_lt c⟩ : Dev nD) = flip (dim 3 3) c := by revert c; decide
theorem dev21 (c : Dev nD) : (⟨k0_dev21 c, k0_dev21_lt c⟩ : Dev nD) = flip (dim 0 3) c := by revert c; decide
theorem dev22 (c : Dev nD) : (⟨k0_dev22 c, k0_dev22_lt c⟩ : Dev nD) = flip (dim 1 3) c := by revert c; decide
theorem dev23 (c : Dev nD) : (⟨k0_dev23 c, k0_dev23_lt c⟩ : Dev nD) = flip (dim 2 3) c := by revert c; decide
theorem dev24 (c : Dev nD) : (⟨k0_dev24 c, k0_dev24_lt c⟩ : Dev nD) = flip (dim 3 3) c := by revert c; decide
theorem dev25 (c : Dev nD) : (⟨k0_dev25 c, k0_dev25_lt c⟩ : Dev nD) = flip (dim 0 2) c := by revert c; decide
theorem dev26 (c : Dev nD) : (⟨k0_dev26 c, k0_dev26_lt c⟩ : Dev nD) = flip (dim 1 2) c := by revert c; decide
theorem dev27 (c : Dev nD) : (⟨k0_dev27 c, k0_dev27_lt c⟩ : Dev nD) = flip (dim 2 2) c := by revert c; decide
theorem dev28 (c : Dev nD) : (⟨k0_dev28 c, k0_dev28_lt c⟩ : Dev nD) = flip (dim 3 2) c := by revert c; decide
theorem dev29 (c : Dev nD) : (⟨k0_dev29 c, k0_dev29_lt c⟩ : Dev nD) = flip (dim 0 1) c := by revert c; decide
theorem dev30 (c : Dev nD) : (⟨k0_dev30 c, k0_dev30_lt c⟩ : Dev nD) = flip (dim 1 1) c := by revert c; decide
theorem dev31 (c : Dev nD) : (⟨k0_dev31 c, k0_dev31_lt c⟩ : Dev nD) = flip (dim 2 1) c := by revert c; decide
theorem dev32 (c : Dev nD) : (⟨k0_dev32 c, k0_dev32_lt c⟩ : Dev nD) = flip (dim 3 1) c := by revert c; decide
theorem dev33 (c : Dev nD) : (⟨k0_dev33 c, k0_dev33_lt c⟩ : Dev nD) = flip (dim 0 0) c := by revert c; decide
theorem dev34 (c : Dev nD) : (⟨k0_dev34 c, k0_dev34_lt c⟩ : Dev nD) = flip (dim 1 0) c := by revert c; decide
theorem dev35 (c : Dev nD) : (⟨k0_dev35 c, k0_dev35_lt c⟩ : Dev nD) = flip (dim 2 0) c := by revert c; decide
theorem dev36 (c : Dev nD) : (⟨k0_dev36 c, k0_dev36_lt c⟩ : Dev nD) = flip (dim 3 0) c := by revert c; decide
theorem off1 (c : Dev nD) : k0_off1 c = ![off 0 1 (flip (dim 0 0) c), 0] := by revert c; decide
theorem off5 (c : Dev nD) : k0_off5 c = ![off 0 1 c, 0] := by revert c; decide
theorem off2 (c : Dev nD) : k0_off2 c = ![off 1 1 (flip (dim 1 0) c), 0] := by revert c; decide
theorem off6 (c : Dev nD) : k0_off6 c = ![off 1 1 c, 0] := by revert c; decide
theorem off3 (c : Dev nD) : k0_off3 c = ![off 2 1 (flip (dim 2 0) c), 0] := by revert c; decide
theorem off7 (c : Dev nD) : k0_off7 c = ![off 2 1 c, 0] := by revert c; decide
theorem off4 (c : Dev nD) : k0_off4 c = ![off 3 1 (flip (dim 3 0) c), 0] := by revert c; decide
theorem off8 (c : Dev nD) : k0_off8 c = ![off 3 1 c, 0] := by revert c; decide
theorem off9 (c : Dev nD) : k0_off9 c = ![off 0 2 (flip (dim 0 1) c), 0] := by revert c; decide
theorem off13 (c : Dev nD) : k0_off13 c = ![off 0 2 c, 0] := by revert c; decide
theorem off10 (c : Dev nD) : k0_off10 c = ![off 1 2 (flip (dim 1 1) c), 0] := by revert c; decide
theorem off14 (c : Dev nD) : k0_off14 c = ![off 1 2 c, 0] := by revert c; decide
theorem off11 (c : Dev nD) : k0_off11 c = ![off 2 2 (flip (dim 2 1) c), 0] := by revert c; decide
theorem off15 (c : Dev nD) : k0_off15 c = ![off 2 2 c, 0] := by revert c; decide
theorem off12 (c : Dev nD) : k0_off12 c = ![off 3 2 (flip (dim 3 1) c), 0] := by revert c; decide
theorem off16 (c : Dev nD) : k0_off16 c = ![off 3 2 c, 0] := by revert c; decide
theorem off17 (c : Dev nD) : k0_off17 c = ![off 0 3 (flip (dim 0 2) c), 0] := by revert c; decide
theorem off21 (c : Dev nD) : k0_off21 c = ![off 0 3 c, 0] := by revert c; decide
theorem off18 (c : Dev nD) : k0_off18 c = ![off 1 3 (flip (dim 1 2) c), 0] := by revert c; decide
theorem off22 (c : Dev nD) : k0_off22 c = ![off 1 3 c, 0] := by revert c; decide
theorem off19 (c : Dev nD) : k0_off19 c = ![off 2 3 (flip (dim 2 2) c), 0] := by revert c; decide
theorem off23 (c : Dev nD) : k0_off23 c = ![off 2 3 c, 0] := by revert c; decide
theorem off20 (c : Dev nD) : k0_off20 c = ![off 3 3 (flip (dim 3 2) c), 0] := by revert c; decide
theorem off24 (c : Dev nD) : k0_off24 c = ![off 3 3 c, 0] := by revert c; decide
theorem off25 (c : Dev nD) : k0_off25 c = ![off 0 4 (flip (dim 0 3) c), 0] := by revert c; decide
theorem off29 (c : Dev nD) : k0_off29 c = ![off 0 4 c, 0] := by revert c; decide
theorem off26 (c : Dev nD) : k0_off26 c = ![off 1 4 (flip (dim 1 3) c), 0] := by revert c; decide
theorem off30 (c : Dev nD) : k0_off30 c = ![off 1 4 c, 0] := by revert c; decide
theorem off27 (c : Dev nD) : k0_off27 c = ![off 2 4 (flip (dim 2 3) c), 0] := by revert c; decide
theorem off31 (c : Dev nD) : k0_off31 c = ![off 2 4 c, 0] := by revert c; decide
theorem off28 (c : Dev nD) : k0_off28 c = ![off 3 4 (flip (dim 3 3) c), 0] := by revert c; decide
theorem off32 (c : Dev nD) : k0_off32 c = ![off 3 4 c, 0] := by revert c; decide
theorem off33 (c : Dev nD) : k0_off33 c = ![off 0 4 c, 0] := by revert c; decide
theorem off34 (c : Dev nD) : k0_off34 c = ![off 1 4 c, 0] := by revert c; decide
theorem off35 (c : Dev nD) : k0_off35 c = ![off 2 4 c, 0] := by revert c; decide
theorem off36 (c : Dev nD) : k0_off36 c = ![off 3 4 c, 0] := by revert c; decide
theorem off37 (c : Dev nD) : k0_off37 c = ![off 0 3 c, 0] := by revert c; decide
theorem off38 (c : Dev nD) : k0_off38 c = ![off 1 3 c, 0] := by revert c; decide
theorem off39 (c : Dev nD) : k0_off39 c = ![off 2 3 c, 0] := by revert c; decide
theorem off40 (c : Dev nD) : k0_off40 c = ![off 3 3 c, 0] := by revert c; decide
theorem off41 (c : Dev nD) : k0_off41 c = ![off 0 2 c, 0] := by revert c; decide
theorem off42 (c : Dev nD) : k0_off42 c = ![off 1 2 c, 0] := by revert c; decide
theorem off43 (c : Dev nD) : k0_off43 c = ![off 2 2 c, 0] := by revert c; decide
theorem off44 (c : Dev nD) : k0_off44 c = ![off 3 2 c, 0] := by revert c; decide
theorem off45 (c : Dev nD) : k0_off45 c = ![off 0 1 c, 0] := by revert c; decide
theorem off46 (c : Dev nD) : k0_off46 c = ![off 1 1 c, 0] := by revert c; decide
theorem off47 (c : Dev nD) : k0_off47 c = ![off 2 1 c, 0] := by revert c; decide
theorem off48 (c : Dev nD) : k0_off48 c = ![off 3 1 c, 0] := by revert c; decide

end Cert.Proof

end
-- ==== Proof.Curry.lean ====
/-
  The steps of the exchange in the form the body's run applies them: each hypothesis by itself.
-/
module

public import Idealize.ShloMosaic.Lib.Pointwise.Reshape
public import proofs.«01_k».proof.Proof.Ends
public import proofs.«01_k».proof.Proof.Names

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

theorem CM_of (c : Dev nD) (d p r : Fin 4) (h : dim p r = d) {p' r' : ℕ} (hp : p' = p) (hr : r' = r) : CM (F := F) p' r' (flip d c) ⊢ CM (F := F) p r (flip (dim p r) c) := by
  rw [h, hp, hr]

theorem RowsEq_cast {α : Type} {n a : ℕ} {v : (Blk n).Idx → α} {g : (Blk 1024).Idx → α} {h : (Blk n).ShapeCasts (Blk n)} (hv : RowsEq v a g) : RowsEq (shapeCast (Blk n) v h) a g := by
  rw [shapeCast_id]; exact hv

theorem OW_of {a b : ℕ} (h : a = b) (c : Dev nD) : OW (F := F) a c ⊢ OW (F := F) b c := by rw [h]

section
variable {α : Type} (c : Dev nD) (p r : Fin 4)

theorem st_rs {Q : α → sProp 𝕄} {n : ℕ} (hn : n = sz (r + 1)) {m m' : ℕ} (hm : m = 4 + ix p r) (hm' : m' = 5 + ix p r) {sS sR : DmaSem sig} (hsS : sS = semS (ix p r)) (hsR : sR = semR (ix p r))
    {dv : Dev nD} (hdv : dv = flip (dim p r) c) {o : Fin 2 → ℕ} (ho : o = ![off p (r + 1) (flip (dim p r) c), 0]) {inb} {h₁}
    {o₂ : Fin 2 → ℕ} (ho₂ : o₂ = ![reg p r, 0]) {inb₂} {h₂} {hsc} {hx} {hy} {hz} {kk : PUnit → Prog (TpuEff nD τ sig (Elt F) Λ₀ .tc) α} :
    ctx P K ⊢ iprop(OW (F := F) m c -∗ S0 P p r c -∗ RK (F := F) (ix p r) c -∗ CM (F := F) p r (flip (dim p r) c)
      -∗ ((OW (F := F) m' c ∗ S1 P p r c ∗ W1 (F := F) (ix p r) c) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma (obM.slice (Rect.unit (s := S1024x1024) o ![n, 1024] inb) h₁)
              (.remote (Dev.tc dv) (cmM.slice (Rect.unit (s := S960x1024) o₂ ![n, 1024] inb₂) h₂) (.dma sS) hsc) (.dma sR) hx hy hz) kk) Q) := by
  subst hm hm'
  iintro #Hc H0 H1 H2 H3 Hk
  iapply (wp_rs P K c p r hn hsS hsR hdv ho ho₂) $$ [H0 H1 H2 H3]
  · isplitr; · iexact Hc
    isplitl [H0]; · iexact H0
    isplitl [H1]; · iexact H1
    isplitl [H2]; · iexact H2
    iexact H3
  iexact Hk

theorem st_ag {Q : α → sProp 𝕄} {r' : ℕ} (hr' : r' = r + 1) {n : ℕ} (hn : n = sz (r + 1)) {m m' : ℕ} (hm : m = 4 + ixg p r) (hm' : m' = 5 + ixg p r) {sS sR : DmaSem sig} (hsS : sS = semS (ixg p r)) (hsR : sR = semR (ixg p r))
    {dv : Dev nD} (hdv : dv = flip (dim p r) c) {o : Fin 2 → ℕ} (ho : o = ![off p (r + 1) c, 0]) {inb} {h₁} {inb₂} {h₂} {hsc} {hx} {hy} {hz} {kk : PUnit → Prog (TpuEff nD τ sig (Elt F) Λ₀ .tc) α} :
    ctx P K ⊢ iprop(OW (F := F) m c -∗ T0 P p r' c -∗ RK (F := F) (ixg p r) c -∗ OQ (F := F) p r c
      -∗ ((OW (F := F) m' c ∗ W1 (F := F) (ixg p r) c) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma (obM.slice (Rect.unit (s := S1024x1024) o ![n, 1024] inb) h₁)
              (.remote (Dev.tc dv) (obM.slice (Rect.unit (s := S1024x1024) o ![n, 1024] inb₂) h₂) (.dma sS) hsc) (.dma sR) hx hy hz) kk) Q) := by
  subst hm hm'
  iintro #Hc H0 H1 H2 H3 Hk
  iapply (wp_ag P K c p r hr' hn hsS hsR hdv ho) $$ [H0 H1 H2 H3]
  · isplitr; · iexact Hc
    isplitl [H0]; · iexact H0
    isplitl [H1]; · iexact H1
    isplitl [H2]; · iexact H2
    iexact H3
  iexact Hk

theorem st_rs_sent {Q : α → sProp 𝕄} {n : ℕ} (hn : (ix p r).val + 4 < n) {s : DmaSem sig} (hs : s = semS (ix p r))
    {sp sp' : Space} {sh sh' : Shape} {e e' : EltTy} {src : Memref sig .tc sp' sh' e'} {dst : Memref sig .tc sp sh e} {hx : src.view.WordExact} {hy : dst.view.WordExact} (hN : dst.view.dmaCredit = amt (ix p r)) {kk : PUnit → Prog (TpuEff nD τ sig (Elt F) Λ₀ .tc) α} :
    ctx P K ⊢ iprop(OW (F := F) n c -∗ W1 (F := F) (ix p r) c
      -∗ ((OW (F := F) n c ∗ W2 (F := F) (ix p r) c) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s src dst hx hy) kk) Q) := by
  iintro #Hc H0 H1 Hk
  iapply (wp_rs_sent P K c p r hn hs hN) $$ [H0 H1]
  · isplitr; · iexact Hc
    isplitl [H0]; · iexact H0
    iexact H1
  iexact Hk

theorem st_rs_landed {Q : α → sProp 𝕄} {n : ℕ} (hn : (ix p r).val + 4 < n) {s : DmaSem sig} (hs : s = semR (ix p r))
    {sp sp' : Space} {sh sh' : Shape} {e e' : EltTy} {src : Memref sig .tc sp' sh' e'} {dst : Memref sig .tc sp sh e} {hx : src.view.WordExact} {hy : dst.view.WordExact} (hN : dst.view.dmaCredit = amt (ix p r)) {kk : PUnit → Prog (TpuEff nD τ sig (Elt F) Λ₀ .tc) α} :
    ctx P K ⊢ iprop(OW (F := F) n c -∗ W2 (F := F) (ix p r) c
      -∗ ((OW (F := F) n c ∗ DK (F := F) (ix p r) c ∗ CMs P p r c ∗ OQ (F := F) p r c) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s src dst hx hy) kk) Q) := by
  iintro #Hc H0 H1 Hk
  iapply (wp_rs_landed P K c p r hn hs hN) $$ [H0 H1]
  · isplitr; · iexact Hc
    isplitl [H0]; · iexact H0
    iexact H1
  iexact Hk

theorem st_ag_sent {Q : α → sProp 𝕄} {r' : ℕ} (hr' : r' = r + 1) {n : ℕ} (hn : (ixg p r).val + 4 < n) {s : DmaSem sig} (hs : s = semS (ixg p r))
    {sp sp' : Space} {sh sh' : Shape} {e e' : EltTy} {src : Memref sig .tc sp' sh' e'} {dst : Memref sig .tc sp sh e} {hx : src.view.WordExact} {hy : dst.view.WordExact} (hN : dst.view.dmaCredit = amt (ixg p r)) {kk : PUnit → Prog (TpuEff nD τ sig (Elt F) Λ₀ .tc) α} :
    ctx P K ⊢ iprop(OW (F := F) n c -∗ W1 (F := F) (ixg p r) c
      -∗ ((OW (F := F) n c ∗ W2 (F := F) (ixg p r) c ∗ T0 P p r' c) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s src dst hx hy) kk) Q) := by
  iintro #Hc H0 H1 Hk
  iapply (wp_ag_sent P K c p r hr' hn hs hN) $$ [H0 H1]
  · isplitr; · iexact Hc
    isplitl [H0]; · iexact H0
    iexact H1
  iexact Hk

theorem st_ag_landed {Q : α → sProp 𝕄} {r' : ℕ} (hr' : r' = r + 1) {n : ℕ} (hn : (ixg p r).val + 4 < n) {s : DmaSem sig} (hs : s = semR (ixg p r))
    {sp sp' : Space} {sh sh' : Shape} {e e' : EltTy} {src : Memref sig .tc sp' sh' e'} {dst : Memref sig .tc sp sh e} {hx : src.view.WordExact} {hy : dst.view.WordExact} (hN : dst.view.dmaCredit = amt (ixg p r)) {kk : PUnit → Prog (TpuEff nD τ sig (Elt F) Λ₀ .tc) α} :
    ctx P K ⊢ iprop(OW (F := F) n c -∗ W2 (F := F) (ixg p r) c -∗ T0 P p r' c
      -∗ ((OW (F := F) n c ∗ DK (F := F) (ixg p r) c ∗ T0 P p r c) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s src dst hx hy) kk) Q) := by
  iintro #Hc H0 H1 H2 Hk
  iapply (wp_ag_landed P K c p r hr' hn hs hN) $$ [H0 H1 H2]
  · isplitr; · iexact Hc
    isplitl [H0]; · iexact H0
    isplitl [H1]; · iexact H1
    iexact H2
  iexact Hk

theorem st_bar {Q : α → sProp 𝕄} {m m' : ℕ} (hm : m = p) (hm' : m' = p + 1) {nd : Dev nD} (hnd : nd = flip p c) {s : Sem sig} (hs : s = barS) {n : ℤ} (hn : n = ((1 : ℕ) : ℤ)) {kk : PUnit → Prog (TpuEff nD τ sig (Elt F) Λ₀ .tc) α} :
    ctx P K ⊢ iprop(OW (F := F) m c -∗ BS (F := F) p c
      -∗ ((OW (F := F) m' c) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (nd : Thread nD τ) s n) kk) Q) := by
  subst hm
  iintro #Hc H0 H1 Hk
  iapply (wp_bar P K c p hm' hnd hs hn) $$ [H0 H1]
  · isplitr; · iexact Hc
    isplitl [H0]; · iexact H0
    iexact H1
  iexact Hk

theorem st_barw {Q : α → sProp 𝕄} {s : Sem sig} (hs : s = barS) {n : ℤ} (hn : n = ((4 : ℕ) : ℤ)) {kk : PUnit → Prog (TpuEff nD τ sig (Elt F) Λ₀ .tc) α} :
    ctx P K ⊢ iprop(OW (F := F) 4 c -∗ BW (F := F) c
      -∗ ((OW (F := F) 4 c ∗ BD (F := F) c ∗ barPay (F := F) c (0 : Fin 4) ∗ barPay (F := F) c (1 : Fin 4) ∗ barPay (F := F) c (2 : Fin 4) ∗ barPay (F := F) c (3 : Fin 4)) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait s n) kk) Q) := by
  iintro #Hc H0 H1 Hk
  iapply (wp_barw P K c hs hn) $$ [H0 H1]
  · isplitr; · iexact Hc
    isplitl [H0]; · iexact H0
    iexact H1
  iexact Hk

theorem st_dev {Q : α → sProp 𝕄} {kk : Dev nD → Prog (TpuEff nD τ sig (Elt F) Λ₀ .tc) α} :
    wp frame (wpE (defs₀ (F := F)) 𝒱₀ (c : Thread nD τ) none) Set.univ (kk c) Q ⊢ wp frame (wpE (defs₀ (F := F)) 𝒱₀ (c : Thread nD τ) none) Set.univ (.op .deviceId kk) Q := by
  rw [wp_deviceId]

end

end Cert.Proof

end
-- ==== Proof.Vals.lean ====
/-
  The values that a device computes from its inputs, named after the lines of the kernel that give them; `Sum p` is what it stores as its
  own partial sums of part `p`.
-/
module

public import proofs.«01_k».proof.Proof.Ends

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

def V87 (i : Ins F) : FVec F S256x1024 .f32 := k0_pay4 (stM0.view.readAt (Elt F) (Rect.unit (s := S1024x1024) ![0, 0] S64x1024.size inb_S1024x1024_S64x1024_0_0).toLoadRect i.x) (stM0.view.readAt (Elt F) (Rect.unit (s := S1024x1024) ![256, 0] S64x1024.size inb_S1024x1024_S64x1024_256_0).toLoadRect i.x) (stM0.view.readAt (Elt F) (Rect.unit (s := S1024x1024) ![512, 0] S64x1024.size inb_S1024x1024_S64x1024_512_0).toLoadRect i.x) (stM0.view.readAt (Elt F) (Rect.unit (s := S1024x1024) ![768, 0] S64x1024.size inb_S1024x1024_S64x1024_768_0).toLoadRect i.x) (stM1.view.readAt (Elt F) (Rect.unit (s := S1024x1024) ![0, 0] S1024x1024.size inb_S1024x1024_S1024x1024_0_0).toLoadRect i.wq)
def V96 (i : Ins F) : FVec F S256x128 .f32 := k0_pay5 (stM2.view.readAt (Elt F) (Rect.unit (s := S8x1024x128) ![0, 0, 0] S1x64x128.size inb_S8x1024x128_S1x64x128_0_0_0).toLoadRect i.k) (stM2.view.readAt (Elt F) (Rect.unit (s := S8x1024x128) ![0, 256, 0] S1x64x128.size inb_S8x1024x128_S1x64x128_0_256_0).toLoadRect i.k) (stM2.view.readAt (Elt F) (Rect.unit (s := S8x1024x128) ![0, 512, 0] S1x64x128.size inb_S8x1024x128_S1x64x128_0_512_0).toLoadRect i.k) (stM2.view.readAt (Elt F) (Rect.unit (s := S8x1024x128) ![0, 768, 0] S1x64x128.size inb_S8x1024x128_S1x64x128_0_768_0).toLoadRect i.k)
def V98 (i : Ins F) : FVec F S64x128 .f32 := k0_pay6 (stM3.view.readAt (Elt F) (Rect.unit (s := S8x1024x128) ![0, 0, 0] S1x64x128.size inb_S8x1024x128_S1x64x128_0_0_0).toLoadRect i.v)
def V120 (i : Ins F) : FVec F S256x128 .f32 := k0_pay7 (V87 i) (V96 i) (V98 i) (stM3.view.readAt (Elt F) (Rect.unit (s := S8x1024x128) ![0, 256, 0] S1x64x128.size inb_S8x1024x128_S1x64x128_0_256_0).toLoadRect i.v) (stM3.view.readAt (Elt F) (Rect.unit (s := S8x1024x128) ![0, 512, 0] S1x64x128.size inb_S8x1024x128_S1x64x128_0_512_0).toLoadRect i.v) (stM3.view.readAt (Elt F) (Rect.unit (s := S8x1024x128) ![0, 768, 0] S1x64x128.size inb_S8x1024x128_S1x64x128_0_768_0).toLoadRect i.v)
def V129 (i : Ins F) : FVec F S256x128 .f32 := k0_pay8 (stM2.view.readAt (Elt F) (Rect.unit (s := S8x1024x128) ![1, 0, 0] S1x64x128.size inb_S8x1024x128_S1x64x128_1_0_0).toLoadRect i.k) (stM2.view.readAt (Elt F) (Rect.unit (s := S8x1024x128) ![1, 256, 0] S1x64x128.size inb_S8x1024x128_S1x64x128_1_256_0).toLoadRect i.k) (stM2.view.readAt (Elt F) (Rect.unit (s := S8x1024x128) ![1, 512, 0] S1x64x128.size inb_S8x1024x128_S1x64x128_1_512_0).toLoadRect i.k) (stM2.view.readAt (Elt F) (Rect.unit (s := S8x1024x128) ![1, 768, 0] S1x64x128.size inb_S8x1024x128_S1x64x128_1_768_0).toLoadRect i.k)
def V153 (i : Ins F) : FVec F S256x128 .f32 := k0_pay9 (V87 i) (V129 i) (stM3.view.readAt (Elt F) (Rect.unit (s := S8x1024x128) ![1, 0, 0] S1x64x128.size inb_S8x1024x128_S1x64x128_1_0_0).toLoadRect i.v) (stM3.view.readAt (Elt F) (Rect.unit (s := S8x1024x128) ![1, 256, 0] S1x64x128.size inb_S8x1024x128_S1x64x128_1_256_0).toLoadRect i.v) (stM3.view.readAt (Elt F) (Rect.unit (s := S8x1024x128) ![1, 512, 0] S1x64x128.size inb_S8x1024x128_S1x64x128_1_512_0).toLoadRect i.v) (stM3.view.readAt (Elt F) (Rect.unit (s := S8x1024x128) ![1, 768, 0] S1x64x128.size inb_S8x1024x128_S1x64x128_1_768_0).toLoadRect i.v)
def V162 (i : Ins F) : FVec F S256x128 .f32 := k0_pay10 (stM2.view.readAt (Elt F) (Rect.unit (s := S8x1024x128) ![2, 0, 0] S1x64x128.size inb_S8x1024x128_S1x64x128_2_0_0).toLoadRect i.k) (stM2.view.readAt (Elt F) (Rect.unit (s := S8x1024x128) ![2, 256, 0] S1x64x128.size inb_S8x1024x128_S1x64x128_2_256_0).toLoadRect i.k) (stM2.view.readAt (Elt F) (Rect.unit (s := S8x1024x128) ![2, 512, 0] S1x64x128.size inb_S8x1024x128_S1x64x128_2_512_0).toLoadRect i.k) (stM2.view.readAt (Elt F) (Rect.unit (s := S8x1024x128) ![2, 768, 0] S1x64x128.size inb_S8x1024x128_S1x64x128_2_768_0).toLoadRect i.k)
def V186 (i : Ins F) : FVec F S256x128 .f32 := k0_pay11 (V87 i) (V162 i) (stM3.view.readAt (Elt F) (Rect.unit (s := S8x1024x128) ![2, 0, 0] S1x64x128.size inb_S8x1024x128_S1x64x128_2_0_0).toLoadRect i.v) (stM3.view.readAt (Elt F) (Rect.unit (s := S8x1024x128) ![2, 256, 0] S1x64x128.size inb_S8x1024x128_S1x64x128_2_256_0).toLoadRect i.v) (stM3.view.readAt (Elt F) (Rect.unit (s := S8x1024x128) ![2, 512, 0] S1x64x128.size inb_S8x1024x128_S1x64x128_2_512_0).toLoadRect i.v) (stM3.view.readAt (Elt F) (Rect.unit (s := S8x1024x128) ![2, 768, 0] S1x64x128.size inb_S8x1024x128_S1x64x128_2_768_0).toLoadRect i.v)
def V188 (i : Ins F) : FVec F S64x128 .f32 := k0_pay12 (stM2.view.readAt (Elt F) (Rect.unit (s := S8x1024x128) ![3, 0, 0] S1x64x128.size inb_S8x1024x128_S1x64x128_3_0_0).toLoadRect i.k)
def V190 (i : Ins F) : FVec F S64x128 .f32 := k0_pay13 (stM2.view.readAt (Elt F) (Rect.unit (s := S8x1024x128) ![3, 256, 0] S1x64x128.size inb_S8x1024x128_S1x64x128_3_256_0).toLoadRect i.k)
def V192 (i : Ins F) : FVec F S64x128 .f32 := k0_pay14 (stM2.view.readAt (Elt F) (Rect.unit (s := S8x1024x128) ![3, 512, 0] S1x64x128.size inb_S8x1024x128_S1x64x128_3_512_0).toLoadRect i.k)
def V194 (i : Ins F) : FVec F S64x128 .f32 := k0_pay15 (stM2.view.readAt (Elt F) (Rect.unit (s := S8x1024x128) ![3, 768, 0] S1x64x128.size inb_S8x1024x128_S1x64x128_3_768_0).toLoadRect i.k)
def V219 (i : Ins F) : FVec F S256x128 .f32 := k0_pay16 (V87 i) (V188 i) (V190 i) (V192 i) (V194 i) (stM3.view.readAt (Elt F) (Rect.unit (s := S8x1024x128) ![3, 0, 0] S1x64x128.size inb_S8x1024x128_S1x64x128_3_0_0).toLoadRect i.v) (stM3.view.readAt (Elt F) (Rect.unit (s := S8x1024x128) ![3, 256, 0] S1x64x128.size inb_S8x1024x128_S1x64x128_3_256_0).toLoadRect i.v) (stM3.view.readAt (Elt F) (Rect.unit (s := S8x1024x128) ![3, 512, 0] S1x64x128.size inb_S8x1024x128_S1x64x128_3_512_0).toLoadRect i.v) (stM3.view.readAt (Elt F) (Rect.unit (s := S8x1024x128) ![3, 768, 0] S1x64x128.size inb_S8x1024x128_S1x64x128_3_768_0).toLoadRect i.v)
def V221 (i : Ins F) : FVec F S64x128 .f32 := k0_pay17 (stM2.view.readAt (Elt F) (Rect.unit (s := S8x1024x128) ![4, 0, 0] S1x64x128.size inb_S8x1024x128_S1x64x128_4_0_0).toLoadRect i.k)
def V223 (i : Ins F) : FVec F S64x128 .f32 := k0_pay18 (stM2.view.readAt (Elt F) (Rect.unit (s := S8x1024x128) ![4, 256, 0] S1x64x128.size inb_S8x1024x128_S1x64x128_4_256_0).toLoadRect i.k)
def V225 (i : Ins F) : FVec F S64x128 .f32 := k0_pay19 (stM2.view.readAt (Elt F) (Rect.unit (s := S8x1024x128) ![4, 512, 0] S1x64x128.size inb_S8x1024x128_S1x64x128_4_512_0).toLoadRect i.k)
def V252 (i : Ins F) : FVec F S256x128 .f32 := k0_pay20 (V87 i) (V221 i) (V223 i) (V225 i) (stM2.view.readAt (Elt F) (Rect.unit (s := S8x1024x128) ![4, 768, 0] S1x64x128.size inb_S8x1024x128_S1x64x128_4_768_0).toLoadRect i.k) (stM3.view.readAt (Elt F) (Rect.unit (s := S8x1024x128) ![4, 0, 0] S1x64x128.size inb_S8x1024x128_S1x64x128_4_0_0).toLoadRect i.v) (stM3.view.readAt (Elt F) (Rect.unit (s := S8x1024x128) ![4, 256, 0] S1x64x128.size inb_S8x1024x128_S1x64x128_4_256_0).toLoadRect i.v) (stM3.view.readAt (Elt F) (Rect.unit (s := S8x1024x128) ![4, 512, 0] S1x64x128.size inb_S8x1024x128_S1x64x128_4_512_0).toLoadRect i.v) (stM3.view.readAt (Elt F) (Rect.unit (s := S8x1024x128) ![4, 768, 0] S1x64x128.size inb_S8x1024x128_S1x64x128_4_768_0).toLoadRect i.v)
def V254 (i : Ins F) : FVec F S64x128 .f32 := k0_pay21 (stM2.view.readAt (Elt F) (Rect.unit (s := S8x1024x128) ![5, 0, 0] S1x64x128.size inb_S8x1024x128_S1x64x128_5_0_0).toLoadRect i.k)
def V256 (i : Ins F) : FVec F S64x128 .f32 := k0_pay22 (stM2.view.readAt (Elt F) (Rect.unit (s := S8x1024x128) ![5, 256, 0] S1x64x128.size inb_S8x1024x128_S1x64x128_5_256_0).toLoadRect i.k)
def V258 (i : Ins F) : FVec F S64x128 .f32 := k0_pay23 (stM2.view.readAt (Elt F) (Rect.unit (s := S8x1024x128) ![5, 512, 0] S1x64x128.size inb_S8x1024x128_S1x64x128_5_512_0).toLoadRect i.k)
def V285 (i : Ins F) : FVec F S256x128 .f32 := k0_pay24 (V87 i) (V254 i) (V256 i) (V258 i) (stM2.view.readAt (Elt F) (Rect.unit (s := S8x1024x128) ![5, 768, 0] S1x64x128.size inb_S8x1024x128_S1x64x128_5_768_0).toLoadRect i.k) (stM3.view.readAt (Elt F) (Rect.unit (s := S8x1024x128) ![5, 0, 0] S1x64x128.size inb_S8x1024x128_S1x64x128_5_0_0).toLoadRect i.v) (stM3.view.readAt (Elt F) (Rect.unit (s := S8x1024x128) ![5, 256, 0] S1x64x128.size inb_S8x1024x128_S1x64x128_5_256_0).toLoadRect i.v) (stM3.view.readAt (Elt F) (Rect.unit (s := S8x1024x128) ![5, 512, 0] S1x64x128.size inb_S8x1024x128_S1x64x128_5_512_0).toLoadRect i.v) (stM3.view.readAt (Elt F) (Rect.unit (s := S8x1024x128) ![5, 768, 0] S1x64x128.size inb_S8x1024x128_S1x64x128_5_768_0).toLoadRect i.v)
def V287 (i : Ins F) : FVec F S64x128 .f32 := k0_pay25 (stM2.view.readAt (Elt F) (Rect.unit (s := S8x1024x128) ![6, 0, 0] S1x64x128.size inb_S8x1024x128_S1x64x128_6_0_0).toLoadRect i.k)
def V289 (i : Ins F) : FVec F S64x128 .f32 := k0_pay26 (stM2.view.readAt (Elt F) (Rect.unit (s := S8x1024x128) ![6, 256, 0] S1x64x128.size inb_S8x1024x128_S1x64x128_6_256_0).toLoadRect i.k)
def V290 (i : Ins F) : Vec F S1x64x128 .f32 := (stM2.view.readAt (Elt F) (Rect.unit (s := S8x1024x128) ![6, 512, 0] S1x64x128.size inb_S8x1024x128_S1x64x128_6_512_0).toLoadRect i.k)
def V318 (i : Ins F) : FVec F S256x128 .f32 := k0_pay27 (V87 i) (V287 i) (V289 i) (V290 i) (stM2.view.readAt (Elt F) (Rect.unit (s := S8x1024x128) ![6, 768, 0] S1x64x128.size inb_S8x1024x128_S1x64x128_6_768_0).toLoadRect i.k) (stM3.view.readAt (Elt F) (Rect.unit (s := S8x1024x128) ![6, 0, 0] S1x64x128.size inb_S8x1024x128_S1x64x128_6_0_0).toLoadRect i.v) (stM3.view.readAt (Elt F) (Rect.unit (s := S8x1024x128) ![6, 256, 0] S1x64x128.size inb_S8x1024x128_S1x64x128_6_256_0).toLoadRect i.v) (stM3.view.readAt (Elt F) (Rect.unit (s := S8x1024x128) ![6, 512, 0] S1x64x128.size inb_S8x1024x128_S1x64x128_6_512_0).toLoadRect i.v) (stM3.view.readAt (Elt F) (Rect.unit (s := S8x1024x128) ![6, 768, 0] S1x64x128.size inb_S8x1024x128_S1x64x128_6_768_0).toLoadRect i.v)
def V320 (i : Ins F) : FVec F S64x128 .f32 := k0_pay28 (stM2.view.readAt (Elt F) (Rect.unit (s := S8x1024x128) ![7, 0, 0] S1x64x128.size inb_S8x1024x128_S1x64x128_7_0_0).toLoadRect i.k)
def V322 (i : Ins F) : FVec F S64x128 .f32 := k0_pay29 (stM2.view.readAt (Elt F) (Rect.unit (s := S8x1024x128) ![7, 256, 0] S1x64x128.size inb_S8x1024x128_S1x64x128_7_256_0).toLoadRect i.k)
def V355 (i : Ins F) : FVec F S256x1024 .f32 := (k0_pay30 (V87 i) (V120 i) (V153 i) (V186 i) (V219 i) (V252 i) (V285 i) (V318 i) (V320 i) (V322 i) (stM2.view.readAt (Elt F) (Rect.unit (s := S8x1024x128) ![7, 512, 0] S1x64x128.size inb_S8x1024x128_S1x64x128_7_512_0).toLoadRect i.k) (stM2.view.readAt (Elt F) (Rect.unit (s := S8x1024x128) ![7, 768, 0] S1x64x128.size inb_S8x1024x128_S1x64x128_7_768_0).toLoadRect i.k) (stM3.view.readAt (Elt F) (Rect.unit (s := S8x1024x128) ![7, 0, 0] S1x64x128.size inb_S8x1024x128_S1x64x128_7_0_0).toLoadRect i.v) (stM3.view.readAt (Elt F) (Rect.unit (s := S8x1024x128) ![7, 256, 0] S1x64x128.size inb_S8x1024x128_S1x64x128_7_256_0).toLoadRect i.v) (stM3.view.readAt (Elt F) (Rect.unit (s := S8x1024x128) ![7, 512, 0] S1x64x128.size inb_S8x1024x128_S1x64x128_7_512_0).toLoadRect i.v) (stM3.view.readAt (Elt F) (Rect.unit (s := S8x1024x128) ![7, 768, 0] S1x64x128.size inb_S8x1024x128_S1x64x128_7_768_0).toLoadRect i.v) (stM4.view.readAt (Elt F) (Rect.unit (s := S1024x1024) ![0, 0] S1024x1024.size inb_S1024x1024_S1024x1024_0_0).toLoadRect i.wo))
def Sum0 (i : Ins F) : FVec F S256x1024 .f32 := (V355 i)
def V385 (i : Ins F) : FVec F S256x1024 .f32 := k0_pay32 (stM0.view.readAt (Elt F) (Rect.unit (s := S1024x1024) ![64, 0] S64x1024.size inb_S1024x1024_S64x1024_64_0).toLoadRect i.x) (stM0.view.readAt (Elt F) (Rect.unit (s := S1024x1024) ![320, 0] S64x1024.size inb_S1024x1024_S64x1024_320_0).toLoadRect i.x) (stM0.view.readAt (Elt F) (Rect.unit (s := S1024x1024) ![576, 0] S64x1024.size inb_S1024x1024_S64x1024_576_0).toLoadRect i.x) (stM0.view.readAt (Elt F) (Rect.unit (s := S1024x1024) ![832, 0] S64x1024.size inb_S1024x1024_S64x1024_832_0).toLoadRect i.x) (stM1.view.readAt (Elt F) (Rect.unit (s := S1024x1024) ![0, 0] S1024x1024.size inb_S1024x1024_S1024x1024_0_0).toLoadRect i.wq)
def V418 (i : Ins F) : FVec F S256x128 .f32 := (k0_pay33 (V385 i) (stM2.view.readAt (Elt F) (Rect.unit (s := S8x1024x128) ![0, 64, 0] S1x64x128.size inb_S8x1024x128_S1x64x128_0_64_0).toLoadRect i.k) (stM2.view.readAt (Elt F) (Rect.unit (s := S8x1024x128) ![0, 320, 0] S1x64x128.size inb_S8x1024x128_S1x64x128_0_320_0).toLoadRect i.k) (stM2.view.readAt (Elt F) (Rect.unit (s := S8x1024x128) ![0, 576, 0] S1x64x128.size inb_S8x1024x128_S1x64x128_0_576_0).toLoadRect i.k) (stM2.view.readAt (Elt F) (Rect.unit (s := S8x1024x128) ![0, 832, 0] S1x64x128.size inb_S8x1024x128_S1x64x128_0_832_0).toLoadRect i.k) (stM3.view.readAt (Elt F) (Rect.unit (s := S8x1024x128) ![0, 64, 0] S1x64x128.size inb_S8x1024x128_S1x64x128_0_64_0).toLoadRect i.v) (stM3.view.readAt (Elt F) (Rect.unit (s := S8x1024x128) ![0, 320, 0] S1x64x128.size inb_S8x1024x128_S1x64x128_0_320_0).toLoadRect i.v) (stM3.view.readAt (Elt F) (Rect.unit (s := S8x1024x128) ![0, 576, 0] S1x64x128.size inb_S8x1024x128_S1x64x128_0_576_0).toLoadRect i.v) (stM3.view.readAt (Elt F) (Rect.unit (s := S8x1024x128) ![0, 832, 0] S1x64x128.size inb_S8x1024x128_S1x64x128_0_832_0).toLoadRect i.v))
def V436 (i : Ins F) : FVec F S256x128 .f32 := k0_pay34 (stM3.view.readAt (Elt F) (Rect.unit (s := S8x1024x128) ![1, 64, 0] S1x64x128.size inb_S8x1024x128_S1x64x128_1_64_0).toLoadRect i.v) (stM3.view.readAt (Elt F) (Rect.unit (s := S8x1024x128) ![1, 320, 0] S1x64x128.size inb_S8x1024x128_S1x64x128_1_320_0).toLoadRect i.v) (stM3.view.readAt (Elt F) (Rect.unit (s := S8x1024x128) ![1, 576, 0] S1x64x128.size inb_S8x1024x128_S1x64x128_1_576_0).toLoadRect i.v) (stM3.view.readAt (Elt F) (Rect.unit (s := S8x1024x128) ![1, 832, 0] S1x64x128.size inb_S8x1024x128_S1x64x128_1_832_0).toLoadRect i.v)
def V450 (i : Ins F) : FVec F S256x256 .f32 := k0_pay35 (V385 i) (stM2.view.readAt (Elt F) (Rect.unit (s := S8x1024x128) ![1, 64, 0] S1x64x128.size inb_S8x1024x128_S1x64x128_1_64_0).toLoadRect i.k) (stM2.view.readAt (Elt F) (Rect.unit (s := S8x1024x128) ![1, 320, 0] S1x64x128.size inb_S8x1024x128_S1x64x128_1_320_0).toLoadRect i.k) (stM2.view.readAt (Elt F) (Rect.unit (s := S8x1024x128) ![1, 576, 0] S1x64x128.size inb_S8x1024x128_S1x64x128_1_576_0).toLoadRect i.k) (stM2.view.readAt (Elt F) (Rect.unit (s := S8x1024x128) ![1, 832, 0] S1x64x128.size inb_S8x1024x128_S1x64x128_1_832_0).toLoadRect i.k)
def Vst_354 (i : Ins F) : FVec F S256x128 .f32 := (constant S256x128 .f32 0x00000000#32)
def V451 (i : Ins F) : FVec F S256x128 .f32 := k0_pay36 (V436 i) (V450 i) (Vst_354 i)
def V469 (i : Ins F) : FVec F S256x128 .f32 := k0_pay37 (stM3.view.readAt (Elt F) (Rect.unit (s := S8x1024x128) ![2, 64, 0] S1x64x128.size inb_S8x1024x128_S1x64x128_2_64_0).toLoadRect i.v) (stM3.view.readAt (Elt F) (Rect.unit (s := S8x1024x128) ![2, 320, 0] S1x64x128.size inb_S8x1024x128_S1x64x128_2_320_0).toLoadRect i.v) (stM3.view.readAt (Elt F) (Rect.unit (s := S8x1024x128) ![2, 576, 0] S1x64x128.size inb_S8x1024x128_S1x64x128_2_576_0).toLoadRect i.v) (stM3.view.readAt (Elt F) (Rect.unit (s := S8x1024x128) ![2, 832, 0] S1x64x128.size inb_S8x1024x128_S1x64x128_2_832_0).toLoadRect i.v)
def V479 (i : Ins F) : FVec F S256x256 .f32 := k0_pay38 (V385 i) (stM2.view.readAt (Elt F) (Rect.unit (s := S8x1024x128) ![2, 64, 0] S1x64x128.size inb_S8x1024x128_S1x64x128_2_64_0).toLoadRect i.k) (stM2.view.readAt (Elt F) (Rect.unit (s := S8x1024x128) ![2, 320, 0] S1x64x128.size inb_S8x1024x128_S1x64x128_2_320_0).toLoadRect i.k) (stM2.view.readAt (Elt F) (Rect.unit (s := S8x1024x128) ![2, 576, 0] S1x64x128.size inb_S8x1024x128_S1x64x128_2_576_0).toLoadRect i.k) (stM2.view.readAt (Elt F) (Rect.unit (s := S8x1024x128) ![2, 832, 0] S1x64x128.size inb_S8x1024x128_S1x64x128_2_832_0).toLoadRect i.k)
def V482 (i : Ins F) : FVec F S256x256 .f32 := k0_pay39 (V385 i) (stM2.view.readAt (Elt F) (Rect.unit (s := S8x1024x128) ![2, 64, 0] S1x64x128.size inb_S8x1024x128_S1x64x128_2_64_0).toLoadRect i.k) (stM2.view.readAt (Elt F) (Rect.unit (s := S8x1024x128) ![2, 320, 0] S1x64x128.size inb_S8x1024x128_S1x64x128_2_320_0).toLoadRect i.k) (stM2.view.readAt (Elt F) (Rect.unit (s := S8x1024x128) ![2, 576, 0] S1x64x128.size inb_S8x1024x128_S1x64x128_2_576_0).toLoadRect i.k) (stM2.view.readAt (Elt F) (Rect.unit (s := S8x1024x128) ![2, 832, 0] S1x64x128.size inb_S8x1024x128_S1x64x128_2_832_0).toLoadRect i.k)
def V484 (i : Ins F) : FVec F S256x128 .f32 := k0_pay40 (V469 i) (V479 i) (V482 i)
def V502 (i : Ins F) : FVec F S256x128 .f32 := k0_pay41 (stM3.view.readAt (Elt F) (Rect.unit (s := S8x1024x128) ![3, 64, 0] S1x64x128.size inb_S8x1024x128_S1x64x128_3_64_0).toLoadRect i.v) (stM3.view.readAt (Elt F) (Rect.unit (s := S8x1024x128) ![3, 320, 0] S1x64x128.size inb_S8x1024x128_S1x64x128_3_320_0).toLoadRect i.v) (stM3.view.readAt (Elt F) (Rect.unit (s := S8x1024x128) ![3, 576, 0] S1x64x128.size inb_S8x1024x128_S1x64x128_3_576_0).toLoadRect i.v) (stM3.view.readAt (Elt F) (Rect.unit (s := S8x1024x128) ![3, 832, 0] S1x64x128.size inb_S8x1024x128_S1x64x128_3_832_0).toLoadRect i.v)
def V512 (i : Ins F) : FVec F S256x256 .f32 := k0_pay42 (V385 i) (stM2.view.readAt (Elt F) (Rect.unit (s := S8x1024x128) ![3, 64, 0] S1x64x128.size inb_S8x1024x128_S1x64x128_3_64_0).toLoadRect i.k) (stM2.view.readAt (Elt F) (Rect.unit (s := S8x1024x128) ![3, 320, 0] S1x64x128.size inb_S8x1024x128_S1x64x128_3_320_0).toLoadRect i.k) (stM2.view.readAt (Elt F) (Rect.unit (s := S8x1024x128) ![3, 576, 0] S1x64x128.size inb_S8x1024x128_S1x64x128_3_576_0).toLoadRect i.k) (stM2.view.readAt (Elt F) (Rect.unit (s := S8x1024x128) ![3, 832, 0] S1x64x128.size inb_S8x1024x128_S1x64x128_3_832_0).toLoadRect i.k)
def V513 (i : Ins F) : FVec F S256 .f32 := k0_pay43 (V385 i) (stM2.view.readAt (Elt F) (Rect.unit (s := S8x1024x128) ![3, 64, 0] S1x64x128.size inb_S8x1024x128_S1x64x128_3_64_0).toLoadRect i.k) (stM2.view.readAt (Elt F) (Rect.unit (s := S8x1024x128) ![3, 320, 0] S1x64x128.size inb_S8x1024x128_S1x64x128_3_320_0).toLoadRect i.k) (stM2.view.readAt (Elt F) (Rect.unit (s := S8x1024x128) ![3, 576, 0] S1x64x128.size inb_S8x1024x128_S1x64x128_3_576_0).toLoadRect i.k) (stM2.view.readAt (Elt F) (Rect.unit (s := S8x1024x128) ![3, 832, 0] S1x64x128.size inb_S8x1024x128_S1x64x128_3_832_0).toLoadRect i.k)
def V517 (i : Ins F) : FVec F S256x128 .f32 := k0_pay44 (V502 i) (V512 i) (V513 i)
def V535 (i : Ins F) : FVec F S256x128 .f32 := k0_pay45 (stM3.view.readAt (Elt F) (Rect.unit (s := S8x1024x128) ![4, 64, 0] S1x64x128.size inb_S8x1024x128_S1x64x128_4_64_0).toLoadRect i.v) (stM3.view.readAt (Elt F) (Rect.unit (s := S8x1024x128) ![4, 320, 0] S1x64x128.size inb_S8x1024x128_S1x64x128_4_320_0).toLoadRect i.v) (stM3.view.readAt (Elt F) (Rect.unit (s := S8x1024x128) ![4, 576, 0] S1x64x128.size inb_S8x1024x128_S1x64x128_4_576_0).toLoadRect i.v) (stM3.view.readAt (Elt F) (Rect.unit (s := S8x1024x128) ![4, 832, 0] S1x64x128.size inb_S8x1024x128_S1x64x128_4_832_0).toLoadRect i.v)
def V545 (i : Ins F) : FVec F S256x256 .f32 := k0_pay46 (V385 i) (stM2.view.readAt (Elt F) (Rect.unit (s := S8x1024x128) ![4, 64, 0] S1x64x128.size inb_S8x1024x128_S1x64x128_4_64_0).toLoadRect i.k) (stM2.view.readAt (Elt F) (Rect.unit (s := S8x1024x128) ![4, 320, 0] S1x64x128.size inb_S8x1024x128_S1x64x128_4_320_0).toLoadRect i.k) (stM2.view.readAt (Elt F) (Rect.unit (s := S8x1024x128) ![4, 576, 0] S1x64x128.size inb_S8x1024x128_S1x64x128_4_576_0).toLoadRect i.k) (stM2.view.readAt (Elt F) (Rect.unit (s := S8x1024x128) ![4, 832, 0] S1x64x128.size inb_S8x1024x128_S1x64x128_4_832_0).toLoadRect i.k)
def V550 (i : Ins F) : FVec F S256x128 .f32 := k0_pay47 (V535 i) (V545 i)
def V568 (i : Ins F) : FVec F S256x128 .f32 := k0_pay48 (stM3.view.readAt (Elt F) (Rect.unit (s := S8x1024x128) ![5, 64, 0] S1x64x128.size inb_S8x1024x128_S1x64x128_5_64_0).toLoadRect i.v) (stM3.view.readAt (Elt F) (Rect.unit (s := S8x1024x128) ![5, 320, 0] S1x64x128.size inb_S8x1024x128_S1x64x128_5_320_0).toLoadRect i.v) (stM3.view.readAt (Elt F) (Rect.unit (s := S8x1024x128) ![5, 576, 0] S1x64x128.size inb_S8x1024x128_S1x64x128_5_576_0).toLoadRect i.v) (stM3.view.readAt (Elt F) (Rect.unit (s := S8x1024x128) ![5, 832, 0] S1x64x128.size inb_S8x1024x128_S1x64x128_5_832_0).toLoadRect i.v)
def V573 (i : Ins F) : FVec F S256x256 .f32 := k0_pay49 (V385 i) (stM2.view.readAt (Elt F) (Rect.unit (s := S8x1024x128) ![5, 64, 0] S1x64x128.size inb_S8x1024x128_S1x64x128_5_64_0).toLoadRect i.k) (stM2.view.readAt (Elt F) (Rect.unit (s := S8x1024x128) ![5, 320, 0] S1x64x128.size inb_S8x1024x128_S1x64x128_5_320_0).toLoadRect i.k) (stM2.view.readAt (Elt F) (Rect.unit (s := S8x1024x128) ![5, 576, 0] S1x64x128.size inb_S8x1024x128_S1x64x128_5_576_0).toLoadRect i.k) (stM2.view.readAt (Elt F) (Rect.unit (s := S8x1024x128) ![5, 832, 0] S1x64x128.size inb_S8x1024x128_S1x64x128_5_832_0).toLoadRect i.k)
def V576 (i : Ins F) : FVec F S256x256 .f32 := k0_pay50 (V385 i) (stM2.view.readAt (Elt F) (Rect.unit (s := S8x1024x128) ![5, 64, 0] S1x64x128.size inb_S8x1024x128_S1x64x128_5_64_0).toLoadRect i.k) (stM2.view.readAt (Elt F) (Rect.unit (s := S8x1024x128) ![5, 320, 0] S1x64x128.size inb_S8x1024x128_S1x64x128_5_320_0).toLoadRect i.k) (stM2.view.readAt (Elt F) (Rect.unit (s := S8x1024x128) ![5, 576, 0] S1x64x128.size inb_S8x1024x128_S1x64x128_5_576_0).toLoadRect i.k) (stM2.view.readAt (Elt F) (Rect.unit (s := S8x1024x128) ![5, 832, 0] S1x64x128.size inb_S8x1024x128_S1x64x128_5_832_0).toLoadRect i.k)
def V583 (i : Ins F) : FVec F S256x128 .f32 := k0_pay51 (V568 i) (V573 i) (V576 i)
def V601 (i : Ins F) : FVec F S256x128 .f32 := k0_pay52 (stM3.view.readAt (Elt F) (Rect.unit (s := S8x1024x128) ![6, 64, 0] S1x64x128.size inb_S8x1024x128_S1x64x128_6_64_0).toLoadRect i.v) (stM3.view.readAt (Elt F) (Rect.unit (s := S8x1024x128) ![6, 320, 0] S1x64x128.size inb_S8x1024x128_S1x64x128_6_320_0).toLoadRect i.v) (stM3.view.readAt (Elt F) (Rect.unit (s := S8x1024x128) ![6, 576, 0] S1x64x128.size inb_S8x1024x128_S1x64x128_6_576_0).toLoadRect i.v) (stM3.view.readAt (Elt F) (Rect.unit (s := S8x1024x128) ![6, 832, 0] S1x64x128.size inb_S8x1024x128_S1x64x128_6_832_0).toLoadRect i.v)
def V606 (i : Ins F) : FVec F S256x256 .f32 := k0_pay53 (V385 i) (stM2.view.readAt (Elt F) (Rect.unit (s := S8x1024x128) ![6, 64, 0] S1x64x128.size inb_S8x1024x128_S1x64x128_6_64_0).toLoadRect i.k) (stM2.view.readAt (Elt F) (Rect.unit (s := S8x1024x128) ![6, 320, 0] S1x64x128.size inb_S8x1024x128_S1x64x128_6_320_0).toLoadRect i.k) (stM2.view.readAt (Elt F) (Rect.unit (s := S8x1024x128) ![6, 576, 0] S1x64x128.size inb_S8x1024x128_S1x64x128_6_576_0).toLoadRect i.k) (stM2.view.readAt (Elt F) (Rect.unit (s := S8x1024x128) ![6, 832, 0] S1x64x128.size inb_S8x1024x128_S1x64x128_6_832_0).toLoadRect i.k)
def V607 (i : Ins F) : FVec F S256 .f32 := k0_pay54 (V385 i) (stM2.view.readAt (Elt F) (Rect.unit (s := S8x1024x128) ![6, 64, 0] S1x64x128.size inb_S8x1024x128_S1x64x128_6_64_0).toLoadRect i.k) (stM2.view.readAt (Elt F) (Rect.unit (s := S8x1024x128) ![6, 320, 0] S1x64x128.size inb_S8x1024x128_S1x64x128_6_320_0).toLoadRect i.k) (stM2.view.readAt (Elt F) (Rect.unit (s := S8x1024x128) ![6, 576, 0] S1x64x128.size inb_S8x1024x128_S1x64x128_6_576_0).toLoadRect i.k) (stM2.view.readAt (Elt F) (Rect.unit (s := S8x1024x128) ![6, 832, 0] S1x64x128.size inb_S8x1024x128_S1x64x128_6_832_0).toLoadRect i.k)
def V616 (i : Ins F) : FVec F S256x128 .f32 := k0_pay55 (V601 i) (V606 i) (V607 i)
def V634 (i : Ins F) : FVec F S256x128 .f32 := k0_pay56 (stM3.view.readAt (Elt F) (Rect.unit (s := S8x1024x128) ![7, 64, 0] S1x64x128.size inb_S8x1024x128_S1x64x128_7_64_0).toLoadRect i.v) (stM3.view.readAt (Elt F) (Rect.unit (s := S8x1024x128) ![7, 320, 0] S1x64x128.size inb_S8x1024x128_S1x64x128_7_320_0).toLoadRect i.v) (stM3.view.readAt (Elt F) (Rect.unit (s := S8x1024x128) ![7, 576, 0] S1x64x128.size inb_S8x1024x128_S1x64x128_7_576_0).toLoadRect i.v) (stM3.view.readAt (Elt F) (Rect.unit (s := S8x1024x128) ![7, 832, 0] S1x64x128.size inb_S8x1024x128_S1x64x128_7_832_0).toLoadRect i.v)
def V639 (i : Ins F) : FVec F S256x256 .f32 := k0_pay57 (V385 i) (stM2.view.readAt (Elt F) (Rect.unit (s := S8x1024x128) ![7, 64, 0] S1x64x128.size inb_S8x1024x128_S1x64x128_7_64_0).toLoadRect i.k) (stM2.view.readAt (Elt F) (Rect.unit (s := S8x1024x128) ![7, 320, 0] S1x64x128.size inb_S8x1024x128_S1x64x128_7_320_0).toLoadRect i.k) (stM2.view.readAt (Elt F) (Rect.unit (s := S8x1024x128) ![7, 576, 0] S1x64x128.size inb_S8x1024x128_S1x64x128_7_576_0).toLoadRect i.k) (stM2.view.readAt (Elt F) (Rect.unit (s := S8x1024x128) ![7, 832, 0] S1x64x128.size inb_S8x1024x128_S1x64x128_7_832_0).toLoadRect i.k)
def Sum1 (i : Ins F) : FVec F S256x1024 .f32 := (k0_pay58 (V418 i) (V451 i) (V484 i) (V517 i) (V550 i) (V583 i) (V616 i) (V634 i) (V639 i) (stM4.view.readAt (Elt F) (Rect.unit (s := S1024x1024) ![0, 0] S1024x1024.size inb_S1024x1024_S1024x1024_0_0).toLoadRect i.wo))
def V672 (i : Ins F) : Vec F S64x1024 .f32 := (stM0.view.readAt (Elt F) (Rect.unit (s := S1024x1024) ![128, 0] S64x1024.size inb_S1024x1024_S64x1024_128_0).toLoadRect i.x)
def V683 (i : Ins F) : FVec F S256x1024 .f32 := k0_pay60 (V672 i) (stM0.view.readAt (Elt F) (Rect.unit (s := S1024x1024) ![384, 0] S64x1024.size inb_S1024x1024_S64x1024_384_0).toLoadRect i.x) (stM0.view.readAt (Elt F) (Rect.unit (s := S1024x1024) ![640, 0] S64x1024.size inb_S1024x1024_S64x1024_640_0).toLoadRect i.x) (stM0.view.readAt (Elt F) (Rect.unit (s := S1024x1024) ![896, 0] S64x1024.size inb_S1024x1024_S64x1024_896_0).toLoadRect i.x) (stM1.view.readAt (Elt F) (Rect.unit (s := S1024x1024) ![0, 0] S1024x1024.size inb_S1024x1024_S1024x1024_0_0).toLoadRect i.wq)
def V692 (i : Ins F) : FVec F S256x128 .f32 := k0_pay61 (stM2.view.readAt (Elt F) (Rect.unit (s := S8x1024x128) ![0, 128, 0] S1x64x128.size inb_S8x1024x128_S1x64x128_0_128_0).toLoadRect i.k) (stM2.view.readAt (Elt F) (Rect.unit (s := S8x1024x128) ![0, 384, 0] S1x64x128.size inb_S8x1024x128_S1x64x128_0_384_0).toLoadRect i.k) (stM2.view.readAt (Elt F) (Rect.unit (s := S8x1024x128) ![0, 640, 0] S1x64x128.size inb_S8x1024x128_S1x64x128_0_640_0).toLoadRect i.k) (stM2.view.readAt (Elt F) (Rect.unit (s := S8x1024x128) ![0, 896, 0] S1x64x128.size inb_S8x1024x128_S1x64x128_0_896_0).toLoadRect i.k)
def V694 (i : Ins F) : FVec F S64x128 .f32 := k0_pay62 (stM3.view.readAt (Elt F) (Rect.unit (s := S8x1024x128) ![0, 128, 0] S1x64x128.size inb_S8x1024x128_S1x64x128_0_128_0).toLoadRect i.v)
def V696 (i : Ins F) : FVec F S64x128 .f32 := k0_pay63 (stM3.view.readAt (Elt F) (Rect.unit (s := S8x1024x128) ![0, 384, 0] S1x64x128.size inb_S8x1024x128_S1x64x128_0_384_0).toLoadRect i.v)
def V698 (i : Ins F) : FVec F S64x128 .f32 := k0_pay64 (stM3.view.readAt (Elt F) (Rect.unit (s := S8x1024x128) ![0, 640, 0] S1x64x128.size inb_S8x1024x128_S1x64x128_0_640_0).toLoadRect i.v)
def V699 (i : Ins F) : Vec F S1x64x128 .f32 := (stM3.view.readAt (Elt F) (Rect.unit (s := S8x1024x128) ![0, 896, 0] S1x64x128.size inb_S8x1024x128_S1x64x128_0_896_0).toLoadRect i.v)
def V716 (i : Ins F) : FVec F S256x128 .f32 := k0_pay65 (V683 i) (V692 i) (V694 i) (V696 i) (V698 i) (V699 i)
def V725 (i : Ins F) : FVec F S256x128 .f32 := k0_pay66 (stM2.view.readAt (Elt F) (Rect.unit (s := S8x1024x128) ![1, 128, 0] S1x64x128.size inb_S8x1024x128_S1x64x128_1_128_0).toLoadRect i.k) (stM2.view.readAt (Elt F) (Rect.unit (s := S8x1024x128) ![1, 384, 0] S1x64x128.size inb_S8x1024x128_S1x64x128_1_384_0).toLoadRect i.k) (stM2.view.readAt (Elt F) (Rect.unit (s := S8x1024x128) ![1, 640, 0] S1x64x128.size inb_S8x1024x128_S1x64x128_1_640_0).toLoadRect i.k) (stM2.view.readAt (Elt F) (Rect.unit (s := S8x1024x128) ![1, 896, 0] S1x64x128.size inb_S8x1024x128_S1x64x128_1_896_0).toLoadRect i.k)
def V727 (i : Ins F) : FVec F S64x128 .f32 := k0_pay67 (stM3.view.readAt (Elt F) (Rect.unit (s := S8x1024x128) ![1, 128, 0] S1x64x128.size inb_S8x1024x128_S1x64x128_1_128_0).toLoadRect i.v)
def V729 (i : Ins F) : FVec F S64x128 .f32 := k0_pay68 (stM3.view.readAt (Elt F) (Rect.unit (s := S8x1024x128) ![1, 384, 0] S1x64x128.size inb_S8x1024x128_S1x64x128_1_384_0).toLoadRect i.v)
def V731 (i : Ins F) : FVec F S64x128 .f32 := k0_pay69 (stM3.view.readAt (Elt F) (Rect.unit (s := S8x1024x128) ![1, 640, 0] S1x64x128.size inb_S8x1024x128_S1x64x128_1_640_0).toLoadRect i.v)
def V749 (i : Ins F) : FVec F S256x128 .f32 := k0_pay70 (V683 i) (V725 i) (V727 i) (V729 i) (V731 i) (stM3.view.readAt (Elt F) (Rect.unit (s := S8x1024x128) ![1, 896, 0] S1x64x128.size inb_S8x1024x128_S1x64x128_1_896_0).toLoadRect i.v)
def V758 (i : Ins F) : FVec F S256x128 .f32 := k0_pay71 (stM2.view.readAt (Elt F) (Rect.unit (s := S8x1024x128) ![2, 128, 0] S1x64x128.size inb_S8x1024x128_S1x64x128_2_128_0).toLoadRect i.k) (stM2.view.readAt (Elt F) (Rect.unit (s := S8x1024x128) ![2, 384, 0] S1x64x128.size inb_S8x1024x128_S1x64x128_2_384_0).toLoadRect i.k) (stM2.view.readAt (Elt F) (Rect.unit (s := S8x1024x128) ![2, 640, 0] S1x64x128.size inb_S8x1024x128_S1x64x128_2_640_0).toLoadRect i.k) (stM2.view.readAt (Elt F) (Rect.unit (s := S8x1024x128) ![2, 896, 0] S1x64x128.size inb_S8x1024x128_S1x64x128_2_896_0).toLoadRect i.k)
def V760 (i : Ins F) : FVec F S64x128 .f32 := k0_pay72 (stM3.view.readAt (Elt F) (Rect.unit (s := S8x1024x128) ![2, 128, 0] S1x64x128.size inb_S8x1024x128_S1x64x128_2_128_0).toLoadRect i.v)
def V762 (i : Ins F) : FVec F S64x128 .f32 := k0_pay73 (stM3.view.readAt (Elt F) (Rect.unit (s := S8x1024x128) ![2, 384, 0] S1x64x128.size inb_S8x1024x128_S1x64x128_2_384_0).toLoadRect i.v)
def V764 (i : Ins F) : FVec F S64x128 .f32 := k0_pay74 (stM3.view.readAt (Elt F) (Rect.unit (s := S8x1024x128) ![2, 640, 0] S1x64x128.size inb_S8x1024x128_S1x64x128_2_640_0).toLoadRect i.v)
def V782 (i : Ins F) : FVec F S256x128 .f32 := k0_pay75 (V683 i) (V758 i) (V760 i) (V762 i) (V764 i) (stM3.view.readAt (Elt F) (Rect.unit (s := S8x1024x128) ![2, 896, 0] S1x64x128.size inb_S8x1024x128_S1x64x128_2_896_0).toLoadRect i.v)
def V791 (i : Ins F) : FVec F S256x128 .f32 := k0_pay76 (stM2.view.readAt (Elt F) (Rect.unit (s := S8x1024x128) ![3, 128, 0] S1x64x128.size inb_S8x1024x128_S1x64x128_3_128_0).toLoadRect i.k) (stM2.view.readAt (Elt F) (Rect.unit (s := S8x1024x128) ![3, 384, 0] S1x64x128.size inb_S8x1024x128_S1x64x128_3_384_0).toLoadRect i.k) (stM2.view.readAt (Elt F) (Rect.unit (s := S8x1024x128) ![3, 640, 0] S1x64x128.size inb_S8x1024x128_S1x64x128_3_640_0).toLoadRect i.k) (stM2.view.readAt (Elt F) (Rect.unit (s := S8x1024x128) ![3, 896, 0] S1x64x128.size inb_S8x1024x128_S1x64x128_3_896_0).toLoadRect i.k)
def V793 (i : Ins F) : FVec F S64x128 .f32 := k0_pay77 (stM3.view.readAt (Elt F) (Rect.unit (s := S8x1024x128) ![3, 128, 0] S1x64x128.size inb_S8x1024x128_S1x64x128_3_128_0).toLoadRect i.v)
def V795 (i : Ins F) : FVec F S64x128 .f32 := k0_pay78 (stM3.view.readAt (Elt F) (Rect.unit (s := S8x1024x128) ![3, 384, 0] S1x64x128.size inb_S8x1024x128_S1x64x128_3_384_0).toLoadRect i.v)
def V815 (i : Ins F) : FVec F S256x128 .f32 := k0_pay79 (V683 i) (V791 i) (V793 i) (V795 i) (stM3.view.readAt (Elt F) (Rect.unit (s := S8x1024x128) ![3, 640, 0] S1x64x128.size inb_S8x1024x128_S1x64x128_3_640_0).toLoadRect i.v) (stM3.view.readAt (Elt F) (Rect.unit (s := S8x1024x128) ![3, 896, 0] S1x64x128.size inb_S8x1024x128_S1x64x128_3_896_0).toLoadRect i.v)
def V824 (i : Ins F) : FVec F S256x128 .f32 := k0_pay80 (stM2.view.readAt (Elt F) (Rect.unit (s := S8x1024x128) ![4, 128, 0] S1x64x128.size inb_S8x1024x128_S1x64x128_4_128_0).toLoadRect i.k) (stM2.view.readAt (Elt F) (Rect.unit (s := S8x1024x128) ![4, 384, 0] S1x64x128.size inb_S8x1024x128_S1x64x128_4_384_0).toLoadRect i.k) (stM2.view.readAt (Elt F) (Rect.unit (s := S8x1024x128) ![4, 640, 0] S1x64x128.size inb_S8x1024x128_S1x64x128_4_640_0).toLoadRect i.k) (stM2.view.readAt (Elt F) (Rect.unit (s := S8x1024x128) ![4, 896, 0] S1x64x128.size inb_S8x1024x128_S1x64x128_4_896_0).toLoadRect i.k)
def V826 (i : Ins F) : FVec F S64x128 .f32 := k0_pay81 (stM3.view.readAt (Elt F) (Rect.unit (s := S8x1024x128) ![4, 128, 0] S1x64x128.size inb_S8x1024x128_S1x64x128_4_128_0).toLoadRect i.v)
def V828 (i : Ins F) : FVec F S64x128 .f32 := k0_pay82 (stM3.view.readAt (Elt F) (Rect.unit (s := S8x1024x128) ![4, 384, 0] S1x64x128.size inb_S8x1024x128_S1x64x128_4_384_0).toLoadRect i.v)
def V848 (i : Ins F) : FVec F S256x128 .f32 := k0_pay83 (V683 i) (V824 i) (V826 i) (V828 i) (stM3.view.readAt (Elt F) (Rect.unit (s := S8x1024x128) ![4, 640, 0] S1x64x128.size inb_S8x1024x128_S1x64x128_4_640_0).toLoadRect i.v) (stM3.view.readAt (Elt F) (Rect.unit (s := S8x1024x128) ![4, 896, 0] S1x64x128.size inb_S8x1024x128_S1x64x128_4_896_0).toLoadRect i.v)
def V857 (i : Ins F) : FVec F S256x128 .f32 := k0_pay84 (stM2.view.readAt (Elt F) (Rect.unit (s := S8x1024x128) ![5, 128, 0] S1x64x128.size inb_S8x1024x128_S1x64x128_5_128_0).toLoadRect i.k) (stM2.view.readAt (Elt F) (Rect.unit (s := S8x1024x128) ![5, 384, 0] S1x64x128.size inb_S8x1024x128_S1x64x128_5_384_0).toLoadRect i.k) (stM2.view.readAt (Elt F) (Rect.unit (s := S8x1024x128) ![5, 640, 0] S1x64x128.size inb_S8x1024x128_S1x64x128_5_640_0).toLoadRect i.k) (stM2.view.readAt (Elt F) (Rect.unit (s := S8x1024x128) ![5, 896, 0] S1x64x128.size inb_S8x1024x128_S1x64x128_5_896_0).toLoadRect i.k)
def V859 (i : Ins F) : FVec F S64x128 .f32 := k0_pay85 (stM3.view.readAt (Elt F) (Rect.unit (s := S8x1024x128) ![5, 128, 0] S1x64x128.size inb_S8x1024x128_S1x64x128_5_128_0).toLoadRect i.v)
def V860 (i : Ins F) : Vec F S1x64x128 .f32 := (stM3.view.readAt (Elt F) (Rect.unit (s := S8x1024x128) ![5, 384, 0] S1x64x128.size inb_S8x1024x128_S1x64x128_5_384_0).toLoadRect i.v)
def V881 (i : Ins F) : FVec F S256x128 .f32 := k0_pay86 (V683 i) (V857 i) (V859 i) (V860 i) (stM3.view.readAt (Elt F) (Rect.unit (s := S8x1024x128) ![5, 640, 0] S1x64x128.size inb_S8x1024x128_S1x64x128_5_640_0).toLoadRect i.v) (stM3.view.readAt (Elt F) (Rect.unit (s := S8x1024x128) ![5, 896, 0] S1x64x128.size inb_S8x1024x128_S1x64x128_5_896_0).toLoadRect i.v)
def V890 (i : Ins F) : FVec F S256x128 .f32 := k0_pay87 (stM2.view.readAt (Elt F) (Rect.unit (s := S8x1024x128) ![6, 128, 0] S1x64x128.size inb_S8x1024x128_S1x64x128_6_128_0).toLoadRect i.k) (stM2.view.readAt (Elt F) (Rect.unit (s := S8x1024x128) ![6, 384, 0] S1x64x128.size inb_S8x1024x128_S1x64x128_6_384_0).toLoadRect i.k) (stM2.view.readAt (Elt F) (Rect.unit (s := S8x1024x128) ![6, 640, 0] S1x64x128.size inb_S8x1024x128_S1x64x128_6_640_0).toLoadRect i.k) (stM2.view.readAt (Elt F) (Rect.unit (s := S8x1024x128) ![6, 896, 0] S1x64x128.size inb_S8x1024x128_S1x64x128_6_896_0).toLoadRect i.k)
def V892 (i : Ins F) : FVec F S64x128 .f32 := k0_pay88 (stM3.view.readAt (Elt F) (Rect.unit (s := S8x1024x128) ![6, 128, 0] S1x64x128.size inb_S8x1024x128_S1x64x128_6_128_0).toLoadRect i.v)
def V914 (i : Ins F) : FVec F S256x128 .f32 := k0_pay89 (V683 i) (V890 i) (V892 i) (stM3.view.readAt (Elt F) (Rect.unit (s := S8x1024x128) ![6, 384, 0] S1x64x128.size inb_S8x1024x128_S1x64x128_6_384_0).toLoadRect i.v) (stM3.view.readAt (Elt F) (Rect.unit (s := S8x1024x128) ![6, 640, 0] S1x64x128.size inb_S8x1024x128_S1x64x128_6_640_0).toLoadRect i.v) (stM3.view.readAt (Elt F) (Rect.unit (s := S8x1024x128) ![6, 896, 0] S1x64x128.size inb_S8x1024x128_S1x64x128_6_896_0).toLoadRect i.v)
def V923 (i : Ins F) : FVec F S256x128 .f32 := k0_pay90 (stM2.view.readAt (Elt F) (Rect.unit (s := S8x1024x128) ![7, 128, 0] S1x64x128.size inb_S8x1024x128_S1x64x128_7_128_0).toLoadRect i.k) (stM2.view.readAt (Elt F) (Rect.unit (s := S8x1024x128) ![7, 384, 0] S1x64x128.size inb_S8x1024x128_S1x64x128_7_384_0).toLoadRect i.k) (stM2.view.readAt (Elt F) (Rect.unit (s := S8x1024x128) ![7, 640, 0] S1x64x128.size inb_S8x1024x128_S1x64x128_7_640_0).toLoadRect i.k) (stM2.view.readAt (Elt F) (Rect.unit (s := S8x1024x128) ![7, 896, 0] S1x64x128.size inb_S8x1024x128_S1x64x128_7_896_0).toLoadRect i.k)
def V925 (i : Ins F) : FVec F S64x128 .f32 := k0_pay91 (stM3.view.readAt (Elt F) (Rect.unit (s := S8x1024x128) ![7, 128, 0] S1x64x128.size inb_S8x1024x128_S1x64x128_7_128_0).toLoadRect i.v)
def Sum2 (i : Ins F) : FVec F S256x1024 .f32 := (k0_pay92 (V683 i) (V716 i) (V749 i) (V782 i) (V815 i) (V848 i) (V881 i) (V914 i) (V923 i) (V925 i) (stM3.view.readAt (Elt F) (Rect.unit (s := S8x1024x128) ![7, 384, 0] S1x64x128.size inb_S8x1024x128_S1x64x128_7_384_0).toLoadRect i.v) (stM3.view.readAt (Elt F) (Rect.unit (s := S8x1024x128) ![7, 640, 0] S1x64x128.size inb_S8x1024x128_S1x64x128_7_640_0).toLoadRect i.v) (stM3.view.readAt (Elt F) (Rect.unit (s := S8x1024x128) ![7, 896, 0] S1x64x128.size inb_S8x1024x128_S1x64x128_7_896_0).toLoadRect i.v) (stM4.view.readAt (Elt F) (Rect.unit (s := S1024x1024) ![0, 0] S1024x1024.size inb_S1024x1024_S1024x1024_0_0).toLoadRect i.wo))
def V981 (i : Ins F) : FVec F S256x1024 .f32 := k0_pay94 (stM0.view.readAt (Elt F) (Rect.unit (s := S1024x1024) ![192, 0] S64x1024.size inb_S1024x1024_S64x1024_192_0).toLoadRect i.x) (stM0.view.readAt (Elt F) (Rect.unit (s := S1024x1024) ![448, 0] S64x1024.size inb_S1024x1024_S64x1024_448_0).toLoadRect i.x) (stM0.view.readAt (Elt F) (Rect.unit (s := S1024x1024) ![704, 0] S64x1024.size inb_S1024x1024_S64x1024_704_0).toLoadRect i.x) (stM0.view.readAt (Elt F) (Rect.unit (s := S1024x1024) ![960, 0] S64x1024.size inb_S1024x1024_S64x1024_960_0).toLoadRect i.x) (stM1.view.readAt (Elt F) (Rect.unit (s := S1024x1024) ![0, 0] S1024x1024.size inb_S1024x1024_S1024x1024_0_0).toLoadRect i.wq)
def V983 (i : Ins F) : FVec F S64x128 .f32 := k0_pay95 (stM2.view.readAt (Elt F) (Rect.unit (s := S8x1024x128) ![0, 192, 0] S1x64x128.size inb_S8x1024x128_S1x64x128_0_192_0).toLoadRect i.k)
def V985 (i : Ins F) : FVec F S64x128 .f32 := k0_pay96 (stM2.view.readAt (Elt F) (Rect.unit (s := S8x1024x128) ![0, 448, 0] S1x64x128.size inb_S8x1024x128_S1x64x128_0_448_0).toLoadRect i.k)
def V987 (i : Ins F) : FVec F S64x128 .f32 := k0_pay97 (stM2.view.readAt (Elt F) (Rect.unit (s := S8x1024x128) ![0, 704, 0] S1x64x128.size inb_S8x1024x128_S1x64x128_0_704_0).toLoadRect i.k)
def V1014 (i : Ins F) : FVec F S256x128 .f32 := k0_pay98 (V981 i) (V983 i) (V985 i) (V987 i) (stM2.view.readAt (Elt F) (Rect.unit (s := S8x1024x128) ![0, 960, 0] S1x64x128.size inb_S8x1024x128_S1x64x128_0_960_0).toLoadRect i.k) (stM3.view.readAt (Elt F) (Rect.unit (s := S8x1024x128) ![0, 192, 0] S1x64x128.size inb_S8x1024x128_S1x64x128_0_192_0).toLoadRect i.v) (stM3.view.readAt (Elt F) (Rect.unit (s := S8x1024x128) ![0, 448, 0] S1x64x128.size inb_S8x1024x128_S1x64x128_0_448_0).toLoadRect i.v) (stM3.view.readAt (Elt F) (Rect.unit (s := S8x1024x128) ![0, 704, 0] S1x64x128.size inb_S8x1024x128_S1x64x128_0_704_0).toLoadRect i.v) (stM3.view.readAt (Elt F) (Rect.unit (s := S8x1024x128) ![0, 960, 0] S1x64x128.size inb_S8x1024x128_S1x64x128_0_960_0).toLoadRect i.v)
def V1016 (i : Ins F) : FVec F S64x128 .f32 := k0_pay99 (stM2.view.readAt (Elt F) (Rect.unit (s := S8x1024x128) ![1, 192, 0] S1x64x128.size inb_S8x1024x128_S1x64x128_1_192_0).toLoadRect i.k)
def V1018 (i : Ins F) : FVec F S64x128 .f32 := k0_pay100 (stM2.view.readAt (Elt F) (Rect.unit (s := S8x1024x128) ![1, 448, 0] S1x64x128.size inb_S8x1024x128_S1x64x128_1_448_0).toLoadRect i.k)
def V1020 (i : Ins F) : FVec F S64x128 .f32 := k0_pay101 (stM2.view.readAt (Elt F) (Rect.unit (s := S8x1024x128) ![1, 704, 0] S1x64x128.size inb_S8x1024x128_S1x64x128_1_704_0).toLoadRect i.k)
def V1047 (i : Ins F) : FVec F S256x128 .f32 := k0_pay102 (V981 i) (V1016 i) (V1018 i) (V1020 i) (stM2.view.readAt (Elt F) (Rect.unit (s := S8x1024x128) ![1, 960, 0] S1x64x128.size inb_S8x1024x128_S1x64x128_1_960_0).toLoadRect i.k) (stM3.view.readAt (Elt F) (Rect.unit (s := S8x1024x128) ![1, 192, 0] S1x64x128.size inb_S8x1024x128_S1x64x128_1_192_0).toLoadRect i.v) (stM3.view.readAt (Elt F) (Rect.unit (s := S8x1024x128) ![1, 448, 0] S1x64x128.size inb_S8x1024x128_S1x64x128_1_448_0).toLoadRect i.v) (stM3.view.readAt (Elt F) (Rect.unit (s := S8x1024x128) ![1, 704, 0] S1x64x128.size inb_S8x1024x128_S1x64x128_1_704_0).toLoadRect i.v) (stM3.view.readAt (Elt F) (Rect.unit (s := S8x1024x128) ![1, 960, 0] S1x64x128.size inb_S8x1024x128_S1x64x128_1_960_0).toLoadRect i.v)
def V1049 (i : Ins F) : FVec F S64x128 .f32 := k0_pay103 (stM2.view.readAt (Elt F) (Rect.unit (s := S8x1024x128) ![2, 192, 0] S1x64x128.size inb_S8x1024x128_S1x64x128_2_192_0).toLoadRect i.k)
def V1051 (i : Ins F) : FVec F S64x128 .f32 := k0_pay104 (stM2.view.readAt (Elt F) (Rect.unit (s := S8x1024x128) ![2, 448, 0] S1x64x128.size inb_S8x1024x128_S1x64x128_2_448_0).toLoadRect i.k)
def V1080 (i : Ins F) : FVec F S256x128 .f32 := k0_pay105 (V981 i) (V1049 i) (V1051 i) (stM2.view.readAt (Elt F) (Rect.unit (s := S8x1024x128) ![2, 704, 0] S1x64x128.size inb_S8x1024x128_S1x64x128_2_704_0).toLoadRect i.k) (stM2.view.readAt (Elt F) (Rect.unit (s := S8x1024x128) ![2, 960, 0] S1x64x128.size inb_S8x1024x128_S1x64x128_2_960_0).toLoadRect i.k) (stM3.view.readAt (Elt F) (Rect.unit (s := S8x1024x128) ![2, 192, 0] S1x64x128.size inb_S8x1024x128_S1x64x128_2_192_0).toLoadRect i.v) (stM3.view.readAt (Elt F) (Rect.unit (s := S8x1024x128) ![2, 448, 0] S1x64x128.size inb_S8x1024x128_S1x64x128_2_448_0).toLoadRect i.v) (stM3.view.readAt (Elt F) (Rect.unit (s := S8x1024x128) ![2, 704, 0] S1x64x128.size inb_S8x1024x128_S1x64x128_2_704_0).toLoadRect i.v) (stM3.view.readAt (Elt F) (Rect.unit (s := S8x1024x128) ![2, 960, 0] S1x64x128.size inb_S8x1024x128_S1x64x128_2_960_0).toLoadRect i.v)
def V1082 (i : Ins F) : FVec F S64x128 .f32 := k0_pay106 (stM2.view.readAt (Elt F) (Rect.unit (s := S8x1024x128) ![3, 192, 0] S1x64x128.size inb_S8x1024x128_S1x64x128_3_192_0).toLoadRect i.k)
def V1084 (i : Ins F) : FVec F S64x128 .f32 := k0_pay107 (stM2.view.readAt (Elt F) (Rect.unit (s := S8x1024x128) ![3, 448, 0] S1x64x128.size inb_S8x1024x128_S1x64x128_3_448_0).toLoadRect i.k)
def V1113 (i : Ins F) : FVec F S256x128 .f32 := k0_pay108 (V981 i) (V1082 i) (V1084 i) (stM2.view.readAt (Elt F) (Rect.unit (s := S8x1024x128) ![3, 704, 0] S1x64x128.size inb_S8x1024x128_S1x64x128_3_704_0).toLoadRect i.k) (stM2.view.readAt (Elt F) (Rect.unit (s := S8x1024x128) ![3, 960, 0] S1x64x128.size inb_S8x1024x128_S1x64x128_3_960_0).toLoadRect i.k) (stM3.view.readAt (Elt F) (Rect.unit (s := S8x1024x128) ![3, 192, 0] S1x64x128.size inb_S8x1024x128_S1x64x128_3_192_0).toLoadRect i.v) (stM3.view.readAt (Elt F) (Rect.unit (s := S8x1024x128) ![3, 448, 0] S1x64x128.size inb_S8x1024x128_S1x64x128_3_448_0).toLoadRect i.v) (stM3.view.readAt (Elt F) (Rect.unit (s := S8x1024x128) ![3, 704, 0] S1x64x128.size inb_S8x1024x128_S1x64x128_3_704_0).toLoadRect i.v) (stM3.view.readAt (Elt F) (Rect.unit (s := S8x1024x128) ![3, 960, 0] S1x64x128.size inb_S8x1024x128_S1x64x128_3_960_0).toLoadRect i.v)
def V1115 (i : Ins F) : FVec F S64x128 .f32 := k0_pay109 (stM2.view.readAt (Elt F) (Rect.unit (s := S8x1024x128) ![4, 192, 0] S1x64x128.size inb_S8x1024x128_S1x64x128_4_192_0).toLoadRect i.k)
def V1116 (i : Ins F) : Vec F S1x64x128 .f32 := (stM2.view.readAt (Elt F) (Rect.unit (s := S8x1024x128) ![4, 448, 0] S1x64x128.size inb_S8x1024x128_S1x64x128_4_448_0).toLoadRect i.k)
def V1146 (i : Ins F) : FVec F S256x128 .f32 := k0_pay110 (V981 i) (V1115 i) (V1116 i) (stM2.view.readAt (Elt F) (Rect.unit (s := S8x1024x128) ![4, 704, 0] S1x64x128.size inb_S8x1024x128_S1x64x128_4_704_0).toLoadRect i.k) (stM2.view.readAt (Elt F) (Rect.unit (s := S8x1024x128) ![4, 960, 0] S1x64x128.size inb_S8x1024x128_S1x64x128_4_960_0).toLoadRect i.k) (stM3.view.readAt (Elt F) (Rect.unit (s := S8x1024x128) ![4, 192, 0] S1x64x128.size inb_S8x1024x128_S1x64x128_4_192_0).toLoadRect i.v) (stM3.view.readAt (Elt F) (Rect.unit (s := S8x1024x128) ![4, 448, 0] S1x64x128.size inb_S8x1024x128_S1x64x128_4_448_0).toLoadRect i.v) (stM3.view.readAt (Elt F) (Rect.unit (s := S8x1024x128) ![4, 704, 0] S1x64x128.size inb_S8x1024x128_S1x64x128_4_704_0).toLoadRect i.v) (stM3.view.readAt (Elt F) (Rect.unit (s := S8x1024x128) ![4, 960, 0] S1x64x128.size inb_S8x1024x128_S1x64x128_4_960_0).toLoadRect i.v)
def V1148 (i : Ins F) : FVec F S64x128 .f32 := k0_pay111 (stM2.view.readAt (Elt F) (Rect.unit (s := S8x1024x128) ![5, 192, 0] S1x64x128.size inb_S8x1024x128_S1x64x128_5_192_0).toLoadRect i.k)
def V1179 (i : Ins F) : FVec F S256x128 .f32 := k0_pay112 (V981 i) (V1148 i) (stM2.view.readAt (Elt F) (Rect.unit (s := S8x1024x128) ![5, 448, 0] S1x64x128.size inb_S8x1024x128_S1x64x128_5_448_0).toLoadRect i.k) (stM2.view.readAt (Elt F) (Rect.unit (s := S8x1024x128) ![5, 704, 0] S1x64x128.size inb_S8x1024x128_S1x64x128_5_704_0).toLoadRect i.k) (stM2.view.readAt (Elt F) (Rect.unit (s := S8x1024x128) ![5, 960, 0] S1x64x128.size inb_S8x1024x128_S1x64x128_5_960_0).toLoadRect i.k) (stM3.view.readAt (Elt F) (Rect.unit (s := S8x1024x128) ![5, 192, 0] S1x64x128.size inb_S8x1024x128_S1x64x128_5_192_0).toLoadRect i.v) (stM3.view.readAt (Elt F) (Rect.unit (s := S8x1024x128) ![5, 448, 0] S1x64x128.size inb_S8x1024x128_S1x64x128_5_448_0).toLoadRect i.v) (stM3.view.readAt (Elt F) (Rect.unit (s := S8x1024x128) ![5, 704, 0] S1x64x128.size inb_S8x1024x128_S1x64x128_5_704_0).toLoadRect i.v) (stM3.view.readAt (Elt F) (Rect.unit (s := S8x1024x128) ![5, 960, 0] S1x64x128.size inb_S8x1024x128_S1x64x128_5_960_0).toLoadRect i.v)
def V1181 (i : Ins F) : FVec F S64x128 .f32 := k0_pay113 (stM2.view.readAt (Elt F) (Rect.unit (s := S8x1024x128) ![6, 192, 0] S1x64x128.size inb_S8x1024x128_S1x64x128_6_192_0).toLoadRect i.k)
def V1212 (i : Ins F) : FVec F S256x128 .f32 := (k0_pay114 (V981 i) (V1181 i) (stM2.view.readAt (Elt F) (Rect.unit (s := S8x1024x128) ![6, 448, 0] S1x64x128.size inb_S8x1024x128_S1x64x128_6_448_0).toLoadRect i.k) (stM2.view.readAt (Elt F) (Rect.unit (s := S8x1024x128) ![6, 704, 0] S1x64x128.size inb_S8x1024x128_S1x64x128_6_704_0).toLoadRect i.k) (stM2.view.readAt (Elt F) (Rect.unit (s := S8x1024x128) ![6, 960, 0] S1x64x128.size inb_S8x1024x128_S1x64x128_6_960_0).toLoadRect i.k) (stM3.view.readAt (Elt F) (Rect.unit (s := S8x1024x128) ![6, 192, 0] S1x64x128.size inb_S8x1024x128_S1x64x128_6_192_0).toLoadRect i.v) (stM3.view.readAt (Elt F) (Rect.unit (s := S8x1024x128) ![6, 448, 0] S1x64x128.size inb_S8x1024x128_S1x64x128_6_448_0).toLoadRect i.v) (stM3.view.readAt (Elt F) (Rect.unit (s := S8x1024x128) ![6, 704, 0] S1x64x128.size inb_S8x1024x128_S1x64x128_6_704_0).toLoadRect i.v) (stM3.view.readAt (Elt F) (Rect.unit (s := S8x1024x128) ![6, 960, 0] S1x64x128.size inb_S8x1024x128_S1x64x128_6_960_0).toLoadRect i.v))
def V1246 (i : Ins F) : FVec F S256x1024 .f32 := (k0_pay115 (V981 i) (V1014 i) (V1047 i) (V1080 i) (V1113 i) (V1146 i) (V1179 i) (V1212 i) (stM2.view.readAt (Elt F) (Rect.unit (s := S8x1024x128) ![7, 192, 0] S1x64x128.size inb_S8x1024x128_S1x64x128_7_192_0).toLoadRect i.k) (stM2.view.readAt (Elt F) (Rect.unit (s := S8x1024x128) ![7, 448, 0] S1x64x128.size inb_S8x1024x128_S1x64x128_7_448_0).toLoadRect i.k) (stM2.view.readAt (Elt F) (Rect.unit (s := S8x1024x128) ![7, 704, 0] S1x64x128.size inb_S8x1024x128_S1x64x128_7_704_0).toLoadRect i.k) (stM2.view.readAt (Elt F) (Rect.unit (s := S8x1024x128) ![7, 960, 0] S1x64x128.size inb_S8x1024x128_S1x64x128_7_960_0).toLoadRect i.k) (stM3.view.readAt (Elt F) (Rect.unit (s := S8x1024x128) ![7, 192, 0] S1x64x128.size inb_S8x1024x128_S1x64x128_7_192_0).toLoadRect i.v) (stM3.view.readAt (Elt F) (Rect.unit (s := S8x1024x128) ![7, 448, 0] S1x64x128.size inb_S8x1024x128_S1x64x128_7_448_0).toLoadRect i.v) (stM3.view.readAt (Elt F) (Rect.unit (s := S8x1024x128) ![7, 704, 0] S1x64x128.size inb_S8x1024x128_S1x64x128_7_704_0).toLoadRect i.v) (stM3.view.readAt (Elt F) (Rect.unit (s := S8x1024x128) ![7, 960, 0] S1x64x128.size inb_S8x1024x128_S1x64x128_7_960_0).toLoadRect i.v))
def Sum3 (i : Ins F) : FVec F S256x1024 .f32 := (k0_pay116 (V1246 i) (stM4.view.readAt (Elt F) (Rect.unit (s := S1024x1024) ![0, 0] S1024x1024.size inb_S1024x1024_S1024x1024_0_0).toLoadRect i.wo))

end Cert.Proof

end
-- ==== Proof.PartsA.lean ====
/-
  The runs of the body's sections, in the kernel's order: the barrier and parts 0 and 1.
-/
module

public import proofs.«01_k».proof.Proof.Curry
public import proofs.«01_k».proof.Proof.Vals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

variable (c : Dev nD)

theorem part1 {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(
      (∀ (v2 : BitVec 32) (v3 : BitVec 32) (v4 : BitVec 32) (v5 : BitVec 32) (v6 : BitVec 32) (v20 : BitVec 32) (v22 : BitVec 32) (v23 : BitVec 32) (v37 : BitVec 1), Q ⟨c, v2, v3, v4, v5, v6, v20, v22, v23, v37⟩)
      -∗ wp frame (wpE (defs₀ (F := F)) 𝒱₀ (c : Thread nD τ) none) Set.univ
        (k0_part1 (F := F) stM0 h0 stM1 h1 stM2 h2 stM3 h3 stM4 h4 outM h5 cmM h6 obM h7 cc0_scratch2 cc0_scratch3 ) Q) := by
  iintro #Hc  HK
  rw [k0_part1_eq_skeleton]; unfold k0_part1_skel
  simp only [Prog.lift, Prog.bind_op, Prog.bind_ret, Prog.pure_eq_ret]
  iapply st_dev (F := F) c
  rw [wp_ret]; imodintro
  iapply HK $$ %_ %_ %_ %_ %_ %_ %_ %_ %_

theorem part2 {h0 : stM0.IsWhole} {h1 : stM1.IsWhole} {h2 : stM2.IsWhole} {h3 : stM3.IsWhole} {h4 : stM4.IsWhole} {h5 : outM.IsWhole} {h6 : cmM.IsWhole} {h7 : obM.IsWhole} {v2 : BitVec 32} {v3 : BitVec 32} {v4 : BitVec 32} {v5 : BitVec 32} {v23 : BitVec 32} {v37 : BitVec 1} {Q : _ → sProp 𝕄} :
    ctx P K ⊢ iprop(OW (F := F) 0 c -∗ BS (F := F) (0 : Fin 4) c -∗ BS (F := F) (1 : Fin 4) c -∗
      (∀ (v49 : BitVec 32) (v66 : BitVec 32) (v72 : BitVec 32) (c0_i32_36 : BitVec 32), OW (F := F) 2 c -∗ Q ⟨v49, v66, SemArray.scalar (sig.barrier 0 rfl), v72, c0_i32_36⟩)
      -∗ wp frame (wpE (defs₀ (F := F)) 𝒱₀ (c : Thread nD τ) none) Set.univ
        (k0_part2 (F := F) stM0 h0 stM1 h1 stM2 h2 stM3 h3 stM4 h4 outM h5 cmM h6 obM h7 cc0_scratch2 cc0_scratch3 c v2 v3 v4 v5 v23 v37) Q) := by
  iintro #Hc HO HB0 HB1 HK
  rw [k0_part2_eq_skeleton]; unfold k0_part2_skel
  simp only [semSignalWord, semWaitWord, Prog.lift, Prog.bind_op, Prog.bind_ret, Prog.pure_eq_ret]
  iapply (st_bar P K c 0 (m := 0) (m' := 1) rfl rfl (dev1 c) rfl rfl) $$ Hc HO HB0; iintro HO
  iapply (st_bar P K c 1 (m := 1) (m' := 2) rfl rfl (dev2 c) rfl rfl) $$ Hc HO HB1; iintro HO
  rw [wp_ret]; imodintro
  iapply HK $$ %_ %_ %_ %_ HO

theorem part3 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole} {v6 : BitVec 32} {v72 : BitVec 32} {c0_i32_36 : BitVec 32} {Q : _ → sProp 𝕄} :
    ctx P K ⊢ iprop(OW (F := F) 2 c -∗ BS (F := F) (2 : Fin 4) c -∗ BS (F := F) (3 : Fin 4) c -∗ BW (F := F) c -∗ in0 c i.x -∗ in1 c i.wq -∗ in2 c i.k -∗ in3 c i.v -∗
      (OW (F := F) 4 c -∗ BD (F := F) c -∗ barPay (F := F) c (0 : Fin 4) -∗ barPay (F := F) c (1 : Fin 4) -∗ barPay (F := F) c (2 : Fin 4) -∗ barPay (F := F) c (3 : Fin 4) -∗ in0 c i.x -∗ in1 c i.wq -∗ in2 c i.k -∗ in3 c i.v -∗ Q ⟨(V87 i), (V96 i), (V98 i)⟩)
      -∗ wp frame (wpE (defs₀ (F := F)) 𝒱₀ (c : Thread nD τ) none) Set.univ
        (k0_part3 (F := F) stM0 h0 stM1 h1 stM2 h2 stM3 h3 stM4 h4 outM h5 cmM h6 obM h7 cc0_scratch2 cc0_scratch3 c v6 (SemArray.scalar (sig.barrier 0 rfl)) v72 c0_i32_36) Q) := by
  unfold V87 V96 V98
  iintro #Hc HO HB2 HB3 HBW HIN0 HIN1 HIN2 HIN3 HK
  rw [k0_part3_eq_skeleton]; unfold k0_part3_skel
  simp only [semSignalWord, semWaitWord, Prog.lift, Prog.bind_op, Prog.bind_ret, Prog.pure_eq_ret]
  iapply (st_bar P K c 2 (m := 2) (m' := 3) rfl rfl (dev3 c) rfl rfl) $$ Hc HO HB2; iintro HO
  iapply (st_bar P K c 3 (m := 3) (m' := 4) rfl rfl (dev4 c) rfl rfl) $$ Hc HO HB3; iintro HO
  iapply (st_barw P K c rfl rfl) $$ Hc HO HBW; iintro ⟨HO, HBD, HP0, HP1, HP2, HP3⟩
  iapply (wp_ld0 c) $$ HIN0; iintro HIN0
  iapply (wp_ld0 c) $$ HIN0; iintro HIN0
  iapply (wp_ld0 c) $$ HIN0; iintro HIN0
  iapply (wp_ld0 c) $$ HIN0; iintro HIN0
  iapply (wp_ld1 c) $$ HIN1; iintro HIN1
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  rw [wp_ret]; imodintro
  iapply HK $$ HO HBD HP0 HP1 HP2 HP3 HIN0 HIN1 HIN2 HIN3

theorem part4 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V120 i), (V129 i)⟩)
      -∗ wp frame (wpE (defs₀ (F := F)) 𝒱₀ (c : Thread nD τ) none) Set.univ
        (k0_part4 (F := F) stM0 h0 stM1 h1 stM2 h2 stM3 h3 stM4 h4 outM h5 cmM h6 obM h7 cc0_scratch2 cc0_scratch3 (V87 i) (V96 i) (V98 i)) Q) := by
  unfold V120 V129
  iintro #Hc HIN3 HIN2 HK
  rw [k0_part4_eq_skeleton]; unfold k0_part4_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  rw [wp_ret]; imodintro
  iapply HK $$ HIN3 HIN2

theorem part5 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V153 i), (V162 i)⟩)
      -∗ wp frame (wpE (defs₀ (F := F)) 𝒱₀ (c : Thread nD τ) none) Set.univ
        (k0_part5 (F := F) stM0 h0 stM1 h1 stM2 h2 stM3 h3 stM4 h4 outM h5 cmM h6 obM h7 cc0_scratch2 cc0_scratch3 (V87 i) (V129 i)) Q) := by
  unfold V153 V162
  iintro #Hc HIN3 HIN2 HK
  rw [k0_part5_eq_skeleton]; unfold k0_part5_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  rw [wp_ret]; imodintro
  iapply HK $$ HIN3 HIN2

theorem part6 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V186 i), (V188 i), (V190 i), (V192 i), (V194 i)⟩)
      -∗ wp frame (wpE (defs₀ (F := F)) 𝒱₀ (c : Thread nD τ) none) Set.univ
        (k0_part6 (F := F) stM0 h0 stM1 h1 stM2 h2 stM3 h3 stM4 h4 outM h5 cmM h6 obM h7 cc0_scratch2 cc0_scratch3 (V87 i) (V162 i)) Q) := by
  unfold V186 V188 V190 V192 V194
  iintro #Hc HIN3 HIN2 HK
  rw [k0_part6_eq_skeleton]; unfold k0_part6_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  rw [wp_ret]; imodintro
  iapply HK $$ HIN3 HIN2

theorem part7 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V219 i), (V221 i), (V223 i), (V225 i)⟩)
      -∗ wp frame (wpE (defs₀ (F := F)) 𝒱₀ (c : Thread nD τ) none) Set.univ
        (k0_part7 (F := F) stM0 h0 stM1 h1 stM2 h2 stM3 h3 stM4 h4 outM h5 cmM h6 obM h7 cc0_scratch2 cc0_scratch3 (V87 i) (V188 i) (V190 i) (V192 i) (V194 i)) Q) := by
  unfold V219 V221 V223 V225
  iintro #Hc HIN3 HIN2 HK
  rw [k0_part7_eq_skeleton]; unfold k0_part7_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  rw [wp_ret]; imodintro
  iapply HK $$ HIN3 HIN2

theorem part8 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V252 i), (V254 i), (V256 i), (V258 i)⟩)
      -∗ wp frame (wpE (defs₀ (F := F)) 𝒱₀ (c : Thread nD τ) none) Set.univ
        (k0_part8 (F := F) stM0 h0 stM1 h1 stM2 h2 stM3 h3 stM4 h4 outM h5 cmM h6 obM h7 cc0_scratch2 cc0_scratch3 (V87 i) (V221 i) (V223 i) (V225 i)) Q) := by
  unfold V252 V254 V256 V258
  iintro #Hc HIN2 HIN3 HK
  rw [k0_part8_eq_skeleton]; unfold k0_part8_skel
  simp only [Prog.lift, Prog.bind_op, Prog.bind_ret, Prog.pure_eq_ret]
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  rw [wp_ret]; imodintro
  iapply HK $$ HIN2 HIN3

theorem part9 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V285 i), (V287 i), (V289 i), (V290 i)⟩)
      -∗ wp frame (wpE (defs₀ (F := F)) 𝒱₀ (c : Thread nD τ) none) Set.univ
        (k0_part9 (F := F) stM0 h0 stM1 h1 stM2 h2 stM3 h3 stM4 h4 outM h5 cmM h6 obM h7 cc0_scratch2 cc0_scratch3 (V87 i) (V254 i) (V256 i) (V258 i)) Q) := by
  unfold V285 V287 V289 V290
  iintro #Hc HIN2 HIN3 HK
  rw [k0_part9_eq_skeleton]; unfold k0_part9_skel
  simp only [Prog.lift, Prog.bind_op, Prog.bind_ret, Prog.pure_eq_ret]
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  rw [wp_ret]; imodintro
  iapply HK $$ HIN2 HIN3

theorem part10 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V318 i), (V320 i), (V322 i)⟩)
      -∗ wp frame (wpE (defs₀ (F := F)) 𝒱₀ (c : Thread nD τ) none) Set.univ
        (k0_part10 (F := F) stM0 h0 stM1 h1 stM2 h2 stM3 h3 stM4 h4 outM h5 cmM h6 obM h7 cc0_scratch2 cc0_scratch3 (V87 i) (V287 i) (V289 i) (V290 i)) Q) := by
  unfold V318 V320 V322
  iintro #Hc HIN2 HIN3 HK
  rw [k0_part10_eq_skeleton]; unfold k0_part10_skel
  simp only [Prog.lift, Prog.bind_op, Prog.bind_ret, Prog.pure_eq_ret]
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  rw [wp_ret]; imodintro
  iapply HK $$ HIN2 HIN3

theorem part11 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗ in4 c i.wo -∗ I0 (F := F) (0 : Fin 4) c -∗
      (in2 c i.k -∗ in3 c i.v -∗ in4 c i.wo -∗ I0 (F := F) (0 : Fin 4) c -∗ Q (V355 i))
      -∗ wp frame (wpE (defs₀ (F := F)) 𝒱₀ (c : Thread nD τ) none) Set.univ
        (k0_part11 (F := F) stM0 h0 stM1 h1 stM2 h2 stM3 h3 stM4 h4 outM h5 cmM h6 obM h7 cc0_scratch2 cc0_scratch3 (V87 i) (V120 i) (V153 i) (V186 i) (V219 i) (V252 i) (V285 i) (V318 i) (V320 i) (V322 i)) Q) := by
  unfold V355
  iintro #Hc HIN2 HIN3 HIN4 HC0 HK
  rw [k0_part11_eq_skeleton]; unfold k0_part11_skel
  simp only [Prog.lift, Prog.bind_op, Prog.bind_ret, Prog.pure_eq_ret]
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld4 c) $$ HIN4; iintro HIN4
  iapply (wp_ld_out0 c 0 rfl) $$ HC0; iintro %v356 HC0
  rw [wp_ret]; imodintro
  iapply HK $$ HIN2 HIN3 HIN4 HC0

theorem part12 (i : Ins F) (hW : RowsEq (n := 256) (Sum0 i) (256 * (0 : Fin 4).val) (A P (0 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v20 : BitVec 32} {Q : _ → sProp 𝕄} :
    ctx P K ⊢ iprop(I0 (F := F) (0 : Fin 4) c -∗ OW (F := F) 4 c -∗ RK (F := F) (ix 0 0) c -∗ CM (F := F) (0 : Fin 4) (0 : Fin 4) (flip (dim (0 : Fin 4) (0 : Fin 4)) c) -∗ in0 c i.x -∗ in1 c i.wq -∗
      (∀ (v365 : BitVec 32), S1 P (0 : Fin 4) (0 : Fin 4) c -∗ OW (F := F) 5 c -∗ W1 (F := F) (ix 0 0) c -∗ in0 c i.x -∗ in1 c i.wq -∗ Q ⟨v365, (V385 i)⟩)
      -∗ wp frame (wpE (defs₀ (F := F)) 𝒱₀ (c : Thread nD τ) none) Set.univ
        (k0_part12 (F := F) stM0 h0 stM1 h1 stM2 h2 stM3 h3 stM4 h4 outM h5 cmM h6 obM h7 cc0_scratch2 cc0_scratch3 c v3 v20 (V355 i)) Q) := by
  unfold V385
  iintro #Hc HC0 HO HR0 HM00 HIN0 HIN1 HK
  rw [k0_part12_eq_skeleton]; unfold k0_part12_skel
  simp only [Prog.lift, Prog.bind_op, Prog.bind_ret, Prog.pure_eq_ret]
  iapply (wp_st_out0 P c 0 rfl hW) $$ HC0; iintro HC0
  iapply (wp_ld_ob0 P c 0 rfl) $$ HC0; iintro %v358 HC0
  iapply (wp_st_ob0 P c 0 rfl (by unfold k0_pay31; simp only [shapeCast_id]; exact RowsEq_tr P hW)) $$ HC0; iintro HC0
  iapply (st_rs P K c 0 0 (by decide) (m := 4) (m' := 5) rfl rfl rfl rfl (dev5 c) (off1 c) rfl) $$ Hc HO HC0 HR0 HM00; iintro ⟨HO, HC0, HW0⟩
  iapply (wp_ld0 c) $$ HIN0; iintro HIN0
  iapply (wp_ld0 c) $$ HIN0; iintro HIN0
  iapply (wp_ld0 c) $$ HIN0; iintro HIN0
  iapply (wp_ld0 c) $$ HIN0; iintro HIN0
  iapply (wp_ld1 c) $$ HIN1; iintro HIN1
  rw [wp_ret]; imodintro
  iapply HK $$ %_ HC0 HO HW0 HIN0 HIN1

theorem part13 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q (V418 i))
      -∗ wp frame (wpE (defs₀ (F := F)) 𝒱₀ (c : Thread nD τ) none) Set.univ
        (k0_part13 (F := F) stM0 h0 stM1 h1 stM2 h2 stM3 h3 stM4 h4 outM h5 cmM h6 obM h7 cc0_scratch2 cc0_scratch3 (V385 i)) Q) := by
  unfold V418
  iintro #Hc HIN2 HIN3 HK
  rw [k0_part13_eq_skeleton]; unfold k0_part13_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part14 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V436 i), (V450 i), (Vst_354 i)⟩)
      -∗ wp frame (wpE (defs₀ (F := F)) 𝒱₀ (c : Thread nD τ) none) Set.univ
        (k0_part14 (F := F) stM0 h0 stM1 h1 stM2 h2 stM3 h3 stM4 h4 outM h5 cmM h6 obM h7 cc0_scratch2 cc0_scratch3 (V385 i)) Q) := by
  unfold V436 V450 Vst_354
  iintro #Hc HIN2 HIN3 HK
  rw [k0_part14_eq_skeleton]; unfold k0_part14_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part15 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V451 i), (V469 i), (V479 i), (V482 i)⟩)
      -∗ wp frame (wpE (defs₀ (F := F)) 𝒱₀ (c : Thread nD τ) none) Set.univ
        (k0_part15 (F := F) stM0 h0 stM1 h1 stM2 h2 stM3 h3 stM4 h4 outM h5 cmM h6 obM h7 cc0_scratch2 cc0_scratch3 (V385 i) (V436 i) (V450 i) (Vst_354 i)) Q) := by
  unfold V451 V469 V479 V482
  iintro #Hc HIN2 HIN3 HK
  rw [k0_part15_eq_skeleton]; unfold k0_part15_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part16 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V484 i), (V502 i), (V512 i), (V513 i)⟩)
      -∗ wp frame (wpE (defs₀ (F := F)) 𝒱₀ (c : Thread nD τ) none) Set.univ
        (k0_part16 (F := F) stM0 h0 stM1 h1 stM2 h2 stM3 h3 stM4 h4 outM h5 cmM h6 obM h7 cc0_scratch2 cc0_scratch3 (V385 i) (V469 i) (V479 i) (V482 i)) Q) := by
  unfold V484 V502 V512 V513
  iintro #Hc HIN2 HIN3 HK
  rw [k0_part16_eq_skeleton]; unfold k0_part16_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part17 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V517 i), (V535 i), (V545 i)⟩)
      -∗ wp frame (wpE (defs₀ (F := F)) 𝒱₀ (c : Thread nD τ) none) Set.univ
        (k0_part17 (F := F) stM0 h0 stM1 h1 stM2 h2 stM3 h3 stM4 h4 outM h5 cmM h6 obM h7 cc0_scratch2 cc0_scratch3 (V385 i) (V502 i) (V512 i) (V513 i)) Q) := by
  unfold V517 V535 V545
  iintro #Hc HIN2 HIN3 HK
  rw [k0_part17_eq_skeleton]; unfold k0_part17_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part18 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V550 i), (V568 i), (V573 i), (V576 i)⟩)
      -∗ wp frame (wpE (defs₀ (F := F)) 𝒱₀ (c : Thread nD τ) none) Set.univ
        (k0_part18 (F := F) stM0 h0 stM1 h1 stM2 h2 stM3 h3 stM4 h4 outM h5 cmM h6 obM h7 cc0_scratch2 cc0_scratch3 (V385 i) (V535 i) (V545 i)) Q) := by
  unfold V550 V568 V573 V576
  iintro #Hc HIN2 HIN3 HK
  rw [k0_part18_eq_skeleton]; unfold k0_part18_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part19 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V583 i), (V601 i), (V606 i), (V607 i)⟩)
      -∗ wp frame (wpE (defs₀ (F := F)) 𝒱₀ (c : Thread nD τ) none) Set.univ
        (k0_part19 (F := F) stM0 h0 stM1 h1 stM2 h2 stM3 h3 stM4 h4 outM h5 cmM h6 obM h7 cc0_scratch2 cc0_scratch3 (V385 i) (V568 i) (V573 i) (V576 i)) Q) := by
  unfold V583 V601 V606 V607
  iintro #Hc HIN2 HIN3 HK
  rw [k0_part19_eq_skeleton]; unfold k0_part19_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part20 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V616 i), (V634 i), (V639 i)⟩)
      -∗ wp frame (wpE (defs₀ (F := F)) 𝒱₀ (c : Thread nD τ) none) Set.univ
        (k0_part20 (F := F) stM0 h0 stM1 h1 stM2 h2 stM3 h3 stM4 h4 outM h5 cmM h6 obM h7 cc0_scratch2 cc0_scratch3 (V385 i) (V601 i) (V606 i) (V607 i)) Q) := by
  unfold V616 V634 V639
  iintro #Hc HIN2 HIN3 HK
  rw [k0_part20_eq_skeleton]; unfold k0_part20_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part21 (i : Ins F) (hW : RowsEq (n := 256) (Sum1 i) (256 * (1 : Fin 4).val) (A P (1 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v22 : BitVec 32} {Q : _ → sProp 𝕄} :
    ctx P K ⊢ iprop(in4 c i.wo -∗ I0 (F := F) (1 : Fin 4) c -∗ OW (F := F) 5 c -∗ RK (F := F) (ix 1 0) c -∗ CM (F := F) (1 : Fin 4) (0 : Fin 4) (flip (dim (1 : Fin 4) (0 : Fin 4)) c) -∗ in0 c i.x -∗
      (∀ (v663 : BitVec 32), in4 c i.wo -∗ S1 P (1 : Fin 4) (0 : Fin 4) c -∗ OW (F := F) 6 c -∗ W1 (F := F) (ix 1 0) c -∗ in0 c i.x -∗ Q ⟨v663, (V672 i)⟩)
      -∗ wp frame (wpE (defs₀ (F := F)) 𝒱₀ (c : Thread nD τ) none) Set.univ
        (k0_part21 (F := F) stM0 h0 stM1 h1 stM2 h2 stM3 h3 stM4 h4 outM h5 cmM h6 obM h7 cc0_scratch2 cc0_scratch3 c v4 v22 (V418 i) (V451 i) (V484 i) (V517 i) (V550 i) (V583 i) (V616 i) (V634 i) (V639 i)) Q) := by
  unfold V672
  iintro #Hc HIN4 HC1 HO HR1 HM10 HIN0 HK
  rw [k0_part21_eq_skeleton]; unfold k0_part21_skel
  simp only [Prog.lift, Prog.bind_op, Prog.bind_ret, Prog.pure_eq_ret]
  iapply (wp_ld4 c) $$ HIN4; iintro HIN4
  iapply (wp_ld_out0 c 1 rfl) $$ HC1; iintro %v654 HC1
  iapply (wp_st_out0 P c 1 rfl hW) $$ HC1; iintro HC1
  iapply (wp_ld_ob0 P c 1 rfl) $$ HC1; iintro %v656 HC1
  iapply (wp_st_ob0 P c 1 rfl (by unfold k0_pay59; simp only [shapeCast_id]; exact RowsEq_tr P hW)) $$ HC1; iintro HC1
  iapply (st_rs P K c 1 0 (by decide) (m := 5) (m' := 6) rfl rfl rfl rfl (dev6 c) (off2 c) rfl) $$ Hc HO HC1 HR1 HM10; iintro ⟨HO, HC1, HW1⟩
  iapply (wp_ld0 c) $$ HIN0; iintro HIN0
  rw [wp_ret]; imodintro
  iapply HK $$ %_ HIN4 HC1 HO HW1 HIN0

end Cert.Proof

end
-- ==== Proof.PartsB.lean ====
/-
  The runs of the body's sections, in the kernel's order: parts 2 and 3.
-/
module

public import proofs.«01_k».proof.Proof.Curry
public import proofs.«01_k».proof.Proof.Vals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

variable (c : Dev nD)

theorem part22 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in0 c i.x -∗ in1 c i.wq -∗ in2 c i.k -∗ in3 c i.v -∗
      (in0 c i.x -∗ in1 c i.wq -∗ in2 c i.k -∗ in3 c i.v -∗ Q ⟨(V683 i), (V692 i), (V694 i), (V696 i), (V698 i), (V699 i)⟩)
      -∗ wp frame (wpE (defs₀ (F := F)) 𝒱₀ (c : Thread nD τ) none) Set.univ
        (k0_part22 (F := F) stM0 h0 stM1 h1 stM2 h2 stM3 h3 stM4 h4 outM h5 cmM h6 obM h7 cc0_scratch2 cc0_scratch3 (V672 i)) Q) := by
  unfold V683 V692 V694 V696 V698 V699
  iintro #Hc HIN0 HIN1 HIN2 HIN3 HK
  rw [k0_part22_eq_skeleton]; unfold k0_part22_skel
  simp only [Prog.lift, Prog.bind_op, Prog.bind_ret, Prog.pure_eq_ret]
  iapply (wp_ld0 c) $$ HIN0; iintro HIN0
  iapply (wp_ld0 c) $$ HIN0; iintro HIN0
  iapply (wp_ld0 c) $$ HIN0; iintro HIN0
  iapply (wp_ld1 c) $$ HIN1; iintro HIN1
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN0 HIN1 HIN2 HIN3

theorem part23 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V716 i), (V725 i), (V727 i), (V729 i), (V731 i)⟩)
      -∗ wp frame (wpE (defs₀ (F := F)) 𝒱₀ (c : Thread nD τ) none) Set.univ
        (k0_part23 (F := F) stM0 h0 stM1 h1 stM2 h2 stM3 h3 stM4 h4 outM h5 cmM h6 obM h7 cc0_scratch2 cc0_scratch3 (V683 i) (V692 i) (V694 i) (V696 i) (V698 i) (V699 i)) Q) := by
  unfold V716 V725 V727 V729 V731
  iintro #Hc HIN2 HIN3 HK
  rw [k0_part23_eq_skeleton]; unfold k0_part23_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part24 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V749 i), (V758 i), (V760 i), (V762 i), (V764 i)⟩)
      -∗ wp frame (wpE (defs₀ (F := F)) 𝒱₀ (c : Thread nD τ) none) Set.univ
        (k0_part24 (F := F) stM0 h0 stM1 h1 stM2 h2 stM3 h3 stM4 h4 outM h5 cmM h6 obM h7 cc0_scratch2 cc0_scratch3 (V683 i) (V725 i) (V727 i) (V729 i) (V731 i)) Q) := by
  unfold V749 V758 V760 V762 V764
  iintro #Hc HIN3 HIN2 HK
  rw [k0_part24_eq_skeleton]; unfold k0_part24_skel
  simp only [Prog.lift, Prog.bind_op, Prog.bind_ret, Prog.pure_eq_ret]
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  rw [wp_ret]; imodintro
  iapply HK $$ HIN3 HIN2

theorem part25 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V782 i), (V791 i), (V793 i), (V795 i)⟩)
      -∗ wp frame (wpE (defs₀ (F := F)) 𝒱₀ (c : Thread nD τ) none) Set.univ
        (k0_part25 (F := F) stM0 h0 stM1 h1 stM2 h2 stM3 h3 stM4 h4 outM h5 cmM h6 obM h7 cc0_scratch2 cc0_scratch3 (V683 i) (V758 i) (V760 i) (V762 i) (V764 i)) Q) := by
  unfold V782 V791 V793 V795
  iintro #Hc HIN3 HIN2 HK
  rw [k0_part25_eq_skeleton]; unfold k0_part25_skel
  simp only [Prog.lift, Prog.bind_op, Prog.bind_ret, Prog.pure_eq_ret]
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  rw [wp_ret]; imodintro
  iapply HK $$ HIN3 HIN2

theorem part26 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V815 i), (V824 i), (V826 i), (V828 i)⟩)
      -∗ wp frame (wpE (defs₀ (F := F)) 𝒱₀ (c : Thread nD τ) none) Set.univ
        (k0_part26 (F := F) stM0 h0 stM1 h1 stM2 h2 stM3 h3 stM4 h4 outM h5 cmM h6 obM h7 cc0_scratch2 cc0_scratch3 (V683 i) (V791 i) (V793 i) (V795 i)) Q) := by
  unfold V815 V824 V826 V828
  iintro #Hc HIN3 HIN2 HK
  rw [k0_part26_eq_skeleton]; unfold k0_part26_skel
  simp only [Prog.lift, Prog.bind_op, Prog.bind_ret, Prog.pure_eq_ret]
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  rw [wp_ret]; imodintro
  iapply HK $$ HIN3 HIN2

theorem part27 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V848 i), (V857 i), (V859 i), (V860 i)⟩)
      -∗ wp frame (wpE (defs₀ (F := F)) 𝒱₀ (c : Thread nD τ) none) Set.univ
        (k0_part27 (F := F) stM0 h0 stM1 h1 stM2 h2 stM3 h3 stM4 h4 outM h5 cmM h6 obM h7 cc0_scratch2 cc0_scratch3 (V683 i) (V824 i) (V826 i) (V828 i)) Q) := by
  unfold V848 V857 V859 V860
  iintro #Hc HIN3 HIN2 HK
  rw [k0_part27_eq_skeleton]; unfold k0_part27_skel
  simp only [Prog.lift, Prog.bind_op, Prog.bind_ret, Prog.pure_eq_ret]
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  rw [wp_ret]; imodintro
  iapply HK $$ HIN3 HIN2

theorem part28 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V881 i), (V890 i), (V892 i)⟩)
      -∗ wp frame (wpE (defs₀ (F := F)) 𝒱₀ (c : Thread nD τ) none) Set.univ
        (k0_part28 (F := F) stM0 h0 stM1 h1 stM2 h2 stM3 h3 stM4 h4 outM h5 cmM h6 obM h7 cc0_scratch2 cc0_scratch3 (V683 i) (V857 i) (V859 i) (V860 i)) Q) := by
  unfold V881 V890 V892
  iintro #Hc HIN3 HIN2 HK
  rw [k0_part28_eq_skeleton]; unfold k0_part28_skel
  simp only [Prog.lift, Prog.bind_op, Prog.bind_ret, Prog.pure_eq_ret]
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  rw [wp_ret]; imodintro
  iapply HK $$ HIN3 HIN2

theorem part29 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in3 c i.v -∗ in2 c i.k -∗
      (in3 c i.v -∗ in2 c i.k -∗ Q ⟨(V914 i), (V923 i), (V925 i)⟩)
      -∗ wp frame (wpE (defs₀ (F := F)) 𝒱₀ (c : Thread nD τ) none) Set.univ
        (k0_part29 (F := F) stM0 h0 stM1 h1 stM2 h2 stM3 h3 stM4 h4 outM h5 cmM h6 obM h7 cc0_scratch2 cc0_scratch3 (V683 i) (V890 i) (V892 i)) Q) := by
  unfold V914 V923 V925
  iintro #Hc HIN3 HIN2 HK
  rw [k0_part29_eq_skeleton]; unfold k0_part29_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  rw [wp_ret]; imodintro
  iapply HK $$ HIN3 HIN2

theorem part30 (i : Ins F) (hW : RowsEq (n := 256) (Sum2 i) (256 * (2 : Fin 4).val) (A P (2 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {v49 : BitVec 32} {Q : _ → sProp 𝕄} :
    ctx P K ⊢ iprop(in3 c i.v -∗ in4 c i.wo -∗ I0 (F := F) (2 : Fin 4) c -∗
      (in3 c i.v -∗ in4 c i.wo -∗ S0 P (2 : Fin 4) (0 : Fin 4) c -∗ Q ⟨⟩)
      -∗ wp frame (wpE (defs₀ (F := F)) 𝒱₀ (c : Thread nD τ) none) Set.univ
        (k0_part30 (F := F) stM0 h0 stM1 h1 stM2 h2 stM3 h3 stM4 h4 outM h5 cmM h6 obM h7 cc0_scratch2 cc0_scratch3 v49 (V683 i) (V716 i) (V749 i) (V782 i) (V815 i) (V848 i) (V881 i) (V914 i) (V923 i) (V925 i)) Q) := by
  iintro #Hc HIN3 HIN4 HC2 HK
  rw [k0_part30_eq_skeleton]; unfold k0_part30_skel
  simp only [Prog.lift, Prog.bind_op, Prog.bind_ret, Prog.pure_eq_ret]
  iapply (wp_ld3 c) $$ HIN3; iintro HIN3
  iapply (wp_ld3 c) $$ HIN3; iintro HIN3
  iapply (wp_ld3 c) $$ HIN3; iintro HIN3
  iapply (wp_ld4 c) $$ HIN4; iintro HIN4
  iapply (wp_ld_out0 c 2 rfl) $$ HC2; iintro %v952 HC2
  iapply (wp_st_out0 P c 2 rfl hW) $$ HC2; iintro HC2
  iapply (wp_ld_ob0 P c 2 rfl) $$ HC2; iintro %v954 HC2
  iapply (wp_st_ob0 P c 2 rfl (by unfold k0_pay93; simp only [shapeCast_id]; exact RowsEq_tr P hW)) $$ HC2; iintro HC2
  rw [wp_ret]; imodintro
  iapply HK $$ HIN3 HIN4 HC2

theorem part31 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v49 : BitVec 32} {Q : _ → sProp 𝕄} :
    ctx P K ⊢ iprop(OW (F := F) 6 c -∗ S0 P (2 : Fin 4) (0 : Fin 4) c -∗ RK (F := F) (ix 2 0) c -∗ CM (F := F) (2 : Fin 4) (0 : Fin 4) (flip (dim (2 : Fin 4) (0 : Fin 4)) c) -∗ in0 c i.x -∗ in1 c i.wq -∗ in2 c i.k -∗
      (∀ (v961 : BitVec 32), OW (F := F) 7 c -∗ S1 P (2 : Fin 4) (0 : Fin 4) c -∗ W1 (F := F) (ix 2 0) c -∗ in0 c i.x -∗ in1 c i.wq -∗ in2 c i.k -∗ Q ⟨v961, (V981 i), (V983 i), (V985 i), (V987 i)⟩)
      -∗ wp frame (wpE (defs₀ (F := F)) 𝒱₀ (c : Thread nD τ) none) Set.univ
        (k0_part31 (F := F) stM0 h0 stM1 h1 stM2 h2 stM3 h3 stM4 h4 outM h5 cmM h6 obM h7 cc0_scratch2 cc0_scratch3 c v5 v49) Q) := by
  unfold V981 V983 V985 V987
  iintro #Hc HO HC2 HR2 HM20 HIN0 HIN1 HIN2 HK
  rw [k0_part31_eq_skeleton]; unfold k0_part31_skel
  simp only [Prog.lift, Prog.bind_op, Prog.bind_ret, Prog.pure_eq_ret]
  iapply (st_rs P K c 2 0 (by decide) (m := 6) (m' := 7) rfl rfl rfl rfl (dev7 c) (off3 c) rfl) $$ Hc HO HC2 HR2 HM20; iintro ⟨HO, HC2, HW2⟩
  iapply (wp_ld0 c) $$ HIN0; iintro HIN0
  iapply (wp_ld0 c) $$ HIN0; iintro HIN0
  iapply (wp_ld0 c) $$ HIN0; iintro HIN0
  iapply (wp_ld0 c) $$ HIN0; iintro HIN0
  iapply (wp_ld1 c) $$ HIN1; iintro HIN1
  iapply (wp_ld2 c) $$ HIN2; iintro HIN2
  iapply (wp_ld2 c) $$ HIN2; iintro HIN2
  iapply (wp_ld2 c) $$ HIN2; iintro HIN2
  rw [wp_ret]; imodintro
  iapply HK $$ %_ HO HC2 HW2 HIN0 HIN1 HIN2

theorem part32 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1014 i), (V1016 i), (V1018 i), (V1020 i)⟩)
      -∗ wp frame (wpE (defs₀ (F := F)) 𝒱₀ (c : Thread nD τ) none) Set.univ
        (k0_part32 (F := F) stM0 h0 stM1 h1 stM2 h2 stM3 h3 stM4 h4 outM h5 cmM h6 obM h7 cc0_scratch2 cc0_scratch3 (V981 i) (V983 i) (V985 i) (V987 i)) Q) := by
  unfold V1014 V1016 V1018 V1020
  iintro #Hc HIN2 HIN3 HK
  rw [k0_part32_eq_skeleton]; unfold k0_part32_skel
  simp only [Prog.lift, Prog.bind_op, Prog.bind_ret, Prog.pure_eq_ret]
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  iapply (wp_ld2 c) $$ HIN2; iintro HIN2
  rw [wp_ret]; imodintro
  iapply HK $$ HIN2 HIN3

theorem part33 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1047 i), (V1049 i), (V1051 i)⟩)
      -∗ wp frame (wpE (defs₀ (F := F)) 𝒱₀ (c : Thread nD τ) none) Set.univ
        (k0_part33 (F := F) stM0 h0 stM1 h1 stM2 h2 stM3 h3 stM4 h4 outM h5 cmM h6 obM h7 cc0_scratch2 cc0_scratch3 (V981 i) (V1016 i) (V1018 i) (V1020 i)) Q) := by
  unfold V1047 V1049 V1051
  iintro #Hc HIN2 HIN3 HK
  rw [k0_part33_eq_skeleton]; unfold k0_part33_skel
  simp only [Prog.lift, Prog.bind_op, Prog.bind_ret, Prog.pure_eq_ret]
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  rw [wp_ret]; imodintro
  iapply HK $$ HIN2 HIN3

theorem part34 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1080 i), (V1082 i), (V1084 i)⟩)
      -∗ wp frame (wpE (defs₀ (F := F)) 𝒱₀ (c : Thread nD τ) none) Set.univ
        (k0_part34 (F := F) stM0 h0 stM1 h1 stM2 h2 stM3 h3 stM4 h4 outM h5 cmM h6 obM h7 cc0_scratch2 cc0_scratch3 (V981 i) (V1049 i) (V1051 i)) Q) := by
  unfold V1080 V1082 V1084
  iintro #Hc HIN2 HIN3 HK
  rw [k0_part34_eq_skeleton]; unfold k0_part34_skel
  simp only [Prog.lift, Prog.bind_op, Prog.bind_ret, Prog.pure_eq_ret]
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  rw [wp_ret]; imodintro
  iapply HK $$ HIN2 HIN3

theorem part35 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1113 i), (V1115 i), (V1116 i)⟩)
      -∗ wp frame (wpE (defs₀ (F := F)) 𝒱₀ (c : Thread nD τ) none) Set.univ
        (k0_part35 (F := F) stM0 h0 stM1 h1 stM2 h2 stM3 h3 stM4 h4 outM h5 cmM h6 obM h7 cc0_scratch2 cc0_scratch3 (V981 i) (V1082 i) (V1084 i)) Q) := by
  unfold V1113 V1115 V1116
  iintro #Hc HIN2 HIN3 HK
  rw [k0_part35_eq_skeleton]; unfold k0_part35_skel
  simp only [Prog.lift, Prog.bind_op, Prog.bind_ret, Prog.pure_eq_ret]
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  iapply (wp_ld2 c) $$ HIN2; iintro HIN2
  rw [wp_ret]; imodintro
  iapply HK $$ HIN2 HIN3

theorem part36 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1146 i), (V1148 i)⟩)
      -∗ wp frame (wpE (defs₀ (F := F)) 𝒱₀ (c : Thread nD τ) none) Set.univ
        (k0_part36 (F := F) stM0 h0 stM1 h1 stM2 h2 stM3 h3 stM4 h4 outM h5 cmM h6 obM h7 cc0_scratch2 cc0_scratch3 (V981 i) (V1115 i) (V1116 i)) Q) := by
  unfold V1146 V1148
  iintro #Hc HIN2 HIN3 HK
  rw [k0_part36_eq_skeleton]; unfold k0_part36_skel
  simp only [Prog.lift, Prog.bind_op, Prog.bind_ret, Prog.pure_eq_ret]
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  rw [wp_ret]; imodintro
  iapply HK $$ HIN2 HIN3

theorem part37 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q ⟨(V1179 i), (V1181 i)⟩)
      -∗ wp frame (wpE (defs₀ (F := F)) 𝒱₀ (c : Thread nD τ) none) Set.univ
        (k0_part37 (F := F) stM0 h0 stM1 h1 stM2 h2 stM3 h3 stM4 h4 outM h5 cmM h6 obM h7 cc0_scratch2 cc0_scratch3 (V981 i) (V1148 i)) Q) := by
  unfold V1179 V1181
  iintro #Hc HIN2 HIN3 HK
  rw [k0_part37_eq_skeleton]; unfold k0_part37_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  iapply (wp_ld2 c) $$ HIN2; iintro HIN2
  rw [wp_ret]; imodintro
  iapply HK $$ HIN2 HIN3

theorem part38 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q (V1212 i))
      -∗ wp frame (wpE (defs₀ (F := F)) 𝒱₀ (c : Thread nD τ) none) Set.univ
        (k0_part38 (F := F) stM0 h0 stM1 h1 stM2 h2 stM3 h3 stM4 h4 outM h5 cmM h6 obM h7 cc0_scratch2 cc0_scratch3 (V981 i) (V1181 i)) Q) := by
  unfold V1212
  iintro #Hc HIN2 HIN3 HK
  rw [k0_part38_eq_skeleton]; unfold k0_part38_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

theorem part39 (i : Ins F) {h0 : stM0.IsWhole} {h1 : stM1.IsWhole} {h2 : stM2.IsWhole} {h3 : stM3.IsWhole} {h4 : stM4.IsWhole} {h5 : outM.IsWhole} {h6 : cmM.IsWhole} {h7 : obM.IsWhole}  {Q : _ → sProp 𝕄} :
    ctx P K ⊢ iprop(in2 c i.k -∗ in3 c i.v -∗
      (in2 c i.k -∗ in3 c i.v -∗ Q (V1246 i))
      -∗ wp frame (wpE (defs₀ (F := F)) 𝒱₀ (c : Thread nD τ) none) Set.univ
        (k0_part39 (F := F) stM0 h0 stM1 h1 stM2 h2 stM3 h3 stM4 h4 outM h5 cmM h6 obM h7 cc0_scratch2 cc0_scratch3 (V981 i) (V1014 i) (V1047 i) (V1080 i) (V1113 i) (V1146 i) (V1179 i) (V1212 i)) Q) := by
  unfold V1246
  iintro #Hc HIN2 HIN3 HK
  rw [k0_part39_eq_skeleton]; unfold k0_part39_skel
  simp only [Prog.lift, Prog.bind_op, Prog.bind_ret, Prog.pure_eq_ret]
  iapply (wp_ld2 c) $$ HIN2; iintro HIN2
  iapply (wp_ld2 c) $$ HIN2; iintro HIN2
  iapply (wp_ld2 c) $$ HIN2; iintro HIN2
  iapply (wp_ld2 c) $$ HIN2; iintro HIN2
  iapply (wp_ld3 c) $$ HIN3; iintro HIN3
  iapply (wp_ld3 c) $$ HIN3; iintro HIN3
  iapply (wp_ld3 c) $$ HIN3; iintro HIN3
  iapply (wp_ld3 c) $$ HIN3; iintro HIN3
  rw [wp_ret]; imodintro
  iapply HK $$ HIN2 HIN3

end Cert.Proof

end
-- ==== Proof.PartsC.lean ====
/-
  The runs of the body's sections, in the kernel's order: the adding rounds.
-/
module

public import proofs.«01_k».proof.Proof.Curry
public import proofs.«01_k».proof.Proof.Vals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

variable (c : Dev nD)

theorem part40 (i : Ins F) (hW : RowsEq (n := 256) (Sum3 i) (256 * (3 : Fin 4).val) (A P (3 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v6 : BitVec 32} {v66 : BitVec 32} {Q : _ → sProp 𝕄} :
    ctx P K ⊢ iprop(in4 c i.wo -∗ I0 (F := F) (3 : Fin 4) c -∗ OW (F := F) 7 c -∗ RK (F := F) (ix 3 0) c -∗ CM (F := F) (3 : Fin 4) (0 : Fin 4) (flip (dim (3 : Fin 4) (0 : Fin 4)) c) -∗ W1 (F := F) (ix 0 0) c -∗
      (∀ (v1259 : BitVec 32), in4 c i.wo -∗ S1 P (3 : Fin 4) (0 : Fin 4) c -∗ OW (F := F) 8 c -∗ W1 (F := F) (ix 3 0) c -∗ W2 (F := F) (ix 0 0) c -∗ Q v1259)
      -∗ wp frame (wpE (defs₀ (F := F)) 𝒱₀ (c : Thread nD τ) none) Set.univ
        (k0_part40 (F := F) stM0 h0 stM1 h1 stM2 h2 stM3 h3 stM4 h4 outM h5 cmM h6 obM h7 cc0_scratch2 cc0_scratch3 c v3 v6 v66 (V1246 i)) Q) := by
  iintro #Hc HIN4 HC3 HO HR3 HM30 HW0 HK
  rw [k0_part40_eq_skeleton]; unfold k0_part40_skel
  simp only [Prog.lift, Prog.bind_op, Prog.bind_ret, Prog.pure_eq_ret]
  iapply (wp_ld4 c) $$ HIN4; iintro HIN4
  iapply (wp_ld_out0 c 3 rfl) $$ HC3; iintro %v1250 HC3
  iapply (wp_st_out0 P c 3 rfl hW) $$ HC3; iintro HC3
  iapply (wp_ld_ob0 P c 3 rfl) $$ HC3; iintro %v1252 HC3
  iapply (wp_st_ob0 P c 3 rfl (by unfold k0_pay117; simp only [shapeCast_id]; exact RowsEq_tr P hW)) $$ HC3; iintro HC3
  iapply (st_rs P K c 3 0 (by decide) (m := 7) (m' := 8) rfl rfl rfl rfl (dev8 c) (off4 c) rfl) $$ Hc HO HC3 HR3 HM30; iintro ⟨HO, HC3, HW3⟩
  iapply (st_rs_sent P K c 0 0 (n := 8) (by decide) rfl rfl) $$ Hc HO HW0; iintro ⟨HO, HW0⟩
  rw [wp_ret]; imodintro
  iapply HK $$ %_ HIN4 HC3 HO HW3 HW0

theorem part41 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v365 : BitVec 32} {v663 : BitVec 32} {Q : _ → sProp 𝕄} :
    ctx P K ⊢ iprop(OW (F := F) 8 c -∗ W2 (F := F) (ix 0 0) c -∗ S1 P (0 : Fin 4) (0 : Fin 4) c -∗ W1 (F := F) (ix 1 0) c -∗ S1 P (1 : Fin 4) (0 : Fin 4) c -∗
      (∀ (v1303 : FVec F S128x1024 .f32) (v1304 : Vec F S128x1024 .bf16), ⌜RowsEq (n := sz ((0 : Fin 4) + 1)) v1303 (off (1 : Fin 4) ((0 : Fin 4) + 1) c) (A P (1 : Fin 4) (0 : Fin 4) c)⌝ -∗ ⌜RowsEq (n := sz ((0 : Fin 4) + 1)) v1304 (off (1 : Fin 4) ((0 : Fin 4) + 1) c) (At P (1 : Fin 4) (0 : Fin 4) (flip (dim (1 : Fin 4) (0 : Fin 4)) c))⌝ -∗ OW (F := F) 8 c -∗ DK (F := F) (ix 0 0) c -∗ CMs P (0 : Fin 4) (0 : Fin 4) c -∗ OQ (F := F) (0 : Fin 4) (0 : Fin 4) c -∗ S0 P (0 : Fin 4) (1 : Fin 4) c -∗ DK (F := F) (ix 1 0) c -∗ CMs P (1 : Fin 4) (0 : Fin 4) c -∗ OQ (F := F) (1 : Fin 4) (0 : Fin 4) c -∗ S1 P (1 : Fin 4) (0 : Fin 4) c -∗ Q ⟨v1303, v1304⟩)
      -∗ wp frame (wpE (defs₀ (F := F)) 𝒱₀ (c : Thread nD τ) none) Set.univ
        (k0_part41 (F := F) stM0 h0 stM1 h1 stM2 h2 stM3 h3 stM4 h4 outM h5 cmM h6 obM h7 cc0_scratch2 cc0_scratch3 c v4 v365 v663) Q) := by
  iintro #Hc HO HW0 HC0 HW1 HC1 HK
  rw [k0_part41_eq_skeleton]; unfold k0_part41_skel
  simp only [Prog.lift, Prog.bind_op, Prog.bind_ret, Prog.pure_eq_ret]
  iapply (st_rs_landed P K c 0 0 (n := 8) (by decide) rfl rfl) $$ Hc HO HW0; iintro ⟨HO, HD0, HS00, HQ00⟩
  iapply (wp_ld_out P c 0 0 rfl (off5 c)) $$ HC0; iintro %v1279 %hv1279 HC0
  iapply (wp_ld_cm P c 0 0 rfl rfl) $$ HS00; iintro %v1281 %hv1281 HS00
  iapply (wp_ld_out P c 0 0 rfl (off5 c)) $$ HC0; iintro %v1285 %hv1285 HC0
  iapply (wp_st_out P c 0 0 rfl (off5 c) (by unfold k0_pay118; exact RowsEq_add P (RowsEq_cast (hv1279)) (hv1281))) $$ HC0; iintro HC0
  iapply (wp_ld_ob P c 0 0 rfl (off5 c)) $$ HC0; iintro %v1288 HC0
  iapply (wp_st_ob P c 0 0 rfl (off5 c) (r' := (1 : Fin 4).val) rfl (by unfold k0_pay119 k0_pay118; exact RowsEq_cast (RowsEq_tr P (RowsEq_add P (RowsEq_cast (hv1279)) (hv1281))))) $$ HC0; iintro HC0
  iapply (st_rs_sent P K c 1 0 (n := 8) (by decide) rfl rfl) $$ Hc HO HW1; iintro ⟨HO, HW1⟩
  iapply (st_rs_landed P K c 1 0 (n := 8) (by decide) rfl rfl) $$ Hc HO HW1; iintro ⟨HO, HD1, HS10, HQ10⟩
  iapply (wp_ld_out P c 1 0 rfl (off6 c)) $$ HC1; iintro %v1302 %hv1302 HC1
  iapply (wp_ld_cm P c 1 0 rfl rfl) $$ HS10; iintro %v1304 %hv1304 HS10
  rw [wp_ret]; imodintro
  iapply HK $$ %(k0_pay120 v1302) %(v1304) %(by unfold k0_pay120; exact RowsEq_cast (hv1302)) %hv1304 HO HD0 HS00 HQ00 HC0 HD1 HS10 HQ10 HC1

theorem part42 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v663 : BitVec 32} {v961 : BitVec 32} {v1303 : FVec F S128x1024 .f32} {v1304 : Vec F S128x1024 .bf16} (hv1303 : RowsEq (n := sz ((0 : Fin 4) + 1)) v1303 (off (1 : Fin 4) ((0 : Fin 4) + 1) c) (A P (1 : Fin 4) (0 : Fin 4) c)) (hv1304 : RowsEq (n := sz ((0 : Fin 4) + 1)) v1304 (off (1 : Fin 4) ((0 : Fin 4) + 1) c) (At P (1 : Fin 4) (0 : Fin 4) (flip (dim (1 : Fin 4) (0 : Fin 4)) c))) {Q : _ → sProp 𝕄} :
    ctx P K ⊢ iprop(S1 P (1 : Fin 4) (0 : Fin 4) c -∗ OW (F := F) 8 c -∗ W1 (F := F) (ix 2 0) c -∗ S1 P (2 : Fin 4) (0 : Fin 4) c -∗
      (S0 P (1 : Fin 4) (1 : Fin 4) c -∗ OW (F := F) 8 c -∗ DK (F := F) (ix 2 0) c -∗ CMs P (2 : Fin 4) (0 : Fin 4) c -∗ OQ (F := F) (2 : Fin 4) (0 : Fin 4) c -∗ S0 P (2 : Fin 4) (1 : Fin 4) c -∗ Q ⟨⟩)
      -∗ wp frame (wpE (defs₀ (F := F)) 𝒱₀ (c : Thread nD τ) none) Set.univ
        (k0_part42 (F := F) stM0 h0 stM1 h1 stM2 h2 stM3 h3 stM4 h4 outM h5 cmM h6 obM h7 cc0_scratch2 cc0_scratch3 c v5 v663 v961 v1303 v1304) Q) := by
  iintro #Hc HC1 HO HW2 HC2 HK
  rw [k0_part42_eq_skeleton]; unfold k0_part42_skel
  simp only [Prog.lift, Prog.bind_op, Prog.bind_ret, Prog.pure_eq_ret]
  iapply (wp_ld_out P c 1 0 rfl (off6 c)) $$ HC1; iintro %v1308 %hv1308 HC1
  iapply (wp_st_out P c 1 0 rfl (off6 c) (by unfold k0_pay121; exact RowsEq_add P (hv1303) (hv1304))) $$ HC1; iintro HC1
  iapply (wp_ld_ob P c 1 0 rfl (off6 c)) $$ HC1; iintro %v1311 HC1
  iapply (wp_st_ob P c 1 0 rfl (off6 c) (r' := (1 : Fin 4).val) rfl (by unfold k0_pay122 k0_pay121; exact RowsEq_cast (RowsEq_tr P (RowsEq_add P (hv1303) (hv1304))))) $$ HC1; iintro HC1
  iapply (st_rs_sent P K c 2 0 (n := 8) (by decide) rfl rfl) $$ Hc HO HW2; iintro ⟨HO, HW2⟩
  iapply (st_rs_landed P K c 2 0 (n := 8) (by decide) rfl rfl) $$ Hc HO HW2; iintro ⟨HO, HD2, HS20, HQ20⟩
  iapply (wp_ld_out P c 2 0 rfl (off7 c)) $$ HC2; iintro %v1325 %hv1325 HC2
  iapply (wp_ld_cm P c 2 0 rfl rfl) $$ HS20; iintro %v1327 %hv1327 HS20
  iapply (wp_ld_out P c 2 0 rfl (off7 c)) $$ HC2; iintro %v1331 %hv1331 HC2
  iapply (wp_st_out P c 2 0 rfl (off7 c) (by unfold k0_pay123; exact RowsEq_add P (RowsEq_cast (hv1325)) (hv1327))) $$ HC2; iintro HC2
  iapply (wp_ld_ob P c 2 0 rfl (off7 c)) $$ HC2; iintro %v1334 HC2
  iapply (wp_st_ob P c 2 0 rfl (off7 c) (r' := (1 : Fin 4).val) rfl (by unfold k0_pay124 k0_pay123; exact RowsEq_cast (RowsEq_tr P (RowsEq_add P (RowsEq_cast (hv1325)) (hv1327))))) $$ HC2; iintro HC2
  rw [wp_ret]; imodintro
  iapply HK $$ HC1 HO HD2 HS20 HQ20 HC2

theorem part43 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v6 : BitVec 32} {v22 : BitVec 32} {v365 : BitVec 32} {v1259 : BitVec 32} {Q : _ → sProp 𝕄} :
    ctx P K ⊢ iprop(OW (F := F) 8 c -∗ W1 (F := F) (ix 3 0) c -∗ S1 P (3 : Fin 4) (0 : Fin 4) c -∗
      (∀ (v1364 : BitVec 32), OW (F := F) 8 c -∗ DK (F := F) (ix 3 0) c -∗ CMs P (3 : Fin 4) (0 : Fin 4) c -∗ OQ (F := F) (3 : Fin 4) (0 : Fin 4) c -∗ S0 P (3 : Fin 4) (1 : Fin 4) c -∗ Q v1364)
      -∗ wp frame (wpE (defs₀ (F := F)) 𝒱₀ (c : Thread nD τ) none) Set.univ
        (k0_part43 (F := F) stM0 h0 stM1 h1 stM2 h2 stM3 h3 stM4 h4 outM h5 cmM h6 obM h7 cc0_scratch2 cc0_scratch3 c v4 v6 v22 v365 v1259) Q) := by
  iintro #Hc HO HW3 HC3 HK
  rw [k0_part43_eq_skeleton]; unfold k0_part43_skel
  simp only [Prog.lift, Prog.bind_op, Prog.bind_ret, Prog.pure_eq_ret]
  iapply (st_rs_sent P K c 3 0 (n := 8) (by decide) rfl rfl) $$ Hc HO HW3; iintro ⟨HO, HW3⟩
  iapply (st_rs_landed P K c 3 0 (n := 8) (by decide) rfl rfl) $$ Hc HO HW3; iintro ⟨HO, HD3, HS30, HQ30⟩
  iapply (wp_ld_out P c 3 0 rfl (off8 c)) $$ HC3; iintro %v1348 %hv1348 HC3
  iapply (wp_ld_cm P c 3 0 rfl rfl) $$ HS30; iintro %v1350 %hv1350 HS30
  iapply (wp_ld_out P c 3 0 rfl (off8 c)) $$ HC3; iintro %v1354 %hv1354 HC3
  iapply (wp_st_out P c 3 0 rfl (off8 c) (by unfold k0_pay125; exact RowsEq_add P (RowsEq_cast (hv1348)) (hv1350))) $$ HC3; iintro HC3
  iapply (wp_ld_ob P c 3 0 rfl (off8 c)) $$ HC3; iintro %v1357 HC3
  iapply (wp_st_ob P c 3 0 rfl (off8 c) (r' := (1 : Fin 4).val) rfl (by unfold k0_pay126 k0_pay125; exact RowsEq_cast (RowsEq_tr P (RowsEq_add P (RowsEq_cast (hv1348)) (hv1350))))) $$ HC3; iintro HC3
  rw [wp_ret]; imodintro
  iapply HK $$ %_ HO HD3 HS30 HQ30 HC3

theorem part44 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v6 : BitVec 32} {v20 : BitVec 32} {v49 : BitVec 32} {v66 : BitVec 32} {v663 : BitVec 32} {v961 : BitVec 32} {v1259 : BitVec 32} {Q : _ → sProp 𝕄} :
    ctx P K ⊢ iprop(OW (F := F) 8 c -∗ S0 P (0 : Fin 4) (1 : Fin 4) c -∗ RK (F := F) (ix 0 1) c -∗ CM (F := F) (0 : Fin 4) (1 : Fin 4) (flip (dim (0 : Fin 4) (1 : Fin 4)) c) -∗ S0 P (1 : Fin 4) (1 : Fin 4) c -∗ RK (F := F) (ix 1 1) c -∗ CM (F := F) (1 : Fin 4) (1 : Fin 4) (flip (dim (1 : Fin 4) (1 : Fin 4)) c) -∗ S0 P (2 : Fin 4) (1 : Fin 4) c -∗ RK (F := F) (ix 2 1) c -∗ CM (F := F) (2 : Fin 4) (1 : Fin 4) (flip (dim (2 : Fin 4) (1 : Fin 4)) c) -∗
      (∀ (v1377 : BitVec 32) (v1390 : BitVec 32), OW (F := F) 11 c -∗ S1 P (0 : Fin 4) (1 : Fin 4) c -∗ W1 (F := F) (ix 0 1) c -∗ S1 P (1 : Fin 4) (1 : Fin 4) c -∗ W1 (F := F) (ix 1 1) c -∗ S1 P (2 : Fin 4) (1 : Fin 4) c -∗ W1 (F := F) (ix 2 1) c -∗ Q ⟨v1377, v1390⟩)
      -∗ wp frame (wpE (defs₀ (F := F)) 𝒱₀ (c : Thread nD τ) none) Set.univ
        (k0_part44 (F := F) stM0 h0 stM1 h1 stM2 h2 stM3 h3 stM4 h4 outM h5 cmM h6 obM h7 cc0_scratch2 cc0_scratch3 c v5 v6 v20 v49 v66 v663 v961 v1259) Q) := by
  iintro #Hc HO HC0 HR4 HM01 HC1 HR5 HM11 HC2 HR6 HM21 HK
  rw [k0_part44_eq_skeleton]; unfold k0_part44_skel
  simp only [Prog.lift, Prog.bind_op, Prog.bind_ret, Prog.pure_eq_ret]
  iapply (st_rs P K c 0 1 (by decide) (m := 8) (m' := 9) rfl rfl rfl rfl (dev9 c) (off9 c) rfl) $$ Hc HO HC0 HR4 HM01; iintro ⟨HO, HC0, HW4⟩
  iapply (st_rs P K c 1 1 (by decide) (m := 9) (m' := 10) rfl rfl rfl rfl (dev10 c) (off10 c) rfl) $$ Hc HO HC1 HR5 HM11; iintro ⟨HO, HC1, HW5⟩
  iapply (st_rs P K c 2 1 (by decide) (m := 10) (m' := 11) rfl rfl rfl rfl (dev11 c) (off11 c) rfl) $$ Hc HO HC2 HR6 HM21; iintro ⟨HO, HC2, HW6⟩
  rw [wp_ret]; imodintro
  iapply HK $$ %_ %_ HO HC0 HW4 HC1 HW5 HC2 HW6

theorem part45 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v20 : BitVec 32} {v1259 : BitVec 32} {v1364 : BitVec 32} {Q : _ → sProp 𝕄} :
    ctx P K ⊢ iprop(OW (F := F) 11 c -∗ S0 P (3 : Fin 4) (1 : Fin 4) c -∗ RK (F := F) (ix 3 1) c -∗ CM (F := F) (3 : Fin 4) (1 : Fin 4) (flip (dim (3 : Fin 4) (1 : Fin 4)) c) -∗ W1 (F := F) (ix 0 1) c -∗ S1 P (0 : Fin 4) (1 : Fin 4) c -∗
      (∀ (v1403 : BitVec 32) (v1430 : FVec F S64x1024 .bf16), ⌜RowsEq (n := sz ((1 : Fin 4) + 1)) v1430 (off (0 : Fin 4) ((1 : Fin 4) + 1) c) (At P (0 : Fin 4) ((1 : Fin 4) + 1) c)⌝ -∗ OW (F := F) 12 c -∗ S1 P (3 : Fin 4) (1 : Fin 4) c -∗ W1 (F := F) (ix 3 1) c -∗ DK (F := F) (ix 0 1) c -∗ CMs P (0 : Fin 4) (1 : Fin 4) c -∗ OQ (F := F) (0 : Fin 4) (1 : Fin 4) c -∗ S4 P (0 : Fin 4) (1 : Fin 4) c -∗ Q ⟨v1403, v1430⟩)
      -∗ wp frame (wpE (defs₀ (F := F)) 𝒱₀ (c : Thread nD τ) none) Set.univ
        (k0_part45 (F := F) stM0 h0 stM1 h1 stM2 h2 stM3 h3 stM4 h4 outM h5 cmM h6 obM h7 cc0_scratch2 cc0_scratch3 c v3 v4 v20 v1259 v1364) Q) := by
  iintro #Hc HO HC3 HR7 HM31 HW4 HC0 HK
  rw [k0_part45_eq_skeleton]; unfold k0_part45_skel
  simp only [Prog.lift, Prog.bind_op, Prog.bind_ret, Prog.pure_eq_ret]
  iapply (st_rs P K c 3 1 (by decide) (m := 11) (m' := 12) rfl rfl rfl rfl (dev12 c) (off12 c) rfl) $$ Hc HO HC3 HR7 HM31; iintro ⟨HO, HC3, HW7⟩
  iapply (st_rs_sent P K c 0 1 (n := 12) (by decide) rfl rfl) $$ Hc HO HW4; iintro ⟨HO, HW4⟩
  iapply (st_rs_landed P K c 0 1 (n := 12) (by decide) rfl rfl) $$ Hc HO HW4; iintro ⟨HO, HD4, HS01, HQ01⟩
  iapply (wp_ld_out P c 0 1 rfl (off13 c)) $$ HC0; iintro %v1423 %hv1423 HC0
  iapply (wp_ld_cm P c 0 1 rfl rfl) $$ HS01; iintro %v1425 %hv1425 HS01
  iapply (wp_ld_out P c 0 1 rfl (off13 c)) $$ HC0; iintro %v1429 %hv1429 HC0
  iapply (wp_st_out P c 0 1 rfl (off13 c) (by unfold k0_pay127; exact RowsEq_add P (RowsEq_cast (hv1423)) (hv1425))) $$ HC0; iintro HC0
  rw [wp_ret]; imodintro
  iapply HK $$ %_ %(k0_pay128 v1423 v1425) %(by unfold k0_pay128 k0_pay127; exact RowsEq_tr P (RowsEq_add P (RowsEq_cast (hv1423)) (hv1425))) HO HC3 HW7 HD4 HS01 HQ01 HC0

theorem part46 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v1377 : BitVec 32} {v1430 : FVec F S64x1024 .bf16} (hv1430 : RowsEq (n := sz ((1 : Fin 4) + 1)) v1430 (off (0 : Fin 4) ((1 : Fin 4) + 1) c) (At P (0 : Fin 4) ((1 : Fin 4) + 1) c)) {Q : _ → sProp 𝕄} :
    ctx P K ⊢ iprop(S4 P (0 : Fin 4) (1 : Fin 4) c -∗ OW (F := F) 12 c -∗ W1 (F := F) (ix 1 1) c -∗ S1 P (1 : Fin 4) (1 : Fin 4) c -∗ W1 (F := F) (ix 2 1) c -∗
      (S0 P (0 : Fin 4) (2 : Fin 4) c -∗ OW (F := F) 12 c -∗ DK (F := F) (ix 1 1) c -∗ CMs P (1 : Fin 4) (1 : Fin 4) c -∗ OQ (F := F) (1 : Fin 4) (1 : Fin 4) c -∗ S0 P (1 : Fin 4) (2 : Fin 4) c -∗ W2 (F := F) (ix 2 1) c -∗ Q ⟨⟩)
      -∗ wp frame (wpE (defs₀ (F := F)) 𝒱₀ (c : Thread nD τ) none) Set.univ
        (k0_part46 (F := F) stM0 h0 stM1 h1 stM2 h2 stM3 h3 stM4 h4 outM h5 cmM h6 obM h7 cc0_scratch2 cc0_scratch3 c v5 v1377 v1430) Q) := by
  iintro #Hc HC0 HO HW5 HC1 HW6 HK
  rw [k0_part46_eq_skeleton]; unfold k0_part46_skel
  simp only [Prog.lift, Prog.bind_op, Prog.bind_ret, Prog.pure_eq_ret]
  iapply (wp_ld_ob P c 0 1 rfl (off13 c)) $$ HC0; iintro %v1432 HC0
  iapply (wp_st_ob P c 0 1 rfl (off13 c) (r' := (2 : Fin 4).val) rfl (by unfold k0_pay129; exact RowsEq_cast (hv1430))) $$ HC0; iintro HC0
  iapply (st_rs_sent P K c 1 1 (n := 12) (by decide) rfl rfl) $$ Hc HO HW5; iintro ⟨HO, HW5⟩
  iapply (st_rs_landed P K c 1 1 (n := 12) (by decide) rfl rfl) $$ Hc HO HW5; iintro ⟨HO, HD5, HS11, HQ11⟩
  iapply (wp_ld_out P c 1 1 rfl (off14 c)) $$ HC1; iintro %v1446 %hv1446 HC1
  iapply (wp_ld_cm P c 1 1 rfl rfl) $$ HS11; iintro %v1448 %hv1448 HS11
  iapply (wp_ld_out P c 1 1 rfl (off14 c)) $$ HC1; iintro %v1452 %hv1452 HC1
  iapply (wp_st_out P c 1 1 rfl (off14 c) (by unfold k0_pay130; exact RowsEq_add P (RowsEq_cast (hv1446)) (hv1448))) $$ HC1; iintro HC1
  iapply (wp_ld_ob P c 1 1 rfl (off14 c)) $$ HC1; iintro %v1455 HC1
  iapply (wp_st_ob P c 1 1 rfl (off14 c) (r' := (2 : Fin 4).val) rfl (by unfold k0_pay131 k0_pay130; exact RowsEq_cast (RowsEq_tr P (RowsEq_add P (RowsEq_cast (hv1446)) (hv1448))))) $$ HC1; iintro HC1
  iapply (st_rs_sent P K c 2 1 (n := 12) (by decide) rfl rfl) $$ Hc HO HW6; iintro ⟨HO, HW6⟩
  rw [wp_ret]; imodintro
  iapply HK $$ HC0 HO HD5 HS11 HQ11 HC1 HW6

theorem part47 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v6 : BitVec 32} {v1390 : BitVec 32} {v1403 : BitVec 32} {Q : _ → sProp 𝕄} :
    ctx P K ⊢ iprop(OW (F := F) 12 c -∗ W2 (F := F) (ix 2 1) c -∗ S1 P (2 : Fin 4) (1 : Fin 4) c -∗ W1 (F := F) (ix 3 1) c -∗
      (OW (F := F) 12 c -∗ DK (F := F) (ix 2 1) c -∗ CMs P (2 : Fin 4) (1 : Fin 4) c -∗ OQ (F := F) (2 : Fin 4) (1 : Fin 4) c -∗ S0 P (2 : Fin 4) (2 : Fin 4) c -∗ DK (F := F) (ix 3 1) c -∗ CMs P (3 : Fin 4) (1 : Fin 4) c -∗ OQ (F := F) (3 : Fin 4) (1 : Fin 4) c -∗ Q ⟨⟩)
      -∗ wp frame (wpE (defs₀ (F := F)) 𝒱₀ (c : Thread nD τ) none) Set.univ
        (k0_part47 (F := F) stM0 h0 stM1 h1 stM2 h2 stM3 h3 stM4 h4 outM h5 cmM h6 obM h7 cc0_scratch2 cc0_scratch3 c v3 v6 v1390 v1403) Q) := by
  iintro #Hc HO HW6 HC2 HW7 HK
  rw [k0_part47_eq_skeleton]; unfold k0_part47_skel
  simp only [Prog.lift, Prog.bind_op, Prog.bind_ret, Prog.pure_eq_ret]
  iapply (st_rs_landed P K c 2 1 (n := 12) (by decide) rfl rfl) $$ Hc HO HW6; iintro ⟨HO, HD6, HS21, HQ21⟩
  iapply (wp_ld_out P c 2 1 rfl (off15 c)) $$ HC2; iintro %v1469 %hv1469 HC2
  iapply (wp_ld_cm P c 2 1 rfl rfl) $$ HS21; iintro %v1471 %hv1471 HS21
  iapply (wp_ld_out P c 2 1 rfl (off15 c)) $$ HC2; iintro %v1475 %hv1475 HC2
  iapply (wp_st_out P c 2 1 rfl (off15 c) (by unfold k0_pay132; exact RowsEq_add P (RowsEq_cast (hv1469)) (hv1471))) $$ HC2; iintro HC2
  iapply (wp_ld_ob P c 2 1 rfl (off15 c)) $$ HC2; iintro %v1478 HC2
  iapply (wp_st_ob P c 2 1 rfl (off15 c) (r' := (2 : Fin 4).val) rfl (by unfold k0_pay133 k0_pay132; exact RowsEq_cast (RowsEq_tr P (RowsEq_add P (RowsEq_cast (hv1469)) (hv1471))))) $$ HC2; iintro HC2
  iapply (st_rs_sent P K c 3 1 (n := 12) (by decide) rfl rfl) $$ Hc HO HW7; iintro ⟨HO, HW7⟩
  iapply (st_rs_landed P K c 3 1 (n := 12) (by decide) rfl rfl) $$ Hc HO HW7; iintro ⟨HO, HD7, HS31, HQ31⟩
  rw [wp_ret]; imodintro
  iapply HK $$ HO HD6 HS21 HQ21 HC2 HD7 HS31 HQ31

theorem part48 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v6 : BitVec 32} {v49 : BitVec 32} {v66 : BitVec 32} {v1364 : BitVec 32} {v1377 : BitVec 32} {v1403 : BitVec 32} {Q : _ → sProp 𝕄} :
    ctx P K ⊢ iprop(S1 P (3 : Fin 4) (1 : Fin 4) c -∗ CMs P (3 : Fin 4) (1 : Fin 4) c -∗ OW (F := F) 12 c -∗ S0 P (0 : Fin 4) (2 : Fin 4) c -∗ RK (F := F) (ix 0 2) c -∗ CM (F := F) (0 : Fin 4) (2 : Fin 4) (flip (dim (0 : Fin 4) (2 : Fin 4)) c) -∗
      (∀ (v1508 : BitVec 32) (v1521 : BitVec 32), S0 P (3 : Fin 4) (2 : Fin 4) c -∗ CMs P (3 : Fin 4) (1 : Fin 4) c -∗ OW (F := F) 13 c -∗ S1 P (0 : Fin 4) (2 : Fin 4) c -∗ W1 (F := F) (ix 0 2) c -∗ Q ⟨v1508, v1521⟩)
      -∗ wp frame (wpE (defs₀ (F := F)) 𝒱₀ (c : Thread nD τ) none) Set.univ
        (k0_part48 (F := F) stM0 h0 stM1 h1 stM2 h2 stM3 h3 stM4 h4 outM h5 cmM h6 obM h7 cc0_scratch2 cc0_scratch3 c v5 v6 v49 v66 v1364 v1377 v1403) Q) := by
  iintro #Hc HC3 HS31 HO HC0 HR8 HM02 HK
  rw [k0_part48_eq_skeleton]; unfold k0_part48_skel
  simp only [Prog.lift, Prog.bind_op, Prog.bind_ret, Prog.pure_eq_ret]
  iapply (wp_ld_out P c 3 1 rfl (off16 c)) $$ HC3; iintro %v1492 %hv1492 HC3
  iapply (wp_ld_cm P c 3 1 rfl rfl) $$ HS31; iintro %v1494 %hv1494 HS31
  iapply (wp_ld_out P c 3 1 rfl (off16 c)) $$ HC3; iintro %v1498 %hv1498 HC3
  iapply (wp_st_out P c 3 1 rfl (off16 c) (by unfold k0_pay134; exact RowsEq_add P (RowsEq_cast (hv1492)) (hv1494))) $$ HC3; iintro HC3
  iapply (wp_ld_ob P c 3 1 rfl (off16 c)) $$ HC3; iintro %v1501 HC3
  iapply (wp_st_ob P c 3 1 rfl (off16 c) (r' := (2 : Fin 4).val) rfl (by unfold k0_pay135 k0_pay134; exact RowsEq_cast (RowsEq_tr P (RowsEq_add P (RowsEq_cast (hv1492)) (hv1494))))) $$ HC3; iintro HC3
  iapply (st_rs P K c 0 2 (by decide) (m := 12) (m' := 13) rfl rfl rfl rfl (dev13 c) (off17 c) rfl) $$ Hc HO HC0 HR8 HM02; iintro ⟨HO, HC0, HW8⟩
  rw [wp_ret]; imodintro
  iapply HK $$ %_ %_ HC3 HS31 HO HC0 HW8

theorem part49 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v20 : BitVec 32} {v22 : BitVec 32} {v1390 : BitVec 32} {v1403 : BitVec 32} {Q : _ → sProp 𝕄} :
    ctx P K ⊢ iprop(OW (F := F) 13 c -∗ S0 P (1 : Fin 4) (2 : Fin 4) c -∗ RK (F := F) (ix 1 2) c -∗ CM (F := F) (1 : Fin 4) (2 : Fin 4) (flip (dim (1 : Fin 4) (2 : Fin 4)) c) -∗ S0 P (2 : Fin 4) (2 : Fin 4) c -∗ RK (F := F) (ix 2 2) c -∗ CM (F := F) (2 : Fin 4) (2 : Fin 4) (flip (dim (2 : Fin 4) (2 : Fin 4)) c) -∗ S0 P (3 : Fin 4) (2 : Fin 4) c -∗ RK (F := F) (ix 3 2) c -∗ CM (F := F) (3 : Fin 4) (2 : Fin 4) (flip (dim (3 : Fin 4) (2 : Fin 4)) c) -∗
      (∀ (v1534 : BitVec 32) (v1547 : BitVec 32), OW (F := F) 16 c -∗ S1 P (1 : Fin 4) (2 : Fin 4) c -∗ W1 (F := F) (ix 1 2) c -∗ S1 P (2 : Fin 4) (2 : Fin 4) c -∗ W1 (F := F) (ix 2 2) c -∗ S1 P (3 : Fin 4) (2 : Fin 4) c -∗ W1 (F := F) (ix 3 2) c -∗ Q ⟨v1534, v1547⟩)
      -∗ wp frame (wpE (defs₀ (F := F)) 𝒱₀ (c : Thread nD τ) none) Set.univ
        (k0_part49 (F := F) stM0 h0 stM1 h1 stM2 h2 stM3 h3 stM4 h4 outM h5 cmM h6 obM h7 cc0_scratch2 cc0_scratch3 c v3 v4 v20 v22 v1390 v1403) Q) := by
  iintro #Hc HO HC1 HR9 HM12 HC2 HR10 HM22 HC3 HR11 HM32 HK
  rw [k0_part49_eq_skeleton]; unfold k0_part49_skel
  simp only [Prog.lift, Prog.bind_op, Prog.bind_ret, Prog.pure_eq_ret]
  iapply (st_rs P K c 1 2 (by decide) (m := 13) (m' := 14) rfl rfl rfl rfl (dev14 c) (off18 c) rfl) $$ Hc HO HC1 HR9 HM12; iintro ⟨HO, HC1, HW9⟩
  iapply (st_rs P K c 2 2 (by decide) (m := 14) (m' := 15) rfl rfl rfl rfl (dev15 c) (off19 c) rfl) $$ Hc HO HC2 HR10 HM22; iintro ⟨HO, HC2, HW10⟩
  iapply (st_rs P K c 3 2 (by decide) (m := 15) (m' := 16) rfl rfl rfl rfl (dev16 c) (off20 c) rfl) $$ Hc HO HC3 HR11 HM32; iintro ⟨HO, HC3, HW11⟩
  rw [wp_ret]; imodintro
  iapply HK $$ %_ %_ HO HC1 HW9 HC2 HW10 HC3 HW11

theorem part50 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v6 : BitVec 32} {v1508 : BitVec 32} {Q : _ → sProp 𝕄} :
    ctx P K ⊢ iprop(OW (F := F) 16 c -∗ W1 (F := F) (ix 0 2) c -∗ S1 P (0 : Fin 4) (2 : Fin 4) c -∗ W1 (F := F) (ix 1 2) c -∗
      (OW (F := F) 16 c -∗ DK (F := F) (ix 0 2) c -∗ CMs P (0 : Fin 4) (2 : Fin 4) c -∗ OQ (F := F) (0 : Fin 4) (2 : Fin 4) c -∗ S0 P (0 : Fin 4) (3 : Fin 4) c -∗ W2 (F := F) (ix 1 2) c -∗ Q ⟨⟩)
      -∗ wp frame (wpE (defs₀ (F := F)) 𝒱₀ (c : Thread nD τ) none) Set.univ
        (k0_part50 (F := F) stM0 h0 stM1 h1 stM2 h2 stM3 h3 stM4 h4 outM h5 cmM h6 obM h7 cc0_scratch2 cc0_scratch3 c v5 v6 v1508) Q) := by
  iintro #Hc HO HW8 HC0 HW9 HK
  rw [k0_part50_eq_skeleton]; unfold k0_part50_skel
  simp only [Prog.lift, Prog.bind_op, Prog.bind_ret, Prog.pure_eq_ret]
  iapply (st_rs_sent P K c 0 2 (n := 16) (by decide) rfl rfl) $$ Hc HO HW8; iintro ⟨HO, HW8⟩
  iapply (st_rs_landed P K c 0 2 (n := 16) (by decide) rfl rfl) $$ Hc HO HW8; iintro ⟨HO, HD8, HS02, HQ02⟩
  iapply (wp_ld_out P c 0 2 rfl (off21 c)) $$ HC0; iintro %v1567 %hv1567 HC0
  iapply (wp_ld_cm P c 0 2 rfl rfl) $$ HS02; iintro %v1569 %hv1569 HS02
  iapply (wp_ld_out P c 0 2 rfl (off21 c)) $$ HC0; iintro %v1573 %hv1573 HC0
  iapply (wp_st_out P c 0 2 rfl (off21 c) (by unfold k0_pay136; exact RowsEq_add P (RowsEq_cast (hv1567)) (hv1569))) $$ HC0; iintro HC0
  iapply (wp_ld_ob P c 0 2 rfl (off21 c)) $$ HC0; iintro %v1576 HC0
  iapply (wp_st_ob P c 0 2 rfl (off21 c) (r' := (3 : Fin 4).val) rfl (by unfold k0_pay137 k0_pay136; exact RowsEq_cast (RowsEq_tr P (RowsEq_add P (RowsEq_cast (hv1567)) (hv1569))))) $$ HC0; iintro HC0
  iapply (st_rs_sent P K c 1 2 (n := 16) (by decide) rfl rfl) $$ Hc HO HW9; iintro ⟨HO, HW9⟩
  rw [wp_ret]; imodintro
  iapply HK $$ HO HD8 HS02 HQ02 HC0 HW9

theorem part51 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v1521 : BitVec 32} {v1534 : BitVec 32} {Q : _ → sProp 𝕄} :
    ctx P K ⊢ iprop(OW (F := F) 16 c -∗ W2 (F := F) (ix 1 2) c -∗ S1 P (1 : Fin 4) (2 : Fin 4) c -∗ W1 (F := F) (ix 2 2) c -∗ S1 P (2 : Fin 4) (2 : Fin 4) c -∗
      (∀ (v1617 : FVec F S32x1024 .f32), ⌜RowsEq (n := sz ((2 : Fin 4) + 1)) v1617 (off (2 : Fin 4) ((2 : Fin 4) + 1) c) (A P (2 : Fin 4) ((2 : Fin 4) + 1) c)⌝ -∗ OW (F := F) 16 c -∗ DK (F := F) (ix 1 2) c -∗ CMs P (1 : Fin 4) (2 : Fin 4) c -∗ OQ (F := F) (1 : Fin 4) (2 : Fin 4) c -∗ S0 P (1 : Fin 4) (3 : Fin 4) c -∗ DK (F := F) (ix 2 2) c -∗ CMs P (2 : Fin 4) (2 : Fin 4) c -∗ OQ (F := F) (2 : Fin 4) (2 : Fin 4) c -∗ S1 P (2 : Fin 4) (2 : Fin 4) c -∗ Q v1617)
      -∗ wp frame (wpE (defs₀ (F := F)) 𝒱₀ (c : Thread nD τ) none) Set.univ
        (k0_part51 (F := F) stM0 h0 stM1 h1 stM2 h2 stM3 h3 stM4 h4 outM h5 cmM h6 obM h7 cc0_scratch2 cc0_scratch3 c v3 v1521 v1534) Q) := by
  iintro #Hc HO HW9 HC1 HW10 HC2 HK
  rw [k0_part51_eq_skeleton]; unfold k0_part51_skel
  simp only [Prog.lift, Prog.bind_op, Prog.bind_ret, Prog.pure_eq_ret]
  iapply (st_rs_landed P K c 1 2 (n := 16) (by decide) rfl rfl) $$ Hc HO HW9; iintro ⟨HO, HD9, HS12, HQ12⟩
  iapply (wp_ld_out P c 1 2 rfl (off22 c)) $$ HC1; iintro %v1590 %hv1590 HC1
  iapply (wp_ld_cm P c 1 2 rfl rfl) $$ HS12; iintro %v1592 %hv1592 HS12
  iapply (wp_ld_out P c 1 2 rfl (off22 c)) $$ HC1; iintro %v1596 %hv1596 HC1
  iapply (wp_st_out P c 1 2 rfl (off22 c) (by unfold k0_pay138; exact RowsEq_add P (RowsEq_cast (hv1590)) (hv1592))) $$ HC1; iintro HC1
  iapply (wp_ld_ob P c 1 2 rfl (off22 c)) $$ HC1; iintro %v1599 HC1
  iapply (wp_st_ob P c 1 2 rfl (off22 c) (r' := (3 : Fin 4).val) rfl (by unfold k0_pay139 k0_pay138; exact RowsEq_cast (RowsEq_tr P (RowsEq_add P (RowsEq_cast (hv1590)) (hv1592))))) $$ HC1; iintro HC1
  iapply (st_rs_sent P K c 2 2 (n := 16) (by decide) rfl rfl) $$ Hc HO HW10; iintro ⟨HO, HW10⟩
  iapply (st_rs_landed P K c 2 2 (n := 16) (by decide) rfl rfl) $$ Hc HO HW10; iintro ⟨HO, HD10, HS22, HQ22⟩
  iapply (wp_ld_out P c 2 2 rfl (off23 c)) $$ HC2; iintro %v1613 %hv1613 HC2
  iapply (wp_ld_cm P c 2 2 rfl rfl) $$ HS22; iintro %v1615 %hv1615 HS22
  rw [wp_ret]; imodintro
  iapply HK $$ %((k0_pay140 v1613 v1615)) %(by unfold k0_pay140; exact RowsEq_add P (RowsEq_cast (hv1613)) (hv1615)) HO HD9 HS12 HQ12 HC1 HD10 HS22 HQ22 HC2

theorem part52 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v66 : BitVec 32} {v1508 : BitVec 32} {v1534 : BitVec 32} {v1547 : BitVec 32} {v1617 : FVec F S32x1024 .f32} (hv1617 : RowsEq (n := sz ((2 : Fin 4) + 1)) v1617 (off (2 : Fin 4) ((2 : Fin 4) + 1) c) (A P (2 : Fin 4) ((2 : Fin 4) + 1) c)) {Q : _ → sProp 𝕄} :
    ctx P K ⊢ iprop(S1 P (2 : Fin 4) (2 : Fin 4) c -∗ OW (F := F) 16 c -∗ W1 (F := F) (ix 3 2) c -∗ S1 P (3 : Fin 4) (2 : Fin 4) c -∗
      (S0 P (2 : Fin 4) (3 : Fin 4) c -∗ OW (F := F) 16 c -∗ DK (F := F) (ix 3 2) c -∗ CMs P (3 : Fin 4) (2 : Fin 4) c -∗ OQ (F := F) (3 : Fin 4) (2 : Fin 4) c -∗ S0 P (3 : Fin 4) (3 : Fin 4) c -∗ Q ⟨⟩)
      -∗ wp frame (wpE (defs₀ (F := F)) 𝒱₀ (c : Thread nD τ) none) Set.univ
        (k0_part52 (F := F) stM0 h0 stM1 h1 stM2 h2 stM3 h3 stM4 h4 outM h5 cmM h6 obM h7 cc0_scratch2 cc0_scratch3 c v4 v66 v1508 v1534 v1547 v1617) Q) := by
  iintro #Hc HC2 HO HW11 HC3 HK
  rw [k0_part52_eq_skeleton]; unfold k0_part52_skel
  simp only [Prog.lift, Prog.bind_op, Prog.bind_ret, Prog.pure_eq_ret]
  iapply (wp_ld_out P c 2 2 rfl (off23 c)) $$ HC2; iintro %v1619 %hv1619 HC2
  iapply (wp_st_out P c 2 2 rfl (off23 c) hv1617) $$ HC2; iintro HC2
  iapply (wp_ld_ob P c 2 2 rfl (off23 c)) $$ HC2; iintro %v1622 HC2
  iapply (wp_st_ob P c 2 2 rfl (off23 c) (r' := (3 : Fin 4).val) rfl (by unfold k0_pay141; exact RowsEq_cast (RowsEq_tr P (hv1617)))) $$ HC2; iintro HC2
  iapply (st_rs_sent P K c 3 2 (n := 16) (by decide) rfl rfl) $$ Hc HO HW11; iintro ⟨HO, HW11⟩
  iapply (st_rs_landed P K c 3 2 (n := 16) (by decide) rfl rfl) $$ Hc HO HW11; iintro ⟨HO, HD11, HS32, HQ32⟩
  iapply (wp_ld_out P c 3 2 rfl (off24 c)) $$ HC3; iintro %v1636 %hv1636 HC3
  iapply (wp_ld_cm P c 3 2 rfl rfl) $$ HS32; iintro %v1638 %hv1638 HS32
  iapply (wp_ld_out P c 3 2 rfl (off24 c)) $$ HC3; iintro %v1642 %hv1642 HC3
  iapply (wp_st_out P c 3 2 rfl (off24 c) (by unfold k0_pay142; exact RowsEq_add P (RowsEq_cast (hv1636)) (hv1638))) $$ HC3; iintro HC3
  iapply (wp_ld_ob P c 3 2 rfl (off24 c)) $$ HC3; iintro %v1645 HC3
  iapply (wp_st_ob P c 3 2 rfl (off24 c) (r' := (3 : Fin 4).val) rfl (by unfold k0_pay143 k0_pay142; exact RowsEq_cast (RowsEq_tr P (RowsEq_add P (RowsEq_cast (hv1636)) (hv1638))))) $$ HC3; iintro HC3
  rw [wp_ret]; imodintro
  iapply HK $$ HC2 HO HD11 HS32 HQ32 HC3

theorem part53 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v6 : BitVec 32} {v20 : BitVec 32} {v22 : BitVec 32} {v66 : BitVec 32} {v1508 : BitVec 32} {v1521 : BitVec 32} {v1534 : BitVec 32} {Q : _ → sProp 𝕄} :
    ctx P K ⊢ iprop(OW (F := F) 16 c -∗ S0 P (0 : Fin 4) (3 : Fin 4) c -∗ RK (F := F) (ix 0 3) c -∗ CM (F := F) (0 : Fin 4) (3 : Fin 4) (flip (dim (0 : Fin 4) (3 : Fin 4)) c) -∗ S0 P (1 : Fin 4) (3 : Fin 4) c -∗ RK (F := F) (ix 1 3) c -∗ CM (F := F) (1 : Fin 4) (3 : Fin 4) (flip (dim (1 : Fin 4) (3 : Fin 4)) c) -∗
      (∀ (v1652 : BitVec 32) (v1665 : BitVec 32) (v1678 : BitVec 32), OW (F := F) 18 c -∗ S1 P (0 : Fin 4) (3 : Fin 4) c -∗ W1 (F := F) (ix 0 3) c -∗ S1 P (1 : Fin 4) (3 : Fin 4) c -∗ W1 (F := F) (ix 1 3) c -∗ Q ⟨v1652, v1665, v1678⟩)
      -∗ wp frame (wpE (defs₀ (F := F)) 𝒱₀ (c : Thread nD τ) none) Set.univ
        (k0_part53 (F := F) stM0 h0 stM1 h1 stM2 h2 stM3 h3 stM4 h4 outM h5 cmM h6 obM h7 cc0_scratch2 cc0_scratch3 c v3 v4 v6 v20 v22 v66 v1508 v1521 v1534) Q) := by
  iintro #Hc HO HC0 HR12 HM03 HC1 HR13 HM13 HK
  rw [k0_part53_eq_skeleton]; unfold k0_part53_skel
  simp only [Prog.lift, Prog.bind_op, Prog.bind_ret, Prog.pure_eq_ret]
  iapply (st_rs P K c 0 3 (by decide) (m := 16) (m' := 17) rfl rfl rfl rfl (dev17 c) (off25 c) rfl) $$ Hc HO HC0 HR12 HM03; iintro ⟨HO, HC0, HW12⟩
  iapply (st_rs P K c 1 3 (by decide) (m := 17) (m' := 18) rfl rfl rfl rfl (dev18 c) (off26 c) rfl) $$ Hc HO HC1 HR13 HM13; iintro ⟨HO, HC1, HW13⟩
  rw [wp_ret]; imodintro
  iapply HK $$ %_ %_ %_ HO HC0 HW12 HC1 HW13

theorem part54 {h0 : stM0.IsWhole} {h1 : stM1.IsWhole} {h2 : stM2.IsWhole} {h3 : stM3.IsWhole} {h4 : stM4.IsWhole} {h5 : outM.IsWhole} {h6 : cmM.IsWhole} {h7 : obM.IsWhole} {v5 : BitVec 32} {v6 : BitVec 32} {v49 : BitVec 32} {v1547 : BitVec 32} {v1652 : BitVec 32} {Q : _ → sProp 𝕄} :
    ctx P K ⊢ iprop(OW (F := F) 18 c -∗ S0 P (2 : Fin 4) (3 : Fin 4) c -∗ RK (F := F) (ix 2 3) c -∗ CM (F := F) (2 : Fin 4) (3 : Fin 4) (flip (dim (2 : Fin 4) (3 : Fin 4)) c) -∗ S0 P (3 : Fin 4) (3 : Fin 4) c -∗ RK (F := F) (ix 3 3) c -∗ CM (F := F) (3 : Fin 4) (3 : Fin 4) (flip (dim (3 : Fin 4) (3 : Fin 4)) c) -∗ W1 (F := F) (ix 0 3) c -∗ S1 P (0 : Fin 4) (3 : Fin 4) c -∗
      (∀ (v1691 : BitVec 32) (v1712 : FVec F S16x1024 .f32), ⌜RowsEq (n := sz ((3 : Fin 4) + 1)) v1712 (off (0 : Fin 4) ((3 : Fin 4) + 1) c) (A P (0 : Fin 4) (3 : Fin 4) c)⌝ -∗ OW (F := F) 20 c -∗ S1 P (2 : Fin 4) (3 : Fin 4) c -∗ W1 (F := F) (ix 2 3) c -∗ S1 P (3 : Fin 4) (3 : Fin 4) c -∗ W1 (F := F) (ix 3 3) c -∗ DK (F := F) (ix 0 3) c -∗ CMs P (0 : Fin 4) (3 : Fin 4) c -∗ OQ (F := F) (0 : Fin 4) (3 : Fin 4) c -∗ S1 P (0 : Fin 4) (3 : Fin 4) c -∗ Q ⟨v1691, v1712⟩)
      -∗ wp frame (wpE (defs₀ (F := F)) 𝒱₀ (c : Thread nD τ) none) Set.univ
        (k0_part54 (F := F) stM0 h0 stM1 h1 stM2 h2 stM3 h3 stM4 h4 outM h5 cmM h6 obM h7 cc0_scratch2 cc0_scratch3 c v5 v6 v49 v1547 v1652) Q) := by
  iintro #Hc HO HC2 HR14 HM23 HC3 HR15 HM33 HW12 HC0 HK
  rw [k0_part54_eq_skeleton]; unfold k0_part54_skel
  simp only [Prog.lift, Prog.bind_op, Prog.bind_ret, Prog.pure_eq_ret]
  iapply (st_rs P K c 2 3 (by decide) (m := 18) (m' := 19) rfl rfl rfl rfl (dev19 c) (off27 c) rfl) $$ Hc HO HC2 HR14 HM23; iintro ⟨HO, HC2, HW14⟩
  iapply (st_rs P K c 3 3 (by decide) (m := 19) (m' := 20) rfl rfl rfl rfl (dev20 c) (off28 c) rfl) $$ Hc HO HC3 HR15 HM33; iintro ⟨HO, HC3, HW15⟩
  iapply (st_rs_sent P K c 0 3 (n := 20) (by decide) rfl rfl) $$ Hc HO HW12; iintro ⟨HO, HW12⟩
  iapply (st_rs_landed P K c 0 3 (n := 20) (by decide) rfl rfl) $$ Hc HO HW12; iintro ⟨HO, HD12, HS03, HQ03⟩
  iapply (wp_ld_out P c 0 3 rfl (off29 c)) $$ HC0; iintro %v1711 %hv1711 HC0
  rw [wp_ret]; imodintro
  iapply HK $$ %_ %(k0_pay144 v1711) %(by unfold k0_pay144; exact RowsEq_cast (hv1711)) HO HC2 HW14 HC3 HW15 HD12 HS03 HQ03 HC0

theorem part55 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v1652 : BitVec 32} {v1665 : BitVec 32} {v1712 : FVec F S16x1024 .f32} (hv1712 : RowsEq (n := sz ((3 : Fin 4) + 1)) v1712 (off (0 : Fin 4) ((3 : Fin 4) + 1) c) (A P (0 : Fin 4) (3 : Fin 4) c)) {Q : _ → sProp 𝕄} :
    ctx P K ⊢ iprop(CMs P (0 : Fin 4) (3 : Fin 4) c -∗ S1 P (0 : Fin 4) (3 : Fin 4) c -∗ OW (F := F) 20 c -∗ W1 (F := F) (ix 1 3) c -∗ S1 P (1 : Fin 4) (3 : Fin 4) c -∗
      (∀ (v1745 : FVec F S16x1024 .bf16), ⌜RowsEq (n := sz ((3 : Fin 4) + 1)) v1745 (off (1 : Fin 4) ((3 : Fin 4) + 1) c) (At P (1 : Fin 4) ((3 : Fin 4) + 1) c)⌝ -∗ CMs P (0 : Fin 4) (3 : Fin 4) c -∗ S0 P (0 : Fin 4) 4 c -∗ OW (F := F) 20 c -∗ DK (F := F) (ix 1 3) c -∗ CMs P (1 : Fin 4) (3 : Fin 4) c -∗ OQ (F := F) (1 : Fin 4) (3 : Fin 4) c -∗ S4 P (1 : Fin 4) (3 : Fin 4) c -∗ Q v1745)
      -∗ wp frame (wpE (defs₀ (F := F)) 𝒱₀ (c : Thread nD τ) none) Set.univ
        (k0_part55 (F := F) stM0 h0 stM1 h1 stM2 h2 stM3 h3 stM4 h4 outM h5 cmM h6 obM h7 cc0_scratch2 cc0_scratch3 c v3 v1652 v1665 v1712) Q) := by
  iintro #Hc HS03 HC0 HO HW13 HC1 HK
  rw [k0_part55_eq_skeleton]; unfold k0_part55_skel
  simp only [Prog.lift, Prog.bind_op, Prog.bind_ret, Prog.pure_eq_ret]
  iapply (wp_ld_cm P c 0 3 rfl rfl) $$ HS03; iintro %v1713 %hv1713 HS03
  iapply (wp_ld_out P c 0 3 rfl (off29 c)) $$ HC0; iintro %v1717 %hv1717 HC0
  iapply (wp_st_out P c 0 3 rfl (off29 c) (by unfold k0_pay145; exact RowsEq_add P (hv1712) (hv1713))) $$ HC0; iintro HC0
  iapply (wp_ld_ob P c 0 3 rfl (off29 c)) $$ HC0; iintro %v1720 HC0
  iapply (wp_st_ob P c 0 3 rfl (off29 c) (r' := 4) rfl (by unfold k0_pay146 k0_pay145; exact RowsEq_cast (RowsEq_tr P (RowsEq_add P (hv1712) (hv1713))))) $$ HC0; iintro HC0
  iapply (st_rs_sent P K c 1 3 (n := 20) (by decide) rfl rfl) $$ Hc HO HW13; iintro ⟨HO, HW13⟩
  iapply (st_rs_landed P K c 1 3 (n := 20) (by decide) rfl rfl) $$ Hc HO HW13; iintro ⟨HO, HD13, HS13, HQ13⟩
  iapply (wp_ld_out P c 1 3 rfl (off30 c)) $$ HC1; iintro %v1734 %hv1734 HC1
  iapply (wp_ld_cm P c 1 3 rfl rfl) $$ HS13; iintro %v1736 %hv1736 HS13
  iapply (wp_ld_out P c 1 3 rfl (off30 c)) $$ HC1; iintro %v1740 %hv1740 HC1
  iapply (wp_st_out P c 1 3 rfl (off30 c) (by unfold k0_pay147; exact RowsEq_add P (RowsEq_cast (hv1734)) (hv1736))) $$ HC1; iintro HC1
  iapply (wp_ld_ob P c 1 3 rfl (off30 c)) $$ HC1; iintro %v1743 HC1
  rw [wp_ret]; imodintro
  iapply HK $$ %((k0_pay148 v1734 v1736)) %(by unfold k0_pay148 k0_pay147; exact RowsEq_cast (RowsEq_tr P (RowsEq_add P (RowsEq_cast (hv1734)) (hv1736)))) HS03 HC0 HO HD13 HS13 HQ13 HC1

theorem part56 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v1678 : BitVec 32} {v1745 : FVec F S16x1024 .bf16} (hv1745 : RowsEq (n := sz ((3 : Fin 4) + 1)) v1745 (off (1 : Fin 4) ((3 : Fin 4) + 1) c) (At P (1 : Fin 4) ((3 : Fin 4) + 1) c)) {Q : _ → sProp 𝕄} :
    ctx P K ⊢ iprop(S4 P (1 : Fin 4) (3 : Fin 4) c -∗ OW (F := F) 20 c -∗ W1 (F := F) (ix 2 3) c -∗ S1 P (2 : Fin 4) (3 : Fin 4) c -∗ W1 (F := F) (ix 3 3) c -∗
      (∀ (c1_i32_1422 : BitVec 32), S0 P (1 : Fin 4) 4 c -∗ OW (F := F) 20 c -∗ DK (F := F) (ix 2 3) c -∗ CMs P (2 : Fin 4) (3 : Fin 4) c -∗ OQ (F := F) (2 : Fin 4) (3 : Fin 4) c -∗ S0 P (2 : Fin 4) 4 c -∗ W2 (F := F) (ix 3 3) c -∗ Q c1_i32_1422)
      -∗ wp frame (wpE (defs₀ (F := F)) 𝒱₀ (c : Thread nD τ) none) Set.univ
        (k0_part56 (F := F) stM0 h0 stM1 h1 stM2 h2 stM3 h3 stM4 h4 outM h5 cmM h6 obM h7 cc0_scratch2 cc0_scratch3 c v4 v1678 v1745) Q) := by
  iintro #Hc HC1 HO HW14 HC2 HW15 HK
  rw [k0_part56_eq_skeleton]; unfold k0_part56_skel
  simp only [Prog.lift, Prog.bind_op, Prog.bind_ret, Prog.pure_eq_ret]
  iapply (wp_st_ob P c 1 3 rfl (off30 c) (r' := 4) rfl hv1745) $$ HC1; iintro HC1
  iapply (st_rs_sent P K c 2 3 (n := 20) (by decide) rfl rfl) $$ Hc HO HW14; iintro ⟨HO, HW14⟩
  iapply (st_rs_landed P K c 2 3 (n := 20) (by decide) rfl rfl) $$ Hc HO HW14; iintro ⟨HO, HD14, HS23, HQ23⟩
  iapply (wp_ld_out P c 2 3 rfl (off31 c)) $$ HC2; iintro %v1757 %hv1757 HC2
  iapply (wp_ld_cm P c 2 3 rfl rfl) $$ HS23; iintro %v1759 %hv1759 HS23
  iapply (wp_ld_out P c 2 3 rfl (off31 c)) $$ HC2; iintro %v1763 %hv1763 HC2
  iapply (wp_st_out P c 2 3 rfl (off31 c) (by unfold k0_pay149; exact RowsEq_add P (RowsEq_cast (hv1757)) (hv1759))) $$ HC2; iintro HC2
  iapply (wp_ld_ob P c 2 3 rfl (off31 c)) $$ HC2; iintro %v1766 HC2
  iapply (wp_st_ob P c 2 3 rfl (off31 c) (r' := 4) rfl (by unfold k0_pay150 k0_pay149; exact RowsEq_cast (RowsEq_tr P (RowsEq_add P (RowsEq_cast (hv1757)) (hv1759))))) $$ HC2; iintro HC2
  iapply (st_rs_sent P K c 3 3 (n := 20) (by decide) rfl rfl) $$ Hc HO HW15; iintro ⟨HO, HW15⟩
  rw [wp_ret]; imodintro
  iapply HK $$ %_ HC1 HO HD14 HS23 HQ23 HC2 HW15

theorem part57 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v5 : BitVec 32} {v6 : BitVec 32} {v66 : BitVec 32} {v1652 : BitVec 32} {v1691 : BitVec 32} {c1_i32_1422 : BitVec 32} {Q : _ → sProp 𝕄} :
    ctx P K ⊢ iprop(OW (F := F) 20 c -∗ W2 (F := F) (ix 3 3) c -∗ S1 P (3 : Fin 4) (3 : Fin 4) c -∗ S0 P (0 : Fin 4) 4 c -∗ RK (F := F) (ixg 0 3) c -∗ OQ (F := F) (0 : Fin 4) (3 : Fin 4) c -∗
      (∀ (v1801 : BitVec 32), OW (F := F) 21 c -∗ DK (F := F) (ix 3 3) c -∗ CMs P (3 : Fin 4) (3 : Fin 4) c -∗ OQ (F := F) (3 : Fin 4) (3 : Fin 4) c -∗ S0 P (3 : Fin 4) 4 c -∗ (∃ f, outPt (F := F) c (256 * (0 : Fin 4).val) 256 f) -∗ W1 (F := F) (ixg 0 3) c -∗ Q v1801)
      -∗ wp frame (wpE (defs₀ (F := F)) 𝒱₀ (c : Thread nD τ) none) Set.univ
        (k0_part57 (F := F) stM0 h0 stM1 h1 stM2 h2 stM3 h3 stM4 h4 outM h5 cmM h6 obM h7 cc0_scratch2 cc0_scratch3 c v3 v5 v6 v66 v1652 v1691 c1_i32_1422) Q) := by
  iintro #Hc HO HW15 HC3 HC0 HR16 HQ03 HK
  rw [k0_part57_eq_skeleton]; unfold k0_part57_skel
  simp only [Prog.lift, Prog.bind_op, Prog.bind_ret, Prog.pure_eq_ret]
  iapply (st_rs_landed P K c 3 3 (n := 20) (by decide) rfl rfl) $$ Hc HO HW15; iintro ⟨HO, HD15, HS33, HQ33⟩
  iapply (wp_ld_out P c 3 3 rfl (off32 c)) $$ HC3; iintro %v1780 %hv1780 HC3
  iapply (wp_ld_cm P c 3 3 rfl rfl) $$ HS33; iintro %v1782 %hv1782 HS33
  iapply (wp_ld_out P c 3 3 rfl (off32 c)) $$ HC3; iintro %v1786 %hv1786 HC3
  iapply (wp_st_out P c 3 3 rfl (off32 c) (by unfold k0_pay151; exact RowsEq_add P (RowsEq_cast (hv1780)) (hv1782))) $$ HC3; iintro HC3
  iapply (wp_ld_ob P c 3 3 rfl (off32 c)) $$ HC3; iintro %v1789 HC3
  iapply (wp_st_ob P c 3 3 rfl (off32 c) (r' := 4) rfl (by unfold k0_pay152 k0_pay151; exact RowsEq_cast (RowsEq_tr P (RowsEq_add P (RowsEq_cast (hv1780)) (hv1782))))) $$ HC3; iintro HC3
  ihave Hend := (S0_end P 0 c) $$ HC0; icases Hend with ⟨HX0, HT0⟩
  iapply (st_ag P K c 0 3 (r' := 4) rfl (by decide) (m := 20) (m' := 21) rfl rfl rfl rfl (dev21 c) (off33 c)) $$ Hc HO HT0 HR16 HQ03; iintro ⟨HO, HW16⟩
  rw [wp_ret]; imodintro
  iapply HK $$ %_ HO HD15 HS33 HQ33 HC3 HX0 HW16

end Cert.Proof

end
-- ==== Proof.PartsD.lean ====
/-
  The runs of the body's sections, in the kernel's order: the hand-back and the final copies.
-/
module

public import proofs.«01_k».proof.Proof.Curry
public import proofs.«01_k».proof.Proof.Vals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

variable (c : Dev nD)

theorem part58 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v5 : BitVec 32} {v6 : BitVec 32} {v20 : BitVec 32} {v22 : BitVec 32} {v49 : BitVec 32} {v1665 : BitVec 32} {v1678 : BitVec 32} {v1691 : BitVec 32} {Q : _ → sProp 𝕄} :
    ctx P K ⊢ iprop(S0 P (1 : Fin 4) 4 c -∗ OW (F := F) 21 c -∗ RK (F := F) (ixg 1 3) c -∗ OQ (F := F) (1 : Fin 4) (3 : Fin 4) c -∗ S0 P (2 : Fin 4) 4 c -∗ RK (F := F) (ixg 2 3) c -∗ OQ (F := F) (2 : Fin 4) (3 : Fin 4) c -∗ S0 P (3 : Fin 4) 4 c -∗ RK (F := F) (ixg 3 3) c -∗ OQ (F := F) (3 : Fin 4) (3 : Fin 4) c -∗ W1 (F := F) (ixg 0 3) c -∗
      (∀ (v1811 : BitVec 32) (v1821 : BitVec 32) (v1831 : BitVec 32), (∃ f, outPt (F := F) c (256 * (1 : Fin 4).val) 256 f) -∗ OW (F := F) 24 c -∗ W1 (F := F) (ixg 1 3) c -∗ (∃ f, outPt (F := F) c (256 * (2 : Fin 4).val) 256 f) -∗ W1 (F := F) (ixg 2 3) c -∗ (∃ f, outPt (F := F) c (256 * (3 : Fin 4).val) 256 f) -∗ W1 (F := F) (ixg 3 3) c -∗ W2 (F := F) (ixg 0 3) c -∗ T0 P (0 : Fin 4) 4 c -∗ Q ⟨v1811, v1821, v1831⟩)
      -∗ wp frame (wpE (defs₀ (F := F)) 𝒱₀ (c : Thread nD τ) none) Set.univ
        (k0_part58 (F := F) stM0 h0 stM1 h1 stM2 h2 stM3 h3 stM4 h4 outM h5 cmM h6 obM h7 cc0_scratch2 cc0_scratch3 c v4 v5 v6 v20 v22 v49 v1665 v1678 v1691) Q) := by
  iintro #Hc HC1 HO HR17 HQ13 HC2 HR18 HQ23 HC3 HR19 HQ33 HW16 HK
  rw [k0_part58_eq_skeleton]; unfold k0_part58_skel
  simp only [Prog.lift, Prog.bind_op, Prog.bind_ret, Prog.pure_eq_ret]
  ihave Hend := (S0_end P 1 c) $$ HC1; icases Hend with ⟨HX1, HT1⟩
  iapply (st_ag P K c 1 3 (r' := 4) rfl (by decide) (m := 21) (m' := 22) rfl rfl rfl rfl (dev22 c) (off34 c)) $$ Hc HO HT1 HR17 HQ13; iintro ⟨HO, HW17⟩
  ihave Hend := (S0_end P 2 c) $$ HC2; icases Hend with ⟨HX2, HT2⟩
  iapply (st_ag P K c 2 3 (r' := 4) rfl (by decide) (m := 22) (m' := 23) rfl rfl rfl rfl (dev23 c) (off35 c)) $$ Hc HO HT2 HR18 HQ23; iintro ⟨HO, HW18⟩
  ihave Hend := (S0_end P 3 c) $$ HC3; icases Hend with ⟨HX3, HT3⟩
  iapply (st_ag P K c 3 3 (r' := 4) rfl (by decide) (m := 23) (m' := 24) rfl rfl rfl rfl (dev24 c) (off36 c)) $$ Hc HO HT3 HR19 HQ33; iintro ⟨HO, HW19⟩
  iapply (st_ag_sent P K c 0 3 (r' := 4) rfl (n := 24) (by decide) rfl rfl) $$ Hc HO HW16; iintro ⟨HO, HW16, HT0⟩
  rw [wp_ret]; imodintro
  iapply HK $$ %_ %_ %_ HX1 HO HW17 HX2 HW18 HX3 HW19 HW16 HT0

theorem part59 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {Q : _ → sProp 𝕄} :
    ctx P K ⊢ iprop(OW (F := F) 24 c -∗ W2 (F := F) (ixg 0 3) c -∗ T0 P (0 : Fin 4) 4 c -∗ W1 (F := F) (ixg 1 3) c -∗ W1 (F := F) (ixg 2 3) c -∗
      (OW (F := F) 24 c -∗ T0 P (0 : Fin 4) (3 : Fin 4) c -∗ DK (F := F) (ixg 0 3) c -∗ T0 P (1 : Fin 4) (3 : Fin 4) c -∗ DK (F := F) (ixg 1 3) c -∗ T0 P (2 : Fin 4) (3 : Fin 4) c -∗ DK (F := F) (ixg 2 3) c -∗ Q ⟨⟩)
      -∗ wp frame (wpE (defs₀ (F := F)) 𝒱₀ (c : Thread nD τ) none) Set.univ
        (k0_part59 (F := F) stM0 h0 stM1 h1 stM2 h2 stM3 h3 stM4 h4 outM h5 cmM h6 obM h7 cc0_scratch2 cc0_scratch3 c v3 v4) Q) := by
  iintro #Hc HO HW16 HT0 HW17 HW18 HK
  rw [k0_part59_eq_skeleton]; unfold k0_part59_skel
  simp only [Prog.lift, Prog.bind_op, Prog.bind_ret, Prog.pure_eq_ret]
  iapply (st_ag_landed P K c 0 3 (r' := 4) rfl (n := 24) (by decide) rfl rfl) $$ Hc HO HW16 HT0; iintro ⟨HO, HD16, HT0⟩
  iapply (st_ag_sent P K c 1 3 (r' := 4) rfl (n := 24) (by decide) rfl rfl) $$ Hc HO HW17; iintro ⟨HO, HW17, HT1⟩
  iapply (st_ag_landed P K c 1 3 (r' := 4) rfl (n := 24) (by decide) rfl rfl) $$ Hc HO HW17 HT1; iintro ⟨HO, HD17, HT1⟩
  iapply (st_ag_sent P K c 2 3 (r' := 4) rfl (n := 24) (by decide) rfl rfl) $$ Hc HO HW18; iintro ⟨HO, HW18, HT2⟩
  iapply (st_ag_landed P K c 2 3 (r' := 4) rfl (n := 24) (by decide) rfl rfl) $$ Hc HO HW18 HT2; iintro ⟨HO, HD18, HT2⟩
  rw [wp_ret]; imodintro
  iapply HK $$ HO HT0 HD16 HT1 HD17 HT2 HD18

theorem part60 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v5 : BitVec 32} {v6 : BitVec 32} {v49 : BitVec 32} {v66 : BitVec 32} {v1801 : BitVec 32} {v1811 : BitVec 32} {Q : _ → sProp 𝕄} :
    ctx P K ⊢ iprop(OW (F := F) 24 c -∗ W1 (F := F) (ixg 3 3) c -∗ T0 P (0 : Fin 4) (3 : Fin 4) c -∗ RK (F := F) (ixg 0 2) c -∗ OQ (F := F) (0 : Fin 4) (2 : Fin 4) c -∗ T0 P (1 : Fin 4) (3 : Fin 4) c -∗ RK (F := F) (ixg 1 2) c -∗ OQ (F := F) (1 : Fin 4) (2 : Fin 4) c -∗
      (∀ (v1881 : BitVec 32) (v1891 : BitVec 32), OW (F := F) 26 c -∗ T0 P (3 : Fin 4) (3 : Fin 4) c -∗ DK (F := F) (ixg 3 3) c -∗ W1 (F := F) (ixg 0 2) c -∗ W1 (F := F) (ixg 1 2) c -∗ Q ⟨v1881, v1891⟩)
      -∗ wp frame (wpE (defs₀ (F := F)) 𝒱₀ (c : Thread nD τ) none) Set.univ
        (k0_part60 (F := F) stM0 h0 stM1 h1 stM2 h2 stM3 h3 stM4 h4 outM h5 cmM h6 obM h7 cc0_scratch2 cc0_scratch3 c v3 v5 v6 v49 v66 v1801 v1811) Q) := by
  iintro #Hc HO HW19 HT0 HR20 HQ02 HT1 HR21 HQ12 HK
  rw [k0_part60_eq_skeleton]; unfold k0_part60_skel
  simp only [Prog.lift, Prog.bind_op, Prog.bind_ret, Prog.pure_eq_ret]
  iapply (st_ag_sent P K c 3 3 (r' := 4) rfl (n := 24) (by decide) rfl rfl) $$ Hc HO HW19; iintro ⟨HO, HW19, HT3⟩
  iapply (st_ag_landed P K c 3 3 (r' := 4) rfl (n := 24) (by decide) rfl rfl) $$ Hc HO HW19 HT3; iintro ⟨HO, HD19, HT3⟩
  iapply (st_ag P K c 0 2 (r' := (3 : Fin 4).val) rfl (by decide) (m := 24) (m' := 25) rfl rfl rfl rfl (dev25 c) (off37 c)) $$ Hc HO HT0 HR20 HQ02; iintro ⟨HO, HW20⟩
  iapply (st_ag P K c 1 2 (r' := (3 : Fin 4).val) rfl (by decide) (m := 25) (m' := 26) rfl rfl rfl rfl (dev26 c) (off38 c)) $$ Hc HO HT1 HR21 HQ12; iintro ⟨HO, HW21⟩
  rw [wp_ret]; imodintro
  iapply HK $$ %_ %_ HO HT3 HD19 HW20 HW21

theorem part61 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v5 : BitVec 32} {v20 : BitVec 32} {v22 : BitVec 32} {v1821 : BitVec 32} {v1831 : BitVec 32} {Q : _ → sProp 𝕄} :
    ctx P K ⊢ iprop(OW (F := F) 26 c -∗ T0 P (2 : Fin 4) (3 : Fin 4) c -∗ RK (F := F) (ixg 2 2) c -∗ OQ (F := F) (2 : Fin 4) (2 : Fin 4) c -∗ T0 P (3 : Fin 4) (3 : Fin 4) c -∗ RK (F := F) (ixg 3 2) c -∗ OQ (F := F) (3 : Fin 4) (2 : Fin 4) c -∗ W1 (F := F) (ixg 0 2) c -∗ W1 (F := F) (ixg 1 2) c -∗
      (∀ (v1901 : BitVec 32) (v1911 : BitVec 32), OW (F := F) 28 c -∗ W1 (F := F) (ixg 2 2) c -∗ W1 (F := F) (ixg 3 2) c -∗ T0 P (0 : Fin 4) (2 : Fin 4) c -∗ DK (F := F) (ixg 0 2) c -∗ W2 (F := F) (ixg 1 2) c -∗ T0 P (1 : Fin 4) (3 : Fin 4) c -∗ Q ⟨v1901, v1911⟩)
      -∗ wp frame (wpE (defs₀ (F := F)) 𝒱₀ (c : Thread nD τ) none) Set.univ
        (k0_part61 (F := F) stM0 h0 stM1 h1 stM2 h2 stM3 h3 stM4 h4 outM h5 cmM h6 obM h7 cc0_scratch2 cc0_scratch3 c v4 v5 v20 v22 v1821 v1831) Q) := by
  iintro #Hc HO HT2 HR22 HQ22 HT3 HR23 HQ32 HW20 HW21 HK
  rw [k0_part61_eq_skeleton]; unfold k0_part61_skel
  simp only [Prog.lift, Prog.bind_op, Prog.bind_ret, Prog.pure_eq_ret]
  iapply (st_ag P K c 2 2 (r' := (3 : Fin 4).val) rfl (by decide) (m := 26) (m' := 27) rfl rfl rfl rfl (dev27 c) (off39 c)) $$ Hc HO HT2 HR22 HQ22; iintro ⟨HO, HW22⟩
  iapply (st_ag P K c 3 2 (r' := (3 : Fin 4).val) rfl (by decide) (m := 27) (m' := 28) rfl rfl rfl rfl (dev28 c) (off40 c)) $$ Hc HO HT3 HR23 HQ32; iintro ⟨HO, HW23⟩
  iapply (st_ag_sent P K c 0 2 (r' := (3 : Fin 4).val) rfl (n := 28) (by decide) rfl rfl) $$ Hc HO HW20; iintro ⟨HO, HW20, HT0⟩
  iapply (st_ag_landed P K c 0 2 (r' := (3 : Fin 4).val) rfl (n := 28) (by decide) rfl rfl) $$ Hc HO HW20 HT0; iintro ⟨HO, HD20, HT0⟩
  iapply (st_ag_sent P K c 1 2 (r' := (3 : Fin 4).val) rfl (n := 28) (by decide) rfl rfl) $$ Hc HO HW21; iintro ⟨HO, HW21, HT1⟩
  rw [wp_ret]; imodintro
  iapply HK $$ %_ %_ HO HW22 HW23 HT0 HD20 HW21 HT1

theorem part62 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v6 : BitVec 32} {Q : _ → sProp 𝕄} :
    ctx P K ⊢ iprop(OW (F := F) 28 c -∗ W2 (F := F) (ixg 1 2) c -∗ T0 P (1 : Fin 4) (3 : Fin 4) c -∗ W1 (F := F) (ixg 2 2) c -∗ W1 (F := F) (ixg 3 2) c -∗
      (OW (F := F) 28 c -∗ T0 P (1 : Fin 4) (2 : Fin 4) c -∗ DK (F := F) (ixg 1 2) c -∗ T0 P (2 : Fin 4) (2 : Fin 4) c -∗ DK (F := F) (ixg 2 2) c -∗ T0 P (3 : Fin 4) (2 : Fin 4) c -∗ DK (F := F) (ixg 3 2) c -∗ Q ⟨⟩)
      -∗ wp frame (wpE (defs₀ (F := F)) 𝒱₀ (c : Thread nD τ) none) Set.univ
        (k0_part62 (F := F) stM0 h0 stM1 h1 stM2 h2 stM3 h3 stM4 h4 outM h5 cmM h6 obM h7 cc0_scratch2 cc0_scratch3 c v3 v4 v6) Q) := by
  iintro #Hc HO HW21 HT1 HW22 HW23 HK
  rw [k0_part62_eq_skeleton]; unfold k0_part62_skel
  simp only [Prog.lift, Prog.bind_op, Prog.bind_ret, Prog.pure_eq_ret]
  iapply (st_ag_landed P K c 1 2 (r' := (3 : Fin 4).val) rfl (n := 28) (by decide) rfl rfl) $$ Hc HO HW21 HT1; iintro ⟨HO, HD21, HT1⟩
  iapply (st_ag_sent P K c 2 2 (r' := (3 : Fin 4).val) rfl (n := 28) (by decide) rfl rfl) $$ Hc HO HW22; iintro ⟨HO, HW22, HT2⟩
  iapply (st_ag_landed P K c 2 2 (r' := (3 : Fin 4).val) rfl (n := 28) (by decide) rfl rfl) $$ Hc HO HW22 HT2; iintro ⟨HO, HD22, HT2⟩
  iapply (st_ag_sent P K c 3 2 (r' := (3 : Fin 4).val) rfl (n := 28) (by decide) rfl rfl) $$ Hc HO HW23; iintro ⟨HO, HW23, HT3⟩
  iapply (st_ag_landed P K c 3 2 (r' := (3 : Fin 4).val) rfl (n := 28) (by decide) rfl rfl) $$ Hc HO HW23 HT3; iintro ⟨HO, HD23, HT3⟩
  rw [wp_ret]; imodintro
  iapply HK $$ HO HT1 HD21 HT2 HD22 HT3 HD23

theorem part63 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v5 : BitVec 32} {v6 : BitVec 32} {v22 : BitVec 32} {v49 : BitVec 32} {v66 : BitVec 32} {v1881 : BitVec 32} {v1891 : BitVec 32} {v1901 : BitVec 32} {Q : _ → sProp 𝕄} :
    ctx P K ⊢ iprop(OW (F := F) 28 c -∗ T0 P (0 : Fin 4) (2 : Fin 4) c -∗ RK (F := F) (ixg 0 1) c -∗ OQ (F := F) (0 : Fin 4) (1 : Fin 4) c -∗ T0 P (1 : Fin 4) (2 : Fin 4) c -∗ RK (F := F) (ixg 1 1) c -∗ OQ (F := F) (1 : Fin 4) (1 : Fin 4) c -∗ T0 P (2 : Fin 4) (2 : Fin 4) c -∗ RK (F := F) (ixg 2 1) c -∗ OQ (F := F) (2 : Fin 4) (1 : Fin 4) c -∗
      (OW (F := F) 31 c -∗ W1 (F := F) (ixg 0 1) c -∗ W1 (F := F) (ixg 1 1) c -∗ W1 (F := F) (ixg 2 1) c -∗ Q ⟨⟩)
      -∗ wp frame (wpE (defs₀ (F := F)) 𝒱₀ (c : Thread nD τ) none) Set.univ
        (k0_part63 (F := F) stM0 h0 stM1 h1 stM2 h2 stM3 h3 stM4 h4 outM h5 cmM h6 obM h7 cc0_scratch2 cc0_scratch3 c v3 v4 v5 v6 v22 v49 v66 v1881 v1891 v1901) Q) := by
  iintro #Hc HO HT0 HR24 HQ01 HT1 HR25 HQ11 HT2 HR26 HQ21 HK
  rw [k0_part63_eq_skeleton]; unfold k0_part63_skel
  simp only [Prog.lift, Prog.bind_op, Prog.bind_ret, Prog.pure_eq_ret]
  iapply (st_ag P K c 0 1 (r' := (2 : Fin 4).val) rfl (by decide) (m := 28) (m' := 29) rfl rfl rfl rfl (dev29 c) (off41 c)) $$ Hc HO HT0 HR24 HQ01; iintro ⟨HO, HW24⟩
  iapply (st_ag P K c 1 1 (r' := (2 : Fin 4).val) rfl (by decide) (m := 29) (m' := 30) rfl rfl rfl rfl (dev30 c) (off42 c)) $$ Hc HO HT1 HR25 HQ11; iintro ⟨HO, HW25⟩
  iapply (st_ag P K c 2 1 (r' := (2 : Fin 4).val) rfl (by decide) (m := 30) (m' := 31) rfl rfl rfl rfl (dev31 c) (off43 c)) $$ Hc HO HT2 HR26 HQ21; iintro ⟨HO, HW26⟩
  rw [wp_ret]; imodintro
  iapply HK $$ HO HW24 HW25 HW26

theorem part64 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v5 : BitVec 32} {v20 : BitVec 32} {v1911 : BitVec 32} {Q : _ → sProp 𝕄} :
    ctx P K ⊢ iprop(OW (F := F) 31 c -∗ T0 P (3 : Fin 4) (2 : Fin 4) c -∗ RK (F := F) (ixg 3 1) c -∗ OQ (F := F) (3 : Fin 4) (1 : Fin 4) c -∗ W1 (F := F) (ixg 0 1) c -∗ W1 (F := F) (ixg 1 1) c -∗
      (OW (F := F) 32 c -∗ W1 (F := F) (ixg 3 1) c -∗ T0 P (0 : Fin 4) (1 : Fin 4) c -∗ DK (F := F) (ixg 0 1) c -∗ T0 P (1 : Fin 4) (1 : Fin 4) c -∗ DK (F := F) (ixg 1 1) c -∗ Q ⟨⟩)
      -∗ wp frame (wpE (defs₀ (F := F)) 𝒱₀ (c : Thread nD τ) none) Set.univ
        (k0_part64 (F := F) stM0 h0 stM1 h1 stM2 h2 stM3 h3 stM4 h4 outM h5 cmM h6 obM h7 cc0_scratch2 cc0_scratch3 c v4 v5 v20 v1911) Q) := by
  iintro #Hc HO HT3 HR27 HQ31 HW24 HW25 HK
  rw [k0_part64_eq_skeleton]; unfold k0_part64_skel
  simp only [Prog.lift, Prog.bind_op, Prog.bind_ret, Prog.pure_eq_ret]
  iapply (st_ag P K c 3 1 (r' := (2 : Fin 4).val) rfl (by decide) (m := 31) (m' := 32) rfl rfl rfl rfl (dev32 c) (off44 c)) $$ Hc HO HT3 HR27 HQ31; iintro ⟨HO, HW27⟩
  iapply (st_ag_sent P K c 0 1 (r' := (2 : Fin 4).val) rfl (n := 32) (by decide) rfl rfl) $$ Hc HO HW24; iintro ⟨HO, HW24, HT0⟩
  iapply (st_ag_landed P K c 0 1 (r' := (2 : Fin 4).val) rfl (n := 32) (by decide) rfl rfl) $$ Hc HO HW24 HT0; iintro ⟨HO, HD24, HT0⟩
  iapply (st_ag_sent P K c 1 1 (r' := (2 : Fin 4).val) rfl (n := 32) (by decide) rfl rfl) $$ Hc HO HW25; iintro ⟨HO, HW25, HT1⟩
  iapply (st_ag_landed P K c 1 1 (r' := (2 : Fin 4).val) rfl (n := 32) (by decide) rfl rfl) $$ Hc HO HW25 HT1; iintro ⟨HO, HD25, HT1⟩
  rw [wp_ret]; imodintro
  iapply HK $$ HO HW27 HT0 HD24 HT1 HD25

theorem part65 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v6 : BitVec 32} {Q : _ → sProp 𝕄} :
    ctx P K ⊢ iprop(OW (F := F) 32 c -∗ W1 (F := F) (ixg 2 1) c -∗ W1 (F := F) (ixg 3 1) c -∗ T0 P (0 : Fin 4) (1 : Fin 4) c -∗ RK (F := F) (ixg 0 0) c -∗ OQ (F := F) (0 : Fin 4) (0 : Fin 4) c -∗
      (OW (F := F) 33 c -∗ T0 P (2 : Fin 4) (1 : Fin 4) c -∗ DK (F := F) (ixg 2 1) c -∗ T0 P (3 : Fin 4) (1 : Fin 4) c -∗ DK (F := F) (ixg 3 1) c -∗ W1 (F := F) (ixg 0 0) c -∗ Q ⟨⟩)
      -∗ wp frame (wpE (defs₀ (F := F)) 𝒱₀ (c : Thread nD τ) none) Set.univ
        (k0_part65 (F := F) stM0 h0 stM1 h1 stM2 h2 stM3 h3 stM4 h4 outM h5 cmM h6 obM h7 cc0_scratch2 cc0_scratch3 c v3 v6) Q) := by
  iintro #Hc HO HW26 HW27 HT0 HR28 HQ00 HK
  rw [k0_part65_eq_skeleton]; unfold k0_part65_skel
  simp only [Prog.lift, Prog.bind_op, Prog.bind_ret, Prog.pure_eq_ret]
  iapply (st_ag_sent P K c 2 1 (r' := (2 : Fin 4).val) rfl (n := 32) (by decide) rfl rfl) $$ Hc HO HW26; iintro ⟨HO, HW26, HT2⟩
  iapply (st_ag_landed P K c 2 1 (r' := (2 : Fin 4).val) rfl (n := 32) (by decide) rfl rfl) $$ Hc HO HW26 HT2; iintro ⟨HO, HD26, HT2⟩
  iapply (st_ag_sent P K c 3 1 (r' := (2 : Fin 4).val) rfl (n := 32) (by decide) rfl rfl) $$ Hc HO HW27; iintro ⟨HO, HW27, HT3⟩
  iapply (st_ag_landed P K c 3 1 (r' := (2 : Fin 4).val) rfl (n := 32) (by decide) rfl rfl) $$ Hc HO HW27 HT3; iintro ⟨HO, HD27, HT3⟩
  iapply (st_ag P K c 0 0 (r' := (1 : Fin 4).val) rfl (by decide) (m := 32) (m' := 33) rfl rfl rfl rfl (dev33 c) (off45 c)) $$ Hc HO HT0 HR28 HQ00; iintro ⟨HO, HW28⟩
  rw [wp_ret]; imodintro
  iapply HK $$ HO HT2 HD26 HT3 HD27 HW28

theorem part66 {h0 : stM0.IsWhole} {h1 : stM1.IsWhole} {h2 : stM2.IsWhole} {h3 : stM3.IsWhole} {h4 : stM4.IsWhole} {h5 : outM.IsWhole} {h6 : cmM.IsWhole} {h7 : obM.IsWhole} {v3 : BitVec 32} {v4 : BitVec 32} {v5 : BitVec 32} {v6 : BitVec 32} {Q : _ → sProp 𝕄} :
    ctx P K ⊢ iprop(OW (F := F) 33 c -∗ T0 P (1 : Fin 4) (1 : Fin 4) c -∗ RK (F := F) (ixg 1 0) c -∗ OQ (F := F) (1 : Fin 4) (0 : Fin 4) c -∗ T0 P (2 : Fin 4) (1 : Fin 4) c -∗ RK (F := F) (ixg 2 0) c -∗ OQ (F := F) (2 : Fin 4) (0 : Fin 4) c -∗ T0 P (3 : Fin 4) (1 : Fin 4) c -∗ RK (F := F) (ixg 3 0) c -∗ OQ (F := F) (3 : Fin 4) (0 : Fin 4) c -∗ W1 (F := F) (ixg 0 0) c -∗
      (OW (F := F) 36 c -∗ W1 (F := F) (ixg 1 0) c -∗ W1 (F := F) (ixg 2 0) c -∗ W1 (F := F) (ixg 3 0) c -∗ W2 (F := F) (ixg 0 0) c -∗ T0 P (0 : Fin 4) (1 : Fin 4) c -∗ Q ⟨⟩)
      -∗ wp frame (wpE (defs₀ (F := F)) 𝒱₀ (c : Thread nD τ) none) Set.univ
        (k0_part66 (F := F) stM0 h0 stM1 h1 stM2 h2 stM3 h3 stM4 h4 outM h5 cmM h6 obM h7 cc0_scratch2 cc0_scratch3 c v3 v4 v5 v6) Q) := by
  iintro #Hc HO HT1 HR29 HQ10 HT2 HR30 HQ20 HT3 HR31 HQ30 HW28 HK
  rw [k0_part66_eq_skeleton]; unfold k0_part66_skel
  simp only [Prog.lift, Prog.bind_op, Prog.bind_ret, Prog.pure_eq_ret]
  iapply (st_ag P K c 1 0 (r' := (1 : Fin 4).val) rfl (by decide) (m := 33) (m' := 34) rfl rfl rfl rfl (dev34 c) (off46 c)) $$ Hc HO HT1 HR29 HQ10; iintro ⟨HO, HW29⟩
  iapply (st_ag P K c 2 0 (r' := (1 : Fin 4).val) rfl (by decide) (m := 34) (m' := 35) rfl rfl rfl rfl (dev35 c) (off47 c)) $$ Hc HO HT2 HR30 HQ20; iintro ⟨HO, HW30⟩
  iapply (st_ag P K c 3 0 (r' := (1 : Fin 4).val) rfl (by decide) (m := 35) (m' := 36) rfl rfl rfl rfl (dev36 c) (off48 c)) $$ Hc HO HT3 HR31 HQ30; iintro ⟨HO, HW31⟩
  iapply (st_ag_sent P K c 0 0 (r' := (1 : Fin 4).val) rfl (n := 36) (by decide) rfl rfl) $$ Hc HO HW28; iintro ⟨HO, HW28, HT0⟩
  rw [wp_ret]; imodintro
  iapply HK $$ HO HW29 HW30 HW31 HW28 HT0

theorem part67 {h0 : stM0.IsWhole} {h1 : stM1.IsWhole} {h2 : stM2.IsWhole} {h3 : stM3.IsWhole} {h4 : stM4.IsWhole} {h5 : outM.IsWhole} {h6 : cmM.IsWhole} {h7 : obM.IsWhole} {v4 : BitVec 32} {v5 : BitVec 32} {Q : _ → sProp 𝕄} :
    ctx P K ⊢ iprop(OW (F := F) 36 c -∗ W2 (F := F) (ixg 0 0) c -∗ T0 P (0 : Fin 4) (1 : Fin 4) c -∗ W1 (F := F) (ixg 1 0) c -∗ W1 (F := F) (ixg 2 0) c -∗
      (OW (F := F) 36 c -∗ T0 P (0 : Fin 4) (0 : Fin 4) c -∗ DK (F := F) (ixg 0 0) c -∗ T0 P (1 : Fin 4) (0 : Fin 4) c -∗ DK (F := F) (ixg 1 0) c -∗ T0 P (2 : Fin 4) (0 : Fin 4) c -∗ DK (F := F) (ixg 2 0) c -∗ Q ⟨⟩)
      -∗ wp frame (wpE (defs₀ (F := F)) 𝒱₀ (c : Thread nD τ) none) Set.univ
        (k0_part67 (F := F) stM0 h0 stM1 h1 stM2 h2 stM3 h3 stM4 h4 outM h5 cmM h6 obM h7 cc0_scratch2 cc0_scratch3 c v4 v5) Q) := by
  iintro #Hc HO HW28 HT0 HW29 HW30 HK
  rw [k0_part67_eq_skeleton]; unfold k0_part67_skel
  simp only [Prog.lift, Prog.bind_op, Prog.bind_ret, Prog.pure_eq_ret]
  iapply (st_ag_landed P K c 0 0 (r' := (1 : Fin 4).val) rfl (n := 36) (by decide) rfl rfl) $$ Hc HO HW28 HT0; iintro ⟨HO, HD28, HT0⟩
  iapply (st_ag_sent P K c 1 0 (r' := (1 : Fin 4).val) rfl (n := 36) (by decide) rfl rfl) $$ Hc HO HW29; iintro ⟨HO, HW29, HT1⟩
  iapply (st_ag_landed P K c 1 0 (r' := (1 : Fin 4).val) rfl (n := 36) (by decide) rfl rfl) $$ Hc HO HW29 HT1; iintro ⟨HO, HD29, HT1⟩
  iapply (st_ag_sent P K c 2 0 (r' := (1 : Fin 4).val) rfl (n := 36) (by decide) rfl rfl) $$ Hc HO HW30; iintro ⟨HO, HW30, HT2⟩
  iapply (st_ag_landed P K c 2 0 (r' := (1 : Fin 4).val) rfl (n := 36) (by decide) rfl rfl) $$ Hc HO HW30 HT2; iintro ⟨HO, HD30, HT2⟩
  rw [wp_ret]; imodintro
  iapply HK $$ HO HT0 HD28 HT1 HD29 HT2 HD30

theorem part68 {h0 : stM0.IsWhole} {h1 : stM1.IsWhole} {h2 : stM2.IsWhole} {h3 : stM3.IsWhole} {h4 : stM4.IsWhole} {h5 : outM.IsWhole} {h6 : cmM.IsWhole} {h7 : obM.IsWhole} {v6 : BitVec 32} {Q : _ → sProp 𝕄} :
    ctx P K ⊢ iprop(OW (F := F) 36 c -∗ W1 (F := F) (ixg 3 0) c -∗ (∃ f, outPt (F := F) c (256 * (0 : Fin 4).val) 256 f) -∗ (∃ f, outPt (F := F) c (256 * (1 : Fin 4).val) 256 f) -∗ (∃ f, outPt (F := F) c (256 * (2 : Fin 4).val) 256 f) -∗ (∃ f, outPt (F := F) c (256 * (3 : Fin 4).val) 256 f) -∗ T0 P (0 : Fin 4) (0 : Fin 4) c -∗ T0 P (1 : Fin 4) (0 : Fin 4) c -∗ T0 P (2 : Fin 4) (0 : Fin 4) c -∗
      (∀ (v2120 : FVec F S64x1024 .f32), ⌜RowsEq (n := 64) v2120 (64 * 5) (OUTv P)⌝ -∗ OW (F := F) 36 c -∗ DK (F := F) (ixg 3 0) c -∗ FinA P 5 c -∗ GB P c -∗ Q v2120)
      -∗ wp frame (wpE (defs₀ (F := F)) 𝒱₀ (c : Thread nD τ) none) Set.univ
        (k0_part68 (F := F) stM0 h0 stM1 h1 stM2 h2 stM3 h3 stM4 h4 outM h5 cmM h6 obM h7 cc0_scratch2 cc0_scratch3 c v6) Q) := by
  iintro #Hc HO HW31 HX0 HX1 HX2 HX3 HT0 HT1 HT2 HK
  rw [k0_part68_eq_skeleton]; unfold k0_part68_skel
  simp only [Prog.lift, Prog.bind_op, Prog.bind_ret, Prog.pure_eq_ret]
  iapply (st_ag_sent P K c 3 0 (r' := (1 : Fin 4).val) rfl (n := 36) (by decide) rfl rfl) $$ Hc HO HW31; iintro ⟨HO, HW31, HT3⟩
  iapply (st_ag_landed P K c 3 0 (r' := (1 : Fin 4).val) rfl (n := 36) (by decide) rfl rfl) $$ Hc HO HW31 HT3; iintro ⟨HO, HD31, HT3⟩
  ihave Hfin := (fin_start P c) $$ [HX0 HX1 HX2 HX3 HT0 HT1 HT2 HT3]
  · isplitl [HX0]; · iexact HX0
    isplitl [HX1]; · iexact HX1
    isplitl [HX2]; · iexact HX2
    isplitl [HX3]; · iexact HX3
    isplitl [HT0]; · iexact HT0
    isplitl [HT1]; · iexact HT1
    isplitl [HT2]; · iexact HT2
    iexact HT3
  icases Hfin with ⟨HF, HG⟩
  iapply (wp_ld_G P c 0 rfl (by decide)) $$ HG; iintro %v2104 %hv2104 HG
  iapply (wp_ld_fin P c (n := 0) (a := 0) rfl (by decide)) $$ HF; iintro %v2106 HF
  iapply (wp_st_fin P c (n := 0) 0 rfl (by decide) rfl rfl (RowsEq_src P (by decide) rfl hv2104)) $$ HF; iintro HF
  iapply (wp_ld_G P c 64 rfl (by decide)) $$ HG; iintro %v2107 %hv2107 HG
  iapply (wp_ld_fin P c (n := 1) (a := 256) rfl (by decide)) $$ HF; iintro %v2109 HF
  iapply (wp_st_fin P c (n := 1) 4 rfl (by decide) rfl rfl (RowsEq_src P (by decide) rfl hv2107)) $$ HF; iintro HF
  iapply (wp_ld_G P c 128 rfl (by decide)) $$ HG; iintro %v2110 %hv2110 HG
  iapply (wp_ld_fin P c (n := 2) (a := 512) rfl (by decide)) $$ HF; iintro %v2112 HF
  iapply (wp_st_fin P c (n := 2) 8 rfl (by decide) rfl rfl (RowsEq_src P (by decide) rfl hv2110)) $$ HF; iintro HF
  iapply (wp_ld_G P c 192 rfl (by decide)) $$ HG; iintro %v2113 %hv2113 HG
  iapply (wp_ld_fin P c (n := 3) (a := 768) rfl (by decide)) $$ HF; iintro %v2115 HF
  iapply (wp_st_fin P c (n := 3) 12 rfl (by decide) rfl rfl (RowsEq_src P (by decide) rfl hv2113)) $$ HF; iintro HF
  iapply (wp_ld_G P c 256 rfl (by decide)) $$ HG; iintro %v2116 %hv2116 HG
  iapply (wp_ld_fin P c (n := 4) (a := 64) rfl (by decide)) $$ HF; iintro %v2118 HF
  iapply (wp_st_fin P c (n := 4) 1 rfl (by decide) rfl rfl (RowsEq_src P (by decide) rfl hv2116)) $$ HF; iintro HF
  iapply (wp_ld_G P c 320 rfl (by decide)) $$ HG; iintro %v2119 %hv2119 HG
  rw [wp_ret]; imodintro
  iapply HK $$ %((k0_pay158 v2119)) %(RowsEq_src P (b := 5) (by decide) rfl hv2119) HO HD31 HF HG

theorem part69 {h0 : stM0.IsWhole} {h1 : stM1.IsWhole} {h2 : stM2.IsWhole} {h3 : stM3.IsWhole} {h4 : stM4.IsWhole} {h5 : outM.IsWhole} {h6 : cmM.IsWhole} {h7 : obM.IsWhole} {v2120 : FVec F S64x1024 .f32} (hv2120 : RowsEq (n := 64) v2120 (64 * 5) (OUTv P)) {Q : _ → sProp 𝕄} :
    ctx P K ⊢ iprop(FinA P 5 c -∗ GB P c -∗
      (FinA P 13 c -∗ GB P c -∗ Q ⟨⟩)
      -∗ wp frame (wpE (defs₀ (F := F)) 𝒱₀ (c : Thread nD τ) none) Set.univ
        (k0_part69 (F := F) stM0 h0 stM1 h1 stM2 h2 stM3 h3 stM4 h4 outM h5 cmM h6 obM h7 cc0_scratch2 cc0_scratch3 v2120) Q) := by
  iintro #Hc HF HG HK
  rw [k0_part69_eq_skeleton]; unfold k0_part69_skel
  simp only [Prog.lift, Prog.bind_op, Prog.bind_ret, Prog.pure_eq_ret]
  iapply (wp_ld_fin P c (n := 5) (a := 320) rfl (by decide)) $$ HF; iintro %v2121 HF
  iapply (wp_st_fin P c (n := 5) 5 rfl (by decide) rfl rfl hv2120) $$ HF; iintro HF
  iapply (wp_ld_G P c 384 rfl (by decide)) $$ HG; iintro %v2122 %hv2122 HG
  iapply (wp_ld_fin P c (n := 6) (a := 576) rfl (by decide)) $$ HF; iintro %v2124 HF
  iapply (wp_st_fin P c (n := 6) 9 rfl (by decide) rfl rfl (RowsEq_src P (by decide) rfl hv2122)) $$ HF; iintro HF
  iapply (wp_ld_G P c 448 rfl (by decide)) $$ HG; iintro %v2125 %hv2125 HG
  iapply (wp_ld_fin P c (n := 7) (a := 832) rfl (by decide)) $$ HF; iintro %v2127 HF
  iapply (wp_st_fin P c (n := 7) 13 rfl (by decide) rfl rfl (RowsEq_src P (by decide) rfl hv2125)) $$ HF; iintro HF
  iapply (wp_ld_G P c 512 rfl (by decide)) $$ HG; iintro %v2128 %hv2128 HG
  iapply (wp_ld_fin P c (n := 8) (a := 128) rfl (by decide)) $$ HF; iintro %v2130 HF
  iapply (wp_st_fin P c (n := 8) 2 rfl (by decide) rfl rfl (RowsEq_src P (by decide) rfl hv2128)) $$ HF; iintro HF
  iapply (wp_ld_G P c 576 rfl (by decide)) $$ HG; iintro %v2131 %hv2131 HG
  iapply (wp_ld_fin P c (n := 9) (a := 384) rfl (by decide)) $$ HF; iintro %v2133 HF
  iapply (wp_st_fin P c (n := 9) 6 rfl (by decide) rfl rfl (RowsEq_src P (by decide) rfl hv2131)) $$ HF; iintro HF
  iapply (wp_ld_G P c 640 rfl (by decide)) $$ HG; iintro %v2134 %hv2134 HG
  iapply (wp_ld_fin P c (n := 10) (a := 640) rfl (by decide)) $$ HF; iintro %v2136 HF
  iapply (wp_st_fin P c (n := 10) 10 rfl (by decide) rfl rfl (RowsEq_src P (by decide) rfl hv2134)) $$ HF; iintro HF
  iapply (wp_ld_G P c 704 rfl (by decide)) $$ HG; iintro %v2137 %hv2137 HG
  iapply (wp_ld_fin P c (n := 11) (a := 896) rfl (by decide)) $$ HF; iintro %v2139 HF
  iapply (wp_st_fin P c (n := 11) 14 rfl (by decide) rfl rfl (RowsEq_src P (by decide) rfl hv2137)) $$ HF; iintro HF
  iapply (wp_ld_G P c 768 rfl (by decide)) $$ HG; iintro %v2140 %hv2140 HG
  iapply (wp_ld_fin P c (n := 12) (a := 192) rfl (by decide)) $$ HF; iintro %v2142 HF
  iapply (wp_st_fin P c (n := 12) 3 rfl (by decide) rfl rfl (RowsEq_src P (by decide) rfl hv2140)) $$ HF; iintro HF
  rw [wp_ret]; imodintro
  iapply HK $$ HF HG

end Cert.Proof

end
-- ==== Proof.Whole.lean ====
/-
  The body, its sections one after another.
-/
module

public import proofs.«01_k».proof.Proof.PartsA
public import proofs.«01_k».proof.Proof.PartsB
public import proofs.«01_k».proof.Proof.PartsC
public import proofs.«01_k».proof.Proof.PartsD

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → COut F) (K : GSem nD τ sig → ℕ)

variable (c : Dev nD)

set_option maxHeartbeats 2000000 in
theorem part70 (i : Ins F) (hW0 : RowsEq (n := 256) (Sum0 i) (256 * (0 : Fin 4).val) (A P (0 : Fin 4) 0 c)) (hW1 : RowsEq (n := 256) (Sum1 i) (256 * (1 : Fin 4).val) (A P (1 : Fin 4) 0 c)) (hW2 : RowsEq (n := 256) (Sum2 i) (256 * (2 : Fin 4).val) (A P (2 : Fin 4) 0 c)) (hW3 : RowsEq (n := 256) (Sum3 i) (256 * (3 : Fin 4).val) (A P (3 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {Q : _ → sProp 𝕄} :
    ctx P K ⊢ iprop(OW (F := F) 0 c -∗ BS (F := F) (0 : Fin 4) c -∗ BS (F := F) (1 : Fin 4) c -∗ BS (F := F) (2 : Fin 4) c -∗ BS (F := F) (3 : Fin 4) c -∗ BW (F := F) c -∗ in0 c i.x -∗ in1 c i.wq -∗ in2 c i.k -∗ in3 c i.v -∗ in4 c i.wo -∗ I0 (F := F) (0 : Fin 4) c -∗ I0 (F := F) (1 : Fin 4) c -∗ I0 (F := F) (2 : Fin 4) c -∗ I0 (F := F) (3 : Fin 4) c -∗ RK0 (F := F) (ix 0 0) c -∗ RK0 (F := F) (ix 1 0) c -∗ RK0 (F := F) (ix 2 0) c -∗ RK0 (F := F) (ix 3 0) c -∗ RK0 (F := F) (ix 0 1) c -∗ RK0 (F := F) (ix 1 1) c -∗ RK0 (F := F) (ix 2 1) c -∗ RK0 (F := F) (ix 3 1) c -∗ RK0 (F := F) (ix 0 2) c -∗ RK0 (F := F) (ix 1 2) c -∗ RK0 (F := F) (ix 2 2) c -∗ RK0 (F := F) (ix 3 2) c -∗ RK0 (F := F) (ix 0 3) c -∗ RK0 (F := F) (ix 1 3) c -∗ RK0 (F := F) (ix 2 3) c -∗ RK0 (F := F) (ix 3 3) c -∗ RK0 (F := F) (ixg 0 3) c -∗ RK0 (F := F) (ixg 1 3) c -∗ RK0 (F := F) (ixg 2 3) c -∗ RK0 (F := F) (ixg 3 3) c -∗ RK0 (F := F) (ixg 0 2) c -∗ RK0 (F := F) (ixg 1 2) c -∗ RK0 (F := F) (ixg 2 2) c -∗ RK0 (F := F) (ixg 3 2) c -∗ RK0 (F := F) (ixg 0 1) c -∗ RK0 (F := F) (ixg 1 1) c -∗ RK0 (F := F) (ixg 2 1) c -∗ RK0 (F := F) (ixg 3 1) c -∗ RK0 (F := F) (ixg 0 0) c -∗ RK0 (F := F) (ixg 1 0) c -∗ RK0 (F := F) (ixg 2 0) c -∗ RK0 (F := F) (ixg 3 0) c -∗
      (∀ (v3 : BitVec 32) (v4 : BitVec 32) (v5 : BitVec 32) (v6 : BitVec 32) (v20 : BitVec 32) (v22 : BitVec 32) (v49 : BitVec 32) (v66 : BitVec 32) (v1821 : BitVec 32) (v1831 : BitVec 32) (v1881 : BitVec 32) (v1891 : BitVec 32), RK (F := F) (ixg 2 2) c -∗ RK (F := F) (ixg 3 2) c -∗ RK (F := F) (ixg 0 1) c -∗ RK (F := F) (ixg 1 1) c -∗ RK (F := F) (ixg 2 1) c -∗ RK (F := F) (ixg 3 1) c -∗ RK (F := F) (ixg 0 0) c -∗ RK (F := F) (ixg 1 0) c -∗ RK (F := F) (ixg 2 0) c -∗ RK (F := F) (ixg 3 0) c -∗ BD (F := F) c -∗ in0 c i.x -∗ in1 c i.wq -∗ in2 c i.k -∗ in3 c i.v -∗ in4 c i.wo -∗ DK (F := F) (ix 0 0) c -∗ CMs P (0 : Fin 4) (0 : Fin 4) c -∗ OQ (F := F) (0 : Fin 4) (0 : Fin 4) c -∗ DK (F := F) (ix 1 0) c -∗ CMs P (1 : Fin 4) (0 : Fin 4) c -∗ OQ (F := F) (1 : Fin 4) (0 : Fin 4) c -∗ DK (F := F) (ix 2 0) c -∗ CMs P (2 : Fin 4) (0 : Fin 4) c -∗ OQ (F := F) (2 : Fin 4) (0 : Fin 4) c -∗ DK (F := F) (ix 3 0) c -∗ CMs P (3 : Fin 4) (0 : Fin 4) c -∗ OQ (F := F) (3 : Fin 4) (0 : Fin 4) c -∗ DK (F := F) (ix 0 1) c -∗ CMs P (0 : Fin 4) (1 : Fin 4) c -∗ OQ (F := F) (0 : Fin 4) (1 : Fin 4) c -∗ DK (F := F) (ix 1 1) c -∗ CMs P (1 : Fin 4) (1 : Fin 4) c -∗ OQ (F := F) (1 : Fin 4) (1 : Fin 4) c -∗ DK (F := F) (ix 2 1) c -∗ CMs P (2 : Fin 4) (1 : Fin 4) c -∗ OQ (F := F) (2 : Fin 4) (1 : Fin 4) c -∗ DK (F := F) (ix 3 1) c -∗ OQ (F := F) (3 : Fin 4) (1 : Fin 4) c -∗ CMs P (3 : Fin 4) (1 : Fin 4) c -∗ DK (F := F) (ix 0 2) c -∗ CMs P (0 : Fin 4) (2 : Fin 4) c -∗ DK (F := F) (ix 1 2) c -∗ CMs P (1 : Fin 4) (2 : Fin 4) c -∗ DK (F := F) (ix 2 2) c -∗ CMs P (2 : Fin 4) (2 : Fin 4) c -∗ OQ (F := F) (2 : Fin 4) (2 : Fin 4) c -∗ DK (F := F) (ix 3 2) c -∗ CMs P (3 : Fin 4) (2 : Fin 4) c -∗ OQ (F := F) (3 : Fin 4) (2 : Fin 4) c -∗ DK (F := F) (ix 0 3) c -∗ CMs P (0 : Fin 4) (3 : Fin 4) c -∗ DK (F := F) (ix 1 3) c -∗ CMs P (1 : Fin 4) (3 : Fin 4) c -∗ DK (F := F) (ix 2 3) c -∗ CMs P (2 : Fin 4) (3 : Fin 4) c -∗ DK (F := F) (ix 3 3) c -∗ CMs P (3 : Fin 4) (3 : Fin 4) c -∗ (∃ f, outPt (F := F) c (256 * (0 : Fin 4).val) 256 f) -∗ (∃ f, outPt (F := F) c (256 * (1 : Fin 4).val) 256 f) -∗ (∃ f, outPt (F := F) c (256 * (2 : Fin 4).val) 256 f) -∗ (∃ f, outPt (F := F) c (256 * (3 : Fin 4).val) 256 f) -∗ DK (F := F) (ixg 0 3) c -∗ DK (F := F) (ixg 1 3) c -∗ T0 P (2 : Fin 4) (3 : Fin 4) c -∗ DK (F := F) (ixg 2 3) c -∗ OW (F := F) 26 c -∗ T0 P (3 : Fin 4) (3 : Fin 4) c -∗ DK (F := F) (ixg 3 3) c -∗ W1 (F := F) (ixg 0 2) c -∗ W1 (F := F) (ixg 1 2) c -∗ Q ⟨c, v3, v4, v5, v6, v20, v22, v49, v66, v1821, v1831, v1881, v1891⟩)
      -∗ wp frame (wpE (defs₀ (F := F)) 𝒱₀ (c : Thread nD τ) none) Set.univ
        (k0_part70 (F := F) stM0 h0 stM1 h1 stM2 h2 stM3 h3 stM4 h4 outM h5 cmM h6 obM h7 cc0_scratch2 cc0_scratch3) Q) := by
  iintro #Hc HO HB0 HB1 HB2 HB3 HBW HIN0 HIN1 HIN2 HIN3 HIN4 HC0 HC1 HC2 HC3 HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HK
  unfold k0_part70
  rw [wp_bind]
  iapply (part1 P K c) $$ Hc
  iintro %v2 %v3 %v4 %v5 %v6 %v20 %v22 %v23 %v37
  rw [wp_bind]
  iapply (part2 P K c) $$ Hc HO HB0 HB1
  iintro %v49 %v66 %v72 %c0_i32_36 HO
  rw [wp_bind]
  iapply (part3 P K c i) $$ Hc HO HB2 HB3 HBW HIN0 HIN1 HIN2 HIN3
  iintro HO HBD HP0 HP1 HP2 HP3 HIN0 HIN1 HIN2 HIN3
  ihave Hp := (barPay_open (F := F) c 0) $$ HP0; icases Hp with ⟨⟨HM00, HM13, HM22, HM31⟩, #HRR0⟩
  ihave HM00 := (CM_of (F := F) c 0 0 0 (by decide) (p' := 0) (r' := ((0 : Fin 4).val + 4 - 0) % 4) rfl rfl) $$ HM00
  ihave HM13 := (CM_of (F := F) c 0 1 3 (by decide) (p' := 1) (r' := ((0 : Fin 4).val + 4 - 1) % 4) rfl rfl) $$ HM13
  ihave HM22 := (CM_of (F := F) c 0 2 2 (by decide) (p' := 2) (r' := ((0 : Fin 4).val + 4 - 2) % 4) rfl rfl) $$ HM22
  ihave HM31 := (CM_of (F := F) c 0 3 1 (by decide) (p' := 3) (r' := ((0 : Fin 4).val + 4 - 3) % 4) rfl rfl) $$ HM31
  ihave Hp := (barPay_open (F := F) c 1) $$ HP1; icases Hp with ⟨⟨HM01, HM10, HM23, HM32⟩, #HRR1⟩
  ihave HM01 := (CM_of (F := F) c 1 0 1 (by decide) (p' := 0) (r' := ((1 : Fin 4).val + 4 - 0) % 4) rfl rfl) $$ HM01
  ihave HM10 := (CM_of (F := F) c 1 1 0 (by decide) (p' := 1) (r' := ((1 : Fin 4).val + 4 - 1) % 4) rfl rfl) $$ HM10
  ihave HM23 := (CM_of (F := F) c 1 2 3 (by decide) (p' := 2) (r' := ((1 : Fin 4).val + 4 - 2) % 4) rfl rfl) $$ HM23
  ihave HM32 := (CM_of (F := F) c 1 3 2 (by decide) (p' := 3) (r' := ((1 : Fin 4).val + 4 - 3) % 4) rfl rfl) $$ HM32
  ihave Hp := (barPay_open (F := F) c 2) $$ HP2; icases Hp with ⟨⟨HM02, HM11, HM20, HM33⟩, #HRR2⟩
  ihave HM02 := (CM_of (F := F) c 2 0 2 (by decide) (p' := 0) (r' := ((2 : Fin 4).val + 4 - 0) % 4) rfl rfl) $$ HM02
  ihave HM11 := (CM_of (F := F) c 2 1 1 (by decide) (p' := 1) (r' := ((2 : Fin 4).val + 4 - 1) % 4) rfl rfl) $$ HM11
  ihave HM20 := (CM_of (F := F) c 2 2 0 (by decide) (p' := 2) (r' := ((2 : Fin 4).val + 4 - 2) % 4) rfl rfl) $$ HM20
  ihave HM33 := (CM_of (F := F) c 2 3 3 (by decide) (p' := 3) (r' := ((2 : Fin 4).val + 4 - 3) % 4) rfl rfl) $$ HM33
  ihave Hp := (barPay_open (F := F) c 3) $$ HP3; icases Hp with ⟨⟨HM03, HM12, HM21, HM30⟩, #HRR3⟩
  ihave HM03 := (CM_of (F := F) c 3 0 3 (by decide) (p' := 0) (r' := ((3 : Fin 4).val + 4 - 0) % 4) rfl rfl) $$ HM03
  ihave HM12 := (CM_of (F := F) c 3 1 2 (by decide) (p' := 1) (r' := ((3 : Fin 4).val + 4 - 1) % 4) rfl rfl) $$ HM12
  ihave HM21 := (CM_of (F := F) c 3 2 1 (by decide) (p' := 2) (r' := ((3 : Fin 4).val + 4 - 2) % 4) rfl rfl) $$ HM21
  ihave HM30 := (CM_of (F := F) c 3 3 0 (by decide) (p' := 3) (r' := ((3 : Fin 4).val + 4 - 3) % 4) rfl rfl) $$ HM30
  ihave HR0 := (RK_of (F := F) c (ix 0 0) (d := (0 : Fin 4).val) (by decide)) $$ HRR0 HR0
  ihave HR1 := (RK_of (F := F) c (ix 1 0) (d := (1 : Fin 4).val) (by decide)) $$ HRR1 HR1
  ihave HR2 := (RK_of (F := F) c (ix 2 0) (d := (2 : Fin 4).val) (by decide)) $$ HRR2 HR2
  ihave HR3 := (RK_of (F := F) c (ix 3 0) (d := (3 : Fin 4).val) (by decide)) $$ HRR3 HR3
  ihave HR4 := (RK_of (F := F) c (ix 0 1) (d := (1 : Fin 4).val) (by decide)) $$ HRR1 HR4
  ihave HR5 := (RK_of (F := F) c (ix 1 1) (d := (2 : Fin 4).val) (by decide)) $$ HRR2 HR5
  ihave HR6 := (RK_of (F := F) c (ix 2 1) (d := (3 : Fin 4).val) (by decide)) $$ HRR3 HR6
  ihave HR7 := (RK_of (F := F) c (ix 3 1) (d := (0 : Fin 4).val) (by decide)) $$ HRR0 HR7
  ihave HR8 := (RK_of (F := F) c (ix 0 2) (d := (2 : Fin 4).val) (by decide)) $$ HRR2 HR8
  ihave HR9 := (RK_of (F := F) c (ix 1 2) (d := (3 : Fin 4).val) (by decide)) $$ HRR3 HR9
  ihave HR10 := (RK_of (F := F) c (ix 2 2) (d := (0 : Fin 4).val) (by decide)) $$ HRR0 HR10
  ihave HR11 := (RK_of (F := F) c (ix 3 2) (d := (1 : Fin 4).val) (by decide)) $$ HRR1 HR11
  ihave HR12 := (RK_of (F := F) c (ix 0 3) (d := (3 : Fin 4).val) (by decide)) $$ HRR3 HR12
  ihave HR13 := (RK_of (F := F) c (ix 1 3) (d := (0 : Fin 4).val) (by decide)) $$ HRR0 HR13
  ihave HR14 := (RK_of (F := F) c (ix 2 3) (d := (1 : Fin 4).val) (by decide)) $$ HRR1 HR14
  ihave HR15 := (RK_of (F := F) c (ix 3 3) (d := (2 : Fin 4).val) (by decide)) $$ HRR2 HR15
  ihave HR16 := (RK_of (F := F) c (ixg 0 3) (d := (3 : Fin 4).val) (by decide)) $$ HRR3 HR16
  ihave HR17 := (RK_of (F := F) c (ixg 1 3) (d := (0 : Fin 4).val) (by decide)) $$ HRR0 HR17
  ihave HR18 := (RK_of (F := F) c (ixg 2 3) (d := (1 : Fin 4).val) (by decide)) $$ HRR1 HR18
  ihave HR19 := (RK_of (F := F) c (ixg 3 3) (d := (2 : Fin 4).val) (by decide)) $$ HRR2 HR19
  ihave HR20 := (RK_of (F := F) c (ixg 0 2) (d := (2 : Fin 4).val) (by decide)) $$ HRR2 HR20
  ihave HR21 := (RK_of (F := F) c (ixg 1 2) (d := (3 : Fin 4).val) (by decide)) $$ HRR3 HR21
  ihave HR22 := (RK_of (F := F) c (ixg 2 2) (d := (0 : Fin 4).val) (by decide)) $$ HRR0 HR22
  ihave HR23 := (RK_of (F := F) c (ixg 3 2) (d := (1 : Fin 4).val) (by decide)) $$ HRR1 HR23
  ihave HR24 := (RK_of (F := F) c (ixg 0 1) (d := (1 : Fin 4).val) (by decide)) $$ HRR1 HR24
  ihave HR25 := (RK_of (F := F) c (ixg 1 1) (d := (2 : Fin 4).val) (by decide)) $$ HRR2 HR25
  ihave HR26 := (RK_of (F := F) c (ixg 2 1) (d := (3 : Fin 4).val) (by decide)) $$ HRR3 HR26
  ihave HR27 := (RK_of (F := F) c (ixg 3 1) (d := (0 : Fin 4).val) (by decide)) $$ HRR0 HR27
  ihave HR28 := (RK_of (F := F) c (ixg 0 0) (d := (0 : Fin 4).val) (by decide)) $$ HRR0 HR28
  ihave HR29 := (RK_of (F := F) c (ixg 1 0) (d := (1 : Fin 4).val) (by decide)) $$ HRR1 HR29
  ihave HR30 := (RK_of (F := F) c (ixg 2 0) (d := (2 : Fin 4).val) (by decide)) $$ HRR2 HR30
  ihave HR31 := (RK_of (F := F) c (ixg 3 0) (d := (3 : Fin 4).val) (by decide)) $$ HRR3 HR31
  rw [wp_bind]
  iapply (part4 P K c i) $$ Hc HIN3 HIN2
  iintro HIN3 HIN2
  rw [wp_bind]
  iapply (part5 P K c i) $$ Hc HIN3 HIN2
  iintro HIN3 HIN2
  rw [wp_bind]
  iapply (part6 P K c i) $$ Hc HIN3 HIN2
  iintro HIN3 HIN2
  rw [wp_bind]
  iapply (part7 P K c i) $$ Hc HIN3 HIN2
  iintro HIN3 HIN2
  rw [wp_bind]
  iapply (part8 P K c i) $$ Hc HIN2 HIN3
  iintro HIN2 HIN3
  rw [wp_bind]
  iapply (part9 P K c i) $$ Hc HIN2 HIN3
  iintro HIN2 HIN3
  rw [wp_bind]
  iapply (part10 P K c i) $$ Hc HIN2 HIN3
  iintro HIN2 HIN3
  rw [wp_bind]
  iapply (part11 P K c i) $$ Hc HIN2 HIN3 HIN4 HC0
  iintro HIN2 HIN3 HIN4 HC0
  rw [wp_bind]
  iapply (part12 P K c i hW0) $$ Hc HC0 HO HR0 HM00 HIN0 HIN1
  iintro %v365 HC0 HO HW0 HIN0 HIN1
  rw [wp_bind]
  iapply (part13 P K c i) $$ Hc HIN2 HIN3
  iintro HIN2 HIN3
  rw [wp_bind]
  iapply (part14 P K c i) $$ Hc HIN2 HIN3
  iintro HIN2 HIN3
  rw [wp_bind]
  iapply (part15 P K c i) $$ Hc HIN2 HIN3
  iintro HIN2 HIN3
  rw [wp_bind]
  iapply (part16 P K c i) $$ Hc HIN2 HIN3
  iintro HIN2 HIN3
  rw [wp_bind]
  iapply (part17 P K c i) $$ Hc HIN2 HIN3
  iintro HIN2 HIN3
  rw [wp_bind]
  iapply (part18 P K c i) $$ Hc HIN2 HIN3
  iintro HIN2 HIN3
  rw [wp_bind]
  iapply (part19 P K c i) $$ Hc HIN2 HIN3
  iintro HIN2 HIN3
  rw [wp_bind]
  iapply (part20 P K c i) $$ Hc HIN2 HIN3
  iintro HIN2 HIN3
  rw [wp_bind]
  iapply (part21 P K c i hW1) $$ Hc HIN4 HC1 HO HR1 HM10 HIN0
  iintro %v663 HIN4 HC1 HO HW1 HIN0
  rw [wp_bind]
  iapply (part22 P K c i) $$ Hc HIN0 HIN1 HIN2 HIN3
  iintro HIN0 HIN1 HIN2 HIN3
  rw [wp_bind]
  iapply (part23 P K c i) $$ Hc HIN2 HIN3
  iintro HIN2 HIN3
  rw [wp_bind]
  iapply (part24 P K c i) $$ Hc HIN3 HIN2
  iintro HIN3 HIN2
  rw [wp_bind]
  iapply (part25 P K c i) $$ Hc HIN3 HIN2
  iintro HIN3 HIN2
  rw [wp_bind]
  iapply (part26 P K c i) $$ Hc HIN3 HIN2
  iintro HIN3 HIN2
  rw [wp_bind]
  iapply (part27 P K c i) $$ Hc HIN3 HIN2
  iintro HIN3 HIN2
  rw [wp_bind]
  iapply (part28 P K c i) $$ Hc HIN3 HIN2
  iintro HIN3 HIN2
  rw [wp_bind]
  iapply (part29 P K c i) $$ Hc HIN3 HIN2
  iintro HIN3 HIN2
  rw [wp_bind]
  iapply (part30 P K c i hW2) $$ Hc HIN3 HIN4 HC2
  iintro HIN3 HIN4 HC2
  rw [wp_bind]
  iapply (part31 P K c i) $$ Hc HO HC2 HR2 HM20 HIN0 HIN1 HIN2
  iintro %v961 HO HC2 HW2 HIN0 HIN1 HIN2
  rw [wp_bind]
  iapply (part32 P K c i) $$ Hc HIN2 HIN3
  iintro HIN2 HIN3
  rw [wp_bind]
  iapply (part33 P K c i) $$ Hc HIN2 HIN3
  iintro HIN2 HIN3
  rw [wp_bind]
  iapply (part34 P K c i) $$ Hc HIN2 HIN3
  iintro HIN2 HIN3
  rw [wp_bind]
  iapply (part35 P K c i) $$ Hc HIN2 HIN3
  iintro HIN2 HIN3
  rw [wp_bind]
  iapply (part36 P K c i) $$ Hc HIN2 HIN3
  iintro HIN2 HIN3
  rw [wp_bind]
  iapply (part37 P K c i) $$ Hc HIN2 HIN3
  iintro HIN2 HIN3
  rw [wp_bind]
  iapply (part38 P K c i) $$ Hc HIN2 HIN3
  iintro HIN2 HIN3
  rw [wp_bind]
  iapply (part39 P K c i) $$ Hc HIN2 HIN3
  iintro HIN2 HIN3
  rw [wp_bind]
  iapply (part40 P K c i hW3) $$ Hc HIN4 HC3 HO HR3 HM30 HW0
  iintro %v1259 HIN4 HC3 HO HW3 HW0
  rw [wp_bind]
  iapply (part41 P K c) $$ Hc HO HW0 HC0 HW1 HC1
  iintro %v1303 %v1304 %hv1303 %hv1304 HO HD0 HS00 HQ00 HC0 HD1 HS10 HQ10 HC1
  rw [wp_bind]
  iapply (part42 P K c hv1303 hv1304) $$ Hc HC1 HO HW2 HC2
  iintro HC1 HO HD2 HS20 HQ20 HC2
  rw [wp_bind]
  iapply (part43 P K c) $$ Hc HO HW3 HC3
  iintro %v1364 HO HD3 HS30 HQ30 HC3
  rw [wp_bind]
  iapply (part44 P K c) $$ Hc HO HC0 HR4 HM01 HC1 HR5 HM11 HC2 HR6 HM21
  iintro %v1377 %v1390 HO HC0 HW4 HC1 HW5 HC2 HW6
  rw [wp_bind]
  iapply (part45 P K c) $$ Hc HO HC3 HR7 HM31 HW4 HC0
  iintro %v1403 %v1430 %hv1430 HO HC3 HW7 HD4 HS01 HQ01 HC0
  rw [wp_bind]
  iapply (part46 P K c hv1430) $$ Hc HC0 HO HW5 HC1 HW6
  iintro HC0 HO HD5 HS11 HQ11 HC1 HW6
  rw [wp_bind]
  iapply (part47 P K c) $$ Hc HO HW6 HC2 HW7
  iintro HO HD6 HS21 HQ21 HC2 HD7 HS31 HQ31
  rw [wp_bind]
  iapply (part48 P K c) $$ Hc HC3 HS31 HO HC0 HR8 HM02
  iintro %v1508 %v1521 HC3 HS31 HO HC0 HW8
  rw [wp_bind]
  iapply (part49 P K c) $$ Hc HO HC1 HR9 HM12 HC2 HR10 HM22 HC3 HR11 HM32
  iintro %v1534 %v1547 HO HC1 HW9 HC2 HW10 HC3 HW11
  rw [wp_bind]
  iapply (part50 P K c) $$ Hc HO HW8 HC0 HW9
  iintro HO HD8 HS02 HQ02 HC0 HW9
  rw [wp_bind]
  iapply (part51 P K c) $$ Hc HO HW9 HC1 HW10 HC2
  iintro %v1617 %hv1617 HO HD9 HS12 HQ12 HC1 HD10 HS22 HQ22 HC2
  rw [wp_bind]
  iapply (part52 P K c hv1617) $$ Hc HC2 HO HW11 HC3
  iintro HC2 HO HD11 HS32 HQ32 HC3
  rw [wp_bind]
  iapply (part53 P K c) $$ Hc HO HC0 HR12 HM03 HC1 HR13 HM13
  iintro %v1652 %v1665 %v1678 HO HC0 HW12 HC1 HW13
  rw [wp_bind]
  iapply (part54 P K c) $$ Hc HO HC2 HR14 HM23 HC3 HR15 HM33 HW12 HC0
  iintro %v1691 %v1712 %hv1712 HO HC2 HW14 HC3 HW15 HD12 HS03 HQ03 HC0
  rw [wp_bind]
  iapply (part55 P K c hv1712) $$ Hc HS03 HC0 HO HW13 HC1
  iintro %v1745 %hv1745 HS03 HC0 HO HD13 HS13 HQ13 HC1
  rw [wp_bind]
  iapply (part56 P K c hv1745) $$ Hc HC1 HO HW14 HC2 HW15
  iintro %c1_i32_1422 HC1 HO HD14 HS23 HQ23 HC2 HW15
  rw [wp_bind]
  iapply (part57 P K c) $$ Hc HO HW15 HC3 HC0 HR16 HQ03
  iintro %v1801 HO HD15 HS33 HQ33 HC3 HX0 HW16
  rw [wp_bind]
  iapply (part58 P K c) $$ Hc HC1 HO HR17 HQ13 HC2 HR18 HQ23 HC3 HR19 HQ33 HW16
  iintro %v1811 %v1821 %v1831 HX1 HO HW17 HX2 HW18 HX3 HW19 HW16 HT0
  rw [wp_bind]
  iapply (part59 P K c) $$ Hc HO HW16 HT0 HW17 HW18
  iintro HO HT0 HD16 HT1 HD17 HT2 HD18
  rw [wp_bind]
  iapply (part60 P K c) $$ Hc HO HW19 HT0 HR20 HQ02 HT1 HR21 HQ12
  iintro %v1881 %v1891 HO HT3 HD19 HW20 HW21
  simp only [Prog.pure_eq_ret]
  rw [wp_ret]; imodintro
  iapply HK $$ %_ %_ %_ %_ %_ %_ %_ %_ %_ %_ %_ %_ HR22 HR23 HR24 HR25 HR26 HR27 HR28 HR29 HR30 HR31 HBD HIN0 HIN1 HIN2 HIN3 HIN4 HD0 HS00 HQ00 HD1 HS10 HQ10 HD2 HS20 HQ20 HD3 HS30 HQ30 HD4 HS01 HQ01 HD5 HS11 HQ11 HD6 HS21 HQ21 HD7 HQ31 HS31 HD8 HS02 HD9 HS12 HD10 HS22 HQ22 HD11 HS32 HQ32 HD12 HS03 HD13 HS13 HD14 HS23 HD15 HS33 HX0 HX1 HX2 HX3 HD16 HD17 HT2 HD18 HO HT3 HD19 HW20 HW21

set_option maxHeartbeats 2000000 in
theorem body_run (i : Ins F) (hW0 : RowsEq (n := 256) (Sum0 i) (256 * (0 : Fin 4).val) (A P (0 : Fin 4) 0 c)) (hW1 : RowsEq (n := 256) (Sum1 i) (256 * (1 : Fin 4).val) (A P (1 : Fin 4) 0 c)) (hW2 : RowsEq (n := 256) (Sum2 i) (256 * (2 : Fin 4).val) (A P (2 : Fin 4) 0 c)) (hW3 : RowsEq (n := 256) (Sum3 i) (256 * (3 : Fin 4).val) (A P (3 : Fin 4) 0 c)) {h0 : stM0.IsWhole} {h1 : stM1.IsWhole} {h2 : stM2.IsWhole} {h3 : stM3.IsWhole} {h4 : stM4.IsWhole} {h5 : outM.IsWhole} {h6 : cmM.IsWhole} {h7 : obM.IsWhole} {Q : _ → sProp 𝕄} :
    ctx P K ⊢ iprop(OW (F := F) 0 c -∗ BS (F := F) (0 : Fin 4) c -∗ BS (F := F) (1 : Fin 4) c -∗ BS (F := F) (2 : Fin 4) c -∗ BS (F := F) (3 : Fin 4) c -∗ BW (F := F) c -∗ in0 c i.x -∗ in1 c i.wq -∗ in2 c i.k -∗ in3 c i.v -∗ in4 c i.wo -∗ I0 (F := F) (0 : Fin 4) c -∗ I0 (F := F) (1 : Fin 4) c -∗ I0 (F := F) (2 : Fin 4) c -∗ I0 (F := F) (3 : Fin 4) c -∗ RK0 (F := F) (ix 0 0) c -∗ RK0 (F := F) (ix 1 0) c -∗ RK0 (F := F) (ix 2 0) c -∗ RK0 (F := F) (ix 3 0) c -∗ RK0 (F := F) (ix 0 1) c -∗ RK0 (F := F) (ix 1 1) c -∗ RK0 (F := F) (ix 2 1) c -∗ RK0 (F := F) (ix 3 1) c -∗ RK0 (F := F) (ix 0 2) c -∗ RK0 (F := F) (ix 1 2) c -∗ RK0 (F := F) (ix 2 2) c -∗ RK0 (F := F) (ix 3 2) c -∗ RK0 (F := F) (ix 0 3) c -∗ RK0 (F := F) (ix 1 3) c -∗ RK0 (F := F) (ix 2 3) c -∗ RK0 (F := F) (ix 3 3) c -∗ RK0 (F := F) (ixg 0 3) c -∗ RK0 (F := F) (ixg 1 3) c -∗ RK0 (F := F) (ixg 2 3) c -∗ RK0 (F := F) (ixg 3 3) c -∗ RK0 (F := F) (ixg 0 2) c -∗ RK0 (F := F) (ixg 1 2) c -∗ RK0 (F := F) (ixg 2 2) c -∗ RK0 (F := F) (ixg 3 2) c -∗ RK0 (F := F) (ixg 0 1) c -∗ RK0 (F := F) (ixg 1 1) c -∗ RK0 (F := F) (ixg 2 1) c -∗ RK0 (F := F) (ixg 3 1) c -∗ RK0 (F := F) (ixg 0 0) c -∗ RK0 (F := F) (ixg 1 0) c -∗ RK0 (F := F) (ixg 2 0) c -∗ RK0 (F := F) (ixg 3 0) c -∗
      (BD (F := F) c -∗ in0 c i.x -∗ in1 c i.wq -∗ in2 c i.k -∗ in3 c i.v -∗ in4 c i.wo -∗ DK (F := F) (ix 0 0) c -∗ CMs P (0 : Fin 4) (0 : Fin 4) c -∗ DK (F := F) (ix 1 0) c -∗ CMs P (1 : Fin 4) (0 : Fin 4) c -∗ DK (F := F) (ix 2 0) c -∗ CMs P (2 : Fin 4) (0 : Fin 4) c -∗ DK (F := F) (ix 3 0) c -∗ CMs P (3 : Fin 4) (0 : Fin 4) c -∗ DK (F := F) (ix 0 1) c -∗ CMs P (0 : Fin 4) (1 : Fin 4) c -∗ DK (F := F) (ix 1 1) c -∗ CMs P (1 : Fin 4) (1 : Fin 4) c -∗ DK (F := F) (ix 2 1) c -∗ CMs P (2 : Fin 4) (1 : Fin 4) c -∗ DK (F := F) (ix 3 1) c -∗ CMs P (3 : Fin 4) (1 : Fin 4) c -∗ DK (F := F) (ix 0 2) c -∗ CMs P (0 : Fin 4) (2 : Fin 4) c -∗ DK (F := F) (ix 1 2) c -∗ CMs P (1 : Fin 4) (2 : Fin 4) c -∗ DK (F := F) (ix 2 2) c -∗ CMs P (2 : Fin 4) (2 : Fin 4) c -∗ DK (F := F) (ix 3 2) c -∗ CMs P (3 : Fin 4) (2 : Fin 4) c -∗ DK (F := F) (ix 0 3) c -∗ CMs P (0 : Fin 4) (3 : Fin 4) c -∗ DK (F := F) (ix 1 3) c -∗ CMs P (1 : Fin 4) (3 : Fin 4) c -∗ DK (F := F) (ix 2 3) c -∗ CMs P (2 : Fin 4) (3 : Fin 4) c -∗ DK (F := F) (ix 3 3) c -∗ CMs P (3 : Fin 4) (3 : Fin 4) c -∗ DK (F := F) (ixg 0 3) c -∗ DK (F := F) (ixg 1 3) c -∗ DK (F := F) (ixg 2 3) c -∗ DK (F := F) (ixg 3 3) c -∗ DK (F := F) (ixg 0 2) c -∗ DK (F := F) (ixg 1 2) c -∗ DK (F := F) (ixg 2 2) c -∗ DK (F := F) (ixg 3 2) c -∗ DK (F := F) (ixg 0 1) c -∗ DK (F := F) (ixg 1 1) c -∗ DK (F := F) (ixg 2 1) c -∗ DK (F := F) (ixg 3 1) c -∗ DK (F := F) (ixg 0 0) c -∗ DK (F := F) (ixg 1 0) c -∗ DK (F := F) (ixg 2 0) c -∗ OW (F := F) 36 c -∗ DK (F := F) (ixg 3 0) c -∗ FinA P 16 c -∗ GB P c -∗ Q ⟨⟩)
      -∗ wp frame (wpE (defs₀ (F := F)) 𝒱₀ (c : Thread nD τ) none) Set.univ
        (cc0_body (F := F) stM0 h0 stM1 h1 stM2 h2 stM3 h3 stM4 h4 outM h5 cmM h6 obM h7 cc0_scratch2 cc0_scratch3) Q) := by
  iintro #Hc HO HB0 HB1 HB2 HB3 HBW HIN0 HIN1 HIN2 HIN3 HIN4 HC0 HC1 HC2 HC3 HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HK
  rw [cc0_body_eq_skeleton]; unfold cc0_body_skel
  rw [wp_bind]
  iapply (part70 P K c i hW0 hW1 hW2 hW3) $$ Hc HO HB0 HB1 HB2 HB3 HBW HIN0 HIN1 HIN2 HIN3 HIN4 HC0 HC1 HC2 HC3 HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31
  iintro %v3 %v4 %v5 %v6 %v20 %v22 %v49 %v66 %v1821 %v1831 %v1881 %v1891 HR22 HR23 HR24 HR25 HR26 HR27 HR28 HR29 HR30 HR31 HBD HIN0 HIN1 HIN2 HIN3 HIN4 HD0 HS00 HQ00 HD1 HS10 HQ10 HD2 HS20 HQ20 HD3 HS30 HQ30 HD4 HS01 HQ01 HD5 HS11 HQ11 HD6 HS21 HQ21 HD7 HQ31 HS31 HD8 HS02 HD9 HS12 HD10 HS22 HQ22 HD11 HS32 HQ32 HD12 HS03 HD13 HS13 HD14 HS23 HD15 HS33 HX0 HX1 HX2 HX3 HD16 HD17 HT2 HD18 HO HT3 HD19 HW20 HW21
  rw [wp_bind]
  iapply (part61 P K c) $$ Hc HO HT2 HR22 HQ22 HT3 HR23 HQ32 HW20 HW21
  iintro %v1901 %v1911 HO HW22 HW23 HT0 HD20 HW21 HT1
  rw [wp_bind]
  iapply (part62 P K c) $$ Hc HO HW21 HT1 HW22 HW23
  iintro HO HT1 HD21 HT2 HD22 HT3 HD23
  rw [wp_bind]
  iapply (part63 P K c) $$ Hc HO HT0 HR24 HQ01 HT1 HR25 HQ11 HT2 HR26 HQ21
  iintro HO HW24 HW25 HW26
  rw [wp_bind]
  iapply (part64 P K c) $$ Hc HO HT3 HR27 HQ31 HW24 HW25
  iintro HO HW27 HT0 HD24 HT1 HD25
  rw [wp_bind]
  iapply (part65 P K c) $$ Hc HO HW26 HW27 HT0 HR28 HQ00
  iintro HO HT2 HD26 HT3 HD27 HW28
  rw [wp_bind]
  iapply (part66 P K c) $$ Hc HO HT1 HR29 HQ10 HT2 HR30 HQ20 HT3 HR31 HQ30 HW28
  iintro HO HW29 HW30 HW31 HW28 HT0
  rw [wp_bind]
  iapply (part67 P K c) $$ Hc HO HW28 HT0 HW29 HW30
  iintro HO HT0 HD28 HT1 HD29 HT2 HD30
  rw [wp_bind]
  iapply (part68 P K c) $$ Hc HO HW31 HX0 HX1 HX2 HX3 HT0 HT1 HT2
  iintro %v2120 %hv2120 HO HD31 HF HG
  rw [wp_bind]
  iapply (part69 P K c hv2120) $$ Hc HF HG
  iintro HF HG
  simp only [Prog.lift, Prog.bind_op, Prog.bind_ret, Prog.pure_eq_ret]
  iapply (wp_ld_G P c 832 rfl (by decide)) $$ HG; iintro %v2143 %hv2143 HG
  iapply (wp_ld_fin P c (n := 13) (a := 448) rfl (by decide)) $$ HF; iintro %v2145 HF
  iapply (wp_st_fin P c (n := 13) 7 rfl (by decide) rfl rfl (RowsEq_src P (by decide) rfl hv2143)) $$ HF; iintro HF
  iapply (wp_ld_G P c 896 rfl (by decide)) $$ HG; iintro %v2146 %hv2146 HG
  iapply (wp_ld_fin P c (n := 14) (a := 704) rfl (by decide)) $$ HF; iintro %v2148 HF
  iapply (wp_st_fin P c (n := 14) 11 rfl (by decide) rfl rfl (RowsEq_src P (by decide) rfl hv2146)) $$ HF; iintro HF
  iapply (wp_ld_G P c 960 rfl (by decide)) $$ HG; iintro %v2149 %hv2149 HG
  iapply (wp_ld_fin P c (n := 15) (a := 960) rfl (by decide)) $$ HF; iintro %v2151 HF
  iapply (wp_st_fin P c (n := 15) 15 rfl (by decide) rfl rfl (RowsEq_src P (by decide) rfl hv2149)) $$ HF; iintro HF
  rw [wp_ret]; imodintro
  iapply HK $$ HBD HIN0 HIN1 HIN2 HIN3 HIN4 HD0 HS00 HD1 HS10 HD2 HS20 HD3 HS30 HD4 HS01 HD5 HS11 HD6 HS21 HD7 HS31 HD8 HS02 HD9 HS12 HD10 HS22 HD11 HS32 HD12 HS03 HD13 HS13 HD14 HS23 HD15 HS33 HD16 HD17 HD18 HD19 HD20 HD21 HD22 HD23 HD24 HD25 HD26 HD27 HD28 HD29 HD30 HO HD31 HF HG

end Cert.Proof

end
-- ==== Proof.Split.lean ====
module

public import proofs.«01_k».proof.Proof.Ends

@[expose] public section

noncomputable section

/-! The scratch buffers cut in the pieces the exchanges hand over, and put together again; the copies' cells one by one. -/

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (P : Dev nD → COut F)

/-! ## Rows -/

/-- Rows of the landing buffer, of the accumulator and of the exchange buffer, at whatever they hold. -/
def CA (c : Dev nD) (a n : ℕ) : sProp 𝕄 := iprop(∃ h, cmPt (F := F) c a n h)
def OA (c : Dev nD) (a n : ℕ) : sProp 𝕄 := iprop(∃ h, outPt (F := F) c a n h)
def BA (c : Dev nD) (a n : ℕ) : sProp 𝕄 := iprop(∃ h, obPt (F := F) c a n h)

theorem CA_cut (c : Dev nD) (a n n' : ℕ) : CA (F := F) c a (n + n') ⊢ iprop(CA (F := F) c a n ∗ CA (F := F) c (a + n) n') := by
  unfold CA cmPt
  rw [← rows_union]
  iintro ⟨%h, H⟩
  ihave H' := (pointsTo_union (rows_disjoint (R := 960) (Or.inl (Nat.le_refl (a + n))))).1 $$ H
  icases H' with ⟨H1, H2⟩
  isplitl [H1]
  · iexists h; iexact H1
  · iexists h; iexact H2
theorem OA_cut (c : Dev nD) (a n n' : ℕ) : OA (F := F) c a (n + n') ⊢ iprop(OA (F := F) c a n ∗ OA (F := F) c (a + n) n') := by
  unfold OA outPt
  rw [← rows_union]
  iintro ⟨%h, H⟩
  ihave H' := (pointsTo_union (rows_disjoint (R := 1024) (Or.inl (Nat.le_refl (a + n))))).1 $$ H
  icases H' with ⟨H1, H2⟩
  isplitl [H1]
  · iexists h; iexact H1
  · iexists h; iexact H2
theorem BA_cut (c : Dev nD) (a n n' : ℕ) : BA (F := F) c a (n + n') ⊢ iprop(BA (F := F) c a n ∗ BA (F := F) c (a + n) n') := by
  unfold BA obPt
  rw [← rows_union]
  iintro ⟨%h, H⟩
  ihave H' := (pointsTo_union (rows_disjoint (R := 1024) (Or.inl (Nat.le_refl (a + n))))).1 $$ H
  icases H' with ⟨H1, H2⟩
  isplitl [H1]
  · iexists h; iexact H1
  · iexists h; iexact H2
theorem CA_join (c : Dev nD) (a n n' : ℕ) : iprop(CA (F := F) c a n ∗ CA (F := F) c (a + n) n') ⊢ CA (F := F) c a (n + n') := by
  unfold CA cmPt
  iintro ⟨⟨%h, H⟩, ⟨%h', H'⟩⟩
  iexists _
  rw [← rows_union]
  iapply (pointsTo_join (rows_disjoint (Or.inl (Nat.le_refl _))))
  isplitl [H] <;> iassumption

/-- A quarter of the landing buffer is the four rounds' rows. -/
theorem CA_quarter (c : Dev nD) (a : ℕ) : CA (F := F) c a 240
    ⊢ iprop(CA (F := F) c a 128 ∗ CA (F := F) c (a + 128) 64 ∗ CA (F := F) c (a + 192) 32 ∗ CA (F := F) c (a + 224) 16) := by
  iintro H
  ihave H := (CA_cut (F := F) c a 128 112) $$ H
  icases H with ⟨H0, H⟩
  ihave H := (CA_cut (F := F) c (a + 128) 64 48) $$ H
  icases H with ⟨H1, H⟩
  ihave H := (CA_cut (F := F) c (a + 192) 32 16) $$ H
  icases H with ⟨H2, H3⟩
  isplitl [H0]; · iexact H0
  isplitl [H1]; · iexact H1
  isplitl [H2]; · iexact H2
  iexact H3
theorem CA_unquarter (c : Dev nD) (a : ℕ) : iprop(CA (F := F) c a 128 ∗ CA (F := F) c (a + 128) 64 ∗ CA (F := F) c (a + 192) 32 ∗ CA (F := F) c (a + 224) 16)
    ⊢ CA (F := F) c a 240 := by
  iintro ⟨H0, H1, H2, H3⟩
  ihave H2 := (CA_join (F := F) c (a + 192) 32 16) $$ [H2 H3]
  · isplitl [H2]; · iexact H2
    iexact H3
  ihave H1 := (CA_join (F := F) c (a + 128) 64 48) $$ [H1 H2]
  · isplitl [H1]; · iexact H1
    iexact H2
  ihave H0 := (CA_join (F := F) c a 128 112) $$ [H0 H1]
  · isplitl [H0]; · iexact H0
    iexact H1
  iexact H0

theorem CA_four (c : Dev nD) : CA (F := F) c 0 960 ⊢ iprop(CA (F := F) c 0 240 ∗ CA (F := F) c 240 240 ∗ CA (F := F) c 480 240 ∗ CA (F := F) c 720 240) := by
  iintro H
  ihave H := (CA_cut (F := F) c 0 240 720) $$ H
  icases H with ⟨H0, H⟩
  ihave H := (CA_cut (F := F) c 240 240 480) $$ H
  icases H with ⟨H1, H⟩
  ihave H := (CA_cut (F := F) c 480 240 240) $$ H
  icases H with ⟨H2, H3⟩
  isplitl [H0]; · rw [show (0 : ℕ) = 0 from rfl]; iexact H0
  isplitl [H1]; · iexact H1
  isplitl [H2]; · iexact H2
  iexact H3
theorem OA_four (c : Dev nD) : OA (F := F) c 0 1024 ⊢ iprop(OA (F := F) c 0 256 ∗ OA (F := F) c 256 256 ∗ OA (F := F) c 512 256 ∗ OA (F := F) c 768 256) := by
  iintro H
  ihave H := (OA_cut (F := F) c 0 256 768) $$ H
  icases H with ⟨H0, H⟩
  ihave H := (OA_cut (F := F) c 256 256 512) $$ H
  icases H with ⟨H1, H⟩
  ihave H := (OA_cut (F := F) c 512 256 256) $$ H
  icases H with ⟨H2, H3⟩
  isplitl [H0]; · rw [show (0 : ℕ) = 0 from rfl]; iexact H0
  isplitl [H1]; · iexact H1
  isplitl [H2]; · iexact H2
  iexact H3
theorem BA_four (c : Dev nD) : BA (F := F) c 0 1024 ⊢ iprop(BA (F := F) c 0 256 ∗ BA (F := F) c 256 256 ∗ BA (F := F) c 512 256 ∗ BA (F := F) c 768 256) := by
  iintro H
  ihave H := (BA_cut (F := F) c 0 256 768) $$ H
  icases H with ⟨H0, H⟩
  ihave H := (BA_cut (F := F) c 256 256 512) $$ H
  icases H with ⟨H1, H⟩
  ihave H := (BA_cut (F := F) c 512 256 256) $$ H
  icases H with ⟨H2, H3⟩
  isplitl [H0]; · rw [show (0 : ℕ) = 0 from rfl]; iexact H0
  isplitl [H1]; · iexact H1
  isplitl [H2]; · iexact H2
  iexact H3
theorem CA_unfour (c : Dev nD) : iprop(CA (F := F) c 0 240 ∗ CA (F := F) c 240 240 ∗ CA (F := F) c 480 240 ∗ CA (F := F) c 720 240) ⊢ CA (F := F) c 0 960 := by
  iintro ⟨H0, H1, H2, H3⟩
  ihave H2 := (CA_join (F := F) c 480 240 240) $$ [H2 H3]
  · isplitl [H2]; · iexact H2
    iexact H3
  ihave H1 := (CA_join (F := F) c 240 240 480) $$ [H1 H2]
  · isplitl [H1]; · iexact H1
    iexact H2
  ihave H0 := (CA_join (F := F) c 0 240 720) $$ [H0 H1]
  · isplitl [H0]; · iexact H0
    iexact H1
  iexact H0

theorem CMs_forget (p r : ℕ) (c : Dev nD) : CMs P p r c ⊢ CM (F := F) p r c := by
  unfold CMs CM
  iintro ⟨%h, -, H⟩
  iexists h; iexact H

theorem CM_all (c : Dev nD) : CA (F := F) c 0 960 ⊢ iprop((CM (F := F) 0 0 c ∗ CM (F := F) 0 1 c ∗ CM (F := F) 0 2 c ∗ CM (F := F) 0 3 c) ∗ (CM (F := F) 1 0 c ∗ CM (F := F) 1 1 c ∗ CM (F := F) 1 2 c ∗ CM (F := F) 1 3 c) ∗ (CM (F := F) 2 0 c ∗ CM (F := F) 2 1 c ∗ CM (F := F) 2 2 c ∗ CM (F := F) 2 3 c) ∗ (CM (F := F) 3 0 c ∗ CM (F := F) 3 1 c ∗ CM (F := F) 3 2 c ∗ CM (F := F) 3 3 c)) :=
  (CA_four c).trans (BI.sep_mono (CA_quarter c 0) (BI.sep_mono (CA_quarter c 240) (BI.sep_mono (CA_quarter c 480) (CA_quarter c 720))))
theorem CM_unall (c : Dev nD) : iprop((CM (F := F) 0 0 c ∗ CM (F := F) 0 1 c ∗ CM (F := F) 0 2 c ∗ CM (F := F) 0 3 c) ∗ (CM (F := F) 1 0 c ∗ CM (F := F) 1 1 c ∗ CM (F := F) 1 2 c ∗ CM (F := F) 1 3 c) ∗ (CM (F := F) 2 0 c ∗ CM (F := F) 2 1 c ∗ CM (F := F) 2 2 c ∗ CM (F := F) 2 3 c) ∗ (CM (F := F) 3 0 c ∗ CM (F := F) 3 1 c ∗ CM (F := F) 3 2 c ∗ CM (F := F) 3 3 c)) ⊢ CA (F := F) c 0 960 :=
  (BI.sep_mono (CA_unquarter c 0) (BI.sep_mono (CA_unquarter c 240) (BI.sep_mono (CA_unquarter c 480) (CA_unquarter c 720)))).trans (CA_unfour c)

/-! ## What a signal of the barrier hands over -/

/-- Round 0 of every arrival cell of device `c` is reached. -/
def Rch (c : Dev nD) : sProp 𝕄 := bigSep Finset.univ fun k : Fin 32 => reached ER (recvCell c k) 0
instance (c : Dev nD) : BI.Persistent (Rch (F := F) c) := by unfold Rch; infer_instance

theorem Rch_at (c : Dev nD) (k : Fin 32) : Rch (F := F) c ⊢ reached ER (recvCell c k) 0 := by
  unfold Rch; exact bigSep_elim (Finset.mem_univ k)

theorem Rch_if (c : Dev nD) (p r : ℕ) : Rch (F := F) c
    ⊢ bigSep Finset.univ fun k : Fin 32 => if kp k = p ∧ kr k = r then reached ER (recvCell c k) 0 else iprop(emp) := by
  unfold Rch
  refine bigSep_mono fun k _ => ?_
  split
  · exact Entails.refl _
  · exact BI.affine

theorem barP_own (c : Dev nD) (p r : ℕ) : iprop(Rch (F := F) c ∗ CM (F := F) p r c) ⊢ barP (F := F) c p r := by
  unfold barP CM
  iintro ⟨#HR, H⟩
  isplitl [H]; · iexact H
  iapply (Rch_if (F := F) c p r)
  iexact HR

/-- What device `c` puts in its signal across dimension `d`. -/
def BT (d : Fin 4) (c : Dev nD) : sProp 𝕄 := iprop(dutyTok ER (barCell (flip d c)) 0 d ∗ reached ER (barCell (flip d c)) 0)

theorem BS_own (d : Fin 4) (c : Dev nD) :
    iprop(Rch (F := F) c ∗ BT (F := F) d c ∗ CM (F := F) 0 ((d.val + 4 - 0) % 4) c ∗ CM (F := F) 1 ((d.val + 4 - 1) % 4) c
      ∗ CM (F := F) 2 ((d.val + 4 - 2) % 4) c ∗ CM (F := F) 3 ((d.val + 4 - 3) % 4) c) ⊢ BS (F := F) d c := by
  unfold BS barPay BT
  rw [flip_flip]
  iintro ⟨#HR, ⟨HT, Hr⟩, H0, H1, H2, H3⟩
  isplitr [HT Hr]
  · isplitl [H0]
    · iapply (barP_own (F := F) c); isplitr; · iexact HR
      iexact H0
    isplitl [H1]
    · iapply (barP_own (F := F) c); isplitr; · iexact HR
      iexact H1
    isplitl [H2]
    · iapply (barP_own (F := F) c); isplitr; · iexact HR
      iexact H2
    · iapply (barP_own (F := F) c); isplitr; · iexact HR
      iexact H3
  · isplitl [HT]; · iexact HT
    iexact Hr

/-- All four signals' from the landing buffer whole. -/
theorem BS_all (c : Dev nD) :
    iprop(Rch (F := F) c ∗ CA (F := F) c 0 960 ∗ bigSep Finset.univ fun d : Fin 4 => BT (F := F) d c)
      ⊢ iprop(BS (F := F) (0 : Fin 4) c ∗ BS (F := F) (1 : Fin 4) c ∗ BS (F := F) (2 : Fin 4) c ∗ BS (F := F) (3 : Fin 4) c) := by
  rw [show (bigSep Finset.univ fun d : Fin 4 => BT (F := F) d c) = iprop(BT (F := F) 0 c ∗ BT (F := F) 1 c ∗ BT (F := F) 2 c ∗ BT (F := F) 3 c) from
    bigSep_univ_eq_bigSepL [0, 1, 2, 3] (by decide) (by decide) _]
  iintro ⟨#HR, HC, HB0, HB1, HB2, HB3⟩
  ihave HC := (CM_all (F := F) c) $$ HC
  icases HC with ⟨⟨H00, H01, H02, H03⟩, ⟨H10, H11, H12, H13⟩, ⟨H20, H21, H22, H23⟩, ⟨H30, H31, H32, H33⟩⟩
  isplitl [HB0 H00 H13 H22 H31]
  · iapply (BS_own (F := F) (0 : Fin 4) c)
    isplitr; · iexact HR
    isplitl [HB0]; · iexact HB0
    isplitl [H00]; · iexact H00
    isplitl [H13]; · iexact H13
    isplitl [H22]; · iexact H22
    iexact H31
  isplitl [HB1 H01 H10 H23 H32]
  · iapply (BS_own (F := F) (1 : Fin 4) c)
    isplitr; · iexact HR
    isplitl [HB1]; · iexact HB1
    isplitl [H01]; · iexact H01
    isplitl [H10]; · iexact H10
    isplitl [H23]; · iexact H23
    iexact H32
  isplitl [HB2 H02 H11 H20 H33]
  · iapply (BS_own (F := F) (2 : Fin 4) c)
    isplitr; · iexact HR
    isplitl [HB2]; · iexact HB2
    isplitl [H02]; · iexact H02
    isplitl [H11]; · iexact H11
    isplitl [H20]; · iexact H20
    iexact H33
  · iapply (BS_own (F := F) (3 : Fin 4) c)
    isplitr; · iexact HR
    isplitl [HB3]; · iexact HB3
    isplitl [H03]; · iexact H03
    isplitl [H12]; · iexact H12
    isplitl [H21]; · iexact H21
    iexact H30

/-! ## The copies' cells one by one -/

theorem bigSep_ix (Φ : Fin 32 → sProp 𝕄) : bigSep Finset.univ Φ = iprop(Φ (ix 0 0) ∗ Φ (ix 1 0) ∗ Φ (ix 2 0) ∗ Φ (ix 3 0) ∗ Φ (ix 0 1) ∗ Φ (ix 1 1) ∗ Φ (ix 2 1) ∗ Φ (ix 3 1) ∗ Φ (ix 0 2) ∗ Φ (ix 1 2) ∗ Φ (ix 2 2) ∗ Φ (ix 3 2) ∗ Φ (ix 0 3) ∗ Φ (ix 1 3) ∗ Φ (ix 2 3) ∗ Φ (ix 3 3) ∗ Φ (ixg 0 3) ∗ Φ (ixg 1 3) ∗ Φ (ixg 2 3) ∗ Φ (ixg 3 3) ∗ Φ (ixg 0 2) ∗ Φ (ixg 1 2) ∗ Φ (ixg 2 2) ∗ Φ (ixg 3 2) ∗ Φ (ixg 0 1) ∗ Φ (ixg 1 1) ∗ Φ (ixg 2 1) ∗ Φ (ixg 3 1) ∗ Φ (ixg 0 0) ∗ Φ (ixg 1 0) ∗ Φ (ixg 2 0) ∗ Φ (ixg 3 0)) :=
  bigSep_univ_eq_bigSepL [ix 0 0, ix 1 0, ix 2 0, ix 3 0, ix 0 1, ix 1 1, ix 2 1, ix 3 1, ix 0 2, ix 1 2, ix 2 2, ix 3 2, ix 0 3, ix 1 3, ix 2 3, ix 3 3, ixg 0 3, ixg 1 3, ixg 2 3, ixg 3 3, ixg 0 2, ixg 1 2, ixg 2 2, ixg 3 2, ixg 0 1, ixg 1 1, ixg 2 1, ixg 3 1, ixg 0 0, ixg 1 0, ixg 2 0, ixg 3 0] (by decide +kernel) (by decide +kernel) Φ

/-- A cell of each of the two arrays, from the one family. -/
theorem bigSep_osem (Φ : SemLoc sig → sProp 𝕄) : (bigSep Finset.univ fun j : Fin 64 => Φ (osem j))
    = iprop((bigSep Finset.univ fun k : Fin 32 => Φ (.dma (semS k))) ∗ bigSep Finset.univ fun k : Fin 32 => Φ (.dma (semR k))) := by
  rw [bigSep_univ_equiv (finSumFinEquiv (m := 32) (n := 32)) (fun j : Fin 64 => Φ (osem j)), bigSep_univ_sum]
  congr 1

end Cert.Proof

end
-- ==== Proof.Region.lean ====
module

public import proofs.«01_k».proof.Proof.Whole
public import proofs.«01_k».proof.Proof.Split
public import Idealize.ShloMosaic.Lib.Rounds.Family
public import proofs.«01_k».proof.Proof.Gen.KernelIdeal.Regions
public import proofs.«01_k».proof.Proof.Gen.KernelIdeal.Points

@[expose] public section

noncomputable section

/-! The region's contract on one device: what it starts from, what it leaves, and its one grid point. -/

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

/-! ## The sums of a device -/

set_option backward.proofsInPublic true in
/-- What a device adds up itself, all four parts. -/
def Pv (i : Ins F) : COut F := fun j =>
  if h : (j 0).val < 0 + 256 then Sum0 i (toBlk 0 j h (Nat.zero_le _))
  else if h1 : (j 0).val < 256 + 256 then Sum1 i (toBlk 256 j h1 (by omega))
  else if h2 : (j 0).val < 512 + 256 then Sum2 i (toBlk 512 j h2 (by omega))
  else Sum3 i (toBlk 768 j (by have := (j 0).isLt; exact this) (by omega))

theorem Pv_0 (i : Ins F) : RowsEq (n := 256) (Sum0 i) 0 (Pv i) := by
  intro x j h0 h1
  have hx : (x 0).val < 256 := (x 0).isLt
  unfold Pv
  rw [dif_pos (by omega)]
  refine congrArg (Sum0 i) (idx2_ext ?_ ?_)
  · show (x 0).val = (j 0).val - 0; omega
  · exact h1.symm
theorem Pv_1 (i : Ins F) : RowsEq (n := 256) (Sum1 i) 256 (Pv i) := by
  intro x j h0 h1
  have hx : (x 0).val < 256 := (x 0).isLt
  unfold Pv
  rw [dif_neg (by omega)]
  rw [dif_pos (by omega)]
  refine congrArg (Sum1 i) (idx2_ext ?_ ?_)
  · show (x 0).val = (j 0).val - 256; omega
  · exact h1.symm
theorem Pv_2 (i : Ins F) : RowsEq (n := 256) (Sum2 i) 512 (Pv i) := by
  intro x j h0 h1
  have hx : (x 0).val < 256 := (x 0).isLt
  unfold Pv
  rw [dif_neg (by omega)]
  rw [dif_neg (by omega)]
  rw [dif_pos (by omega)]
  refine congrArg (Sum2 i) (idx2_ext ?_ ?_)
  · show (x 0).val = (j 0).val - 512; omega
  · exact h1.symm
theorem Pv_3 (i : Ins F) : RowsEq (n := 256) (Sum3 i) 768 (Pv i) := by
  intro x j h0 h1
  have hx : (x 0).val < 256 := (x 0).isLt
  unfold Pv
  rw [dif_neg (by omega)]
  rw [dif_neg (by omega)]
  rw [dif_neg (by omega)]
  refine congrArg (Sum3 i) (idx2_ext ?_ ?_)
  · show (x 0).val = (j 0).val - 768; omega
  · exact h1.symm

variable (m : (ℓ : Loc nD τ sig) → Buf (Elt F) ℓ)

/-- What is staged on device `c`. -/
def I (c : Dev nD) : Ins F where
  x := (win0_0.blk (0 : Fin 1)).view.read (Elt F) (V1 m c main_v5)
  wq := (win0_1.blk (0 : Fin 1)).view.read (Elt F) (V1 m c main_arg1)
  k := (win0_2.blk (0 : Fin 1)).view.read (Elt F) (V1 m c main_v12)
  v := (win0_3.blk (0 : Fin 1)).view.read (Elt F) (V1 m c main_v19)
  wo := (win0_4.blk (0 : Fin 1)).view.read (Elt F) (V1 m c main_arg4)

/-- What each device adds up. -/
def Pm (c : Dev nD) : COut F := Pv (I m c)
/-- What the region leaves in its result. -/
def Rv : COut F := OUTv (Pm m)

/-! ## Before and after -/

/-- A buffer of a device, whole, at whatever it holds. -/
abbrev anyBuf (c : Dev nD) (b : Ref sig .tc) : sProp 𝕄 :=
  iprop(∃ f : Buf (Elt F) ((c : Thread nD τ).loc b), ((c : Thread nD τ).loc b) ↦{fullShare} f)

theorem CA_whole (c : Dev nD) : CA (F := F) c 0 960 = anyBuf (F := F) c cc0_scratch0 := by unfold CA cmPt; rw [rows_all]; rfl
theorem BA_whole (c : Dev nD) : BA (F := F) c 0 1024 = anyBuf (F := F) c cc0_scratch1 := by unfold BA obPt; rw [rows_all]; rfl

/-- What the copies' protocol leaves to device `c`, its cells opened. -/
def X0 (c : Dev nD) : sProp 𝕄 :=
  iprop((∃ K, ctx (Pm m) K) ∗ BW (F := F) c ∗ (bigSep Finset.univ fun d : Fin 4 => BT (F := F) d c)
    ∗ (bigSep Finset.univ fun k : Fin 32 => RK0 (F := F) k c) ∗ Rch (F := F) c)
def Φ0 (c : Dev nD) : sProp 𝕄 :=
  iprop(X0 m c ∗ (anyBuf (F := F) c cc0_scratch0 ∗ anyBuf (F := F) c cc0_scratch1) ∗ ∃ r, prngReg c r)
def Φ1 (c : Dev nD) : sProp 𝕄 :=
  iprop((anyBuf (F := F) c cc0_scratch0 ∗ anyBuf (F := F) c cc0_scratch1) ∗ (∃ r, prngReg c r)
    ∗ (bigSep Finset.univ fun j : Fin 64 => semVal ((c : Thread nD τ), osem j) 0) ∗ semVal (barCell c) 0)

def dat (c : Dev nD) : Dat τ (Elt F) Unit ℕ UU ℕ cfg0 c where
  A w := V1 m c (Proc.devRef .tc (Pipeline.arrRef spec0 w))
  after w _ := match w with
    | ⟨0, _⟩ => (I m c).x
    | ⟨1, _⟩ => (I m c).wq
    | ⟨2, _⟩ => (I m c).k
    | ⟨3, _⟩ => (I m c).v
    | ⟨4, _⟩ => (I m c).wo
    | ⟨5, _⟩ => Rv m
  Φ t := match t with
    | ⟨0, _⟩ => Φ0 m c
    | ⟨_ + 1, _⟩ => Φ1 c
  q _ := fullShare
  owed t := match t with
    | ⟨0, _⟩ => Ow c 0
    | ⟨_ + 1, _⟩ => 0

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## The end of the body -/

theorem fin_end (P : Dev nD → COut F) (c : Dev nD) : FinA P 16 c ⊢ outPt c 0 1024 (OUTv P) := by
  unfold FinA outPt
  iintro ⟨%f, %h, H⟩
  iapply (Entails.of_eq (pointsTo_congr fun i _ => h i (by
    have h0 : (i 0).val < 1024 := (i 0).isLt
    unfold nth; omega)))
  iexact H

theorem cells_close_send (P : Dev nD → COut F) (K : GSem nD τ sig → ℕ) (c : Dev nD) :
    iprop(ctx P K ∗ bigSep Finset.univ fun k : Fin 32 => atPos ER (sendCell c k) (0 + 1) ∅ 0)
      ⊢ |={Set.univ}=> bigSep Finset.univ fun k : Fin 32 => (semVal (sendCell c k) 0 : sProp 𝕄) := by
  iintro ⟨#Hc, H⟩
  iapply (Rounds.cells_close ER (Rd P) Finset.univ (fun k : Fin 32 => sendCell c k) (fun k => K (sendCell c k)) (fun k _ => Set.mem_univ _)
    (fun _ _ h => h) (fun _ => 0 + 1) (fun k _ => duties_later P (sendCell c k)))
  iapply (bigSep_with_persistent (R := ctx P K) (fun k _ => BI.sep_mono (ctx_inv P K (send_mem c k)) (Entails.refl _)))
  isplitr; · iexact Hc
  iexact H
theorem cells_close_recv (P : Dev nD → COut F) (K : GSem nD τ sig → ℕ) (c : Dev nD) :
    iprop(ctx P K ∗ bigSep Finset.univ fun k : Fin 32 => atPos ER (recvCell c k) (0 + 1) ∅ 0)
      ⊢ |={Set.univ}=> bigSep Finset.univ fun k : Fin 32 => (semVal (recvCell c k) 0 : sProp 𝕄) := by
  iintro ⟨#Hc, H⟩
  iapply (Rounds.cells_close ER (Rd P) Finset.univ (fun k : Fin 32 => recvCell c k) (fun k => K (recvCell c k)) (fun k _ => Set.mem_univ _)
    (fun _ _ h => h) (fun _ => 0 + 1) (fun k _ => duties_later P (recvCell c k)))
  iapply (bigSep_with_persistent (R := ctx P K) (fun k _ => BI.sep_mono (ctx_inv P K (recv_mem c k)) (Entails.refl _)))
  isplitr; · iexact Hc
  iexact H

/-- Every cell closed. -/
theorem close_all (P : Dev nD → COut F) (K : GSem nD τ sig → ℕ) (c : Dev nD) :
    iprop(ctx P K ∗ BD (F := F) c ∗ bigSep Finset.univ fun k : Fin 32 => DK (F := F) k c)
      ⊢ |={Set.univ}=> iprop((bigSep Finset.univ fun j : Fin 64 => semVal ((c : Thread nD τ), osem j) 0) ∗ (semVal (barCell c) 0 : sProp 𝕄)) := by
  unfold BD DK
  rw [bigSep_osem (F := F) (fun sm => semVal ((c : Thread nD τ), sm) 0), bigSep_sep']
  iintro ⟨#Hc, HB, HS, HR⟩
  imod (cells_close_send P K c) $$ [HS] with HS
  · isplitr; · iexact Hc
    iexact HS
  imod (cells_close_recv P K c) $$ [HR] with HR
  · isplitr; · iexact Hc
    iexact HR
  ihave #HI := (ctx_inv P K (bar_mem c)) $$ Hc
  imod (Rounds.cell_close ER (Rd P) (g := barCell c) (Set.mem_univ (K (barCell c))) (fun h => h) (duties_later P (barCell c))) $$ [HB] with HB
  · isplitr; · iexact HI
    iexact HB
  imodintro
  isplitr [HB]
  · isplitl [HS]; · iexact HS
    iexact HR
  iexact HB

theorem out_start (c : Dev nD) (f : COut F) : (outM.view.loc (c : Thread nD τ) ↦[Finset.univ]{fullShare} f : sProp 𝕄) ⊢ OA (F := F) c 0 1024 := by
  unfold OA outPt; rw [rows_all]; iintro H; iexists f; iexact H
theorem out_stop (c : Dev nD) : outPt c 0 1024 (Rv m) ⊢ (outM.view.loc (c : Thread nD τ) ↦[Finset.univ]{fullShare} Rv m : sProp 𝕄) := by
  unfold outPt; rw [rows_all]
theorem CMs_all (P : Dev nD → COut F) (c : Dev nD) : iprop((CMs P 0 0 c ∗ CMs P 0 1 c ∗ CMs P 0 2 c ∗ CMs P 0 3 c) ∗ (CMs P 1 0 c ∗ CMs P 1 1 c ∗ CMs P 1 2 c ∗ CMs P 1 3 c) ∗ (CMs P 2 0 c ∗ CMs P 2 1 c ∗ CMs P 2 2 c ∗ CMs P 2 3 c) ∗ (CMs P 3 0 c ∗ CMs P 3 1 c ∗ CMs P 3 2 c ∗ CMs P 3 3 c)) ⊢ CA (F := F) c 0 960 :=
  ((BI.sep_mono (BI.sep_mono (CMs_forget P 0 0 c) (BI.sep_mono (CMs_forget P 0 1 c) (BI.sep_mono (CMs_forget P 0 2 c) (CMs_forget P 0 3 c)))) (BI.sep_mono (BI.sep_mono (CMs_forget P 1 0 c) (BI.sep_mono (CMs_forget P 1 1 c) (BI.sep_mono (CMs_forget P 1 2 c) (CMs_forget P 1 3 c)))) (BI.sep_mono (BI.sep_mono (CMs_forget P 2 0 c) (BI.sep_mono (CMs_forget P 2 1 c) (BI.sep_mono (CMs_forget P 2 2 c) (CMs_forget P 2 3 c)))) (BI.sep_mono (CMs_forget P 3 0 c) (BI.sep_mono (CMs_forget P 3 1 c) (BI.sep_mono (CMs_forget P 3 2 c) (CMs_forget P 3 3 c)))))))).trans (CM_unall c)

/-! ## The grid point -/

abbrev stg (c : Dev nD) (b : Ref sig .tc) (X : b.ty.Contents (Elt F)) : sProp 𝕄 :=
  owns (Ix := Unit) (Name := ℕ) (U := UU) (Lvl := ℕ) (c : Thread nD τ) (Memref.whole b) fullShare X
abbrev stg' (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg' c b X := by
  unfold owns; simp only [Memref.view_whole, View.read_whole, View.set_whole]

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

def bodyPre (c : Dev nD) : sProp 𝕄 :=
  iprop(Φ0 m c ∗ (dat m c).owesAt () t0_0.castSucc
    ∗ (∃ d, stg c cc0_stg0_0 ((dat m c).before (0 : Fin 6) t0_0 d))
    ∗ (∃ d, stg c cc0_stg1_0 ((dat m c).before (1 : Fin 6) t0_0 d))
    ∗ (∃ d, stg c cc0_stg2_0 ((dat m c).before (2 : Fin 6) t0_0 d))
    ∗ (∃ d, stg c cc0_stg3_0 ((dat m c).before (3 : Fin 6) t0_0 d))
    ∗ (∃ d, stg c cc0_stg4_0 ((dat m c).before (4 : Fin 6) t0_0 d))
    ∗ (∃ d, stg c cc0_stg5_0 ((dat m c).before (5 : Fin 6) t0_0 d)))
def bodyPost (c : Dev nD) : sProp 𝕄 :=
  iprop(Φ1 c ∗ (dat m c).owesAt () t0_0.succ ∗ stg c cc0_stg0_0 (I m c).x ∗ stg c cc0_stg1_0 (I m c).wq ∗ stg c cc0_stg2_0 (I m c).k
    ∗ stg c cc0_stg3_0 (I m c).v ∗ stg c cc0_stg4_0 (I m c).wo ∗ stg c cc0_stg5_0 (Rv m))

set_option maxHeartbeats 2000000 in
theorem sound_body (c : Dev nD) {h0 : stM0.IsWhole} {h1 : stM1.IsWhole} {h2 : stM2.IsWhole} {h3 : stM3.IsWhole} {h4 : stM4.IsWhole} {h5 : outM.IsWhole} {h6 : cmM.IsWhole} {h7 : obM.IsWhole} :
    bodyPre m c ⊢ wp frame (wpE (defs₀ (F := F)) 𝒱₀ (c : Thread nD τ) none) Set.univ
      (cc0_body (F := F) stM0 h0 stM1 h1 stM2 h2 stM3 h3 stM4 h4 outM h5 cmM h6 obM h7 cc0_scratch2 cc0_scratch3) (fun _ => bodyPost m c) := by
  refine BIBase.Entails.trans ?_ (Idealize.SL.Sem.wp_fupd _ _ _ _ _)
  unfold bodyPre bodyPost Φ0 X0
  simp only [owns_whole_eq]
  rw [bigSep_ix (F := F) (fun k => RK0 (F := F) k c), ← CA_whole, ← BA_whole]
  iintro ⟨⟨⟨⟨%K, #Hc⟩, HBW, HBT, HRS, #HRch⟩, ⟨HC, HG⟩, Hp⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩⟩
  have hx0 : g0 = (I m c).x := by rw [hg0]; unfold Dat.before; rw [if_pos (fetch0_0 t0_0)]; rfl
  subst hx0
  have hx1 : g1 = (I m c).wq := by rw [hg1]; unfold Dat.before; rw [if_pos (fetch0_1 t0_0)]; rfl
  subst hx1
  have hx2 : g2 = (I m c).k := by rw [hg2]; unfold Dat.before; rw [if_pos (fetch0_2 t0_0)]; rfl
  subst hx2
  have hx3 : g3 = (I m c).v := by rw [hg3]; unfold Dat.before; rw [if_pos (fetch0_3 t0_0)]; rfl
  subst hx3
  have hx4 : g4 = (I m c).wo := by rw [hg4]; unfold Dat.before; rw [if_pos (fetch0_4 t0_0)]; rfl
  subst hx4
  icases HRS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
  ihave HBS := (BS_all (F := F) c) $$ [HC HBT]
  · isplitr; · iexact HRch
    isplitl [HC]; · iexact HC
    iexact HBT
  icases HBS with ⟨HB0, HB1, HB2, HB3⟩
  ihave HO := (owesAt_elim m c t0_0.castSucc (Ow c 0) rfl) $$ Ho
  ihave HX := (out_start c g5) $$ H5
  ihave HX := (OA_four (F := F) c) $$ HX
  icases HX with ⟨HX0, HX1, HX2, HX3⟩
  ihave HG := (BA_four (F := F) c) $$ HG
  icases HG with ⟨HG0, HG1, HG2, HG3⟩
  iapply (body_run (Pm m) K c (I m c) (Pv_0 (I m c)) (Pv_1 (I m c)) (Pv_2 (I m c)) (Pv_3 (I m c))) $$ Hc [HO] HB0 HB1 HB2 HB3 HBW [H0] [H1] [H2] [H3] [H4] [HX0 HG0] [HX1 HG1] [HX2 HG2] [HX3 HG3] HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31
  · unfold OW; iexact HO
  · unfold in0; iexact H0
  · unfold in1; iexact H1
  · unfold in2; iexact H2
  · unfold in3; iexact H3
  · unfold in4; iexact H4
  · unfold I0 OA BA; isplitl [HX0]; · iexact HX0
    iexact HG0
  · unfold I0 OA BA; isplitl [HX1]; · iexact HX1
    iexact HG1
  · unfold I0 OA BA; isplitl [HX2]; · iexact HX2
    iexact HG2
  · unfold I0 OA BA; isplitl [HX3]; · iexact HX3
    iexact HG3
  iintro HBD H0 H1 H2 H3 H4 HD0 HS00 HD1 HS10 HD2 HS20 HD3 HS30 HD4 HS01 HD5 HS11 HD6 HS21 HD7 HS31 HD8 HS02 HD9 HS12 HD10 HS22 HD11 HS32 HD12 HS03 HD13 HS13 HD14 HS23 HD15 HS33 HD16 HD17 HD18 HD19 HD20 HD21 HD22 HD23 HD24 HD25 HD26 HD27 HD28 HD29 HD30 HO HD31 HF HG
  unfold Φ1
  imod (close_all (Pm m) K c) $$ [HBD HD0 HD1 HD2 HD3 HD4 HD5 HD6 HD7 HD8 HD9 HD10 HD11 HD12 HD13 HD14 HD15 HD16 HD17 HD18 HD19 HD20 HD21 HD22 HD23 HD24 HD25 HD26 HD27 HD28 HD29 HD30 HD31] with Hsem
  · isplitr; · iexact Hc
    isplitl [HBD]; · iexact HBD
    rw [bigSep_ix (F := F) (fun k => DK (F := F) k c)]
    isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    isplitl [HD11]; · iexact HD11
    isplitl [HD12]; · iexact HD12
    isplitl [HD13]; · iexact HD13
    isplitl [HD14]; · iexact HD14
    isplitl [HD15]; · iexact HD15
    isplitl [HD16]; · iexact HD16
    isplitl [HD17]; · iexact HD17
    isplitl [HD18]; · iexact HD18
    isplitl [HD19]; · iexact HD19
    isplitl [HD20]; · iexact HD20
    isplitl [HD21]; · iexact HD21
    isplitl [HD22]; · iexact HD22
    isplitl [HD23]; · iexact HD23
    isplitl [HD24]; · iexact HD24
    isplitl [HD25]; · iexact HD25
    isplitl [HD26]; · iexact HD26
    isplitl [HD27]; · iexact HD27
    isplitl [HD28]; · iexact HD28
    isplitl [HD29]; · iexact HD29
    isplitl [HD30]; · iexact HD30
    iexact HD31
  ihave HC := (CMs_all (Pm m) c) $$ [HS00 HS01 HS02 HS03 HS10 HS11 HS12 HS13 HS20 HS21 HS22 HS23 HS30 HS31 HS32 HS33]
  · isplitl [HS00 HS01 HS02 HS03]
    · isplitl [HS00]; · iexact HS00
      isplitl [HS01]; · iexact HS01
      isplitl [HS02]; · iexact HS02
      iexact HS03
    isplitl [HS10 HS11 HS12 HS13]
    · isplitl [HS10]; · iexact HS10
      isplitl [HS11]; · iexact HS11
      isplitl [HS12]; · iexact HS12
      iexact HS13
    isplitl [HS20 HS21 HS22 HS23]
    · isplitl [HS20]; · iexact HS20
      isplitl [HS21]; · iexact HS21
      isplitl [HS22]; · iexact HS22
      iexact HS23
    isplitl [HS30]; · iexact HS30
    isplitl [HS31]; · iexact HS31
    isplitl [HS32]; · iexact HS32
    iexact HS33
  imodintro
  rw [← CA_whole, ← BA_whole]
  icases Hsem with ⟨Hs, Hb⟩
  isplitl [HC HG Hp Hs Hb]
  · isplitl [HC HG]
    · isplitl [HC]; · iexact HC
      unfold BA GB; iexists _; iexact HG
    isplitl [Hp]; · iexact Hp
    isplitl [Hs]; · iexact Hs
    iexact Hb
  isplitl [HO]
  · unfold OW
    icases HO with ⟨%W, HO⟩
    iapply (owesAt_intro m c t0_0.succ 0 rfl W); iexact HO
  isplitl [H0]
  · iexists _; isplitr; · ipureintro; rfl
    unfold in0; iexact H0
  isplitl [H1]
  · iexists _; isplitr; · ipureintro; rfl
    unfold in1; iexact H1
  isplitl [H2]
  · iexists _; isplitr; · ipureintro; rfl
    unfold in2; iexact H2
  isplitl [H3]
  · iexists _; isplitr; · ipureintro; rfl
    unfold in3; iexact H3
  isplitl [H4]
  · iexists _; isplitr; · ipureintro; rfl
    unfold in4; iexact H4
  iexists (Rv m); isplitr; · ipureintro; rfl
  iapply (out_stop m c)
  iapply (fin_end (Pm m) c); iexact HF

set_option maxRecDepth 40000 in
theorem body_obligation (c : Dev nD) : BodyObligation (dat m c) (defs₀ (F := F)) 𝒱₀ () Set.univ := fun t => by
  rw [fin_N0 t]
  rw [bigSep_W, bigSep_W]
  show bodyPre m c ⊢ wp frame (wpE (defs₀ (F := F)) 𝒱₀ (c : Thread nD τ) none) Set.univ (bodyAt0 t0_0) (fun _ => bodyPost m c)
  exact sound_body m c

end Cert.Proof

end
-- ==== Proof.Deal.lean ====
module

public import proofs.«01_k».proof.Proof.Region
public import Idealize.ShloMosaic.Harness.Basic

@[expose] public section

noncomputable section

/-! What the launch makes of the protocol, and how it is dealt to the devices. -/

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]
local notation "𝕄" => MT nD τ sig Unit (Elt F) ℕ UU ℕ

/-! ## Tokens -/

def barTokE : Dev nD × Fin 4 ↪ GSem nD τ sig × ℕ × Fin 4 :=
  ⟨fun x => (barCell x.1, 0, x.2), fun _ _ h => Prod.ext (congrArg (fun t : GSem nD τ sig × ℕ × Fin 4 => t.1.1.1) h)
    (congrArg (fun t : GSem nD τ sig × ℕ × Fin 4 => t.2.2) h)⟩
def scTokE : Dev nD × Fin 64 ↪ GSem nD τ sig × ℕ × Fin 4 :=
  ⟨fun x => (scEmb x, 0, 0), fun _ _ h => scEmb.injective (congrArg Prod.fst h)⟩
def toks : Finset (GSem nD τ sig × ℕ × Fin 4) := Finset.univ.map barTokE ∪ Finset.univ.map scTokE

theorem toks_disjoint : Disjoint (Finset.univ.map barTokE) (Finset.univ.map scTokE) := by
  rw [Finset.disjoint_left]
  rintro g h₁ h₂
  obtain ⟨x, -, rfl⟩ := Finset.mem_map.mp h₁
  obtain ⟨y, -, h⟩ := Finset.mem_map.mp h₂
  exact osem_ne_bar y.2 (congrArg (fun t : GSem nD τ sig × ℕ × Fin 4 => t.1.2) h)
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The partner across a dimension, for every duty of the barrier at once, -/
def barE : Dev nD × Fin 4 ≃ Dev nD × Fin 4 :=
  ⟨fun x => (flip x.2 x.1, x.2), fun x => (flip x.2 x.1, x.2), fun x => Prod.ext (flip_flip x.2 x.1) rfl, fun x => Prod.ext (flip_flip x.2 x.1) rfl⟩
theorem flip_kd (k : Fin 32) : ∀ c, flip (kd k) (flip (kd k) c) = c := fun c => flip_flip ⟨kd k, Nat.mod_lt _ (by decide)⟩ c
/-- and for every copy. -/
def cpE : Dev nD × Fin 32 ≃ Dev nD × Fin 32 :=
  ⟨fun x => (flip (kd x.2) x.1, x.2), fun x => (flip (kd x.2) x.1, x.2), fun x => Prod.ext (flip_kd x.2 x.1) rfl, fun x => Prod.ext (flip_kd x.2 x.1) rfl⟩

/-- The tokens a device pays with. -/
def payToks (c : Dev nD) : sProp 𝕄 :=
  iprop((bigSep Finset.univ fun d : Fin 4 => dutyTok ER (barCell (flip d c)) 0 d)
    ∗ (bigSep Finset.univ fun k : Fin 32 => dutyTok ER (sendCell c k) 0 0)
    ∗ bigSep Finset.univ fun k : Fin 32 => dutyTok ER (recvCell (flip (kd k) c) k) 0 0)

theorem toks_deal : bigSep toks (fun x => (dutyTok ER x.1 x.2.1 x.2.2 : sProp 𝕄)) = bigSep Finset.univ fun c : Dev nD => payToks (F := F) c := by
  unfold toks payToks
  rw [bigSep_union toks_disjoint, bigSep_map, bigSep_map, bigSep_univ_prod (α := Dev nD) (β := Fin 64),
    bigSep_sep', bigSep_sep',
    show (bigSep Finset.univ fun c : Dev nD => bigSep Finset.univ fun j : Fin 64 => (dutyTok ER (scTokE (c, j)).1 (scTokE (c, j)).2.1 (scTokE (c, j)).2.2 : sProp 𝕄))
      = bigSep Finset.univ fun c : Dev nD => iprop((bigSep Finset.univ fun k : Fin 32 => dutyTok ER (sendCell c k) 0 0) ∗ bigSep Finset.univ fun k : Fin 32 => dutyTok ER (recvCell c k) 0 0)
      from bigSep_congr (s := Finset.univ) fun (c : Dev nD) _ => bigSep_osem (F := F) (fun sm => dutyTok ER ((c : Thread nD τ), sm) 0 0), bigSep_sep',
    bigSep_univ_equiv barE, bigSep_univ_prod (α := Dev nD) (β := Fin 4),
    ← bigSep_univ_prod (fun x : Dev nD × Fin 32 => (dutyTok ER (recvCell x.1 x.2) 0 0 : sProp 𝕄)),
    bigSep_univ_equiv cpE, bigSep_univ_prod (α := Dev nD) (β := Fin 32)]
  rfl

/-! ## Credit -/

/-- What of the payment `n` of the devices reaches device `c`. -/
def CR (c : Dev nD) (n : ℕ) : sProp 𝕄 :=
  if n < 4 then cred (tallyAt (barCell c) () 1) else cred (tallyAt (recvCell c (Fin.ofNat 32 (n - 4))) () (amt (n - 4)))

theorem flip_any (d : ℕ) (h : d < 4) (c : Dev nD) : flip d (flip d c) = c := flip_flip ⟨d, h⟩ c

theorem cred_pay (c : Dev nD) (n : ℕ) :
    (Pipeline.launchCred (fun d => tallyAt (pay d n).1 () (pay d n).2) c : sProp 𝕄) ⊢ CR (F := F) c n := by
  unfold pay CR
  split
  · next h => exact Pipeline.launchCred_tallyAt (.reg barS) (flip n) (flip n) (flip_any n h) (flip_any n h) () 1 c
  · exact Pipeline.launchCred_tallyAt (.dma (semR (Fin.ofNat 32 (n - 4)))) (flip (kd (n - 4))) (flip (kd (n - 4)))
      (flip_any _ (Nat.mod_lt _ (by decide))) (flip_any _ (Nat.mod_lt _ (by decide))) () _ c

theorem cred_pays (c : Dev nD) : ∀ n, (Pipeline.launchCred (fun d => Owl d n) c : sProp 𝕄) ⊢ bigSep (Finset.range n) fun i => CR (F := F) c (35 - i)
  | 0 => by rw [Finset.range_zero, bigSep_empty]; exact BI.affine
  | n + 1 => by
    have e : iprop(CR (F := F) c (35 - n) ∗ bigSep (Finset.range n) fun i => CR (F := F) c (35 - i)) ⊢ bigSep (Finset.range (n + 1)) fun i => CR (F := F) c (35 - i) := by
      rw [Finset.range_add_one]; exact Entails.of_eq (by rw [BI.bigSep_insert Finset.notMem_range_self]; rfl)
    refine BIBase.Entails.trans ?_ e
    show (Pipeline.launchCred (fun d => Owl d n + tallyAt (pay d (35 - n)).1 () (pay d (35 - n)).2) c : sProp 𝕄) ⊢ _
    rw [Pipeline.launchCred_add]
    iintro ⟨H, H'⟩
    isplitl [H']
    · iapply (cred_pay (F := F) c (35 - n)); iexact H'
    · iapply (cred_pays c n); iexact H

theorem CR_recv (c : Dev nD) (k : Fin 32) : CR (F := F) c (k.val + 4) = cred (tallyAt (recvCell c k) () (amt k)) := by
  unfold CR
  rw [if_neg (by omega), Nat.add_sub_cancel, Fin.ofNat_val_eq_self]
theorem CR_bar (c : Dev nD) (n : ℕ) (h : n < 4) : CR (F := F) c n = cred (tallyAt (barCell c) () 1) := by
  unfold CR; rw [if_pos h]
theorem cred_four (g : GSem nD τ sig) : iprop(cred (tallyAt g () 1) ∗ cred (tallyAt g () 1) ∗ cred (tallyAt g () 1) ∗ cred (tallyAt g () 1)) ⊢ (cred (tallyAt g () 4) : sProp 𝕄) := by
  rw [show (tallyAt g () 4 : CellTallies nD τ sig Unit) = tallyAt g () 1 + (tallyAt g () 1 + (tallyAt g () 1 + tallyAt g () 1)) by
    rw [tallyAt_add, tallyAt_add, tallyAt_add]]
  iintro ⟨H0, H1, H2, H3⟩
  iapply (cred_add _ _).2
  isplitl [H0]; · iexact H0
  iapply (cred_add _ _).2
  isplitl [H1]; · iexact H1
  iapply (cred_add _ _).2
  isplitl [H2]; · iexact H2
  iexact H3

set_option maxRecDepth 8000 in
theorem creds (c : Dev nD) : (Pipeline.launchCred (fun d => Ow d 0) c : sProp 𝕄)
    ⊢ iprop(cred (tallyAt (barCell c) () 4) ∗ bigSep Finset.univ fun k : Fin 32 => cred (tallyAt (recvCell c k) () (amt k))) := by
  refine (cred_pays (F := F) c 36).trans ?_
  rw [bigSep_ix (F := F) (fun k : Fin 32 => cred (tallyAt (recvCell c k) () (amt k))),
    bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide +kernel) (by decide +kernel)]
  show iprop(CR (F := F) c ((ixg 3 0).val + 4) ∗ CR (F := F) c ((ixg 2 0).val + 4) ∗ CR (F := F) c ((ixg 1 0).val + 4) ∗ CR (F := F) c ((ixg 0 0).val + 4) ∗ CR (F := F) c ((ixg 3 1).val + 4) ∗ CR (F := F) c ((ixg 2 1).val + 4) ∗ CR (F := F) c ((ixg 1 1).val + 4) ∗ CR (F := F) c ((ixg 0 1).val + 4) ∗ CR (F := F) c ((ixg 3 2).val + 4) ∗ CR (F := F) c ((ixg 2 2).val + 4) ∗ CR (F := F) c ((ixg 1 2).val + 4) ∗ CR (F := F) c ((ixg 0 2).val + 4) ∗ CR (F := F) c ((ixg 3 3).val + 4) ∗ CR (F := F) c ((ixg 2 3).val + 4) ∗ CR (F := F) c ((ixg 1 3).val + 4) ∗ CR (F := F) c ((ixg 0 3).val + 4) ∗ CR (F := F) c ((ix 3 3).val + 4) ∗ CR (F := F) c ((ix 2 3).val + 4) ∗ CR (F := F) c ((ix 1 3).val + 4) ∗ CR (F := F) c ((ix 0 3).val + 4) ∗ CR (F := F) c ((ix 3 2).val + 4) ∗ CR (F := F) c ((ix 2 2).val + 4) ∗ CR (F := F) c ((ix 1 2).val + 4) ∗ CR (F := F) c ((ix 0 2).val + 4) ∗ CR (F := F) c ((ix 3 1).val + 4) ∗ CR (F := F) c ((ix 2 1).val + 4) ∗ CR (F := F) c ((ix 1 1).val + 4) ∗ CR (F := F) c ((ix 0 1).val + 4) ∗ CR (F := F) c ((ix 3 0).val + 4) ∗ CR (F := F) c ((ix 2 0).val + 4) ∗ CR (F := F) c ((ix 1 0).val + 4) ∗ CR (F := F) c ((ix 0 0).val + 4) ∗ CR (F := F) c 3 ∗ CR (F := F) c 2 ∗ CR (F := F) c 1 ∗ CR (F := F) c 0) ⊢ _
  simp only [CR_recv, CR_bar _ _ (show 0 < 4 by decide), CR_bar _ _ (show 1 < 4 by decide), CR_bar _ _ (show 2 < 4 by decide), CR_bar _ _ (show 3 < 4 by decide)]
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [H32 H33 H34 H35]
  · iapply (cred_four (F := F) (barCell c))
    isplitl [H32]; · iexact H32
    isplitl [H33]; · iexact H33
    isplitl [H34]; · iexact H34
    iexact H35
  isplitl [H31]; · iexact H31
  isplitl [H30]; · iexact H30
  isplitl [H29]; · iexact H29
  isplitl [H28]; · iexact H28
  isplitl [H27]; · iexact H27
  isplitl [H26]; · iexact H26
  isplitl [H25]; · iexact H25
  isplitl [H24]; · iexact H24
  isplitl [H23]; · iexact H23
  isplitl [H22]; · iexact H22
  isplitl [H21]; · iexact H21
  isplitl [H20]; · iexact H20
  isplitl [H19]; · iexact H19
  isplitl [H18]; · iexact H18
  isplitl [H17]; · iexact H17
  isplitl [H16]; · iexact H16
  isplitl [H15]; · iexact H15
  isplitl [H14]; · iexact H14
  isplitl [H13]; · iexact H13
  isplitl [H12]; · iexact H12
  isplitl [H11]; · iexact H11
  isplitl [H10]; · iexact H10
  isplitl [H9]; · iexact H9
  isplitl [H8]; · iexact H8
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

/-! ## What is kept for the region -/

section
variable (P : Dev nD → COut F)

/-- What every device may consult. -/
def records (K : GSem nD τ sig → ℕ) : sProp 𝕄 := iprop(ctx P K ∗ bigSep barCells fun g => reached ER g 0)
instance (K : GSem nD τ sig → ℕ) : BI.Persistent (records P K) := by unfold records; infer_instance

/-- What stays with device `c`. -/
def linear (c : Dev nD) : sProp 𝕄 :=
  iprop(BW (F := F) c ∗ (bigSep Finset.univ fun j : Fin 64 => openTok ER ((c : Thread nD τ), osem j)) ∗ payToks (F := F) c
    ∗ bigSep Finset.univ fun k : Fin 32 => cred (tallyAt (recvCell c k) () (amt k)))
def Tk (c : Dev nD) : sProp 𝕄 := iprop((∃ K, records P K) ∗ linear (F := F) c)

theorem reached_bar (K : GSem nD τ sig → ℕ) (c : Dev nD) : records P K ⊢ reached ER (barCell c) 0 := by
  unfold records
  iintro ⟨-, #H⟩
  iapply (show (bigSep barCells fun g => (reached ER g 0 : sProp 𝕄)) ⊢ reached ER (barCell c) 0 from
    bigSep_elim (Finset.mem_map_of_mem barEmb (Finset.mem_univ c)))
  iexact H

theorem open_all (K : GSem nD τ sig → ℕ) (c : Dev nD) :
    iprop(ctx P K ∗ (bigSep Finset.univ fun j : Fin 64 => openTok ER ((c : Thread nD τ), osem j))
        ∗ bigSep Finset.univ fun j : Fin 64 => semVal ((c : Thread nD τ), osem j) 0)
      ⊢ |={Set.univ}=> bigSep Finset.univ fun j : Fin 64 => (iprop(atPos ER ((c : Thread nD τ), osem j) 0 ∅ 0 ∗ reached ER ((c : Thread nD τ), osem j) 0) : sProp 𝕄) := by
  iintro ⟨#Hc, HO, HV⟩
  iapply (Rounds.cells_open ER (Rd P) Finset.univ (fun j : Fin 64 => ((c : Thread nD τ), osem j)) (fun j => K ((c : Thread nD τ), osem j)) (fun j _ => Set.mem_univ _))
  isplitl [HO]
  · iapply (bigSep_with_persistent (R := ctx P K) (fun j _ => BI.sep_mono (ctx_inv P K (g := ((c : Thread nD τ), osem j))
      (Finset.mem_union_right _ (Finset.mem_map_of_mem scEmb (Finset.mem_univ (c, j))))) (Entails.refl _)))
    isplitr; · iexact Hc
    iexact HO
  · iexact HV

end

variable (m : (ℓ : Loc nD τ sig) → Buf (Elt F) ℓ)

theorem ownSems0_eq (c : Dev nD) : (Pipeline.ownSems0 (Ix := Unit) (Name := ℕ) (U := UU) (Lvl := ℕ) (Val := Elt F) (τ := τ) osem c : sProp 𝕄)
    = bigSep Finset.univ fun j : Fin 64 => semVal ((c : Thread nD τ), osem j) 0 := rfl

theorem hopen (c : Dev nD) : iprop(Tk (Pm m) c ∗ Pipeline.ownSems0 osem c ∗ levAts L lv) ⊢ (|={Set.univ}=> X0 m c : sProp 𝕄) := by
  rw [ownSems0_eq]
  unfold Tk linear payToks X0
  iintro ⟨⟨⟨%K, #HR⟩, HBW, HO, ⟨HTB, HTS, HTR⟩, HCR⟩, HV, -⟩
  ihave #Hc := (show records (Pm m) K ⊢ ctx (Pm m) K from by unfold records; iintro ⟨#H, -⟩; iexact H) $$ HR
  imod (open_all (Pm m) K c) $$ [HO HV] with HA
  · isplitr; · iexact Hc
    isplitl [HO]; · iexact HO
    iexact HV
  imodintro
  ihave HA := (Entails.of_eq (bigSep_osem (F := F) (fun sm => iprop(atPos ER ((c : Thread nD τ), sm) 0 ∅ 0 ∗ reached ER ((c : Thread nD τ), sm) 0)))) $$ HA
  icases HA with ⟨HS, HA⟩
  ihave HS := (bigSep_unpair) $$ HS
  icases HS with ⟨HS, HSr⟩
  ihave HA := (bigSep_unpair) $$ HA
  icases HA with ⟨HA, #HAr⟩
  isplitr
  · iexists K; iexact Hc
  isplitl [HBW]; · iexact HBW
  isplitl [HTB]
  · iapply (bigSep_with_persistent (R := records (Pm m) K) (Φ := fun d : Fin 4 => dutyTok ER (barCell (flip d c)) 0 d) (fun d _ => by
      unfold BT
      iintro ⟨#HR, HT⟩
      isplitl [HT]; · iexact HT
      iapply (reached_bar (Pm m) K (flip d c)); iexact HR))
    isplitr; · iexact HR
    iexact HTB
  isplitr []
  · unfold RK0
    iapply bigSep_pair; isplitl [HTS]; · iexact HTS
    iapply bigSep_pair; isplitl [HSr]; · iexact HSr
    iapply bigSep_pair; isplitl [HS]; · iexact HS
    iapply bigSep_pair; isplitl [HA]; · iexact HA
    iapply bigSep_pair; isplitl [HCR]; · iexact HCR
    iexact HTR
  · unfold Rch; iexact HAr

end Cert.Proof

end
-- ==== Proof.Launch.lean ====
module

public import proofs.«01_k».proof.Proof.Deal
public import Idealize.ShloMosaic.Lib.Pipeline.RegionTalk
public import Idealize.ShloMosaic.Lib.Pipeline.ValueKit

@[expose] public section

noncomputable section

/-! The region as a step of the main program. -/

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat)

variable {F : FTy → Type} [FloatOps F]
local notation "𝕄" => MT nD τ sig Unit (Elt F) ℕ UU ℕ

variable (m : (ℓ : Loc nD τ sig) → Buf (Elt F) ℓ) (ρ : Dev nD → PrngReg)

/-- What the region leaves: its result array holds the sum. -/
def outs : Outs (F := F) := fun _ r c => (Function.update (V1 m c) (Proc.devRef .tc main_v20) (Rv m)) r

theorem V2_out (c : Dev nD) : V2 m (outs m) c main_v20 = Rv m := by
  show Function.update (V1 m c) (Proc.devRef .tc main_v20) (outs m 2 main_v20 c) (Proc.devRef .tc main_v20) = _
  rw [Function.update_self]
  show Function.update (V1 m c) (Proc.devRef .tc main_v20) (Rv m) (Proc.devRef .tc main_v20) = _
  rw [Function.update_self]

abbrev pdats : (p : Fin 1) → (c : Dev nD) → Dat τ (Elt F) Unit ℕ UU ℕ (cfgs p) c := fun _ c => dat m c

theorem kitP : Pipeline.PLaunchFacts (nD := nD) (τ := τ) (pcfgs (F := F)) 0 := launch0.toP

abbrev Yk (c : Dev nD) : sProp 𝕄 := semVal (barCell c) 0
abbrev Srest : Finset (DevRef τ sig) := Pipeline.ucRefs τ sig \ Pipeline.arrRefs (τ := τ) spec0

theorem srest (c : Dev nD) : (Pipeline.scopedRest (Pipeline.pin (pcfgs (F := F)) adm 0).spec c : sProp 𝕄)
    = iprop(anyBuf (F := F) c cc0_scratch0 ∗ anyBuf (F := F) c cc0_scratch1) := scopedRest0_eq c
theorem ownFacts : Pipeline.OwnSemFacts spec0 osem := by decide +kernel

theorem hin (c : Dev nD) : iprop(Pipeline.scopedRest (Pipeline.pin (pcfgs (F := F)) adm 0).spec c ∗ (∃ r, prngReg c r)
      ∗ StableHlo.held (c.tc : Thread nD τ) ∅ (V1 m c) ∗ X0 m c) ⊢ (pdats m 0 c).Φ 0 := by
  rw [show (pdats m 0 c).Φ 0 = Φ0 m c from rfl, srest]
  unfold Φ0
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk (F := F) c) := by
  rw [show (pdats m 0 c).Φ (Fin.last _) = Φ1 c from rfl, ownSems0_eq, srest]
  unfold Φ1
  iintro ⟨Hs, Hp, Ho, Hb⟩
  isplitl [Hs]; · iexact Hs
  isplitl [Hp]; · iexact Hp
  isplitr; · unfold StableHlo.held; rw [BI.bigSep_empty]; iempintro
  isplitl [Ho]; · iexact Ho
  iexact Hb

theorem staged : ∀ (w : Fin 6) (s : Fin (spec0 w).nbuf), lvs (.dma ((spec0 w).sem s)) ≤ 0 := by decide

theorem cutD (c : Dev nD) (t : Fin ((Pipeline.pin (pcfgs (F := F)) adm 0).N + 1)) (g : GSem nD τ sig) (i : Unit) (h : 0 < (pdats m 0 c).owed t g i) :
    i ∈ L g ∧ 0 < lv g i := by
  obtain ⟨t, ht⟩ := t
  have key : ∀ n, 0 < Owl c n g i → i ∈ L g ∧ 0 < lv g i := fun n h => by
    obtain ⟨k, h1, h2, rfl⟩ := Owl_pos h
    refine ⟨pay_tc c k, ?_⟩
    by_cases hk : k < 4
    · exact (lv_pay_lo c hk).symm ▸ Nat.one_pos
    · rw [show lv (pay c k).1 i = k - 2 from lv_pay_hi c (by omega) h2]; omega
  match t, ht with
  | 0, _ => exact key 36 h
  | _ + 1, _ => exact absurd h (Nat.lt_irrefl 0)

theorem arr_in (c : Dev nD) : ∀ w : Fin 6, w ≠ 5 → (pdats m 0 c).arrAt w (Pipeline.pin (pcfgs (F := F)) adm 0).N
    = V2 m (outs m) c (Proc.devRef .tc (Pipeline.arrRef (Pipeline.pin (pcfgs (F := F)) adm 0).spec w)) := by
  intro w hw
  fin_cases w
  · exact (Dat.arrAt_in (dat m c) 0 rfl _).trans (V2_of m (outs m) c main_v5 (by decide)).symm
  · exact (Dat.arrAt_in (dat m c) 1 rfl _).trans (V2_of m (outs m) c main_arg1 (by decide)).symm
  · exact (Dat.arrAt_in (dat m c) 2 rfl _).trans (V2_of m (outs m) c main_v12 (by decide)).symm
  · exact (Dat.arrAt_in (dat m c) 3 rfl _).trans (V2_of m (outs m) c main_v19 (by decide)).symm
  · exact (Dat.arrAt_in (dat m c) 4 rfl _).trans (V2_of m (outs m) c main_arg4 (by decide)).symm
  · exact absurd rfl hw

set_option maxRecDepth 16384 in
theorem arr_out (c : Dev nD) : (dat m c).arrAt 5 cfg0.N = Rv m := by
  refine (dat m c).arrAt_eq_of_after_last 5 t0_0 (by decide +kernel) _ fun j => ?_
  blk_simp
  rfl

set_option backward.isDefEq.respectTransparency.types false in
def R0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ Srest (Finset.empty_subset _) kitP rfl (fun c => (body_obligation m c).loose)
    (fun _ => 0) (fun c => Ow c 0) (fun c => (zero_add _).symm) (fun _ => rfl) (fun _ => rfl) (fun c w => by unfold Dat.share; split <;> rfl)
    (V1 m) (V2 m (outs m)) (fun c b hb => Function.update_of_ne (fun e => by
      subst e
      exact (Finset.mem_sdiff.mp (Finset.mem_sdiff.mp hb).1).2 (by decide +kernel)) _ _)
    (Tk (Pm m)) Yk (X0 m) Yk (hopen m) (hin m) (hout m)
    (fun c => by iintro H; imodintro; iexact H)
    (fun _ => 0)
    ⟨fun c _ _ => by rw [L_tc]; exact Finset.mem_singleton_self _, fun c w s => staged w s, fun c t g i h => cutD m c t g i h⟩
    (fun _ => iprop(emp))
    (fun _ _ => rfl) (fun c w => by
      by_cases hw : w = 5
      · subst hw; exact (arr_out m c).trans (V2_out m c).symm
      · exact arr_in m c w hw)

theorem arr_unscoped : ∀ w, (Pipeline.arrRef spec0 w).isScoped = false := by decide

theorem R0_pre (c : Dev nD) : iprop(StableHlo.held (c : Thread nD τ) (Pipeline.ucRefs τ sig) (V1 m c)
      ∗ ((∃ r, prngReg c r) ∗ Tk (Pm m) c ∗ ∃ W, owes (c : Thread nD τ) (Ow c 0) W)) ⊢ (R0 m).pre c := by
  show _ ⊢ iprop(StableHlo.held (c.tc : Thread nD τ) (Pipeline.arrRefs (τ := τ) spec0) (V1 m c) ∗ (∃ r, prngReg c r)
    ∗ (StableHlo.held (c.tc : Thread nD τ) Srest (V1 m c) ∗ emp) ∗ Tk (Pm m) c ∗ ∃ Wd, owes (c : Thread nD τ) (0 + Ow c 0) Wd)
  rw [StableHlo.held_sub_split _ (Pipeline.arrRefs_sub_ucRefs spec0 arr_unscoped), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem R0_post (c : Dev nD) : (R0 m).post c ⊢ iprop(StableHlo.held (c : Thread nD τ) (Pipeline.ucRefs τ sig) (V2 m (outs m) c)
      ∗ (semVal (barCell c) 0 ∗ ∃ W, owes (c : Thread nD τ) (0 : CellTallies nD τ sig Unit) W)) := by
  show iprop(StableHlo.held (c.tc : Thread nD τ) (Pipeline.arrRefs (τ := τ) spec0) (V2 m (outs m) c) ∗ (∃ r, prngReg c r)
    ∗ (StableHlo.held (c.tc : Thread nD τ) Srest (V2 m (outs m) c) ∗ emp) ∗ Yk (F := F) c ∗ ∃ Wd, owes (c : Thread nD τ) (0 : CellTallies nD τ sig Unit) Wd) ⊢ _
  rw [StableHlo.held_sub_split _ (Pipeline.arrRefs_sub_ucRefs spec0 arr_unscoped)]
  iintro ⟨Ha, -, ⟨Hr, -⟩, Hb, HO⟩
  isplitl [Ha Hr]
  · isplitl [Ha]; · iexact Ha
    iexact Hr
  isplitl [Hb]; · iexact Hb
  iexact HO

end Cert.Proof

end
-- ==== Proof.Run.lean ====
module

public import proofs.«01_k».proof.Proof.Launch

@[expose] public section

noncomputable section

/-! The launch, and the whole run. -/

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat)

variable {F : FTy → Type} [FloatOps F]
local notation "𝕄" => MT nD τ sig Unit (Elt F) ℕ UU ℕ

variable (m : (ℓ : Loc nD τ sig) → Buf (Elt F) ℓ) (ρ : Dev nD → PrngReg)

def u₀ : UU := (initOf (Pipeline.cells cfgs cellOf_inj) (Pipeline.launchToks cfgs cellOf_inj), launchOf barCells scCells toks)

/-- The protocol's share of the launch state, left on device 0 until it is dealt. -/
def G₀ (c : Dev nD) : sProp 𝕄 := if c = 0 then BI.own (ER (launchOf barCells scCells toks)) else iprop(emp)
theorem bigSep_G₀ : bigSep Finset.univ (G₀ (F := F)) = BI.own (ER (launchOf barCells scCells toks)) := by
  rw [bigSep_univ_at _ (0 : Dev nD), bigSep_congr (s := Finset.univ.erase 0) (Ψ := fun _ => (BI.emp : sProp 𝕄))
      fun c hc => by unfold G₀; rw [if_neg (Finset.ne_of_mem_erase hc)]; rfl, BI.bigSep_emp_const]
  unfold G₀; rw [if_pos rfl]
  exact BI.equiv_iff.mp sep_emp

theorem unscoped_eq : ∀ sm : SemLoc sig, sm.isScoped .tc = false → sm = .reg barS := by decide +kernel
theorem unscopedSems0_eq (c : Dev nD) : (unscopedSems0 c : sProp 𝕄) = semVal (barCell c) 0 := by
  unfold unscopedSems0
  rw [show (Finset.univ.filter fun sm : SemLoc sig => ¬ sm.isScoped .tc = true) = {.reg barS} from by decide +kernel, bigSep_singleton]

abbrev E₀ (c : Dev nD) : sProp 𝕄 := iprop((∃ r, prngReg c r) ∗ Tk (Pm m) c ∗ ∃ W, owes (c : Thread nD τ) (Ow c 0) W)
abbrev E₁ (c : Dev nD) : sProp 𝕄 := iprop(semVal (barCell c) 0 ∗ ∃ W, owes (c : Thread nD τ) (0 : CellTallies nD τ sig Unit) W)
abbrev EE : Fin 2 → Dev nD → sProp 𝕄 := fun j c => if j = 0 then E₀ m c else E₁ c

/-- Device `c`'s part of the launch that is not the protocol's. -/
def bundle (c : Dev nD) : sProp 𝕄 :=
  iprop(StableHlo.held (c : Thread nD τ) (Pipeline.ucRefs τ sig) (V0 m c) ∗ (∃ r, prngReg c r) ∗ owes (c : Thread nD τ) (Ow c 0) ∅
    ∗ cred (tallyAt (barCell c) () 4) ∗ bigSep Finset.univ fun k : Fin 32 => cred (tallyAt (recvCell c k) () (amt k)))

theorem bundle_intro (c : Dev nD) : iprop(unscopedBufs c (fun b => m ((c : Thread nD τ).loc b)) ∗ unscopedSems0 c
      ∗ owes (c : Thread nD τ) (Ow c 0) ∅ ∗ Pipeline.launchCred (fun d => Ow d 0) c ∗ prngReg c (ρ c) ∗ G₀ c)
    ⊢ (iprop(bundle m c ∗ semVal (barCell c) 0 ∗ G₀ c) : sProp 𝕄) := by
  rw [show unscopedBufs c (fun b => m ((c : Thread nD τ).loc b)) = StableHlo.held (c : Thread nD τ) (Pipeline.ucRefs τ sig) (V0 m c)
    from Pipeline.unscopedBufs_held (Ix := Unit) (Name := ℕ) (U := UU) (Lvl := ℕ) c (V0 m c), unscopedSems0_eq]
  unfold bundle
  iintro ⟨Hh, Hus, HO, Hcr, Hp, HG⟩
  ihave Hc := (creds (F := F) c) $$ Hcr
  icases Hc with ⟨H1, HN⟩
  isplitl [Hh H1 HN HO Hp]
  · isplitl [Hh]; · iexact Hh
    isplitl [Hp]; · iexists (ρ c); iexact Hp
    isplitl [HO]; · iexact HO
    isplitl [H1]; · iexact H1
    iexact HN
  isplitl [Hus] <;> iassumption

/-- The part of device `c` in what the protocol starts with. -/
def share₀ (c : Dev nD) : sProp 𝕄 :=
  iprop(atPos ER (barCell c) 0 ∅ 0 ∗ (bigSep Finset.univ fun j : Fin 64 => openTok ER ((c : Thread nD τ), osem j)) ∗ payToks (F := F) c)

abbrev T₀ (c : Dev nD) : sProp 𝕄 := iprop(StableHlo.held (c : Thread nD τ) (Pipeline.ucRefs τ sig) (V0 m c) ∗ E₀ m c)

theorem T₀_intro (κ : GSem nD τ sig → ℕ) (c : Dev nD) : iprop(records (Pm m) κ ∗ (share₀ (F := F) c ∗ bundle m c)) ⊢ T₀ m c := by
  unfold bundle T₀ share₀ E₀ Tk linear BW
  iintro ⟨#HR, ⟨Hat, Ho, Ht⟩, Hh, Hp, HO, H4, HN⟩
  isplitl [Hh]; · iexact Hh
  isplitl [Hp]; · iexact Hp
  isplitr [HO]
  · isplitr
    · iexists κ; iexact HR
    isplitl [Hat H4]
    · isplitl [Hat]; · iexact Hat
      iexact H4
    isplitl [Ho]; · iexact Ho
    isplitl [Ht]; · iexact Ht
    iexact HN
  · iexists ∅; iexact HO

theorem launch_init :
    iprop((bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G₀ c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun j : Fin 64 => (openTok ER ((c : Thread nD τ), osem j) : sProp 𝕄)) :=
    Entails.of_eq (by rw [bigSep_map, bigSep_univ_prod]; rfl)
  iintro ⟨H, #Hlev⟩
  ihave H' := (show (bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G₀ c))
      ⊢ (bigSep Finset.univ fun c : Dev nD => iprop(bundle m c ∗ semVal (barCell c) 0 ∗ G₀ c) : sProp 𝕄) from bigSep_mono fun c _ => bundle_intro m ρ c) $$ H
  ihave H2 := bigSep_unpair $$ H'; icases H2 with ⟨HB, H3⟩
  ihave H4 := bigSep_unpair $$ H3; icases H4 with ⟨Hv, HG⟩
  ihave Hu := (show bigSep Finset.univ (G₀ (F := F)) ⊢ BI.own (ER (launchOf barCells scCells toks)) from Entails.of_eq bigSep_G₀) $$ HG
  imod (Rounds.fund_launch ER (Rd (Pm m)) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records (Pm m) κ) (Φ := fun c => iprop(share₀ (F := F) c ∗ bundle m c)) fun c _ => T₀_intro m κ c)
  isplitr
  · unfold records ctx
    isplitr
    · isplitr; · iexact Hinv
      iexact Hlev
    iexact Hr
  iapply bigSep_pair
  isplitr [HB]
  · unfold share₀
    iapply bigSep_pair; isplitl [Hat]; · iapply hat $$ Hat
    iapply bigSep_pair; isplitl [Hopen]; · iapply hop $$ Hopen
    iapply (Entails.of_eq (toks_deal (F := F))) $$ Htok
  · iexact HB

theorem EE_zero : EE (F := F) m 0 = E₀ m := rfl
theorem EE_one : EE (F := F) m 1 = E₁ := rfl

theorem mem_uc (b : Ref sig .tc) (h : b.isScoped = false) : (Proc.devRef .tc b : DevRef τ sig) ∈ Pipeline.ucRefs τ sig :=
  Finset.mem_filter.mpr ⟨StableHlo.devRef_mem_tcRefs b, fun h' => Bool.false_ne_true (h.symm.trans h')⟩

set_option backward.isDefEq.respectTransparency.types false in
/-- Every weakly fair run of the main program ends, every argument as it was, every counter at zero, and the result on every device the sum. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v21) = V3 m (outs m) c main_v21) ∧ r.2.sem = fun _ => 0) :=
  Pipeline.θ_run_regions_kit_dev_sems (pcfgs (F := F)) adm (pdats m) () cellOf_inj EP defs₀ 𝒱₀ L lv m ρ main
    (segs m (outs m) 𝒱₀ L lv (EE m) () (pdats m) (R0 m))
    (fun c Q => by
      rewrite [main_chain c, Pipeline.Seg.run_eq_chain,
        show (segs m (outs m) 𝒱₀ L lv (EE m) () (pdats m) (R0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun c => Ow c 0) L_of_ne G₀ u₀
    (by
      unfold u₀
      iintro Hu
      ihave H := (ownU_pair _ _) $$ Hu
      icases H with ⟨HP, HX⟩
      imodintro
      isplitl [HP]; · iexact HP
      rw [bigSep_G₀]; iexact HX)
    (T₀ m) (fun c => iprop(StableHlo.held (c : Thread nD τ) (Pipeline.ucRefs τ sig) (V3 m (outs m) c) ∗ semVal (barCell c) 0))
    (fun c => by
      refine ⟨Entails.refl _, R0_pre m c, R0_post m c, ?_⟩
      show iprop(StableHlo.held (c : Thread nD τ) (Pipeline.ucRefs τ sig) (V3 m (outs m) c)
          ∗ (semVal (barCell c) 0 ∗ ∃ W, owes (c : Thread nD τ) (0 : CellTallies nD τ sig Unit) W)) ⊢ _
      iintro ⟨Hh, Hb0, HO⟩
      isplitr [HO]
      · isplitl [Hh] <;> iassumption
      · iexact HO)
    (launch_init m ρ)
    (fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_v21) = V3 m (outs m) c main_v21) ∧ s.sem (barCell c) = 0)
    (fun c s' => by
      unfold StableHlo.held
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨(h (Proc.devRef .tc main_arg0) (mem_uc main_arg0 rfl)).trans (V3_main_arg0 m (outs m) c),
          (h (Proc.devRef .tc main_arg1) (mem_uc main_arg1 rfl)).trans (V3_main_arg1 m (outs m) c),
          (h (Proc.devRef .tc main_arg2) (mem_uc main_arg2 rfl)).trans (V3_main_arg2 m (outs m) c),
          (h (Proc.devRef .tc main_arg3) (mem_uc main_arg3 rfl)).trans (V3_main_arg3 m (outs m) c),
          (h (Proc.devRef .tc main_arg4) (mem_uc main_arg4 rfl)).trans (V3_main_arg4 m (outs m) c),
          h (Proc.devRef .tc main_v21) (mem_uc main_v21 rfl)⟩, by simpa using hb⟩
      iexact HSI)
    (fun s h hs => ⟨fun c => (h c).1,
      sem_eq_zero hs fun c sm hsm => by
        obtain rfl := unscoped_eq sm hsm
        exact (h c).2⟩)

end Cert.Proof

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

/-! The frame claims of the two printings of the kernel and of the reference. -/

namespace Cert.Proof

open Idealize.ShloMosaic Idealize.SL.Sem

set_option maxRecDepth 100000 in
/-- The two printings have one body, -/
theorem body_eq : Cert.Kernel.cc0_body (F := Bits) = Cert.KernelIdeal.cc0_body (F := Bits) := rfl

/-- so one table of bodies, -/
theorem defs₀_eq : Cert.Kernel.defs₀ (F := Bits) = Cert.KernelIdeal.defs₀ (F := Bits) := by
  unfold Cert.Kernel.defs₀ Cert.KernelIdeal.defs₀
  refine congrArg _ (funext fun l => funext fun x => ?_)
  match l, x with
  | ⟨0, _⟩, (t, s) => dsimp only; exact body_eq ▸ rfl

/-- and one table of labels. -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

theorem main_same : Cert.Kernel.main (F := Bits) = Cert.KernelIdeal.main (F := Bits) := rfl

/-- Terminates, its arguments kept, every counter at zero: read at the words, -/
theorem frame_kernel : Cert.quiescent_Kernel := by
  intro m ρ _
  rw [defs_eq, main_same]
  exact (θ_run (Cert.KernelIdeal.defs (F := Bits)) _ _).mono
    (fun _ h => ⟨fun c => ⟨(h.1 c).1, (h.1 c).2.1, (h.1 c).2.2.1, (h.1 c).2.2.2.1, (h.1 c).2.2.2.2.1⟩, h.2⟩) (run_main (F := Bits) m ρ)

/-- and read at the extended reals. -/
theorem frame_ideal : Cert.quiescent_KernelIdeal := fun m ρ _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main (F := Ideal) m ρ)

/-- The reference's program is host operations alone. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Proof

end
-- ==== Proof.Groups.lean ====
/-
  What a device computes, written once for all four groups of rows and all eight heads: `GQ` is a group's queries, `GK` and `GV` a head's keys
  and values, `GH` its attention, `GS` the group's partial sums. The values that the kernel stores are these.
-/
module

public import proofs.«01_k».proof.Proof.Vals

@[expose] public section

noncomputable section

namespace Cert.Proof

open Cert.KernelIdeal Cert.KernelIdeal.Gen
open Idealize.ShloMosaic
open Idealize.ShloMosaic.TcCoe

variable {F : FTy → Type} [FloatOps F]

theorem inbX (o : ℕ) (h : o ≤ 960) : ∀ a, (![o, 0] : Fin 2 → Nat) a + S64x1024.size a ≤ S1024x1024.size a := fun a => by
  match a with
  | 0 => show o + 64 ≤ 1024; omega
  | 1 => show 0 + 1024 ≤ 1024; omega

theorem inbK (h o : ℕ) (h1 : h < 8) (h2 : o ≤ 960) : ∀ a, (![h, o, 0] : Fin 3 → Nat) a + S1x64x128.size a ≤ S8x1024x128.size a := fun a => by
  match a with
  | 0 => show h + 1 ≤ 8; omega
  | 1 => show o + 64 ≤ 1024; omega
  | 2 => show 0 + 128 ≤ 128; omega

/-- 64 rows of the inputs from row `o`. -/
def ldX (i : Ins F) (o : ℕ) (h : o ≤ 960) : Vec F S64x1024 .f32 :=
  stM0.view.readAt (Elt F) (Rect.unit (s := S1024x1024) ![o, 0] S64x1024.size (inbX o h)).toLoadRect i.x
/-- 64 keys of head `h` from row `o`. -/
def ldK (i : Ins F) (h o : ℕ) (h1 : h < 8) (h2 : o ≤ 960) : Vec F S1x64x128 .f32 :=
  stM2.view.readAt (Elt F) (Rect.unit (s := S8x1024x128) ![h, o, 0] S1x64x128.size (inbK h o h1 h2)).toLoadRect i.k
/-- 64 values of head `h` from row `o`. -/
def ldV (i : Ins F) (h o : ℕ) (h1 : h < 8) (h2 : o ≤ 960) : Vec F S1x64x128 .f32 :=
  stM3.view.readAt (Elt F) (Rect.unit (s := S8x1024x128) ![h, o, 0] S1x64x128.size (inbK h o h1 h2)).toLoadRect i.v
/-- The projection of the queries. -/
def ldWq (i : Ins F) : Vec F S1024x1024 .f32 :=
  stM1.view.readAt (Elt F) (Rect.unit (s := S1024x1024) ![0, 0] S1024x1024.size inb_S1024x1024_S1024x1024_0_0).toLoadRect i.wq
/-- The projection of the context. -/
def ldWo (i : Ins F) : Vec F S1024x1024 .f32 :=
  stM4.view.readAt (Elt F) (Rect.unit (s := S1024x1024) ![0, 0] S1024x1024.size inb_S1024x1024_S1024x1024_0_0).toLoadRect i.wo

/-- Four blocks of rows, one below the other, times a square matrix. -/
def opQ (a b c d : Vec F S64x1024 .f32) (w : Vec F S1024x1024 .f32) : FVec F S256x1024 .f32 :=
  matmul dot_S256x1024_S1024x1024_S256x1024_1_0_0_1_n_n none
    (concatenate S256x1024 0 [⟨S64x1024, shapeCast S64x1024 a shapeCasts_S64x1024_S64x1024⟩, ⟨S64x1024, shapeCast S64x1024 b shapeCasts_S64x1024_S64x1024⟩,
      ⟨S64x1024, shapeCast S64x1024 c shapeCasts_S64x1024_S64x1024⟩, ⟨S64x1024, shapeCast S64x1024 d shapeCasts_S64x1024_S64x1024⟩]
      concatenates_S64x1024_S64x1024_S64x1024_S64x1024_S256x1024_d0)
    (shapeCast S1024x1024 w shapeCasts_S1024x1024_S1024x1024) (constant S256x1024 .f32 0x00000000#32)

/-- Four blocks of one head's rows, one below the other. -/
def opC (a b c d : Vec F S1x64x128 .f32) : FVec F S256x128 .f32 :=
  concatenate S256x128 0 [⟨S64x128, shapeCast S64x128 a shapeCasts_S1x64x128_S64x128⟩, ⟨S64x128, shapeCast S64x128 b shapeCasts_S1x64x128_S64x128⟩,
    ⟨S64x128, shapeCast S64x128 c shapeCasts_S1x64x128_S64x128⟩, ⟨S64x128, shapeCast S64x128 d shapeCasts_S1x64x128_S64x128⟩]
    concatenates_S64x128_S64x128_S64x128_S64x128_S256x128_d0

/-- The scaled scores of one head, whose queries are the 128 columns from `o`. -/
def opS (q : FVec F S256x1024 .f32) (o : ℕ) (hs : S256x1024.Slices ![0, o] S256x128) (k : FVec F S256x128 .f32) : FVec F S256x256 .f32 :=
  mulf (matmul dot_S256x128_S128x256_S256x256_1_0_0_1_n_n none (extractStridedSlice S256x128 ![0, o] q hs)
      (transpose S128x256 [1, 0] k transposes_S256x128_p1_0_S128x256) (constant S256x256 .f32 0x00000000#32))
    (broadcast S256x256 (Scalar.ofBits .f32 0x3DB504F3#32))

/-- The exponentials of the scores less their row's largest. -/
def opE (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- The exponentials divided by their row's sum. -/
def opW (e : FVec F S256x256 .f32) : FVec F S256x256 .f32 :=
  divf e (broadcastTo S256x256 (shapeCast S256x1 (multiReduction .add [1] S256 e 0x00000000#32 reduces_S256x256_S256 (.inl rfl) rfl)
    shapeCasts_S256_S256x1) broadcasts_S256x1_S256x256)

/-- The attention of one head. -/
def opH (s : FVec F S256x256 .f32) (v : FVec F S256x128 .f32) : FVec F S256x128 .f32 :=
  matmul dot_S256x256_S256x128_S256x128_1_0_0_1_n_n none (opW (opE s)) v (constant S256x128 .f32 0x00000000#32)

/-- The eight heads side by side. -/
def opJ (h0 h1 h2 h3 h4 h5 h6 h7 : FVec F S256x128 .f32) : FVec F S256x1024 .f32 :=
  concatenate S256x1024 1 [⟨S256x128, h0⟩, ⟨S256x128, h1⟩, ⟨S256x128, h2⟩, ⟨S256x128, h3⟩, ⟨S256x128, h4⟩, ⟨S256x128, h5⟩, ⟨S256x128, h6⟩, ⟨S256x128, h7⟩]
    concatenates_S256x128_S256x128_S256x128_S256x128_S256x128_S256x128_S256x128_S256x128_S256x1024_d1

/-- The heads times the projection. -/
def opP (h : FVec F S256x1024 .f32) (w : Vec F S1024x1024 .f32) : FVec F S256x1024 .f32 :=
  matmul dot_S256x1024_S1024x1024_S256x1024_1_0_0_1_n_n none h (shapeCast S1024x1024 w shapeCasts_S1024x1024_S1024x1024) (constant S256x1024 .f32 0x00000000#32)

/-- The queries of the rows of group `g`. -/
def GQ (g : ℕ) (hg : g < 4) (i : Ins F) : FVec F S256x1024 .f32 :=
  opQ (ldX i (64 * g) (by omega)) (ldX i (64 * g + 256) (by omega)) (ldX i (64 * g + 512) (by omega)) (ldX i (64 * g + 768) (by omega)) (ldWq i)
/-- The keys of head `h` in group `g`. -/
def GK (g h : ℕ) (hg : g < 4) (hh : h < 8) (i : Ins F) : FVec F S256x128 .f32 :=
  opC (ldK i h (64 * g) hh (by omega)) (ldK i h (64 * g + 256) hh (by omega)) (ldK i h (64 * g + 512) hh (by omega)) (ldK i h (64 * g + 768) hh (by omega))
/-- The values of head `h` in group `g`. -/
def GV (g h : ℕ) (hg : g < 4) (hh : h < 8) (i : Ins F) : FVec F S256x128 .f32 :=
  opC (ldV i h (64 * g) hh (by omega)) (ldV i h (64 * g + 256) hh (by omega)) (ldV i h (64 * g + 512) hh (by omega)) (ldV i h (64 * g + 768) hh (by omega))

/-- The columns of one head lie inside. -/
theorem slH (h : ℕ) (hh : h < 8) : S256x1024.Slices ![0, 128 * h] S256x128 :=
  ⟨rfl, fun a => by
    match a with
    | 0 => show 0 + 256 ≤ 256; omega
    | 1 => show 128 * h + 128 ≤ 1024; omega⟩

/-- The attention of head `h` in group `g`. -/
def GH (g h : ℕ) (hg : g < 4) (hh : h < 8) (i : Ins F) : FVec F S256x128 .f32 :=
  opH (opS (GQ g hg i) (128 * h) (slH h hh) (GK g h hg hh i)) (GV g h hg hh i)

/-- The partial sums of group `g`. -/
def GS (g : ℕ) (hg : g < 4) (i : Ins F) : FVec F S256x1024 .f32 :=
  opP (opJ (GH g 0 hg (by omega) i) (GH g 1 hg (by omega) i) (GH g 2 hg (by omega) i) (GH g 3 hg (by omega) i) (GH g 4 hg (by omega) i)
    (GH g 5 hg (by omega) i) (GH g 6 hg (by omega) i) (GH g 7 hg (by omega) i)) (ldWo i)

variable (i : Ins F)

theorem V87_eq : V87 i = GQ 0 (by decide) i := rfl
theorem V120_eq : V120 i = GH 0 0 (by decide) (by decide) i := rfl
theorem V153_eq : V153 i = GH 0 1 (by decide) (by decide) i := rfl
theorem V186_eq : V186 i = GH 0 2 (by decide) (by decide) i := rfl
theorem V219_eq : V219 i = GH 0 3 (by decide) (by decide) i := rfl
theorem V252_eq : V252 i = GH 0 4 (by decide) (by decide) i := rfl
theorem V285_eq : V285 i = GH 0 5 (by decide) (by decide) i := rfl
theorem V318_eq : V318 i = GH 0 6 (by decide) (by decide) i := rfl
/-- What is stored of group 0. -/
theorem Sum0_eq : Sum0 i = GS 0 (by decide) i := by
  unfold Sum0 V355
  rw [V87_eq, V120_eq, V153_eq, V186_eq, V219_eq, V252_eq, V285_eq, V318_eq]
  rfl

theorem V385_eq : V385 i = GQ 1 (by decide) i := rfl
theorem V418_eq : V418 i = GH 1 0 (by decide) (by decide) i := rfl
theorem V451_eq : V451 i = GH 1 1 (by decide) (by decide) i := rfl
theorem V484_eq : V484 i = GH 1 2 (by decide) (by decide) i := rfl
theorem V517_eq : V517 i = GH 1 3 (by decide) (by decide) i := rfl
theorem V550_eq : V550 i = GH 1 4 (by decide) (by decide) i := rfl
theorem V583_eq : V583 i = GH 1 5 (by decide) (by decide) i := rfl
theorem V616_eq : V616 i = GH 1 6 (by decide) (by decide) i := rfl
/-- What is stored of group 1. -/
theorem Sum1_eq : Sum1 i = GS 1 (by decide) i := by
  unfold Sum1
  rw [V418_eq, V451_eq, V484_eq, V517_eq, V550_eq, V583_eq, V616_eq]
  rfl

theorem V683_eq : V683 i = GQ 2 (by decide) i := rfl
theorem V716_eq : V716 i = GH 2 0 (by decide) (by decide) i := rfl
theorem V749_eq : V749 i = GH 2 1 (by decide) (by decide) i := rfl
theorem V782_eq : V782 i = GH 2 2 (by decide) (by decide) i := rfl
theorem V815_eq : V815 i = GH 2 3 (by decide) (by decide) i := rfl
theorem V848_eq : V848 i = GH 2 4 (by decide) (by decide) i := rfl
theorem V881_eq : V881 i = GH 2 5 (by decide) (by decide) i := rfl
theorem V914_eq : V914 i = GH 2 6 (by decide) (by decide) i := rfl
/-- What is stored of group 2. -/
theorem Sum2_eq : Sum2 i = GS 2 (by decide) i := by
  unfold Sum2
  rw [V683_eq, V716_eq, V749_eq, V782_eq, V815_eq, V848_eq, V881_eq, V914_eq]
  rfl

theorem V981_eq : V981 i = GQ 3 (by decide) i := rfl
theorem V1014_eq : V1014 i = GH 3 0 (by decide) (by decide) i := rfl
theorem V1047_eq : V1047 i = GH 3 1 (by decide) (by decide) i := rfl
theorem V1080_eq : V1080 i = GH 3 2 (by decide) (by decide) i := rfl
theorem V1113_eq : V1113 i = GH 3 3 (by decide) (by decide) i := rfl
theorem V1146_eq : V1146 i = GH 3 4 (by decide) (by decide) i := rfl
theorem V1179_eq : V1179 i = GH 3 5 (by decide) (by decide) i := rfl
theorem V1212_eq : V1212 i = GH 3 6 (by decide) (by decide) i := rfl
/-- What is stored of group 3. -/
theorem Sum3_eq : Sum3 i = GS 3 (by decide) i := by
  unfold Sum3 V1246
  rw [V981_eq, V1014_eq, V1047_eq, V1080_eq, V1113_eq, V1146_eq, V1179_eq, V1212_eq]
  rfl

end Cert.Proof

end
-- ==== Proof.Math.lean ====
/-
  Softmax attention over the extended reals. `att s v` is one element of the context: the scores `s` of one query against a set of keys,
  turned into weights, and the weighted sum of the values `v`. `att_masked` says that scores set to minus infinity outside a set of keys
  give the attention over that set alone.
-/
module

public import Idealize.ShloMosaic.PureOps.Ideal.Laws
public import Idealize.ShloMosaic.Lib.IdealHost

@[expose] public section

noncomputable section

namespace Cert.Proof

open Idealize.ShloMosaic
open scoped BigOperators

variable {ι κ : Type} [Fintype ι] [Fintype κ]

/-- The largest score. -/
def mx (s : ι → EReal) : EReal := Finset.univ.fold max ⊥ s

/-- The weight of key `t` before the division. -/
def ew (s : ι → EReal) (t : ι) : EReal := Ideal.exp (s t - mx s)

/-- One element of the context. -/
def att (s v : ι → EReal) : EReal := ∑ t, Ideal.div (ew s t) (∑ u, ew s u) * v t

theorem mx_le {s : ι → EReal} {a : EReal} (h : ∀ t, s t ≤ a) : mx s ≤ a := by
  unfold mx
  rw [Finset.fold_max_le]
  exact ⟨bot_le, fun t _ => h t⟩

theorem le_mx (s : ι → EReal) (t : ι) : s t ≤ mx s := by
  unfold mx
  rw [Finset.le_fold_max]
  exact .inr ⟨t, Finset.mem_univ t, le_rfl⟩

theorem exp_nonneg (x : EReal) : 0 ≤ Ideal.exp x := by
  induction x with
  | bot => exact le_rfl
  | top => exact le_top
  | coe r => rw [Ideal.exp_coe]; exact_mod_cast (Real.exp_pos r).le

theorem den_ne_zero [Nonempty ι] {s : ι → EReal} (hs : ∀ t, ∃ r : ℝ, s t = r) : ∑ u, ew s u ≠ 0 := by
  obtain ⟨t, -, ht⟩ := Finset.exists_max_image (Finset.univ : Finset ι) s Finset.univ_nonempty
  have e : mx s = s t := le_antisymm (mx_le fun u => ht u (Finset.mem_univ u)) (le_mx s t)
  have e1 : ew s t = 1 := by
    obtain ⟨r, hr⟩ := hs t
    unfold ew
    rw [e, hr, ← EReal.coe_sub, sub_self, Ideal.exp_coe, Real.exp_zero]
    rfl
  have h1 : (1 : EReal) ≤ ∑ u, ew s u := by
    rw [← e1]
    exact Finset.single_le_sum (f := ew s) (fun u _ => exp_nonneg _) (Finset.mem_univ t)
  intro h0
  rw [h0] at h1
  exact absurd h1 (by norm_num)

/-- Scores at minus infinity outside the range of `f` take no part. -/
theorem att_masked [Nonempty κ] (f : κ → ι) (hf : Function.Injective f) (s s' v : ι → EReal)
    (h1 : ∀ t, s' (f t) = s (f t)) (h0 : ∀ j, j ∉ Set.range f → s' j = ⊥) (hs : ∀ t, ∃ r : ℝ, s (f t) = r) :
    att s' v = att (fun t => s (f t)) (fun t => v (f t)) := by
  have hM : mx s' = mx (fun t => s (f t)) := by
    refine le_antisymm (mx_le fun j => ?_) (mx_le fun t => ?_)
    · by_cases hj : j ∈ Set.range f
      · obtain ⟨t, rfl⟩ := hj
        rw [h1]
        exact le_mx (fun t => s (f t)) t
      · rw [h0 j hj]
        exact bot_le
    · rw [← h1]
      exact le_mx s' (f t)
  have he0 : ∀ j, j ∉ Set.range f → ew s' j = 0 := fun j hj => by
    unfold ew
    rw [h0 j hj, EReal.bot_sub, Ideal.exp_bot]
  have he1 : ∀ t, ew s' (f t) = ew (fun t => s (f t)) t := fun t => by
    unfold ew
    rw [hM, h1]
  have hD : ∑ u, ew s' u = ∑ u, ew (fun t => s (f t)) u :=
    (Fintype.sum_of_injective f hf _ _ he0 fun t => (he1 t).symm).symm
  have hD0 := den_ne_zero (s := fun t => s (f t)) hs
  unfold att
  rw [hD]
  refine (Fintype.sum_of_injective f hf _ _ (fun j hj => ?_) fun t => ?_).symm
  · rw [he0 j hj, Ideal.zero_div hD0, zero_mul]
  · rw [he1]

end Cert.Proof

end
-- ==== Proof.KRead.lean ====
/-
  The operations of Groups.lean read at an index, over the extended reals.
-/
module

public import proofs.«01_k».proof.Proof.Groups
public import proofs.«01_k».proof.Proof.Math
public import Idealize.ShloMosaic.Lib.MatmulPlain
public import Idealize.ShloMosaic.Lib.ValueLayout
public import Idealize.ShloMosaic.Lib.ValueIdx
public import Idealize.ShloMosaic.Lib.Pipeline.Value

@[expose] public section

noncomputable section

namespace Cert.Proof

open Cert.KernelIdeal Cert.KernelIdeal.Gen
open Idealize.ShloMosaic
open Idealize.ShloMosaic.TcCoe
open Idealize.ShloMosaic.ValueIdx
open scoped BigOperators

/-- The factor that scales the scores. -/
def scl : EReal := Ideal.ofBits .f32 0x3DB504F3#32

/-- Which of the four blocks a row of a group lies in. -/
def blkOf (a : Fin 256) : Fin 4 := ⟨a.val / 64, by have := a.isLt; omega⟩
/-- Where in its block a row of a group lies. -/
def inBlk (a : Fin 256) : Fin 64 := ⟨a.val % 64, Nat.mod_lt _ (by decide)⟩
/-- The row of the array that is row `a` of group `g`. -/
def rowOf (g : Fin 4) (a : Fin 256) : Fin 1024 := ⟨64 * g.val + 256 * (a.val / 64) + a.val % 64, by have := a.isLt; have := g.isLt; omega⟩

theorem zeros_apply {s : Shape} (j : s.Idx) : (constant s .f32 0x00000000#32 : FVec Ideal s .f32) j = (0 : EReal) := Ideal.ofBits_zero_f32

theorem opC_apply (f : Fin 4 → Vec Ideal S1x64x128 .f32) (t : Fin 256) (d : Fin 128) :
    opC (f 0) (f 1) (f 2) (f 3) (ix2 t d) = f (blkOf t) (ix3 0 (inBlk t) d) := by
  have h := concatenate_ofFn_apply (t := S256x128) (s₁ := S64x128) 0 (fun n : Fin 4 => shapeCast S64x128 (f n) shapeCasts_S1x64x128_S64x128)
    concatenates_S64x128_S64x128_S64x128_S64x128_S256x128_d0 rfl 64 rfl (ix2 t d) (blkOf t) rfl (ix2 (inBlk t) d) rfl
    (fun b hb => by
      match b with
      | ⟨0, _⟩ => exact absurd rfl hb
      | ⟨1, _⟩ => rfl)
  exact h.trans (shapeCast_1ab_ab_apply _ _ _ _)

theorem opQ_apply (f : Fin 4 → Vec Ideal S64x1024 .f32) (w : Vec Ideal S1024x1024 .f32) (a : Fin 256) (n : Fin 1024) :
    opQ (f 0) (f 1) (f 2) (f 3) w (ix2 a n) = ∑ k : Fin 1024, f (blkOf a) (ix2 (inBlk a) k) * w (ix2 k n) := by
  refine (Ideal.matmul_plain_apply (M := 256) (K := 1024) (N := 1024) none _ _ _ a n).trans ?_
  rw [zeros_apply, zero_add]
  refine Finset.sum_congr rfl fun k _ => ?_
  rw [shapeCast_self w]
  congr 1
  have h := concatenate_ofFn_apply (t := S256x1024) (s₁ := S64x1024) 0 (fun n : Fin 4 => shapeCast S64x1024 (f n) shapeCasts_S64x1024_S64x1024)
    concatenates_S64x1024_S64x1024_S64x1024_S64x1024_S256x1024_d0 rfl 64 rfl (ix2 a k) (blkOf a) rfl (ix2 (inBlk a) k) rfl
    (fun b hb => by
      match b with
      | ⟨0, _⟩ => exact absurd rfl hb
      | ⟨1, _⟩ => rfl)
  exact h.trans (by rw [shapeCast_self])

theorem opS_apply (q : FVec Ideal S256x1024 .f32) (h : Fin 8) (hs : S256x1024.Slices ![0, 128 * h.val] S256x128) (k : FVec Ideal S256x128 .f32) (a t : Fin 256) :
    opS q (128 * h.val) hs k (ix2 a t)
      = (∑ d : Fin 128, q (ix2 a ⟨128 * h.val + d.val, by have := h.isLt; have := d.isLt; omega⟩) * k (ix2 t d)) * scl := by
  show (matmul dot_S256x128_S128x256_S256x256_1_0_0_1_n_n none (extractStridedSlice S256x128 ![0, 128 * h.val] q hs)
      (transpose S128x256 [1, 0] k transposes_S256x128_p1_0_S128x256) (constant (F := Ideal) S256x256 .f32 0x00000000#32) (ix2 a t) : EReal) * scl = _
  refine congrArg (· * scl) ((Ideal.matmul_plain_apply (M := 256) (K := 128) (N := 256) none _ _ _ a t).trans ?_)
  rw [zeros_apply, zero_add]
  refine Finset.sum_congr rfl fun d _ => ?_
  rw [transpose_ix2_apply]
  congr 1
  exact extractStridedSlice_apply _ _ hs _ _ fun b => match b with | ⟨0, _⟩ => (Nat.zero_add _).symm | ⟨1, _⟩ => rfl

theorem liftCol (a t : Fin 256) : reduces_S256x256_S256.lift (ix1 a) t = ix2 a t := by
  funext c; apply Fin.ext
  match c with
  | ⟨0, _⟩ => rfl
  | ⟨1, _⟩ => rfl

/-- A value per row, spread over the row. -/
theorem spread_apply (x : FVec Ideal S256 .f32) (a t : Fin 256) :
    broadcastTo S256x256 (shapeCast S256x1 x shapeCasts_S256_S256x1) broadcasts_S256x1_S256x256 (ix2 a t) = x (ix1 a) := by
  rw [broadcastTo_apply _ broadcasts_S256x1_S256x256 (ix2 a t) (ix2 a (0 : Fin 1)) (fun c => match c with | ⟨0, _⟩ => rfl | ⟨1, _⟩ => rfl)]
  exact shapeCast_apply x shapeCasts_S256_S256x1 (ix2 a (0 : Fin 1)) (ix1 a) (by
    rw [Shape.rowMajor_val_one, Shape.rowMajor_val_two]; show a.val = a.val * 1 + 0; omega)

theorem ofBits_bot : Ideal.ofBits .f32 0xFF800000#32 = ⊥ := by simp [Ideal.ofBits, Ideal.ieee]

theorem opE_apply (s : FVec Ideal S256x256 .f32) (a t : Fin 256) :
    opE s (ix2 a t) = ew (fun t : Fin 256 => s (ix2 a t)) t := by
  show Ideal.exp (s (ix2 a t) - _) = _
  unfold ew mx
  rw [spread_apply]
  refine congrArg (fun z => Ideal.exp (s (ix2 a t) - z)) ?_
  refine (Ideal.multiReduction_maximumf_single s _ reduces_S256x256_S256 _ _ (ix1 a)).trans ?_
  show Finset.univ.fold max (Ideal.ofBits .f32 0xFF800000#32) _ = _
  rw [ofBits_bot]
  congr 1
  funext u
  exact congrArg s (liftCol a u)

theorem opW_apply (e : FVec Ideal S256x256 .f32) (a t : Fin 256) :
    opW e (ix2 a t) = Ideal.div (e (ix2 a t)) (∑ u : Fin 256, e (ix2 a u)) := by
  show Ideal.div (e (ix2 a t)) _ = _
  rw [spread_apply]
  congr 1
  refine (Ideal.multiReduction_add_single e _ reduces_S256x256_S256 _ _ (ix1 a)).trans ?_
  exact Finset.sum_congr rfl fun u _ => congrArg e (liftCol a u)

theorem opH_apply (s : FVec Ideal S256x256 .f32) (v : FVec Ideal S256x128 .f32) (a : Fin 256) (d : Fin 128) :
    opH s v (ix2 a d) = att (fun t : Fin 256 => s (ix2 a t)) (fun t : Fin 256 => v (ix2 t d)) := by
  refine (Ideal.matmul_plain_apply (M := 256) (K := 256) (N := 128) none _ _ _ a d).trans ?_
  rw [zeros_apply, zero_add]
  unfold att
  refine Finset.sum_congr rfl fun t _ => ?_
  rw [opW_apply, opE_apply]
  refine congrArg (fun z => Ideal.div (ew (fun t : Fin 256 => s (ix2 a t)) t) z * v (ix2 t d)) ?_
  exact Finset.sum_congr rfl fun u _ => opE_apply s a u

theorem opJ_apply (f : Fin 8 → FVec Ideal S256x128 .f32) (a : Fin 256) (n : Fin 1024) :
    opJ (f 0) (f 1) (f 2) (f 3) (f 4) (f 5) (f 6) (f 7) (ix2 a n)
      = f ⟨n.val / 128, by have := n.isLt; omega⟩ (ix2 a ⟨n.val % 128, Nat.mod_lt _ (by decide)⟩) :=
  concatenate_ofFn_apply (t := S256x1024) (s₁ := S256x128) 1 f
    concatenates_S256x128_S256x128_S256x128_S256x128_S256x128_S256x128_S256x128_S256x128_S256x1024_d1 rfl 128 rfl (ix2 a n) _ rfl _ rfl
    (fun b hb => by
      match b with
      | ⟨0, _⟩ => rfl
      | ⟨1, _⟩ => exact absurd rfl hb)

theorem opP_apply (h : FVec Ideal S256x1024 .f32) (w : Vec Ideal S1024x1024 .f32) (a : Fin 256) (n : Fin 1024) :
    opP h w (ix2 a n) = ∑ k : Fin 1024, h (ix2 a k) * w (ix2 k n) := by
  refine (Ideal.matmul_plain_apply (M := 256) (K := 1024) (N := 1024) none _ _ _ a n).trans ?_
  rw [zeros_apply, zero_add]
  refine Finset.sum_congr rfl fun k _ => ?_
  rw [shapeCast_self]

/-! ## The loads -/

variable (i : Ins Ideal)

theorem ldX_apply (o : ℕ) (h : o ≤ 960) (r : Fin 64) (k : Fin 1024) :
    ldX i o h (ix2 r k) = i.x (ix2 ⟨o + r.val, by have := r.isLt; omega⟩ k) :=
  congrArg i.x (funext fun a => Fin.ext (by
    match a with
    | ⟨0, _⟩ => show o + 1 * r.val = o + r.val; omega
    | ⟨1, _⟩ => show 0 + 1 * k.val = k.val; omega))

theorem ldK_apply (h : Fin 8) (o : ℕ) (h2 : o ≤ 960) (r : Fin 64) (d : Fin 128) :
    ldK i h.val o h.isLt h2 (ix3 0 r d) = i.k (ix3 h ⟨o + r.val, by have := r.isLt; omega⟩ d) :=
  congrArg i.k (funext fun a => Fin.ext (by
    match a with
    | ⟨0, _⟩ => show h.val + 1 * 0 = h.val; omega
    | ⟨1, _⟩ => show o + 1 * r.val = o + r.val; omega
    | ⟨2, _⟩ => show 0 + 1 * d.val = d.val; omega))

theorem ldV_apply (h : Fin 8) (o : ℕ) (h2 : o ≤ 960) (r : Fin 64) (d : Fin 128) :
    ldV i h.val o h.isLt h2 (ix3 0 r d) = i.v (ix3 h ⟨o + r.val, by have := r.isLt; omega⟩ d) :=
  congrArg i.v (funext fun a => Fin.ext (by
    match a with
    | ⟨0, _⟩ => show h.val + 1 * 0 = h.val; omega
    | ⟨1, _⟩ => show o + 1 * r.val = o + r.val; omega
    | ⟨2, _⟩ => show 0 + 1 * d.val = d.val; omega))

theorem ldWq_apply (k n : Fin 1024) : ldWq i (ix2 k n) = i.wq (ix2 k n) :=
  congrArg i.wq (funext fun a => Fin.ext (by
    match a with
    | ⟨0, _⟩ => show 0 + 1 * k.val = k.val; omega
    | ⟨1, _⟩ => show 0 + 1 * n.val = n.val; omega))

theorem ldWo_apply (k n : Fin 1024) : ldWo i (ix2 k n) = i.wo (ix2 k n) :=
  congrArg i.wo (funext fun a => Fin.ext (by
    match a with
    | ⟨0, _⟩ => show 0 + 1 * k.val = k.val; omega
    | ⟨1, _⟩ => show 0 + 1 * n.val = n.val; omega))

/-! ## A group -/

/-- The scaled score of row `ρ` against key `j`, head `h`, of a device's inputs. -/
def scr (h : Fin 8) (ρ j : Fin 1024) : EReal :=
  (∑ d : Fin 128, (∑ k : Fin 1024, i.x (ix2 ρ k) * i.wq (ix2 k ⟨128 * h.val + d.val, by have := h.isLt; have := d.isLt; omega⟩)) * i.k (ix3 h j d)) * scl

theorem GQ_apply (g : Fin 4) (a : Fin 256) (n : Fin 1024) :
    GQ g.val g.isLt i (ix2 a n) = ∑ k : Fin 1024, i.x (ix2 (rowOf g a) k) * i.wq (ix2 k n) := by
  refine (opQ_apply (fun m : Fin 4 => ldX i (64 * g.val + 256 * m.val) (by have := g.isLt; have := m.isLt; omega)) (ldWq i) a n).trans ?_
  refine Finset.sum_congr rfl fun k _ => ?_
  rw [ldX_apply, ldWq_apply]
  rfl

theorem GK_apply (g : Fin 4) (h : Fin 8) (t : Fin 256) (d : Fin 128) :
    GK g.val h.val g.isLt h.isLt i (ix2 t d) = i.k (ix3 h (rowOf g t) d) := by
  refine (opC_apply (fun m : Fin 4 => ldK i h.val (64 * g.val + 256 * m.val) h.isLt (by have := g.isLt; have := m.isLt; omega)) t d).trans ?_
  rw [ldK_apply]
  rfl

theorem GV_apply (g : Fin 4) (h : Fin 8) (t : Fin 256) (d : Fin 128) :
    GV g.val h.val g.isLt h.isLt i (ix2 t d) = i.v (ix3 h (rowOf g t) d) := by
  refine (opC_apply (fun m : Fin 4 => ldV i h.val (64 * g.val + 256 * m.val) h.isLt (by have := g.isLt; have := m.isLt; omega)) t d).trans ?_
  rw [ldV_apply]
  rfl

theorem GH_apply (g : Fin 4) (h : Fin 8) (a : Fin 256) (d : Fin 128) :
    GH g.val h.val g.isLt h.isLt i (ix2 a d)
      = att (fun t : Fin 256 => scr i h (rowOf g a) (rowOf g t)) (fun t : Fin 256 => i.v (ix3 h (rowOf g t) d)) := by
  unfold GH
  rw [opH_apply]
  congr 1
  · funext t
    rw [opS_apply]
    unfold scr
    congr 1
    refine Finset.sum_congr rfl fun d _ => ?_
    rw [GQ_apply, GK_apply]
  · funext t
    rw [GV_apply]

/-- The partial sums of a group, at an index. -/
theorem GS_apply (g : Fin 4) (a : Fin 256) (n : Fin 1024) :
    GS g.val g.isLt i (ix2 a n)
      = ∑ J : Fin 1024, att (fun t : Fin 256 => scr i ⟨J.val / 128, by have := J.isLt; omega⟩ (rowOf g a) (rowOf g t))
          (fun t : Fin 256 => i.v (ix3 ⟨J.val / 128, by have := J.isLt; omega⟩ (rowOf g t) ⟨J.val % 128, Nat.mod_lt _ (by decide)⟩)) * i.wo (ix2 J n) := by
  unfold GS
  rw [opP_apply]
  refine Finset.sum_congr rfl fun J _ => ?_
  rw [ldWo_apply]
  congr 1
  refine (opJ_apply (fun h : Fin 8 => GH g.val h.val g.isLt h.isLt i) a J).trans ?_
  rw [GH_apply]

end Cert.Proof

end
-- ==== Proof.AllSum.lean ====
/- What the exchange leaves, over the extended reals: every row of the result is the sum over the devices of what each of
   them added up for that row. -/
module

public import proofs.«01_k».proof.Proof.KRead
public import proofs.«01_k».proof.Proof.Region

@[expose] public section

noncomputable section

namespace Cert.Proof

open Cert.KernelIdeal Cert.KernelIdeal.Gen
open Idealize.ShloMosaic hiding ix1 ix2 ix3 ix4
open Idealize.ShloMosaic.TcCoe
open Idealize.ShloMosaic.ValueIdx
open scoped BigOperators

/-- The devices whose sums device `c` has added up before round `r`. -/
def devs (p : ℕ) : ℕ → Dev nD → List (Dev nD)
  | 0, c => [c]
  | r + 1, c => devs p r c ++ devs p r (flip (dim p r) c)

theorem A_sum (P : Dev nD → COut Ideal) (p r : ℕ) : ∀ (c : Dev nD) (i : (Blk 1024).Idx),
    (A P p r c i : EReal) = ((devs p r c).map fun d => (P d i : EReal)).sum := by
  induction r with
  | zero => intro c i; show (P c i : EReal) = _; simp [devs]
  | succ r ih =>
    intro c i
    show (A P p r c i : EReal) + (A P p r (flip (dim p r) c) i : EReal) = _
    rw [ih c i, ih _ i]
    show _ = ((devs p r c ++ devs p r (flip (dim p r) c)).map fun d => (P d i : EReal)).sum
    rw [List.map_append, List.sum_append]

/-- After the four rounds that is every device, once. -/
theorem devs_perm : ∀ (p : Fin 4) (c : Dev nD), (devs p.val 4 c).Perm (List.finRange 16) := by decide +kernel

theorem A_all (P : Dev nD → COut Ideal) (p : ℕ) (hp : p < 4) (c : Dev nD) (i : (Blk 1024).Idx) :
    (A P p 4 c i : EReal) = ∑ d : Dev nD, (P d i : EReal) := by
  rw [A_sum, ((devs_perm ⟨p, hp⟩ c).map _).sum_eq]
  exact (Fin.sum_univ_def (n := 16) (fun d => (P d i : EReal))).symm

theorem OUTv_apply (P : Dev nD → COut Ideal) (ρ n : Fin 1024) :
    (OUTv P (ix2 ρ n) : EReal) = ∑ d : Dev nD, (P d (ix2 (⟨src ρ.val, src_lt ρ.isLt⟩ : Fin 1024) n) : EReal) := by
  have e : (OUTv P (ix2 ρ n) : EReal) = A P (src ρ.val / 256) 4 (owner (src ρ.val)) (srcIdx (ix2 ρ n)) := rfl
  rw [e, A_all P _ (by have := src_lt ρ.isLt; omega)]
  refine Finset.sum_congr rfl fun d _ => congrArg (P d) (idx2_ext rfl rfl)

/-- The row of the group's sums that goes to row `ρ`. -/
abbrev rowIn (ρ : Fin 1024) : Fin 256 := ⟨64 * (ρ.val / 256) + ρ.val % 64, by omega⟩

theorem rowOf_rowIn (ρ : Fin 1024) : rowOf ⟨ρ.val / 64 % 4, by omega⟩ (rowIn ρ) = ρ := by
  apply Fin.ext
  show 64 * (ρ.val / 64 % 4) + 256 * ((64 * (ρ.val / 256) + ρ.val % 64) / 64) + (64 * (ρ.val / 256) + ρ.val % 64) % 64 = ρ.val
  omega

theorem GS_congr (i : Ins Ideal) (g g' : ℕ) (h : g < 4) (h' : g' < 4) (e : g = g') : GS g h i = GS g' h' i := by
  subst e; rfl

theorem Pv_apply (i : Ins Ideal) (ρ n : Fin 1024) :
    Pv i (ix2 (⟨src ρ.val, src_lt ρ.isLt⟩ : Fin 1024) n)
      = GS (ρ.val / 64 % 4) (Nat.mod_lt _ (by decide)) i (ix2 (rowIn ρ) n) := by
  have hg : ρ.val / 64 % 4 = 0 ∨ ρ.val / 64 % 4 = 1 ∨ ρ.val / 64 % 4 = 2 ∨ ρ.val / 64 % 4 = 3 := by omega
  have hs : src ρ.val = 256 * (ρ.val / 64 % 4) + (64 * (ρ.val / 256) + ρ.val % 64) := by unfold src; omega
  rcases hg with h | h | h | h
  · rw [GS_congr i _ 0 _ (by decide) h, ← Sum0_eq]
    exact (Pv_0 i (ix2 (rowIn ρ) n) (ix2 _ n) (by show src ρ.val = 0 + (64 * (ρ.val / 256) + ρ.val % 64); omega) rfl).symm
  · rw [GS_congr i _ 1 _ (by decide) h, ← Sum1_eq]
    exact (Pv_1 i (ix2 (rowIn ρ) n) (ix2 _ n) (by show src ρ.val = 256 + (64 * (ρ.val / 256) + ρ.val % 64); omega) rfl).symm
  · rw [GS_congr i _ 2 _ (by decide) h, ← Sum2_eq]
    exact (Pv_2 i (ix2 (rowIn ρ) n) (ix2 _ n) (by show src ρ.val = 512 + (64 * (ρ.val / 256) + ρ.val % 64); omega) rfl).symm
  · rw [GS_congr i _ 3 _ (by decide) h, ← Sum3_eq]
    exact (Pv_3 i (ix2 (rowIn ρ) n) (ix2 _ n) (by show src ρ.val = 768 + (64 * (ρ.val / 256) + ρ.val % 64); omega) rfl).symm

/-- What the region leaves, at row `ρ` and column `n`. -/
theorem Rv_apply (m : (ℓ : Loc nD τ sig) → Buf (Elt Ideal) ℓ) (ρ n : Fin 1024) :
    (Rv m (ix2 ρ n) : EReal) = ∑ c : Dev nD, ∑ J : Fin 1024,
      att (fun t : Fin 256 => scr (I m c) (⟨J.val / 128, by omega⟩ : Fin 8) ρ (rowOf ⟨ρ.val / 64 % 4, by omega⟩ t))
        (fun t => (I m c).v (ix3 (⟨J.val / 128, by omega⟩ : Fin 8) (rowOf ⟨ρ.val / 64 % 4, by omega⟩ t) (⟨J.val % 128, by omega⟩ : Fin 128)))
        * (I m c).wo (ix2 J n) := by
  unfold Rv
  rw [OUTv_apply]
  refine Finset.sum_congr rfl fun c _ => ?_
  refine (Pv_apply (I m c) ρ n).trans ((GS_apply (I m c) ⟨ρ.val / 64 % 4, by omega⟩ (rowIn ρ) n).trans ?_)
  rw [rowOf_rowIn]

end Cert.Proof

end
-- ==== Proof.HostRead.lean ====
/- What the host operations before the call leave in the call's operands, and what the one after it makes of its result. -/
module

public import proofs.«01_k».proof.Proof.AllSum
public import proofs.«01_k».proof.Proof.Launch
public import Idealize.ShloMosaic.Lib.StableHlo.RunRead
public import Idealize.ShloMosaic.Lib.Pointwise.ShapeOpsCore

@[expose] public section

noncomputable section

namespace Cert.Proof

open Cert.KernelIdeal Cert.KernelIdeal.Gen
open Idealize.ShloMosaic hiding ix1 ix2 ix3 ix4
open Idealize.ShloMosaic.TcCoe
open Idealize.ShloMosaic.StableHlo
open Idealize.ShloMosaic.ValueIdx

variable {F : FTy → Type} [FloatOps F] (m : (ℓ : Loc nD τ sig) → Buf (Elt F) ℓ) (c : Dev nD)

/-- The first head of device `c`, as the host computes it. -/
def w7 : BitVec 32 := IntOp.muli (IntOp.remui .host (IntOp.divui .host (Dev.word c) 1#32) 16#32) 8#32
def w10 : BitVec 32 := Scalar.select (IntOp.cmpi .slt (w7 c) 0#32) (IntOp.addi (w7 c) 128#32) (w7 c)

theorem w10_eq : ∀ c : Dev nD, (w10 c).toInt = 8 * (c.val : ℤ) := by decide

/-- Eight heads of an operand of 128, from head `8 c` on, heads in front. -/
theorem heads_apply {α : Type} (X : S1x1024x128x128.Idx → α) (h : S1x1024x128x128.ShapeCasts S1024x128x128) (st : Fin 3 → ℤ)
    (h0 : st 0 = ((0 : ℕ) : ℤ)) (h1 : st 1 = ((8 * c.val : ℕ) : ℤ)) (h2 : st 2 = ((0 : ℕ) : ℤ)) (hs : S1024x128x128.Slices (fun _ => 0) S1024x8x128)
    (ht : S1024x8x128.Transposes [1, 0, 2] S8x1024x128) (a : Fin 8) (b : Fin 1024) (d : Fin 128) :
    transpose S8x1024x128 [1, 0, 2] (Host.dynamicSlice S1024x8x128 (fun i => shapeCast S1024x128x128 X h i) st hs) ht (ix3 a b d)
      = X (ix4 0 b (⟨8 * c.val + a.val, by have : c.val < 16 := c.isLt; omega⟩ : Fin 128) d) := by
  have hc : c.val < 16 := c.isLt
  refine (transpose_apply _ _ ht (ix3 a b d) (ix3 b a d) (by intro x; match x with | ⟨0, _⟩ => rfl | ⟨1, _⟩ => rfl | ⟨2, _⟩ => rfl)).trans ?_
  rw [Host.dynamicSlice_apply]
  refine Eq.trans (congrArg (shapeCast S1024x128x128 X h)
    (?_ : _ = ix3 b (⟨8 * c.val + a.val, by omega⟩ : Fin 128) d)) (shapeCast_1abc_abc_apply X h _ _ _)
  funext x
  apply Fin.ext
  match x with
  | ⟨0, _⟩ =>
    show Host.clampedStart S1024x128x128 S1024x8x128 hs.1 st 0 + b.val = b.val
    rw [Host.clampedStart_of_le hs.1 st 0 0 h0 (Nat.le_of_eq (Nat.zero_add _))]; omega
  | ⟨1, _⟩ =>
    show Host.clampedStart S1024x128x128 S1024x8x128 hs.1 st 1 + a.val = 8 * c.val + a.val
    rw [Host.clampedStart_of_le hs.1 st 1 (8 * c.val) h1 (by show 8 * c.val + 8 ≤ 128; omega)]
  | ⟨2, _⟩ =>
    show Host.clampedStart S1024x128x128 S1024x8x128 hs.1 st 2 + d.val = d.val
    rw [Host.clampedStart_of_le hs.1 st 2 0 h2 (Nat.le_of_eq (Nat.zero_add _))]; omega

theorem V1_v5 (a b : Fin 1024) : V1 m c main_v5 (ix2 a b) = (m (c, main_arg0)) (ix3 0 a b) := by
  after_reads_simp
  exact shapeCast_1ab_ab_apply _ _ _ _

theorem V1_v12 (a : Fin 8) (b : Fin 1024) (d : Fin 128) : V1 m c main_v12 (ix3 a b d)
    = (m (c, main_arg2)) (ix4 0 b (⟨8 * c.val + a.val, by have : c.val < 16 := c.isLt; omega⟩ : Fin 128) d) := by
  after_reads_simp
  refine heads_apply c _ _ _ ?_ ?_ ?_ _ _ a b d
  · show BitVec.toInt (upto (hostOps0 c) (V0 m c) 17 (Proc.devRef .tc main_c_4) (Shape.Idx.first h_S_)) = _
    after_reads_simp
    rfl
  · show BitVec.toInt (upto (hostOps0 c) (V0 m c) 17 (Proc.devRef .tc main_v10) (Shape.Idx.first h_S_)) = _
    after_reads_simp
    exact (w10_eq c).trans (by push_cast; rfl)
  · show BitVec.toInt (upto (hostOps0 c) (V0 m c) 17 (Proc.devRef .tc main_c_5) (Shape.Idx.first h_S_)) = _
    after_reads_simp
    rfl

theorem V1_v19 (a : Fin 8) (b : Fin 1024) (d : Fin 128) : V1 m c main_v19 (ix3 a b d)
    = (m (c, main_arg3)) (ix4 0 b (⟨8 * c.val + a.val, by have : c.val < 16 := c.isLt; omega⟩ : Fin 128) d) := by
  after_reads_simp
  refine heads_apply c _ _ _ ?_ ?_ ?_ _ _ a b d
  · show BitVec.toInt (upto (hostOps0 c) (V0 m c) 29 (Proc.devRef .tc main_c_9) (Shape.Idx.first h_S_)) = _
    after_reads_simp
    rfl
  · show BitVec.toInt (upto (hostOps0 c) (V0 m c) 29 (Proc.devRef .tc main_v17) (Shape.Idx.first h_S_)) = _
    after_reads_simp
    exact (w10_eq c).trans (by push_cast; rfl)
  · show BitVec.toInt (upto (hostOps0 c) (V0 m c) 29 (Proc.devRef .tc main_c_10) (Shape.Idx.first h_S_)) = _
    after_reads_simp
    rfl

theorem V3_v21 (ρ n : Fin 1024) : V3 m (outs m) c main_v21 (ix3 0 ρ n) = Rv m (ix2 ρ n) := by
  rw [← V2_out m c]
  after_reads_simp
  refine broadcastInDim_apply _ _ _ _ _ fun a => ?_
  match a with
  | ⟨0, _⟩ => show ρ.val = if (1024 : ℕ) = 1 then 0 else ρ.val; rw [if_neg (by decide)]
  | ⟨1, _⟩ => show n.val = if (1024 : ℕ) = 1 then 0 else n.val; rw [if_neg (by decide)]

/-! ## The staged operands -/

theorem I_x (a b : Fin 1024) : (I m c).x (ix2 a b) = (m (c, main_arg0)) (ix3 0 a b) := by
  refine Eq.trans ?_ (V1_v5 m c a b)
  have e : ∀ x, win0_0.index t0_0 x = 0 := by decide +kernel
  show (win0_0.blk t0_0).view.read (Elt F) (V1 m c main_v5) (ix2 a b) = _
  blk_simp
  blk_ext
  all_goals rw [e, Nat.zero_mul, Nat.zero_add]

theorem I_wq (a b : Fin 1024) : (I m c).wq (ix2 a b) = (m (c, main_arg1)) (ix2 a b) := by
  refine Eq.trans ?_ (congrFun (V1_of m c main_arg1 (by decide)) (ix2 a b))
  have e : ∀ x, win0_1.index t0_0 x = 0 := by decide +kernel
  show (win0_1.blk t0_0).view.read (Elt F) (V1 m c main_arg1) (ix2 a b) = _
  blk_simp
  blk_ext
  all_goals rw [e, Nat.zero_mul, Nat.zero_add]

theorem I_k (a : Fin 8) (b : Fin 1024) (d : Fin 128) : (I m c).k (ix3 a b d) = (m (c, main_arg2)) (ix4 0 b (⟨8 * c.val + a.val, by have : c.val < 16 := c.isLt; omega⟩ : Fin 128) d) := by
  refine Eq.trans ?_ (V1_v12 m c a b d)
  have e : ∀ x, win0_2.index t0_0 x = 0 := by decide +kernel
  show (win0_2.blk t0_0).view.read (Elt F) (V1 m c main_v12) (ix3 a b d) = _
  blk_simp
  blk_ext
  all_goals rw [e, Nat.zero_mul, Nat.zero_add]

theorem I_v (a : Fin 8) (b : Fin 1024) (d : Fin 128) : (I m c).v (ix3 a b d) = (m (c, main_arg3)) (ix4 0 b (⟨8 * c.val + a.val, by have : c.val < 16 := c.isLt; omega⟩ : Fin 128) d) := by
  refine Eq.trans ?_ (V1_v19 m c a b d)
  have e : ∀ x, win0_3.index t0_0 x = 0 := by decide +kernel
  show (win0_3.blk t0_0).view.read (Elt F) (V1 m c main_v19) (ix3 a b d) = _
  blk_simp
  blk_ext
  all_goals rw [e, Nat.zero_mul, Nat.zero_add]

theorem I_wo (a b : Fin 1024) : (I m c).wo (ix2 a b) = (m (c, main_arg4)) (ix2 a b) := by
  refine Eq.trans ?_ (congrFun (V1_of m c main_arg4 (by decide)) (ix2 a b))
  have e : ∀ x, win0_4.index t0_0 x = 0 := by decide +kernel
  show (win0_4.blk t0_0).view.read (Elt F) (V1 m c main_arg4) (ix2 a b) = _
  blk_simp
  blk_ext
  all_goals rw [e, Nat.zero_mul, Nat.zero_add]

end Cert.Proof

end
-- ==== Proof.RefMask.lean ====
/- The reference's mask at a row and a column: rows `ρ` and `j` may meet exactly when `ρ / 64` and `j / 64` agree modulo
   four; and no row is masked out. -/
module

public import proofs.«01_k».proof.Proof.Gen.ReferenceIdeal.Read
public import Idealize.ShloMosaic.Lib.ValueIdx

@[expose] public section

noncomputable section

namespace Cert.Proof.Ref

open Cert.ReferenceIdeal Cert.ReferenceIdeal.Gen Cert.ReferenceIdeal.Read
open Idealize.ShloMosaic
open Idealize.ShloMosaic.TcCoe
open Idealize.ShloMosaic.ValueIdx

variable {F : FTy → Type} [FloatOps F]

/-- The sign of a word. -/
def sgn (x : BitVec 32) : BitVec 32 := signi (s := S_) (fun _ => x) ix0

/-- Floor division of a word by 64. -/
def fdiv (n : BitVec 32) : BitVec 32 :=
  Scalar.select (IntOp.andi (IntOp.cmpi .ne (sgn n) (sgn 64#32)) (IntOp.cmpi .ne (IntOp.remsi .host n 64#32) 0#32))
    (IntOp.subi (IntOp.divsi .host n 64#32) 1#32) (IntOp.divsi .host n 64#32)

theorem fdiv_eq : ∀ n : Fin 1024, fdiv (BitVec.ofNat 32 n.val) = BitVec.ofNat 32 (n.val / 64) := by decide +kernel

/-- The row's block is its number over 64. -/
theorem v3_apply (n : Fin 1024) : val_main_v3 (F := F) (ix1 n) = BitVec.ofNat 32 (n.val / 64) :=
  (show val_main_v3 (F := F) (ix1 n) = fdiv (BitVec.ofNat 32 n.val) from rfl).trans (fdiv_eq n)

theorem v6_apply (n : Fin 1024) : val_main_v6 (F := F) (ix1 n) = BitVec.ofNat 32 (n.val / 64) := v3_apply (F := F) n

/-- The modulus 4, as the remainder reads it: never zero. -/
def four : BitVec 32 := Scalar.select (IntOp.cmpi .eq 4#32 0#32) 1#32 4#32

/-- Python's remainder of a word by 4. -/
def fmod (q : BitVec 32) : BitVec 32 :=
  Scalar.select
    (IntOp.andi (IntOp.cmpi .ne (IntOp.cmpi .slt (IntOp.remsi .host q four) 0#32) (IntOp.cmpi .slt four 0#32))
      (IntOp.cmpi .ne (IntOp.remsi .host q four) 0#32))
    (IntOp.addi (IntOp.remsi .host q four) four) (IntOp.remsi .host q four)

theorem v4_apply (n : Fin 1024) (z : Fin 1) : val_main_v4 (F := F) (ix2 n z) = BitVec.ofNat 32 (n.val / 64) := by
  rw [val_main_v4_apply]
  refine Eq.trans (congrArg (val_main_v3 (F := F)) ?_) (v3_apply n)
  funext a; match a with | ⟨0, _⟩ => rfl

theorem v7_apply (n : Fin 1024) (z : Fin 1) : val_main_v7 (F := F) (ix2 z n) = BitVec.ofNat 32 (n.val / 64) := by
  rw [val_main_v7_apply]
  refine Eq.trans (congrArg (val_main_v6 (F := F)) ?_) (v6_apply n)
  funext a; match a with | ⟨0, _⟩ => rfl

theorem v11_apply (n : Fin 1024) (z : Fin 1) :
    val_main_v11 (F := F) (ix2 z n) = fmod (BitVec.ofNat 32 (n.val / 64)) :=
  (show val_main_v11 (F := F) (ix2 z n) = fmod (val_main_v7 (F := F) (ix2 z n)) from rfl).trans (congrArg fmod (v7_apply n z))

theorem v12_apply (n : Fin 1024) (z : Fin 1) :
    val_main_v12 (F := F) (ix2 n z) = fmod (BitVec.ofNat 32 (n.val / 64)) :=
  (show val_main_v12 (F := F) (ix2 n z) = fmod (val_main_v4 (F := F) (ix2 n z)) from rfl).trans (congrArg fmod (v4_apply n z))

theorem words : ∀ a b : Fin 16,
    IntOp.ori (IntOp.cmpi .eq (BitVec.ofNat 32 a.val) (BitVec.ofNat 32 b.val))
      (IntOp.cmpi .eq (fmod (BitVec.ofNat 32 b.val)) (fmod (BitVec.ofNat 32 a.val)))
      = if a.val % 4 = b.val % 4 then 1#1 else 0#1 := by decide +kernel

/-- The mask: the two rows' groups agree. -/
theorem v16_apply (ρ j : Fin 1024) :
    val_main_v16 (F := F) (ix2 ρ j) = if ρ.val / 64 % 4 = j.val / 64 % 4 then 1#1 else 0#1 := by
  have h8 : val_main_v8 (F := F) (ix2 ρ j) = BitVec.ofNat 32 (ρ.val / 64) := by
    rw [val_main_v8_apply]
    refine Eq.trans (congrArg (val_main_v4 (F := F)) ?_) (v4_apply ρ 0)
    funext a; match a with | ⟨0, _⟩ => rfl | ⟨1, _⟩ => rfl
  have h9 : val_main_v9 (F := F) (ix2 ρ j) = BitVec.ofNat 32 (j.val / 64) := by
    rw [val_main_v9_apply]
    refine Eq.trans (congrArg (val_main_v7 (F := F)) ?_) (v7_apply j 0)
    funext a; match a with | ⟨0, _⟩ => rfl | ⟨1, _⟩ => rfl
  have h13 : val_main_v13 (F := F) (ix2 ρ j) = fmod (BitVec.ofNat 32 (j.val / 64)) := by
    rw [val_main_v13_apply]
    refine Eq.trans (congrArg (val_main_v11 (F := F)) ?_) (v11_apply j 0)
    funext a; match a with | ⟨0, _⟩ => rfl | ⟨1, _⟩ => rfl
  have h14 : val_main_v14 (F := F) (ix2 ρ j) = fmod (BitVec.ofNat 32 (ρ.val / 64)) := by
    rw [val_main_v14_apply]
    refine Eq.trans (congrArg (val_main_v12 (F := F)) ?_) (v12_apply ρ 0)
    funext a; match a with | ⟨0, _⟩ => rfl | ⟨1, _⟩ => rfl
  rw [val_main_v16_apply, val_main_v10_apply, val_main_v15_apply, h8, h9, h13, h14]
  exact words ⟨ρ.val / 64, by omega⟩ ⟨j.val / 64, by omega⟩

/-- A disjunction with a true member is true. -/
theorem fold_ori {ι : Type} [DecidableEq ι] (s : Finset ι) (f : ι → BitVec 1) (a : ι) (ha : a ∈ s) (h : f a = 1#1) :
    s.fold IntOp.ori 0#1 f = 1#1 := by
  rw [← Finset.insert_erase ha, Finset.fold_insert (Finset.notMem_erase a s), h]
  generalize Finset.fold IntOp.ori 0#1 f (s.erase a) = y
  revert y
  decide

/-- Every row meets itself. -/
theorem v27_apply (ρ : Fin 1024) : val_main_v27 (F := F) (ix1 ρ) = 1#1 := by
  have hr : (S1024x1024 : Shape).Reduces [1] S1024 := by decide
  unfold val_main_v27
  rw [Host.reduce_eq_fold_single IntOp.ori _ _ _ hr h_S_]
  refine fold_ori _ _ (⟨ρ.val, ρ.isLt⟩ : Fin 1024) (Finset.mem_univ _) ?_
  refine Eq.trans (congrArg (val_main_v16 (F := F)) (?_ : _ = ix2 ρ ρ)) ((v16_apply ρ ρ).trans (if_pos rfl))
  funext a; match a with | ⟨0, _⟩ => rfl | ⟨1, _⟩ => rfl

end Cert.Proof.Ref

end
-- ==== Proof.RefRead.lean ====
/- The reference's result at an index, over the extended reals: for each head the attention of row `ρ` over all rows whose
   group is that of `ρ` — the others have score ⊥ —, times the rows of `Wo`. -/
module

public import proofs.«01_k».proof.Proof.RefMask
public import proofs.«01_k».proof.Proof.Math
public import proofs.«01_k».proof.Proof.KRead
public import Idealize.ShloMosaic.PureOps.Ideal.Laws
public import Idealize.ShloMosaic.Lib.IdealHost

@[expose] public section

noncomputable section

namespace Cert.Proof.Ref

open Cert.ReferenceIdeal Cert.ReferenceIdeal.Gen Cert.ReferenceIdeal.Read
open Idealize.ShloMosaic
open Idealize.ShloMosaic.TcCoe
open Idealize.ShloMosaic.ValueIdx
open scoped BigOperators

variable (x0 : (⟨S1x1024x1024, .f32⟩ : BufTy).Contents (Elt Ideal)) (x1 : (⟨S1024x16384, .f32⟩ : BufTy).Contents (Elt Ideal))
  (x2 x3 : (⟨S1x1024x128x128, .f32⟩ : BufTy).Contents (Elt Ideal)) (x4 : (⟨S16384x1024, .f32⟩ : BufTy).Contents (Elt Ideal))

/-- The score of row `ρ` against row `j` in head `H`, before the mask. -/
def rs (H : Fin 128) (ρ j : Fin 1024) : EReal :=
  (∑ d : Fin 128, (∑ k : Fin 1024, x0 (ix3 0 ρ k) * x1 (ix2 k (⟨128 * H.val + d.val, by omega⟩ : Fin 16384)))
    * x2 (ix4 0 j H d)) * scl

/-- The score after the mask. -/
def ms (H : Fin 128) (ρ j : Fin 1024) : EReal :=
  if ρ.val / 64 % 4 = j.val / 64 % 4 then rs x0 x1 x2 H ρ j else ⊥

theorem v1_apply (ρ : Fin 1024) (H d : Fin 128) :
    val_main_v1 (F := Ideal) x0 x1 (ix4 0 ρ H d)
      = ∑ k : Fin 1024, x0 (ix3 0 ρ k) * x1 (ix2 k (⟨128 * H.val + d.val, by omega⟩ : Fin 16384)) := by
  rw [val_main_v1_apply, val_main_v0_apply]
  refine Finset.sum_congr rfl fun k _ => ?_
  refine congr (congrArg HMul.hMul (congrArg x0 ?_)) (congrArg x1 ?_)
  · funext a
    match a with
    | ⟨0, _⟩ => rfl
    | ⟨1, _⟩ =>
      apply Fin.ext
      show (((0 * 1024 + ρ.val) * 128 + H.val) * 128 + d.val) / 16384 % 1024 = ρ.val
      omega
    | ⟨2, _⟩ => rfl
  · funext a
    match a with
    | ⟨0, _⟩ => rfl
    | ⟨1, _⟩ =>
      apply Fin.ext
      show (((0 * 1024 + ρ.val) * 128 + H.val) * 128 + d.val) % 16384 = 128 * H.val + d.val
      omega

theorem v19_apply (H : Fin 128) (ρ j : Fin 1024) :
    val_main_v19 (F := Ideal) x0 x1 x2 (ix4 0 H ρ j) = rs x0 x1 x2 H ρ j := by
  rw [val_main_v19_apply, val_main_v18_apply, val_main_cst_apply, val_main_v17_apply]
  refine congrArg (fun z : EReal => z * scl) (Finset.sum_congr rfl fun d _ => ?_)
  refine congr (congrArg HMul.hMul (Eq.trans (congrArg (val_main_v1 (F := Ideal) x0 x1) ?_) (v1_apply x0 x1 ρ H d))) (congrArg x2 ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem v21_apply (H : Fin 128) (ρ j : Fin 1024) :
    val_main_v21 (F := Ideal) x0 x1 x2 (ix4 0 H ρ j) = ms x0 x1 x2 H ρ j := by
  rw [val_main_v21_apply, val_main_call4_v1_apply, val_main_call4_v2_apply, val_main_v20_apply, v19_apply]
  have h : (idx_main_v20 (idx_main_call4_v1 (ix4 0 H ρ j))) = ix2 ρ j := by
    funext a; match a with | ⟨0, _⟩ => rfl | ⟨1, _⟩ => rfl
  rw [h, v16_apply, val_main_call4_v0_apply, val_main_cst_3_apply]
  unfold ms
  by_cases hg : ρ.val / 64 % 4 = j.val / 64 % 4
  · rw [if_pos hg, if_pos hg]; rfl
  · rw [if_neg hg, if_neg hg]; exact ofBits_bot

/-- The row's largest score. -/
theorem v22_apply (H : Fin 128) (ρ : Fin 1024) :
    val_main_v22 (F := Ideal) x0 x1 x2 (ix3 0 H ρ) = mx (ms x0 x1 x2 H ρ) := by
  have hr : (S1x128x1024x1024 : Shape).Reduces [3] S1x128x1024 := by decide
  unfold val_main_v22
  rw [Host.reduce_eq_fold_single FloatOps.maximumf _ _ _ hr h_S_]
  show Finset.fold max (Ideal.ofBits .f32 0xFF800000#32) _ (Finset.univ : Finset (Fin 1024)) = _
  rw [ofBits_bot]
  unfold mx
  refine congrArg (fun f => Finset.fold max (⊥ : EReal) f (Finset.univ : Finset (Fin 1024))) ?_
  funext j
  refine Eq.trans (congrArg (val_main_v21 (F := Ideal) x0 x1 x2) (?_ : _ = ix4 0 H ρ j)) (v21_apply x0 x1 x2 H ρ j)
  funext a; match a with | ⟨0, _⟩ => rfl | ⟨1, _⟩ => rfl | ⟨2, _⟩ => rfl | ⟨3, _⟩ => rfl

theorem v26_apply (H : Fin 128) (ρ j : Fin 1024) :
    val_main_v26 (F := Ideal) x0 x1 x2 (ix4 0 H ρ j) = ew (ms x0 x1 x2 H ρ) j := by
  rw [val_main_v26_apply, val_main_v25_apply, v21_apply, val_main_v24_apply, val_main_v23_apply]
  have h : idx_main_v23 (idx_main_v24 (ix4 0 H ρ j)) = ix3 0 H ρ := by
    funext a; match a with | ⟨0, _⟩ => rfl | ⟨1, _⟩ => rfl | ⟨2, _⟩ => rfl
  rw [h, v22_apply]
  rfl

theorem v29_apply (H : Fin 128) (ρ : Fin 1024) :
    val_main_v29 (F := Ideal) x0 x1 x2 (ix3 0 H ρ) = ∑ j : Fin 1024, ew (ms x0 x1 x2 H ρ) j := by
  rw [val_main_v29_apply]
  have h0 : ∀ z, (val_main_cst_6 (F := Ideal) z : EReal) = 0 := fun z => Ideal.ofBits_zero_f32
  rw [h0, zero_add]
  refine Finset.sum_congr rfl fun j _ => ?_
  refine Eq.trans (congrArg (val_main_v26 (F := Ideal) x0 x1 x2) (?_ : _ = ix4 0 H ρ j)) (v26_apply x0 x1 x2 H ρ j)
  funext a; match a with | ⟨0, _⟩ => rfl | ⟨1, _⟩ => rfl | ⟨2, _⟩ => rfl | ⟨3, _⟩ => rfl

theorem v31_apply (H : Fin 128) (ρ : Fin 1024) (z : Fin 1) :
    val_main_v31 (F := Ideal) x0 x1 x2 (ix4 0 H ρ z) = ∑ j : Fin 1024, ew (ms x0 x1 x2 H ρ) j := by
  rw [val_main_v31_apply, val_main_call5_v1_apply, val_main_v28_apply, val_main_v30_apply]
  have h : idx_main_v28 (idx_main_call5_v1 (ix4 0 H ρ z)) = ix1 ρ := by
    funext a; match a with | ⟨0, _⟩ => rfl
  have h' : idx_main_v30 (ix4 0 H ρ z) = ix3 0 H ρ := by
    funext a; match a with | ⟨0, _⟩ => rfl | ⟨1, _⟩ => rfl | ⟨2, _⟩ => rfl
  rw [h, v27_apply, h', v29_apply]
  rfl

/-- The weight of row `j` for row `ρ`. -/
theorem v35_apply (H : Fin 128) (ρ j : Fin 1024) :
    val_main_v35 (F := Ideal) x0 x1 x2 (ix4 0 H ρ j)
      = Ideal.div (ew (ms x0 x1 x2 H ρ) j) (∑ u : Fin 1024, ew (ms x0 x1 x2 H ρ) u) := by
  rw [val_main_v35_apply, val_main_call6_v1_apply, val_main_v34_apply, val_main_v33_apply, val_main_v32_apply, v26_apply]
  have h : idx_main_v34 (idx_main_call6_v1 (ix4 0 H ρ j)) = ix1 ρ := by
    funext a; match a with | ⟨0, _⟩ => rfl
  have h' : idx_main_v32 (ix4 0 H ρ j) = ix4 0 H ρ 0 := by
    funext a; match a with | ⟨0, _⟩ => rfl | ⟨1, _⟩ => rfl | ⟨2, _⟩ => rfl | ⟨3, _⟩ => rfl
  rw [h, v27_apply, h', v31_apply]
  rfl

theorem v36_apply (H d : Fin 128) (ρ : Fin 1024) :
    val_main_v36 (F := Ideal) x0 x1 x2 x3 (ix4 0 H d ρ) = att (ms x0 x1 x2 H ρ) (fun j => x3 (ix4 0 j H d)) := by
  rw [val_main_v36_apply]
  unfold att
  refine Finset.sum_congr rfl fun j _ => ?_
  rw [mul_comm]
  refine congr (congrArg HMul.hMul (Eq.trans (congrArg (val_main_v35 (F := Ideal) x0 x1 x2) (?_ : _ = ix4 0 H ρ j))
    (v35_apply x0 x1 x2 H ρ j))) (congrArg x3 (?_ : _ = ix4 0 j H d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The reference's result at row `ρ`, column `n`. -/
theorem v39_apply (ρ n : Fin 1024) :
    val_main_v39 (F := Ideal) x0 x1 x2 x3 x4 (ix3 0 ρ n)
      = ∑ J : Fin 16384, att (ms x0 x1 x2 (⟨J.val / 128, by omega⟩ : Fin 128) ρ)
          (fun j => x3 (ix4 0 j (⟨J.val / 128, by omega⟩ : Fin 128) (⟨J.val % 128, by omega⟩ : Fin 128))) * x4 (ix2 J n) := by
  rw [val_main_v39_apply]
  refine Finset.sum_congr rfl fun J _ => ?_
  refine congr (congrArg HMul.hMul ?_) (congrArg x4 (?_ : _ = ix2 J n))
  · rw [val_main_v38_apply, val_main_v37_apply]
    refine Eq.trans (congrArg (val_main_v36 (F := Ideal) x0 x1 x2 x3) (?_ : _ = ix4 0 (⟨J.val / 128, by omega⟩ : Fin 128) (⟨J.val % 128, by omega⟩ : Fin 128) ρ)) (v36_apply x0 x1 x2 x3 _ _ ρ)
    funext a
    match a with
    | ⟨0, _⟩ => rfl
    | ⟨1, _⟩ =>
      apply Fin.ext
      show ((0 * 1024 + ρ.val) * 16384 + J.val) / 128 % 128 = J.val / 128
      omega
    | ⟨2, _⟩ =>
      apply Fin.ext
      show ((0 * 1024 + ρ.val) * 16384 + J.val) % 128 = J.val % 128
      omega
    | ⟨3, _⟩ =>
      apply Fin.ext
      show ((0 * 1024 + ρ.val) * 16384 + J.val) / 16384 % 1024 = ρ.val
      omega
  · funext a; match a with | ⟨0, _⟩ => rfl | ⟨1, _⟩ => rfl

end Cert.Proof.Ref

end
-- ==== Proof.Value.lean ====
/- The kernel's result is the reference's: each device's heads are a block of the reference's heads, the rows outside a
   row's group add nothing to its softmax, and the sum over all heads is the sum over the devices of their heads' sums. -/
module

public import proofs.«01_k».proof.Proof.HostRead
public import proofs.«01_k».proof.Proof.RefRead

@[expose] public section

noncomputable section

namespace Cert.Proof

open Cert.KernelIdeal Cert.KernelIdeal.Gen
open Idealize.ShloMosaic hiding ix1 ix2 ix3 ix4
open Idealize.ShloMosaic.TcCoe
open Idealize.ShloMosaic.ValueIdx
open scoped BigOperators

/-! ## Real values -/

/-- The value is a real number. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih =>
    rw [Finset.sum_insert ha]
    obtain ⟨x, hx⟩ := h a
    obtain ⟨y, hy⟩ := ih
    exact ⟨x + y, by rw [hx, hy, EReal.coe_add]⟩

theorem scl_real : IsR scl := by
  unfold scl
  simp only [Ideal.ofBits, Ideal.ieee]
  norm_num
  exact ⟨_, rfl⟩

/-! ## The reference over the rows of one group -/

variable (X : (⟨S1x1024x1024, .f32⟩ : BufTy).Contents (Elt Ideal)) (W : Cert.ReferenceIdeal.S1024x16384.Idx → EReal)
  (K V : (⟨S1x1024x128x128, .f32⟩ : BufTy).Contents (Elt Ideal)) (O : Cert.ReferenceIdeal.S16384x1024.Idx → EReal)

theorem rs_real (hX : ∀ i, IsR (X i)) (hW : ∀ i, IsR (W i)) (hK : ∀ i, IsR (K i)) (H : Fin 128) (ρ j : Fin 1024) :
    IsR (Ref.rs X W K H ρ j) := by
  unfold Ref.rs
  exact (IsR.sum _ _ fun d => (IsR.sum _ _ fun k => (hX _).mul (hW _)).mul (hK _)).mul scl_real

theorem rowOf_inj (g : Fin 4) : Function.Injective (rowOf g) := by
  intro a b h
  have h' : 64 * g.val + 256 * (a.val / 64) + a.val % 64 = 64 * g.val + 256 * (b.val / 64) + b.val % 64 := congrArg Fin.val h
  apply Fin.ext
  omega

theorem rowOf_group (g : Fin 4) (t : Fin 256) : (rowOf g t).val / 64 % 4 = g.val := by
  show (64 * g.val + 256 * (t.val / 64) + t.val % 64) / 64 % 4 = g.val
  omega

theorem att_group (hX : ∀ i, IsR (X i)) (hW : ∀ i, IsR (W i)) (hK : ∀ i, IsR (K i)) (H : Fin 128) (ρ : Fin 1024) (v : Fin 1024 → EReal) :
    att (Ref.ms X W K H ρ) v
      = att (fun t => Ref.rs X W K H ρ (rowOf ⟨ρ.val / 64 % 4, by omega⟩ t)) (fun t => v (rowOf ⟨ρ.val / 64 % 4, by omega⟩ t)) := by
  refine att_masked (rowOf ⟨ρ.val / 64 % 4, by omega⟩) (rowOf_inj _) (Ref.rs X W K H ρ) _ v (fun t => ?_) (fun j hj => ?_)
    (fun t => rs_real X W K hX hW hK H ρ _)
  · unfold Ref.ms
    rw [if_pos (rowOf_group ⟨ρ.val / 64 % 4, by omega⟩ t).symm]
  · unfold Ref.ms
    rw [if_neg]
    intro e
    refine hj ⟨rowIn j, ?_⟩
    refine Eq.trans ?_ (rowOf_rowIn j)
    exact congrArg (fun g => rowOf g (rowIn j)) (Fin.ext (a := (⟨ρ.val / 64 % 4, by omega⟩ : Fin 4)) (b := ⟨j.val / 64 % 4, by omega⟩) e)

/-- A sum over all columns by devices. -/
theorem sum_devs (g : Fin 16384 → EReal) :
    ∑ J : Fin 16384, g J = ∑ c : Fin 16, ∑ J : Fin 1024, g (⟨1024 * c.val + J.val, by omega⟩ : Fin 16384) := by
  refine ((finProdFinEquiv (m := 16) (n := 1024)).sum_comp g).symm.trans ?_
  rw [Fintype.sum_prod_type]
  refine Finset.sum_congr rfl fun c _ => Finset.sum_congr rfl fun J _ => congrArg g (Fin.ext ?_)
  show J.val + 1024 * c.val = 1024 * c.val + J.val
  omega

/-! ## The two results -/

variable (m : (ℓ : Loc nD τ sig) → Buf (Elt Ideal) ℓ)

theorem scr_eq (c : Dev nD) (h0 : m (c, main_arg0) = X)
    (h1 : ∀ (k : Fin 1024) (j : Fin 1024), m (c, main_arg1) (ix2 k j) = W (ix2 k (⟨1024 * c.val + j.val, by have : c.val < 16 := c.isLt; omega⟩ : Fin 16384)))
    (h2 : m (c, main_arg2) = K) (h : Fin 8) (ρ j : Fin 1024) :
    scr (I m c) h ρ j = Ref.rs X W K (⟨8 * c.val + h.val, by have : c.val < 16 := c.isLt; omega⟩ : Fin 128) ρ j := by
  unfold scr Ref.rs
  refine congrArg (fun z : EReal => z * scl) (Finset.sum_congr rfl fun d _ => ?_)
  rw [I_k, h2]
  refine congrArg (fun z : EReal => z * _) (Finset.sum_congr rfl fun k _ => ?_)
  rw [I_x, I_wq, h0, h1]
  refine congrArg (fun z => X (ix3 0 ρ k) * W z) (congrArg (ix2 k) (Fin.ext ?_))
  show 1024 * c.val + (128 * h.val + d.val) = 128 * (8 * c.val + h.val) + d.val
  omega

theorem value_at (hX : ∀ i, IsR (X i)) (hW : ∀ i, IsR (W i)) (hK : ∀ i, IsR (K i))
    (h0 : ∀ c : Dev nD, m (c, main_arg0) = X)
    (h1 : ∀ (c : Dev nD) (k : Fin 1024) (j : Fin 1024), m (c, main_arg1) (ix2 k j) = W (ix2 k (⟨1024 * c.val + j.val, by have : c.val < 16 := c.isLt; omega⟩ : Fin 16384)))
    (h2 : ∀ c : Dev nD, m (c, main_arg2) = K) (h3 : ∀ c : Dev nD, m (c, main_arg3) = V)
    (h4 : ∀ (c : Dev nD) (j n : Fin 1024), m (c, main_arg4) (ix2 j n) = O (ix2 (⟨1024 * c.val + j.val, by have : c.val < 16 := c.isLt; omega⟩ : Fin 16384) n))
    (c₀ : Dev nD) (ρ n : Fin 1024) :
    V3 m (outs m) c₀ main_v21 (ix3 0 ρ n) = Cert.ReferenceIdeal.Read.val_main_v39 (F := Ideal) X W K V O (ix3 0 ρ n) := by
  refine (V3_v21 m c₀ ρ n).trans ((Rv_apply m ρ n).trans (Eq.trans ?_ (Ref.v39_apply X W K V O ρ n).symm))
  rw [sum_devs]
  refine Finset.sum_congr rfl fun c _ => Finset.sum_congr rfl fun J _ => ?_
  have hc : c.val < 16 := c.isLt
  have hJ := J.isLt
  have nH : (1024 * c.val + J.val) / 128 = 8 * c.val + J.val / 128 := by omega
  have nD' : (1024 * c.val + J.val) % 128 = J.val % 128 := by omega
  have eH : (⟨(1024 * c.val + J.val) / 128, by omega⟩ : Fin 128) = ⟨8 * c.val + J.val / 128, by omega⟩ := Fin.ext nH
  have eD : (⟨(1024 * c.val + J.val) % 128, by omega⟩ : Fin 128) = ⟨J.val % 128, by omega⟩ := Fin.ext nD'
  rw [att_group X W K hX hW hK, I_wo, h4]
  refine congrArg (fun z : EReal => z * _) ?_
  rw [eH, eD]
  refine congr (congrArg att (funext fun t => scr_eq X W K m c (h0 c) (h1 c) (h2 c) _ ρ _)) (funext fun t => ?_)
  rw [I_v, h3]

theorem value_eq (hX : ∀ i, IsR (X i)) (hW : ∀ i, IsR (W i)) (hK : ∀ i, IsR (K i))
    (h0 : ∀ c : Dev nD, m (c, main_arg0) = X)
    (h1 : ∀ (c : Dev nD) (k : Fin 1024) (j : Fin 1024), m (c, main_arg1) (ix2 k j) = W (ix2 k (⟨1024 * c.val + j.val, by have : c.val < 16 := c.isLt; omega⟩ : Fin 16384)))
    (h2 : ∀ c : Dev nD, m (c, main_arg2) = K) (h3 : ∀ c : Dev nD, m (c, main_arg3) = V)
    (h4 : ∀ (c : Dev nD) (j n : Fin 1024), m (c, main_arg4) (ix2 j n) = O (ix2 (⟨1024 * c.val + j.val, by have : c.val < 16 := c.isLt; omega⟩ : Fin 16384) n))
    (c₀ : Dev nD) : V3 m (outs m) c₀ main_v21 = Cert.ReferenceIdeal.Read.val_main_v39 (F := Ideal) X W K V O := by
  funext i
  have hi : i = ix3 (0 : Fin 1) (i 1 : Fin 1024) (i 2 : Fin 1024) := by
    funext a
    match a with
    | ⟨0, _⟩ => exact Subsingleton.elim (α := Fin 1) _ _
    | ⟨1, _⟩ => rfl
    | ⟨2, _⟩ => rfl
  rw [hi]
  exact value_at X W K V O m hX hW hK h0 h1 h2 h3 h4 c₀ (i 1) (i 2)

end Cert.Proof

end
-- ==== Proof.Algebraic.lean ====
/- The value claim: on every device the kernel's result is the reference's, and both run. -/
module

public import proofs.«01_k».proof.Proof.Value
public import proofs.«01_k».proof.Proof.Frames

@[expose] public section

noncomputable section

namespace Cert.Proof

open Idealize.ShloMosaic hiding ix1 ix2 ix3 ix4
open Idealize.ShloMosaic.TcCoe
open Idealize.ShloMosaic.ValueIdx
open Idealize.SL.Sem

/-- The side conditions the printed predicate states. -/
theorem facts_pre : Cert.Pre_finite_KernelIdeal.Facts := ⟨by decide, by decide, by decide⟩
theorem facts_pre_ref : Cert.Pre_finite_ReferenceIdeal.Facts := ⟨by decide, by decide, by decide⟩

/-- A value whose magnitude compares below infinity is a real number. -/
theorem real_of_cmp (x : Ideal .f32)
    (h : FloatOps.cmpf .olt (FloatOps.hostAbsf x) (FloatOps.ofBits (F := Ideal) .f32 0x7F800000#32) = 1#1) : IsR x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  induction x using EReal.rec with
  | bot => exact absurd hlt.2 (by simp)
  | coe r => exact ⟨r, rfl⟩
  | top => exact absurd hlt.1 (by simp)

theorem algebraic : Cert.algebraic_KernelIdeal_ReferenceIdeal_pre_finite_KernelIdeal
    (hKernelIdeal := Cert.KernelIdeal.Gen.facts) (hReferenceIdeal := Cert.ReferenceIdeal.Gen.facts) (hPre_finite_KernelIdeal := facts_pre) := by
  intro m g m' g' hpre hargs
  have hX : ∀ i, IsR (m' (((0 : Dev Cert.ReferenceIdeal.nD).tc : Thread Cert.ReferenceIdeal.nD Cert.ReferenceIdeal.τ).loc Cert.ReferenceIdeal.main_arg0) i) := fun i => by
    rw [← (hargs 0).1]
    exact real_of_cmp _ (congrFun (hpre 0).1 i)
  have hK : ∀ i, IsR (m' (((0 : Dev Cert.ReferenceIdeal.nD).tc : Thread Cert.ReferenceIdeal.nD Cert.ReferenceIdeal.τ).loc Cert.ReferenceIdeal.main_arg2) i) := fun i => by
    rw [← (hargs 0).2.2.1]
    exact real_of_cmp _ (congrFun (hpre 0).2.2 i)
  have h1 : ∀ (c : Dev Cert.KernelIdeal.nD) (k j : Fin 1024), m (c, Cert.KernelIdeal.main_arg1) (ix2 k j)
      = m' (((0 : Dev Cert.ReferenceIdeal.nD).tc : Thread Cert.ReferenceIdeal.nD Cert.ReferenceIdeal.τ).loc Cert.ReferenceIdeal.main_arg1)
        (ix2 k (⟨1024 * c.val + j.val, by have : c.val < 16 := c.isLt; omega⟩ : Fin 16384)) := fun c k j => by
    refine (congrFun (hargs c).2.1 (ix2 k j)).trans ?_
    rw [Layout.block_apply]
    refine congrArg _ (funext fun a => Fin.ext ?_)
    rw [Layout.Tiles.idx_val]
    match a with
    | ⟨0, _⟩ => rfl
    | ⟨1, _⟩ => show c.val * 1024 + j.val = 1024 * c.val + j.val; omega
  have h4 : ∀ (c : Dev Cert.KernelIdeal.nD) (j n : Fin 1024), m (c, Cert.KernelIdeal.main_arg4) (ix2 j n)
      = m' (((0 : Dev Cert.ReferenceIdeal.nD).tc : Thread Cert.ReferenceIdeal.nD Cert.ReferenceIdeal.τ).loc Cert.ReferenceIdeal.main_arg4)
        (ix2 (⟨1024 * c.val + j.val, by have : c.val < 16 := c.isLt; omega⟩ : Fin 16384) n) := fun c j n => by
    refine (congrFun (hargs c).2.2.2.2 (ix2 j n)).trans ?_
    rw [Layout.block_apply]
    refine congrArg _ (funext fun a => Fin.ext ?_)
    rw [Layout.Tiles.idx_val]
    match a with
    | ⟨0, _⟩ => show c.val * 1024 + j.val = 1024 * c.val + j.val; omega
    | ⟨1, _⟩ => rfl
  have hW : ∀ i, IsR (m' (((0 : Dev Cert.ReferenceIdeal.nD).tc : Thread Cert.ReferenceIdeal.nD Cert.ReferenceIdeal.τ).loc Cert.ReferenceIdeal.main_arg1) i) := fun i => by
    have hb : (i 1).val < 16384 := (i 1).isLt
    have e := h1 (⟨(i 1).val / 1024, by show _ < 16; omega⟩ : Fin 16) (i 0) (⟨(i 1).val % 1024, by omega⟩ : Fin 1024)
    have hi : i = ix2 (i 0 : Fin 1024) (⟨1024 * ((i 1).val / 1024) + (i 1).val % 1024, by omega⟩ : Fin 16384) := by
      funext a
      match a with
      | ⟨0, _⟩ => rfl
      | ⟨1, _⟩ => apply Fin.ext; show (i 1).val = 1024 * ((i 1).val / 1024) + (i 1).val % 1024; omega
    obtain ⟨x, hx⟩ := real_of_cmp _ (congrFun (hpre (⟨(i 1).val / 1024, by show _ < 16; omega⟩ : Fin 16)).2.1
      (ix2 (i 0 : Fin 1024) (⟨(i 1).val % 1024, by omega⟩ : Fin 1024)))
    exact ⟨x, ((congrArg (m' _) hi).trans e.symm).trans hx⟩
  refine ⟨Cert.ReferenceIdeal.Value.res_main_v39 m' 0, ?_, ?_⟩
  · refine (θ_run (Cert.KernelIdeal.defs (F := Ideal)) _ _).mono (fun r h c => ?_) (run_main (F := Ideal) m g)
    have hc := h.1 c
    refine ⟨hc.2.2.2.2.2.trans ?_, hc.1, hc.2.1, hc.2.2.1, hc.2.2.2.1, hc.2.2.2.2.1⟩
    rw [Cert.ReferenceIdeal.Read.val_main_v39_eq]
    exact value_eq _ _ _ _ _ m hX hW hK (fun c => (hargs c).1) h1 (fun c => (hargs c).2.2.1) (fun c => (hargs c).2.2.2.1) h4 c
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, facts_pre, facts_pre_ref,
  frame_kernel, frame_ideal, fun m ρ _ => frame_ideal m ρ trivial, frame_reference, fun m ρ _ => frame_reference m ρ trivial, trivial, algebraic⟩

end Cert.Proof

end
